-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_within_clip_KernelIdeal [hPre_within_clip_KernelIdeal : Cert.Pre_within_clip_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_within_clip_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ClippedIdeal (m : (ℓ : Loc Cert.ClippedIdeal.nD Cert.ClippedIdeal.τ Cert.ClippedIdeal.sig) → Buf (Elt Ideal) ℓ) : Prop :=
  True

def Pre_ClippedIdeal_within_clip_ClippedIdeal [hPre_within_clip_ClippedIdeal : Cert.Pre_within_clip_ClippedIdeal.Facts] (m : (ℓ : Loc Cert.ClippedIdeal.nD Cert.ClippedIdeal.τ Cert.ClippedIdeal.sig) → Buf (Elt Ideal) ℓ) : Prop :=
  ∀ c : Dev Cert.ClippedIdeal.nD,
    (Cert.Pre_within_clip_ClippedIdeal.fn (F := Ideal) (m ((c.tc : Thread Cert.ClippedIdeal.nD Cert.ClippedIdeal.τ).loc Cert.ClippedIdeal.main_arg0)) (m ((c.tc : Thread Cert.ClippedIdeal.nD Cert.ClippedIdeal.τ).loc Cert.ClippedIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_within_clip_KernelIdeal [hKernelIdeal : Cert.KernelIdeal.Facts] [hPre_within_clip_KernelIdeal : Cert.Pre_within_clip_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_within_clip_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ClippedIdeal [hClippedIdeal : Cert.ClippedIdeal.Facts] : Prop :=
  ∀ (m : (ℓ : Loc Cert.ClippedIdeal.nD Cert.ClippedIdeal.τ Cert.ClippedIdeal.sig) → Buf (Elt Ideal) ℓ) (g : Dev Cert.ClippedIdeal.nD → PrngReg), Pre_ClippedIdeal m →
    θ_run (Cert.ClippedIdeal.defs (F := Ideal)) (onTc (τ := Cert.ClippedIdeal.τ) (Cert.ClippedIdeal.main (F := Ideal))) ⟨m, fun _ => 0, g⟩ (fun r => (∀ c : Dev Cert.ClippedIdeal.nD,
      r.2.mem ((c.tc : Thread Cert.ClippedIdeal.nD Cert.ClippedIdeal.τ).loc Cert.ClippedIdeal.main_arg0) = m ((c.tc : Thread Cert.ClippedIdeal.nD Cert.ClippedIdeal.τ).loc Cert.ClippedIdeal.main_arg0)
      ∧ r.2.mem ((c.tc : Thread Cert.ClippedIdeal.nD Cert.ClippedIdeal.τ).loc Cert.ClippedIdeal.main_arg1) = m ((c.tc : Thread Cert.ClippedIdeal.nD Cert.ClippedIdeal.τ).loc Cert.ClippedIdeal.main_arg1))
      ∧ r.2.sem = fun _ => 0)

def quiescent_ClippedIdeal_pre_within_clip_ClippedIdeal [hClippedIdeal : Cert.ClippedIdeal.Facts] [hPre_within_clip_ClippedIdeal : Cert.Pre_within_clip_ClippedIdeal.Facts] : Prop :=
  ∀ (m : (ℓ : Loc Cert.ClippedIdeal.nD Cert.ClippedIdeal.τ Cert.ClippedIdeal.sig) → Buf (Elt Ideal) ℓ) (g : Dev Cert.ClippedIdeal.nD → PrngReg), Pre_ClippedIdeal_within_clip_ClippedIdeal m →
    θ_run (Cert.ClippedIdeal.defs (F := Ideal)) (onTc (τ := Cert.ClippedIdeal.τ) (Cert.ClippedIdeal.main (F := Ideal))) ⟨m, fun _ => 0, g⟩ (fun r => (∀ c : Dev Cert.ClippedIdeal.nD,
      r.2.mem ((c.tc : Thread Cert.ClippedIdeal.nD Cert.ClippedIdeal.τ).loc Cert.ClippedIdeal.main_arg0) = m ((c.tc : Thread Cert.ClippedIdeal.nD Cert.ClippedIdeal.τ).loc Cert.ClippedIdeal.main_arg0)
      ∧ r.2.mem ((c.tc : Thread Cert.ClippedIdeal.nD Cert.ClippedIdeal.τ).loc Cert.ClippedIdeal.main_arg1) = m ((c.tc : Thread Cert.ClippedIdeal.nD Cert.ClippedIdeal.τ).loc Cert.ClippedIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 256]⟩ ⟨2, ![4096, 4096]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![256, 2048]⟩ ⟨2, ![4096, 2048]⟩ 0 16 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![256, 2048]⟩ ⟨2, ![4096, 2048]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ClippedIdeal_pre_within_clip_KernelIdeal [hKernelIdeal : Cert.KernelIdeal.Facts] [hClippedIdeal : Cert.ClippedIdeal.Facts] [hPre_within_clip_KernelIdeal : Cert.Pre_within_clip_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ClippedIdeal.nD Cert.ClippedIdeal.τ Cert.ClippedIdeal.sig) → Buf (Elt Ideal) ℓ) (g' : Dev Cert.ClippedIdeal.nD → PrngReg), Pre_KernelIdeal_within_clip_KernelIdeal m →
    (∀ c : Dev Cert.KernelIdeal.nD,
      m ((c.tc : Thread Cert.KernelIdeal.nD Cert.KernelIdeal.τ).loc Cert.KernelIdeal.main_arg0) = Layout.block ⟨2, ![4096, 256]⟩ ⟨2, ![4096, 4096]⟩ 1 16 c (m' (((0 : Dev Cert.ClippedIdeal.nD).tc : Thread Cert.ClippedIdeal.nD Cert.ClippedIdeal.τ).loc Cert.ClippedIdeal.main_arg0))
      ∧ m ((c.tc : Thread Cert.KernelIdeal.nD Cert.KernelIdeal.τ).loc Cert.KernelIdeal.main_arg1) = Layout.block ⟨2, ![256, 2048]⟩ ⟨2, ![4096, 2048]⟩ 0 16 c (m' (((0 : Dev Cert.ClippedIdeal.nD).tc : Thread Cert.ClippedIdeal.nD Cert.ClippedIdeal.τ).loc Cert.ClippedIdeal.main_arg1))) →
    ∃ (v0 : Buf (Elt Ideal) (((0 : Dev Cert.ClippedIdeal.nD).tc : Thread Cert.ClippedIdeal.nD Cert.ClippedIdeal.τ).loc Cert.ClippedIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![256, 2048]⟩ ⟨2, ![4096, 2048]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ClippedIdeal.defs (F := Ideal)) (onTc (τ := Cert.ClippedIdeal.τ) (Cert.ClippedIdeal.main (F := Ideal))) ⟨m', fun _ => 0, g'⟩ (fun r =>
          r.2.mem (((0 : Dev Cert.ClippedIdeal.nD).tc : Thread Cert.ClippedIdeal.nD Cert.ClippedIdeal.τ).loc Cert.ClippedIdeal.main_v8) = v0
          ∧ r.2.mem (((0 : Dev Cert.ClippedIdeal.nD).tc : Thread Cert.ClippedIdeal.nD Cert.ClippedIdeal.τ).loc Cert.ClippedIdeal.main_arg0) = m' (((0 : Dev Cert.ClippedIdeal.nD).tc : Thread Cert.ClippedIdeal.nD Cert.ClippedIdeal.τ).loc Cert.ClippedIdeal.main_arg0)
          ∧ r.2.mem (((0 : Dev Cert.ClippedIdeal.nD).tc : Thread Cert.ClippedIdeal.nD Cert.ClippedIdeal.τ).loc Cert.ClippedIdeal.main_arg1) = m' (((0 : Dev Cert.ClippedIdeal.nD).tc : Thread Cert.ClippedIdeal.nD Cert.ClippedIdeal.τ).loc Cert.ClippedIdeal.main_arg1))

def Claim : Prop :=
  ∃ (hKernel : Cert.Kernel.Facts) (hKernelIdeal : Cert.KernelIdeal.Facts) (hReferenceIdeal : Cert.ReferenceIdeal.Facts) (hClippedIdeal : Cert.ClippedIdeal.Facts) (hPre_within_clip_KernelIdeal : Cert.Pre_within_clip_KernelIdeal.Facts) (hPre_within_clip_ClippedIdeal : Cert.Pre_within_clip_ClippedIdeal.Facts),
    quiescent_Kernel (hKernel := hKernel)
    ∧ quiescent_KernelIdeal (hKernelIdeal := hKernelIdeal)
    ∧ quiescent_KernelIdeal_pre_within_clip_KernelIdeal (hKernelIdeal := hKernelIdeal) (hPre_within_clip_KernelIdeal := hPre_within_clip_KernelIdeal)
    ∧ quiescent_ReferenceIdeal (hReferenceIdeal := hReferenceIdeal)
    ∧ quiescent_ClippedIdeal (hClippedIdeal := hClippedIdeal)
    ∧ quiescent_ClippedIdeal_pre_within_clip_ClippedIdeal (hClippedIdeal := hClippedIdeal) (hPre_within_clip_ClippedIdeal := hPre_within_clip_ClippedIdeal)
    ∧ preserves_Kernel_KernelIdeal
    ∧ algebraic_KernelIdeal_ReferenceIdeal (hKernelIdeal := hKernelIdeal) (hReferenceIdeal := hReferenceIdeal)
    ∧ algebraic_KernelIdeal_ClippedIdeal_pre_within_clip_KernelIdeal (hKernelIdeal := hKernelIdeal) (hClippedIdeal := hClippedIdeal) (hPre_within_clip_KernelIdeal := hPre_within_clip_KernelIdeal)
-- ==== Pre_within_clip_ClippedIdeal.lean ====
abbrev S4096x4096 : Shape := ⟨2, ![4096, 4096]⟩
abbrev S4096x2048 : Shape := ⟨2, ![4096, 2048]⟩
abbrev S_ : Shape := ⟨0, ![]⟩

class Facts : Prop where
  bitsLt_bf16_f32 : FTy.bits .bf16 < FTy.bits .f32
  bcast_S_S4096x2048 : S_.BroadcastsInDim S4096x2048 (![] : Fin 0 → Fin S4096x2048.rank)
  reducesTo_S4096x2048_S_d0_1 : S4096x2048.ReducesTo [0, 1] S_
  h_S_ : 0 < S_.numel
  dot_S4096x4096_S4096x2048_S4096x2048_1_0_0_1_n_n_wf : DotDims.WF S4096x4096 S4096x2048 S4096x2048 [1] [0] [0] [1] [] []

variable [Facts]

def dot_S4096x4096_S4096x2048_S4096x2048_1_0_0_1_n_n : DotDims S4096x4096 S4096x2048 S4096x2048 where
  lhsContracting := [1]
  rhsContracting := [0]
  lhsNonContracting := [0]
  rhsNonContracting := [1]
  lhsBatch := []
  rhsBatch := []
  wf := dot_S4096x4096_S4096x2048_S4096x2048_1_0_0_1_n_n_wf
def fn {F : FTy → Type} [FloatOps F] (main_arg0 : FVec F S4096x4096 .bf16) (main_arg1 : FVec F S4096x2048 .bf16) : IVec S_ 1 :=
  let main_v0 : FVec F S4096x4096 .f32 := (extf .f32 · bitsLt_bf16_f32) main_arg0
  let main_v1 : FVec F S4096x2048 .f32 := (extf .f32 · bitsLt_bf16_f32) main_arg1
  let main_v2 : FVec F S4096x2048 .f32 := (fun l r => Host.dotGeneral dot_S4096x4096_S4096x2048_S4096x2048_1_0_0_1_n_n none l r) main_v0 main_v1
  let main_v3 : FVec F S4096x2048 .f32 := Host.absf main_v2
  let main_cst : FVec F S_ .f32 := constant S_ .f32 0x40700000#32
  let main_v4 : FVec F S4096x2048 .f32 := broadcastInDim S4096x2048 ![] bcast_S_S4096x2048 main_cst
  let main_v5 : IVec S4096x2048 1 := cmpf .ole main_v3 main_v4
  let main_c : IVec S_ 1 := constantI S_ 1 1#1
  let main_v6 : IVec S_ 1 := (fun x v => Host.reduce IntOp.andi x v reducesTo_S4096x2048_S_d0_1 h_S_) main_v5 main_c
  main_v6
-- ==== Pre_within_clip_KernelIdeal.lean ====
abbrev S4096x256 : Shape := ⟨2, ![4096, 256]⟩
abbrev S256x2048 : Shape := ⟨2, ![256, 2048]⟩
abbrev S4096x2048 : Shape := ⟨2, ![4096, 2048]⟩
abbrev S_ : Shape := ⟨0, ![]⟩

class Facts : Prop where
  bitsLt_bf16_f32 : FTy.bits .bf16 < FTy.bits .f32
  bcast_S_S4096x2048 : S_.BroadcastsInDim S4096x2048 (![] : Fin 0 → Fin S4096x2048.rank)
  reducesTo_S4096x2048_S_d0_1 : S4096x2048.ReducesTo [0, 1] S_
  h_S_ : 0 < S_.numel
  dot_S4096x256_S256x2048_S4096x2048_1_0_0_1_n_n_wf : DotDims.WF S4096x256 S256x2048 S4096x2048 [1] [0] [0] [1] [] []

variable [Facts]

def dot_S4096x256_S256x2048_S4096x2048_1_0_0_1_n_n : DotDims S4096x256 S256x2048 S4096x2048 where
  lhsContracting := [1]
  rhsContracting := [0]
  lhsNonContracting := [0]
  rhsNonContracting := [1]
  lhsBatch := []
  rhsBatch := []
  wf := dot_S4096x256_S256x2048_S4096x2048_1_0_0_1_n_n_wf
def fn {F : FTy → Type} [FloatOps F] (main_arg0 : FVec F S4096x256 .bf16) (main_arg1 : FVec F S256x2048 .bf16) : IVec S_ 1 :=
  let main_v0 : FVec F S4096x256 .f32 := (extf .f32 · bitsLt_bf16_f32) main_arg0
  let main_v1 : FVec F S256x2048 .f32 := (extf .f32 · bitsLt_bf16_f32) main_arg1
  let main_v2 : FVec F S4096x2048 .f32 := (fun l r => Host.dotGeneral dot_S4096x256_S256x2048_S4096x2048_1_0_0_1_n_n none l r) main_v0 main_v1
  let main_v3 : FVec F S4096x2048 .f32 := Host.absf main_v2
  let main_cst : FVec F S_ .f32 := constant S_ .f32 0x40700000#32
  let main_v4 : FVec F S4096x2048 .f32 := broadcastInDim S4096x2048 ![] bcast_S_S4096x2048 main_cst
  let main_v5 : IVec S4096x2048 1 := cmpf .ole main_v3 main_v4
  let main_c : IVec S_ 1 := constantI S_ 1 1#1
  let main_v6 : IVec S_ 1 := (fun x v => Host.reduce IntOp.andi x v reducesTo_S4096x2048_S_d0_1 h_S_) main_v5 main_c
  main_v6
-- ==== Kernel.lean ====
abbrev S4096x256 : Shape := ⟨2, ![4096, 256]⟩
abbrev S256x2048 : Shape := ⟨2, ![256, 2048]⟩
abbrev S16x256x512 : Shape := ⟨3, ![16, 256, 512]⟩
abbrev S15x2 : Shape := ⟨2, ![15, 2]⟩
abbrev S_ : Shape := ⟨0, ![]⟩
abbrev S256x256 : Shape := ⟨2, ![256, 256]⟩
abbrev S256x512 : Shape := ⟨2, ![256, 512]⟩
abbrev S1x256x512 : Shape := ⟨3, ![1, 256, 512]⟩
abbrev S1x1 : Shape := ⟨2, ![1, 1]⟩
abbrev S256x1024 : Shape := ⟨2, ![256, 1024]⟩

abbrev nBuf : Space → Nat
  | .hbm => 3
  | .vmem => 8
  | .smem => 0
  | _ => 0

abbrev bufTy : (tb : Table) → Fin (tcTables nBuf tb) → BufTy
  | .hbm, ⟨0, _⟩ => ⟨S4096x256, .bf16⟩
  | .hbm, ⟨1, _⟩ => ⟨S256x2048, .bf16⟩
  | .hbm, ⟨2, _⟩ => ⟨S256x2048, .f32⟩
  | .local _ .vmem, ⟨0, _⟩ => ⟨S4096x256, .bf16⟩
  | .local _ .vmem, ⟨1, _⟩ => ⟨S256x2048, .bf16⟩
  | .local _ .vmem, ⟨2, _⟩ => ⟨S256x2048, .f32⟩
  | .local _ .vmem, ⟨3, _⟩ => ⟨S256x2048, .bf16⟩
  | .local _ .vmem, ⟨4, _⟩ => ⟨S16x256x512, .bf16⟩
  | .local _ .vmem, ⟨5, _⟩ => ⟨S16x256x512, .bf16⟩
  | .local _ .vmem, ⟨6, _⟩ => ⟨S16x256x512, .bf16⟩
  | .local _ .vmem, ⟨7, _⟩ => ⟨S16x256x512, .bf16⟩
  | _, _ => ⟨S4096x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 2 → Bool
  | ⟨0, _⟩ => false
  | ⟨1, _⟩ => true
  | _ => false

abbrev dmaSemScoped : Fin 123 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | ⟨113, _⟩ => true
  | ⟨114, _⟩ => true
  | ⟨115, _⟩ => true
  | ⟨116, _⟩ => true
  | ⟨117, _⟩ => true
  | ⟨118, _⟩ => true
  | ⟨119, _⟩ => true
  | ⟨120, _⟩ => true
  | ⟨121, _⟩ => true
  | ⟨122, _⟩ => true
  | _ => false

abbrev sig : RefSig :=
  (ofTc nBuf bufTy 2 123 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_sem0_0 : DmaSem sig := 0
abbrev cc0_sem1_0 : DmaSem sig := 1
abbrev cc0_sem2_0 : DmaSem sig := 2
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_85 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c4_i32_15 : BitVec 32 := 4#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c12_i32_11 : BitVec 32 := 12#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c5_i32_8 : BitVec 32 := 5#32
  let c10_i32 : BitVec 32 := 10#32
  let v21 : BitVec 1 := Scalar.cmpi .eq v2 c10_i32
  let c10_i32_7 : BitVec 32 := 10#32
  let c9_i32_6 : BitVec 32 := 9#32
  let v19 : BitVec 1 := Scalar.cmpi .eq v2 c9_i32_6
  let c13_i32 : BitVec 32 := 13#32
  let c8_i32_4 : BitVec 32 := 8#32
  let v17 : BitVec 1 := Scalar.cmpi .eq v2 c8_i32_4
  let c2_i32_5 : BitVec 32 := 2#32
  let c7_i32_2 : BitVec 32 := 7#32
  let v15 : BitVec 1 := Scalar.cmpi .eq v2 c7_i32_2
  let c6_i32_3 : BitVec 32 := 6#32
  let c6_i32 : BitVec 32 := 6#32
  let v13 : BitVec 1 := Scalar.cmpi .eq v2 c6_i32
  let c9_i32 : BitVec 32 := 9#32
  let c5_i32 : BitVec 32 := 5#32
  let v11 : BitVec 1 := Scalar.cmpi .eq v2 c5_i32
  let c14_i32 : BitVec 32 := 14#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c7_i32 : BitVec 32 := 7#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c15_i32 : BitVec 32 := 15#32
  let c0_i32 : BitVec 32 := 0#32
  let v4 : BitVec 32 := Scalar.select v3 c15_i32 c0_i32
  let v6 : BitVec 32 := Scalar.select v5 c8_i32 v4
  let v8 : BitVec 32 := Scalar.select v7 c7_i32 v6
  let v10 : BitVec 32 := Scalar.select v9 c1_i32_1 v8
  let v12 : BitVec 32 := Scalar.select v11 c14_i32 v10
  let v14 : BitVec 32 := Scalar.select v13 c9_i32 v12
  let v16 : BitVec 32 := Scalar.select v15 c6_i32_3 v14
  let v18 : BitVec 32 := Scalar.select v17 c2_i32_5 v16
  let v20 : BitVec 32 := Scalar.select v19 c13_i32 v18
  let v22 : BitVec 32 := Scalar.select v21 c10_i32_7 v20
  let v24 : BitVec 32 := Scalar.select v23 c5_i32_8 v22
  let v26 : BitVec 32 := Scalar.select v25 c3_i32_9 v24
  let v28 : BitVec 32 := Scalar.select v27 c12_i32_11 v26
  let v30 : BitVec 32 := Scalar.select v29 c11_i32_13 v28
  let v32 : BitVec 32 := Scalar.select v31 c4_i32_15 v30
  let c16_i32_49 : BitVec 32 := 16#32
  let v65 : BitVec 32 := Scalar.addi v32 c16_i32_49
  let c1_i32_50 : BitVec 32 := 1#32
  let v66 : BitVec 32 := Scalar.subi v65 c1_i32_50
  let c16_i32_51 : BitVec 32 := 16#32
  let v67 : BitVec 32 := Scalar.remsi v66 c16_i32_51
  let c15_i32_81 : BitVec 32 := 15#32
  let v96 : BitVec 1 := Scalar.cmpi .eq v67 c15_i32_81
  let c1_i32_82 : BitVec 32 := 1#32
  let c14_i32_79 : BitVec 32 := 14#32
  let v94 : BitVec 1 := Scalar.cmpi .eq v67 c14_i32_79
  let c5_i32_80 : BitVec 32 := 5#32
  let c13_i32_77 : BitVec 32 := 13#32
  let v92 : BitVec 1 := Scalar.cmpi .eq v67 c13_i32_77
  let c9_i32_78 : BitVec 32 := 9#32
  let c12_i32_75 : BitVec 32 := 12#32
  let v90 : BitVec 1 := Scalar.cmpi .eq v67 c12_i32_75
  let c13_i32_76 : BitVec 32 := 13#32
  let c11_i32_73 : BitVec 32 := 11#32
  let v88 : BitVec 1 := Scalar.cmpi .eq v67 c11_i32_73
  let c14_i32_74 : BitVec 32 := 14#32
  let c10_i32_71 : BitVec 32 := 10#32
  let v86 : BitVec 1 := Scalar.cmpi .eq v67 c10_i32_71
  let c10_i32_72 : BitVec 32 := 10#32
  let c9_i32_69 : BitVec 32 := 9#32
  let v84 : BitVec 1 := Scalar.cmpi .eq v67 c9_i32_69
  let c6_i32_70 : BitVec 32 := 6#32
  let c8_i32_67 : BitVec 32 := 8#32
  let v82 : BitVec 1 := Scalar.cmpi .eq v67 c8_i32_67
  let c2_i32_68 : BitVec 32 := 2#32
  let c7_i32_65 : BitVec 32 := 7#32
  let v80 : BitVec 1 := Scalar.cmpi .eq v67 c7_i32_65
  let c3_i32_66 : BitVec 32 := 3#32
  let c6_i32_63 : BitVec 32 := 6#32
  let v78 : BitVec 1 := Scalar.cmpi .eq v67 c6_i32_63
  let c7_i32_64 : BitVec 32 := 7#32
  let c5_i32_61 : BitVec 32 := 5#32
  let v76 : BitVec 1 := Scalar.cmpi .eq v67 c5_i32_61
  let c11_i32_62 : BitVec 32 := 11#32
  let c4_i32_59 : BitVec 32 := 4#32
  let v74 : BitVec 1 := Scalar.cmpi .eq v67 c4_i32_59
  let c15_i32_60 : BitVec 32 := 15#32
  let c3_i32_57 : BitVec 32 := 3#32
  let v72 : BitVec 1 := Scalar.cmpi .eq v67 c3_i32_57
  let c12_i32_58 : BitVec 32 := 12#32
  let c2_i32_55 : BitVec 32 := 2#32
  let v70 : BitVec 1 := Scalar.cmpi .eq v67 c2_i32_55
  let c8_i32_56 : BitVec 32 := 8#32
  let c1_i32_52 : BitVec 32 := 1#32
  let v68 : BitVec 1 := Scalar.cmpi .eq v67 c1_i32_52
  let c4_i32_53 : BitVec 32 := 4#32
  let c0_i32_54 : BitVec 32 := 0#32
  let v69 : BitVec 32 := Scalar.select v68 c4_i32_53 c0_i32_54
  let v71 : BitVec 32 := Scalar.select v70 c8_i32_56 v69
  let v73 : BitVec 32 := Scalar.select v72 c12_i32_58 v71
  let v75 : BitVec 32 := Scalar.select v74 c15_i32_60 v73
  let v77 : BitVec 32 := Scalar.select v76 c11_i32_62 v75
  let v79 : BitVec 32 := Scalar.select v78 c7_i32_64 v77
  let v81 : BitVec 32 := Scalar.select v80 c3_i32_66 v79
  let v83 : BitVec 32 := Scalar.select v82 c2_i32_68 v81
  let v85 : BitVec 32 := Scalar.select v84 c6_i32_70 v83
  let v87 : BitVec 32 := Scalar.select v86 c10_i32_72 v85
  let v89 : BitVec 32 := Scalar.select v88 c14_i32_74 v87
  let v91 : BitVec 32 := Scalar.select v90 c13_i32_76 v89
  let v93 : BitVec 32 := Scalar.select v92 c9_i32_78 v91
  let v95 : BitVec 32 := Scalar.select v94 c5_i32_80 v93
  let v97 : BitVec 32 := Scalar.select v96 c1_i32_82 v95
  let c1_i32_84 : BitVec 32 := 1#32
  let v99 : BitVec 32 := Scalar.muli v97 c1_i32_84
  let v100 : BitVec 32 := Scalar.addi c0_i32_85 v99
  v100.toNat
def k0_dev2 (d0 : Dev nD) : Nat :=
  let c0_i32_88 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c4_i32_15 : BitVec 32 := 4#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c12_i32_11 : BitVec 32 := 12#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c5_i32_8 : BitVec 32 := 5#32
  let c10_i32 : BitVec 32 := 10#32
  let v21 : BitVec 1 := Scalar.cmpi .eq v2 c10_i32
  let c10_i32_7 : BitVec 32 := 10#32
  let c9_i32_6 : BitVec 32 := 9#32
  let v19 : BitVec 1 := Scalar.cmpi .eq v2 c9_i32_6
  let c13_i32 : BitVec 32 := 13#32
  let c8_i32_4 : BitVec 32 := 8#32
  let v17 : BitVec 1 := Scalar.cmpi .eq v2 c8_i32_4
  let c2_i32_5 : BitVec 32 := 2#32
  let c7_i32_2 : BitVec 32 := 7#32
  let v15 : BitVec 1 := Scalar.cmpi .eq v2 c7_i32_2
  let c6_i32_3 : BitVec 32 := 6#32
  let c6_i32 : BitVec 32 := 6#32
  let v13 : BitVec 1 := Scalar.cmpi .eq v2 c6_i32
  let c9_i32 : BitVec 32 := 9#32
  let c5_i32 : BitVec 32 := 5#32
  let v11 : BitVec 1 := Scalar.cmpi .eq v2 c5_i32
  let c14_i32 : BitVec 32 := 14#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c7_i32 : BitVec 32 := 7#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c15_i32 : BitVec 32 := 15#32
  let c0_i32 : BitVec 32 := 0#32
  let v4 : BitVec 32 := Scalar.select v3 c15_i32 c0_i32
  let v6 : BitVec 32 := Scalar.select v5 c8_i32 v4
  let v8 : BitVec 32 := Scalar.select v7 c7_i32 v6
  let v10 : BitVec 32 := Scalar.select v9 c1_i32_1 v8
  let v12 : BitVec 32 := Scalar.select v11 c14_i32 v10
  let v14 : BitVec 32 := Scalar.select v13 c9_i32 v12
  let v16 : BitVec 32 := Scalar.select v15 c6_i32_3 v14
  let v18 : BitVec 32 := Scalar.select v17 c2_i32_5 v16
  let v20 : BitVec 32 := Scalar.select v19 c13_i32 v18
  let v22 : BitVec 32 := Scalar.select v21 c10_i32_7 v20
  let v24 : BitVec 32 := Scalar.select v23 c5_i32_8 v22
  let v26 : BitVec 32 := Scalar.select v25 c3_i32_9 v24
  let v28 : BitVec 32 := Scalar.select v27 c12_i32_11 v26
  let v30 : BitVec 32 := Scalar.select v29 c11_i32_13 v28
  let v32 : BitVec 32 := Scalar.select v31 c4_i32_15 v30
  let c1_i32_16 : BitVec 32 := 1#32
  let v33 : BitVec 32 := Scalar.addi v32 c1_i32_16
  let c16_i32_17 : BitVec 32 := 16#32
  let v34 : BitVec 32 := Scalar.remsi v33 c16_i32_17
  let c15_i32_47 : BitVec 32 := 15#32
  let v63 : BitVec 1 := Scalar.cmpi .eq v34 c15_i32_47
  let c1_i32_48 : BitVec 32 := 1#32
  let c14_i32_45 : BitVec 32 := 14#32
  let v61 : BitVec 1 := Scalar.cmpi .eq v34 c14_i32_45
  let c5_i32_46 : BitVec 32 := 5#32
  let c13_i32_43 : BitVec 32 := 13#32
  let v59 : BitVec 1 := Scalar.cmpi .eq v34 c13_i32_43
  let c9_i32_44 : BitVec 32 := 9#32
  let c12_i32_41 : BitVec 32 := 12#32
  let v57 : BitVec 1 := Scalar.cmpi .eq v34 c12_i32_41
  let c13_i32_42 : BitVec 32 := 13#32
  let c11_i32_39 : BitVec 32 := 11#32
  let v55 : BitVec 1 := Scalar.cmpi .eq v34 c11_i32_39
  let c14_i32_40 : BitVec 32 := 14#32
  let c10_i32_37 : BitVec 32 := 10#32
  let v53 : BitVec 1 := Scalar.cmpi .eq v34 c10_i32_37
  let c10_i32_38 : BitVec 32 := 10#32
  let c9_i32_35 : BitVec 32 := 9#32
  let v51 : BitVec 1 := Scalar.cmpi .eq v34 c9_i32_35
  let c6_i32_36 : BitVec 32 := 6#32
  let c8_i32_33 : BitVec 32 := 8#32
  let v49 : BitVec 1 := Scalar.cmpi .eq v34 c8_i32_33
  let c2_i32_34 : BitVec 32 := 2#32
  let c7_i32_31 : BitVec 32 := 7#32
  let v47 : BitVec 1 := Scalar.cmpi .eq v34 c7_i32_31
  let c3_i32_32 : BitVec 32 := 3#32
  let c6_i32_29 : BitVec 32 := 6#32
  let v45 : BitVec 1 := Scalar.cmpi .eq v34 c6_i32_29
  let c7_i32_30 : BitVec 32 := 7#32
  let c5_i32_27 : BitVec 32 := 5#32
  let v43 : BitVec 1 := Scalar.cmpi .eq v34 c5_i32_27
  let c11_i32_28 : BitVec 32 := 11#32
  let c4_i32_25 : BitVec 32 := 4#32
  let v41 : BitVec 1 := Scalar.cmpi .eq v34 c4_i32_25
  let c15_i32_26 : BitVec 32 := 15#32
  let c3_i32_23 : BitVec 32 := 3#32
  let v39 : BitVec 1 := Scalar.cmpi .eq v34 c3_i32_23
  let c12_i32_24 : BitVec 32 := 12#32
  let c2_i32_21 : BitVec 32 := 2#32
  let v37 : BitVec 1 := Scalar.cmpi .eq v34 c2_i32_21
  let c8_i32_22 : BitVec 32 := 8#32
  let c1_i32_18 : BitVec 32 := 1#32
  let v35 : BitVec 1 := Scalar.cmpi .eq v34 c1_i32_18
  let c4_i32_19 : BitVec 32 := 4#32
  let c0_i32_20 : BitVec 32 := 0#32
  let v36 : BitVec 32 := Scalar.select v35 c4_i32_19 c0_i32_20
  let v38 : BitVec 32 := Scalar.select v37 c8_i32_22 v36
  let v40 : BitVec 32 := Scalar.select v39 c12_i32_24 v38
  let v42 : BitVec 32 := Scalar.select v41 c15_i32_26 v40
  let v44 : BitVec 32 := Scalar.select v43 c11_i32_28 v42
  let v46 : BitVec 32 := Scalar.select v45 c7_i32_30 v44
  let v48 : BitVec 32 := Scalar.select v47 c3_i32_32 v46
  let v50 : BitVec 32 := Scalar.select v49 c2_i32_34 v48
  let v52 : BitVec 32 := Scalar.select v51 c6_i32_36 v50
  let v54 : BitVec 32 := Scalar.select v53 c10_i32_38 v52
  let v56 : BitVec 32 := Scalar.select v55 c14_i32_40 v54
  let v58 : BitVec 32 := Scalar.select v57 c13_i32_42 v56
  let v60 : BitVec 32 := Scalar.select v59 c9_i32_44 v58
  let v62 : BitVec 32 := Scalar.select v61 c5_i32_46 v60
  let v64 : BitVec 32 := Scalar.select v63 c1_i32_48 v62
  let c1_i32_87 : BitVec 32 := 1#32
  let v101 : BitVec 32 := Scalar.muli v64 c1_i32_87
  let v102 : BitVec 32 := Scalar.addi c0_i32_88 v101
  v102.toNat
def k0_off1 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c4_i32_15 : BitVec 32 := 4#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c12_i32_11 : BitVec 32 := 12#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c5_i32_8 : BitVec 32 := 5#32
  let c10_i32 : BitVec 32 := 10#32
  let v21 : BitVec 1 := Scalar.cmpi .eq v2 c10_i32
  let c10_i32_7 : BitVec 32 := 10#32
  let c9_i32_6 : BitVec 32 := 9#32
  let v19 : BitVec 1 := Scalar.cmpi .eq v2 c9_i32_6
  let c13_i32 : BitVec 32 := 13#32
  let c8_i32_4 : BitVec 32 := 8#32
  let v17 : BitVec 1 := Scalar.cmpi .eq v2 c8_i32_4
  let c2_i32_5 : BitVec 32 := 2#32
  let c7_i32_2 : BitVec 32 := 7#32
  let v15 : BitVec 1 := Scalar.cmpi .eq v2 c7_i32_2
  let c6_i32_3 : BitVec 32 := 6#32
  let c6_i32 : BitVec 32 := 6#32
  let v13 : BitVec 1 := Scalar.cmpi .eq v2 c6_i32
  let c9_i32 : BitVec 32 := 9#32
  let c5_i32 : BitVec 32 := 5#32
  let v11 : BitVec 1 := Scalar.cmpi .eq v2 c5_i32
  let c14_i32 : BitVec 32 := 14#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c7_i32 : BitVec 32 := 7#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c15_i32 : BitVec 32 := 15#32
  let c0_i32 : BitVec 32 := 0#32
  let v4 : BitVec 32 := Scalar.select v3 c15_i32 c0_i32
  let v6 : BitVec 32 := Scalar.select v5 c8_i32 v4
  let v8 : BitVec 32 := Scalar.select v7 c7_i32 v6
  let v10 : BitVec 32 := Scalar.select v9 c1_i32_1 v8
  let v12 : BitVec 32 := Scalar.select v11 c14_i32 v10
  let v14 : BitVec 32 := Scalar.select v13 c9_i32 v12
  let v16 : BitVec 32 := Scalar.select v15 c6_i32_3 v14
  let v18 : BitVec 32 := Scalar.select v17 c2_i32_5 v16
  let v20 : BitVec 32 := Scalar.select v19 c13_i32 v18
  let v22 : BitVec 32 := Scalar.select v21 c10_i32_7 v20
  let v24 : BitVec 32 := Scalar.select v23 c5_i32_8 v22
  let v26 : BitVec 32 := Scalar.select v25 c3_i32_9 v24
  let v28 : BitVec 32 := Scalar.select v27 c12_i32_11 v26
  let v30 : BitVec 32 := Scalar.select v29 c11_i32_13 v28
  let v32 : BitVec 32 := Scalar.select v31 c4_i32_15 v30
  let c16_i32_49 : BitVec 32 := 16#32
  let v65 : BitVec 32 := Scalar.addi v32 c16_i32_49
  let c1_i32_50 : BitVec 32 := 1#32
  let v66 : BitVec 32 := Scalar.subi v65 c1_i32_50
  let c16_i32_51 : BitVec 32 := 16#32
  let v67 : BitVec 32 := Scalar.remsi v66 c16_i32_51
  let c15_i32_81 : BitVec 32 := 15#32
  let v96 : BitVec 1 := Scalar.cmpi .eq v67 c15_i32_81
  let c1_i32_82 : BitVec 32 := 1#32
  let c14_i32_79 : BitVec 32 := 14#32
  let v94 : BitVec 1 := Scalar.cmpi .eq v67 c14_i32_79
  let c5_i32_80 : BitVec 32 := 5#32
  let c13_i32_77 : BitVec 32 := 13#32
  let v92 : BitVec 1 := Scalar.cmpi .eq v67 c13_i32_77
  let c9_i32_78 : BitVec 32 := 9#32
  let c12_i32_75 : BitVec 32 := 12#32
  let v90 : BitVec 1 := Scalar.cmpi .eq v67 c12_i32_75
  let c13_i32_76 : BitVec 32 := 13#32
  let c11_i32_73 : BitVec 32 := 11#32
  let v88 : BitVec 1 := Scalar.cmpi .eq v67 c11_i32_73
  let c14_i32_74 : BitVec 32 := 14#32
  let c10_i32_71 : BitVec 32 := 10#32
  let v86 : BitVec 1 := Scalar.cmpi .eq v67 c10_i32_71
  let c10_i32_72 : BitVec 32 := 10#32
  let c9_i32_69 : BitVec 32 := 9#32
  let v84 : BitVec 1 := Scalar.cmpi .eq v67 c9_i32_69
  let c6_i32_70 : BitVec 32 := 6#32
  let c8_i32_67 : BitVec 32 := 8#32
  let v82 : BitVec 1 := Scalar.cmpi .eq v67 c8_i32_67
  let c2_i32_68 : BitVec 32 := 2#32
  let c7_i32_65 : BitVec 32 := 7#32
  let v80 : BitVec 1 := Scalar.cmpi .eq v67 c7_i32_65
  let c3_i32_66 : BitVec 32 := 3#32
  let c6_i32_63 : BitVec 32 := 6#32
  let v78 : BitVec 1 := Scalar.cmpi .eq v67 c6_i32_63
  let c7_i32_64 : BitVec 32 := 7#32
  let c5_i32_61 : BitVec 32 := 5#32
  let v76 : BitVec 1 := Scalar.cmpi .eq v67 c5_i32_61
  let c11_i32_62 : BitVec 32 := 11#32
  let c4_i32_59 : BitVec 32 := 4#32
  let v74 : BitVec 1 := Scalar.cmpi .eq v67 c4_i32_59
  let c15_i32_60 : BitVec 32 := 15#32
  let c3_i32_57 : BitVec 32 := 3#32
  let v72 : BitVec 1 := Scalar.cmpi .eq v67 c3_i32_57
  let c12_i32_58 : BitVec 32 := 12#32
  let c2_i32_55 : BitVec 32 := 2#32
  let v70 : BitVec 1 := Scalar.cmpi .eq v67 c2_i32_55
  let c8_i32_56 : BitVec 32 := 8#32
  let c1_i32_52 : BitVec 32 := 1#32
  let v68 : BitVec 1 := Scalar.cmpi .eq v67 c1_i32_52
  let c4_i32_53 : BitVec 32 := 4#32
  let c0_i32_54 : BitVec 32 := 0#32
  let v69 : BitVec 32 := Scalar.select v68 c4_i32_53 c0_i32_54
  let v71 : BitVec 32 := Scalar.select v70 c8_i32_56 v69
  let v73 : BitVec 32 := Scalar.select v72 c12_i32_58 v71
  let v75 : BitVec 32 := Scalar.select v74 c15_i32_60 v73
  let v77 : BitVec 32 := Scalar.select v76 c11_i32_62 v75
  let v79 : BitVec 32 := Scalar.select v78 c7_i32_64 v77
  let v81 : BitVec 32 := Scalar.select v80 c3_i32_66 v79
  let v83 : BitVec 32 := Scalar.select v82 c2_i32_68 v81
  let v85 : BitVec 32 := Scalar.select v84 c6_i32_70 v83
  let v87 : BitVec 32 := Scalar.select v86 c10_i32_72 v85
  let v89 : BitVec 32 := Scalar.select v88 c14_i32_74 v87
  let v91 : BitVec 32 := Scalar.select v90 c13_i32_76 v89
  let v93 : BitVec 32 := Scalar.select v92 c9_i32_78 v91
  let v95 : BitVec 32 := Scalar.select v94 c5_i32_80 v93
  let v97 : BitVec 32 := Scalar.select v96 c1_i32_82 v95
  let c256_i32 : BitVec 32 := 256#32
  let v108 : BitVec 32 := Scalar.muli v97 c256_i32
  let v109 : Index := Scalar.indexCast v108
  let c0_93 : Index := 0#32
  ![v109.toNat, 0]
def k0_dev3 (d0 : Dev nD) : Nat :=
  let c0_i32_106 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c4_i32_15 : BitVec 32 := 4#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c12_i32_11 : BitVec 32 := 12#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c5_i32_8 : BitVec 32 := 5#32
  let c10_i32 : BitVec 32 := 10#32
  let v21 : BitVec 1 := Scalar.cmpi .eq v2 c10_i32
  let c10_i32_7 : BitVec 32 := 10#32
  let c9_i32_6 : BitVec 32 := 9#32
  let v19 : BitVec 1 := Scalar.cmpi .eq v2 c9_i32_6
  let c13_i32 : BitVec 32 := 13#32
  let c8_i32_4 : BitVec 32 := 8#32
  let v17 : BitVec 1 := Scalar.cmpi .eq v2 c8_i32_4
  let c2_i32_5 : BitVec 32 := 2#32
  let c7_i32_2 : BitVec 32 := 7#32
  let v15 : BitVec 1 := Scalar.cmpi .eq v2 c7_i32_2
  let c6_i32_3 : BitVec 32 := 6#32
  let c6_i32 : BitVec 32 := 6#32
  let v13 : BitVec 1 := Scalar.cmpi .eq v2 c6_i32
  let c9_i32 : BitVec 32 := 9#32
  let c5_i32 : BitVec 32 := 5#32
  let v11 : BitVec 1 := Scalar.cmpi .eq v2 c5_i32
  let c14_i32 : BitVec 32 := 14#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c7_i32 : BitVec 32 := 7#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c15_i32 : BitVec 32 := 15#32
  let c0_i32 : BitVec 32 := 0#32
  let v4 : BitVec 32 := Scalar.select v3 c15_i32 c0_i32
  let v6 : BitVec 32 := Scalar.select v5 c8_i32 v4
  let v8 : BitVec 32 := Scalar.select v7 c7_i32 v6
  let v10 : BitVec 32 := Scalar.select v9 c1_i32_1 v8
  let v12 : BitVec 32 := Scalar.select v11 c14_i32 v10
  let v14 : BitVec 32 := Scalar.select v13 c9_i32 v12
  let v16 : BitVec 32 := Scalar.select v15 c6_i32_3 v14
  let v18 : BitVec 32 := Scalar.select v17 c2_i32_5 v16
  let v20 : BitVec 32 := Scalar.select v19 c13_i32 v18
  let v22 : BitVec 32 := Scalar.select v21 c10_i32_7 v20
  let v24 : BitVec 32 := Scalar.select v23 c5_i32_8 v22
  let v26 : BitVec 32 := Scalar.select v25 c3_i32_9 v24
  let v28 : BitVec 32 := Scalar.select v27 c12_i32_11 v26
  let v30 : BitVec 32 := Scalar.select v29 c11_i32_13 v28
  let v32 : BitVec 32 := Scalar.select v31 c4_i32_15 v30
  let c1_i32_16 : BitVec 32 := 1#32
  let v33 : BitVec 32 := Scalar.addi v32 c1_i32_16
  let c16_i32_17 : BitVec 32 := 16#32
  let v34 : BitVec 32 := Scalar.remsi v33 c16_i32_17
  let c15_i32_47 : BitVec 32 := 15#32
  let v63 : BitVec 1 := Scalar.cmpi .eq v34 c15_i32_47
  let c1_i32_48 : BitVec 32 := 1#32
  let c14_i32_45 : BitVec 32 := 14#32
  let v61 : BitVec 1 := Scalar.cmpi .eq v34 c14_i32_45
  let c5_i32_46 : BitVec 32 := 5#32
  let c13_i32_43 : BitVec 32 := 13#32
  let v59 : BitVec 1 := Scalar.cmpi .eq v34 c13_i32_43
  let c9_i32_44 : BitVec 32 := 9#32
  let c12_i32_41 : BitVec 32 := 12#32
  let v57 : BitVec 1 := Scalar.cmpi .eq v34 c12_i32_41
  let c13_i32_42 : BitVec 32 := 13#32
  let c11_i32_39 : BitVec 32 := 11#32
  let v55 : BitVec 1 := Scalar.cmpi .eq v34 c11_i32_39
  let c14_i32_40 : BitVec 32 := 14#32
  let c10_i32_37 : BitVec 32 := 10#32
  let v53 : BitVec 1 := Scalar.cmpi .eq v34 c10_i32_37
  let c10_i32_38 : BitVec 32 := 10#32
  let c9_i32_35 : BitVec 32 := 9#32
  let v51 : BitVec 1 := Scalar.cmpi .eq v34 c9_i32_35
  let c6_i32_36 : BitVec 32 := 6#32
  let c8_i32_33 : BitVec 32 := 8#32
  let v49 : BitVec 1 := Scalar.cmpi .eq v34 c8_i32_33
  let c2_i32_34 : BitVec 32 := 2#32
  let c7_i32_31 : BitVec 32 := 7#32
  let v47 : BitVec 1 := Scalar.cmpi .eq v34 c7_i32_31
  let c3_i32_32 : BitVec 32 := 3#32
  let c6_i32_29 : BitVec 32 := 6#32
  let v45 : BitVec 1 := Scalar.cmpi .eq v34 c6_i32_29
  let c7_i32_30 : BitVec 32 := 7#32
  let c5_i32_27 : BitVec 32 := 5#32
  let v43 : BitVec 1 := Scalar.cmpi .eq v34 c5_i32_27
  let c11_i32_28 : BitVec 32 := 11#32
  let c4_i32_25 : BitVec 32 := 4#32
  let v41 : BitVec 1 := Scalar.cmpi .eq v34 c4_i32_25
  let c15_i32_26 : BitVec 32 := 15#32
  let c3_i32_23 : BitVec 32 := 3#32
  let v39 : BitVec 1 := Scalar.cmpi .eq v34 c3_i32_23
  let c12_i32_24 : BitVec 32 := 12#32
  let c2_i32_21 : BitVec 32 := 2#32
  let v37 : BitVec 1 := Scalar.cmpi .eq v34 c2_i32_21
  let c8_i32_22 : BitVec 32 := 8#32
  let c1_i32_18 : BitVec 32 := 1#32
  let v35 : BitVec 1 := Scalar.cmpi .eq v34 c1_i32_18
  let c4_i32_19 : BitVec 32 := 4#32
  let c0_i32_20 : BitVec 32 := 0#32
  let v36 : BitVec 32 := Scalar.select v35 c4_i32_19 c0_i32_20
  let v38 : BitVec 32 := Scalar.select v37 c8_i32_22 v36
  let v40 : BitVec 32 := Scalar.select v39 c12_i32_24 v38
  let v42 : BitVec 32 := Scalar.select v41 c15_i32_26 v40
  let v44 : BitVec 32 := Scalar.select v43 c11_i32_28 v42
  let v46 : BitVec 32 := Scalar.select v45 c7_i32_30 v44
  let v48 : BitVec 32 := Scalar.select v47 c3_i32_32 v46
  let v50 : BitVec 32 := Scalar.select v49 c2_i32_34 v48
  let v52 : BitVec 32 := Scalar.select v51 c6_i32_36 v50
  let v54 : BitVec 32 := Scalar.select v53 c10_i32_38 v52
  let v56 : BitVec 32 := Scalar.select v55 c14_i32_40 v54
  let v58 : BitVec 32 := Scalar.select v57 c13_i32_42 v56
  let v60 : BitVec 32 := Scalar.select v59 c9_i32_44 v58
  let v62 : BitVec 32 := Scalar.select v61 c5_i32_46 v60
  let v64 : BitVec 32 := Scalar.select v63 c1_i32_48 v62
  let c1_i32_105 : BitVec 32 := 1#32
  let v118 : BitVec 32 := Scalar.muli v64 c1_i32_105
  let v119 : BitVec 32 := Scalar.addi c0_i32_106 v118
  v119.toNat
def k0_dev4 (d0 : Dev nD) : Nat :=
  let c0_i32_125 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c4_i32_15 : BitVec 32 := 4#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c12_i32_11 : BitVec 32 := 12#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c5_i32_8 : BitVec 32 := 5#32
  let c10_i32 : BitVec 32 := 10#32
  let v21 : BitVec 1 := Scalar.cmpi .eq v2 c10_i32
  let c10_i32_7 : BitVec 32 := 10#32
  let c9_i32_6 : BitVec 32 := 9#32
  let v19 : BitVec 1 := Scalar.cmpi .eq v2 c9_i32_6
  let c13_i32 : BitVec 32 := 13#32
  let c8_i32_4 : BitVec 32 := 8#32
  let v17 : BitVec 1 := Scalar.cmpi .eq v2 c8_i32_4
  let c2_i32_5 : BitVec 32 := 2#32
  let c7_i32_2 : BitVec 32 := 7#32
  let v15 : BitVec 1 := Scalar.cmpi .eq v2 c7_i32_2
  let c6_i32_3 : BitVec 32 := 6#32
  let c6_i32 : BitVec 32 := 6#32
  let v13 : BitVec 1 := Scalar.cmpi .eq v2 c6_i32
  let c9_i32 : BitVec 32 := 9#32
  let c5_i32 : BitVec 32 := 5#32
  let v11 : BitVec 1 := Scalar.cmpi .eq v2 c5_i32
  let c14_i32 : BitVec 32 := 14#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c7_i32 : BitVec 32 := 7#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c15_i32 : BitVec 32 := 15#32
  let c0_i32 : BitVec 32 := 0#32
  let v4 : BitVec 32 := Scalar.select v3 c15_i32 c0_i32
  let v6 : BitVec 32 := Scalar.select v5 c8_i32 v4
  let v8 : BitVec 32 := Scalar.select v7 c7_i32 v6
  let v10 : BitVec 32 := Scalar.select v9 c1_i32_1 v8
  let v12 : BitVec 32 := Scalar.select v11 c14_i32 v10
  let v14 : BitVec 32 := Scalar.select v13 c9_i32 v12
  let v16 : BitVec 32 := Scalar.select v15 c6_i32_3 v14
  let v18 : BitVec 32 := Scalar.select v17 c2_i32_5 v16
  let v20 : BitVec 32 := Scalar.select v19 c13_i32 v18
  let v22 : BitVec 32 := Scalar.select v21 c10_i32_7 v20
  let v24 : BitVec 32 := Scalar.select v23 c5_i32_8 v22
  let v26 : BitVec 32 := Scalar.select v25 c3_i32_9 v24
  let v28 : BitVec 32 := Scalar.select v27 c12_i32_11 v26
  let v30 : BitVec 32 := Scalar.select v29 c11_i32_13 v28
  let v32 : BitVec 32 := Scalar.select v31 c4_i32_15 v30
  let c1_i32_16 : BitVec 32 := 1#32
  let v33 : BitVec 32 := Scalar.addi v32 c1_i32_16
  let c16_i32_17 : BitVec 32 := 16#32
  let v34 : BitVec 32 := Scalar.remsi v33 c16_i32_17
  let c15_i32_47 : BitVec 32 := 15#32
  let v63 : BitVec 1 := Scalar.cmpi .eq v34 c15_i32_47
  let c1_i32_48 : BitVec 32 := 1#32
  let c14_i32_45 : BitVec 32 := 14#32
  let v61 : BitVec 1 := Scalar.cmpi .eq v34 c14_i32_45
  let c5_i32_46 : BitVec 32 := 5#32
  let c13_i32_43 : BitVec 32 := 13#32
  let v59 : BitVec 1 := Scalar.cmpi .eq v34 c13_i32_43
  let c9_i32_44 : BitVec 32 := 9#32
  let c12_i32_41 : BitVec 32 := 12#32
  let v57 : BitVec 1 := Scalar.cmpi .eq v34 c12_i32_41
  let c13_i32_42 : BitVec 32 := 13#32
  let c11_i32_39 : BitVec 32 := 11#32
  let v55 : BitVec 1 := Scalar.cmpi .eq v34 c11_i32_39
  let c14_i32_40 : BitVec 32 := 14#32
  let c10_i32_37 : BitVec 32 := 10#32
  let v53 : BitVec 1 := Scalar.cmpi .eq v34 c10_i32_37
  let c10_i32_38 : BitVec 32 := 10#32
  let c9_i32_35 : BitVec 32 := 9#32
  let v51 : BitVec 1 := Scalar.cmpi .eq v34 c9_i32_35
  let c6_i32_36 : BitVec 32 := 6#32
  let c8_i32_33 : BitVec 32 := 8#32
  let v49 : BitVec 1 := Scalar.cmpi .eq v34 c8_i32_33
  let c2_i32_34 : BitVec 32 := 2#32
  let c7_i32_31 : BitVec 32 := 7#32
  let v47 : BitVec 1 := Scalar.cmpi .eq v34 c7_i32_31
  let c3_i32_32 : BitVec 32 := 3#32
  let c6_i32_29 : BitVec 32 := 6#32
  let v45 : BitVec 1 := Scalar.cmpi .eq v34 c6_i32_29
  let c7_i32_30 : BitVec 32 := 7#32
  let c5_i32_27 : BitVec 32 := 5#32
  let v43 : BitVec 1 := Scalar.cmpi .eq v34 c5_i32_27
  let c11_i32_28 : BitVec 32 := 11#32
  let c4_i32_25 : BitVec 32 := 4#32
  let v41 : BitVec 1 := Scalar.cmpi .eq v34 c4_i32_25
  let c15_i32_26 : BitVec 32 := 15#32
  let c3_i32_23 : BitVec 32 := 3#32
  let v39 : BitVec 1 := Scalar.cmpi .eq v34 c3_i32_23
  let c12_i32_24 : BitVec 32 := 12#32
  let c2_i32_21 : BitVec 32 := 2#32
  let v37 : BitVec 1 := Scalar.cmpi .eq v34 c2_i32_21
  let c8_i32_22 : BitVec 32 := 8#32
  let c1_i32_18 : BitVec 32 := 1#32
  let v35 : BitVec 1 := Scalar.cmpi .eq v34 c1_i32_18
  let c4_i32_19 : BitVec 32 := 4#32
  let c0_i32_20 : BitVec 32 := 0#32
  let v36 : BitVec 32 := Scalar.select v35 c4_i32_19 c0_i32_20
  let v38 : BitVec 32 := Scalar.select v37 c8_i32_22 v36
  let v40 : BitVec 32 := Scalar.select v39 c12_i32_24 v38
  let v42 : BitVec 32 := Scalar.select v41 c15_i32_26 v40
  let v44 : BitVec 32 := Scalar.select v43 c11_i32_28 v42
  let v46 : BitVec 32 := Scalar.select v45 c7_i32_30 v44
  let v48 : BitVec 32 := Scalar.select v47 c3_i32_32 v46
  let v50 : BitVec 32 := Scalar.select v49 c2_i32_34 v48
  let v52 : BitVec 32 := Scalar.select v51 c6_i32_36 v50
  let v54 : BitVec 32 := Scalar.select v53 c10_i32_38 v52
  let v56 : BitVec 32 := Scalar.select v55 c14_i32_40 v54
  let v58 : BitVec 32 := Scalar.select v57 c13_i32_42 v56
  let v60 : BitVec 32 := Scalar.select v59 c9_i32_44 v58
  let v62 : BitVec 32 := Scalar.select v61 c5_i32_46 v60
  let v64 : BitVec 32 := Scalar.select v63 c1_i32_48 v62
  let c1_i32_124 : BitVec 32 := 1#32
  let v138 : BitVec 32 := Scalar.muli v64 c1_i32_124
  let v139 : BitVec 32 := Scalar.addi c0_i32_125 v138
  v139.toNat
def k0_off2 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c4_i32_15 : BitVec 32 := 4#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c12_i32_11 : BitVec 32 := 12#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c5_i32_8 : BitVec 32 := 5#32
  let c10_i32 : BitVec 32 := 10#32
  let v21 : BitVec 1 := Scalar.cmpi .eq v2 c10_i32
  let c10_i32_7 : BitVec 32 := 10#32
  let c9_i32_6 : BitVec 32 := 9#32
  let v19 : BitVec 1 := Scalar.cmpi .eq v2 c9_i32_6
  let c13_i32 : BitVec 32 := 13#32
  let c8_i32_4 : BitVec 32 := 8#32
  let v17 : BitVec 1 := Scalar.cmpi .eq v2 c8_i32_4
  let c2_i32_5 : BitVec 32 := 2#32
  let c7_i32_2 : BitVec 32 := 7#32
  let v15 : BitVec 1 := Scalar.cmpi .eq v2 c7_i32_2
  let c6_i32_3 : BitVec 32 := 6#32
  let c6_i32 : BitVec 32 := 6#32
  let v13 : BitVec 1 := Scalar.cmpi .eq v2 c6_i32
  let c9_i32 : BitVec 32 := 9#32
  let c5_i32 : BitVec 32 := 5#32
  let v11 : BitVec 1 := Scalar.cmpi .eq v2 c5_i32
  let c14_i32 : BitVec 32 := 14#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c7_i32 : BitVec 32 := 7#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c15_i32 : BitVec 32 := 15#32
  let c0_i32 : BitVec 32 := 0#32
  let v4 : BitVec 32 := Scalar.select v3 c15_i32 c0_i32
  let v6 : BitVec 32 := Scalar.select v5 c8_i32 v4
  let v8 : BitVec 32 := Scalar.select v7 c7_i32 v6
  let v10 : BitVec 32 := Scalar.select v9 c1_i32_1 v8
  let v12 : BitVec 32 := Scalar.select v11 c14_i32 v10
  let v14 : BitVec 32 := Scalar.select v13 c9_i32 v12
  let v16 : BitVec 32 := Scalar.select v15 c6_i32_3 v14
  let v18 : BitVec 32 := Scalar.select v17 c2_i32_5 v16
  let v20 : BitVec 32 := Scalar.select v19 c13_i32 v18
  let v22 : BitVec 32 := Scalar.select v21 c10_i32_7 v20
  let v24 : BitVec 32 := Scalar.select v23 c5_i32_8 v22
  let v26 : BitVec 32 := Scalar.select v25 c3_i32_9 v24
  let v28 : BitVec 32 := Scalar.select v27 c12_i32_11 v26
  let v30 : BitVec 32 := Scalar.select v29 c11_i32_13 v28
  let v32 : BitVec 32 := Scalar.select v31 c4_i32_15 v30
  let c1_i32_16 : BitVec 32 := 1#32
  let v33 : BitVec 32 := Scalar.addi v32 c1_i32_16
  let c16_i32_17 : BitVec 32 := 16#32
  let v34 : BitVec 32 := Scalar.remsi v33 c16_i32_17
  let c15_i32_47 : BitVec 32 := 15#32
  let v63 : BitVec 1 := Scalar.cmpi .eq v34 c15_i32_47
  let c1_i32_48 : BitVec 32 := 1#32
  let c14_i32_45 : BitVec 32 := 14#32
  let v61 : BitVec 1 := Scalar.cmpi .eq v34 c14_i32_45
  let c5_i32_46 : BitVec 32 := 5#32
  let c13_i32_43 : BitVec 32 := 13#32
  let v59 : BitVec 1 := Scalar.cmpi .eq v34 c13_i32_43
  let c9_i32_44 : BitVec 32 := 9#32
  let c12_i32_41 : BitVec 32 := 12#32
  let v57 : BitVec 1 := Scalar.cmpi .eq v34 c12_i32_41
  let c13_i32_42 : BitVec 32 := 13#32
  let c11_i32_39 : BitVec 32 := 11#32
  let v55 : BitVec 1 := Scalar.cmpi .eq v34 c11_i32_39
  let c14_i32_40 : BitVec 32 := 14#32
  let c10_i32_37 : BitVec 32 := 10#32
  let v53 : BitVec 1 := Scalar.cmpi .eq v34 c10_i32_37
  let c10_i32_38 : BitVec 32 := 10#32
  let c9_i32_35 : BitVec 32 := 9#32
  let v51 : BitVec 1 := Scalar.cmpi .eq v34 c9_i32_35
  let c6_i32_36 : BitVec 32 := 6#32
  let c8_i32_33 : BitVec 32 := 8#32
  let v49 : BitVec 1 := Scalar.cmpi .eq v34 c8_i32_33
  let c2_i32_34 : BitVec 32 := 2#32
  let c7_i32_31 : BitVec 32 := 7#32
  let v47 : BitVec 1 := Scalar.cmpi .eq v34 c7_i32_31
  let c3_i32_32 : BitVec 32 := 3#32
  let c6_i32_29 : BitVec 32 := 6#32
  let v45 : BitVec 1 := Scalar.cmpi .eq v34 c6_i32_29
  let c7_i32_30 : BitVec 32 := 7#32
  let c5_i32_27 : BitVec 32 := 5#32
  let v43 : BitVec 1 := Scalar.cmpi .eq v34 c5_i32_27
  let c11_i32_28 : BitVec 32 := 11#32
  let c4_i32_25 : BitVec 32 := 4#32
  let v41 : BitVec 1 := Scalar.cmpi .eq v34 c4_i32_25
  let c15_i32_26 : BitVec 32 := 15#32
  let c3_i32_23 : BitVec 32 := 3#32
  let v39 : BitVec 1 := Scalar.cmpi .eq v34 c3_i32_23
  let c12_i32_24 : BitVec 32 := 12#32
  let c2_i32_21 : BitVec 32 := 2#32
  let v37 : BitVec 1 := Scalar.cmpi .eq v34 c2_i32_21
  let c8_i32_22 : BitVec 32 := 8#32
  let c1_i32_18 : BitVec 32 := 1#32
  let v35 : BitVec 1 := Scalar.cmpi .eq v34 c1_i32_18
  let c4_i32_19 : BitVec 32 := 4#32
  let c0_i32_20 : BitVec 32 := 0#32
  let v36 : BitVec 32 := Scalar.select v35 c4_i32_19 c0_i32_20
  let v38 : BitVec 32 := Scalar.select v37 c8_i32_22 v36
  let v40 : BitVec 32 := Scalar.select v39 c12_i32_24 v38
  let v42 : BitVec 32 := Scalar.select v41 c15_i32_26 v40
  let v44 : BitVec 32 := Scalar.select v43 c11_i32_28 v42
  let v46 : BitVec 32 := Scalar.select v45 c7_i32_30 v44
  let v48 : BitVec 32 := Scalar.select v47 c3_i32_32 v46
  let v50 : BitVec 32 := Scalar.select v49 c2_i32_34 v48
  let v52 : BitVec 32 := Scalar.select v51 c6_i32_36 v50
  let v54 : BitVec 32 := Scalar.select v53 c10_i32_38 v52
  let v56 : BitVec 32 := Scalar.select v55 c14_i32_40 v54
  let v58 : BitVec 32 := Scalar.select v57 c13_i32_42 v56
  let v60 : BitVec 32 := Scalar.select v59 c9_i32_44 v58
  let v62 : BitVec 32 := Scalar.select v61 c5_i32_46 v60
  let v64 : BitVec 32 := Scalar.select v63 c1_i32_48 v62
  let c256_i32_130 : BitVec 32 := 256#32
  let v148 : BitVec 32 := Scalar.muli v64 c256_i32_130
  let v149 : Index := Scalar.indexCast v148
  let c0_131 : Index := 0#32
  ![v149.toNat, 0]
def k0_dev5 (d0 : Dev nD) : Nat :=
  let c0_i32_144 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c4_i32_15 : BitVec 32 := 4#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c12_i32_11 : BitVec 32 := 12#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c5_i32_8 : BitVec 32 := 5#32
  let c10_i32 : BitVec 32 := 10#32
  let v21 : BitVec 1 := Scalar.cmpi .eq v2 c10_i32
  let c10_i32_7 : BitVec 32 := 10#32
  let c9_i32_6 : BitVec 32 := 9#32
  let v19 : BitVec 1 := Scalar.cmpi .eq v2 c9_i32_6
  let c13_i32 : BitVec 32 := 13#32
  let c8_i32_4 : BitVec 32 := 8#32
  let v17 : BitVec 1 := Scalar.cmpi .eq v2 c8_i32_4
  let c2_i32_5 : BitVec 32 := 2#32
  let c7_i32_2 : BitVec 32 := 7#32
  let v15 : BitVec 1 := Scalar.cmpi .eq v2 c7_i32_2
  let c6_i32_3 : BitVec 32 := 6#32
  let c6_i32 : BitVec 32 := 6#32
  let v13 : BitVec 1 := Scalar.cmpi .eq v2 c6_i32
  let c9_i32 : BitVec 32 := 9#32
  let c5_i32 : BitVec 32 := 5#32
  let v11 : BitVec 1 := Scalar.cmpi .eq v2 c5_i32
  let c14_i32 : BitVec 32 := 14#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c7_i32 : BitVec 32 := 7#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c15_i32 : BitVec 32 := 15#32
  let c0_i32 : BitVec 32 := 0#32
  let v4 : BitVec 32 := Scalar.select v3 c15_i32 c0_i32
  let v6 : BitVec 32 := Scalar.select v5 c8_i32 v4
  let v8 : BitVec 32 := Scalar.select v7 c7_i32 v6
  let v10 : BitVec 32 := Scalar.select v9 c1_i32_1 v8
  let v12 : BitVec 32 := Scalar.select v11 c14_i32 v10
  let v14 : BitVec 32 := Scalar.select v13 c9_i32 v12
  let v16 : BitVec 32 := Scalar.select v15 c6_i32_3 v14
  let v18 : BitVec 32 := Scalar.select v17 c2_i32_5 v16
  let v20 : BitVec 32 := Scalar.select v19 c13_i32 v18
  let v22 : BitVec 32 := Scalar.select v21 c10_i32_7 v20
  let v24 : BitVec 32 := Scalar.select v23 c5_i32_8 v22
  let v26 : BitVec 32 := Scalar.select v25 c3_i32_9 v24
  let v28 : BitVec 32 := Scalar.select v27 c12_i32_11 v26
  let v30 : BitVec 32 := Scalar.select v29 c11_i32_13 v28
  let v32 : BitVec 32 := Scalar.select v31 c4_i32_15 v30
  let c16_i32_49 : BitVec 32 := 16#32
  let v65 : BitVec 32 := Scalar.addi v32 c16_i32_49
  let c1_i32_50 : BitVec 32 := 1#32
  let v66 : BitVec 32 := Scalar.subi v65 c1_i32_50
  let c16_i32_51 : BitVec 32 := 16#32
  let v67 : BitVec 32 := Scalar.remsi v66 c16_i32_51
  let c15_i32_81 : BitVec 32 := 15#32
  let v96 : BitVec 1 := Scalar.cmpi .eq v67 c15_i32_81
  let c1_i32_82 : BitVec 32 := 1#32
  let c14_i32_79 : BitVec 32 := 14#32
  let v94 : BitVec 1 := Scalar.cmpi .eq v67 c14_i32_79
  let c5_i32_80 : BitVec 32 := 5#32
  let c13_i32_77 : BitVec 32 := 13#32
  let v92 : BitVec 1 := Scalar.cmpi .eq v67 c13_i32_77
  let c9_i32_78 : BitVec 32 := 9#32
  let c12_i32_75 : BitVec 32 := 12#32
  let v90 : BitVec 1 := Scalar.cmpi .eq v67 c12_i32_75
  let c13_i32_76 : BitVec 32 := 13#32
  let c11_i32_73 : BitVec 32 := 11#32
  let v88 : BitVec 1 := Scalar.cmpi .eq v67 c11_i32_73
  let c14_i32_74 : BitVec 32 := 14#32
  let c10_i32_71 : BitVec 32 := 10#32
  let v86 : BitVec 1 := Scalar.cmpi .eq v67 c10_i32_71
  let c10_i32_72 : BitVec 32 := 10#32
  let c9_i32_69 : BitVec 32 := 9#32
  let v84 : BitVec 1 := Scalar.cmpi .eq v67 c9_i32_69
  let c6_i32_70 : BitVec 32 := 6#32
  let c8_i32_67 : BitVec 32 := 8#32
  let v82 : BitVec 1 := Scalar.cmpi .eq v67 c8_i32_67
  let c2_i32_68 : BitVec 32 := 2#32
  let c7_i32_65 : BitVec 32 := 7#32
  let v80 : BitVec 1 := Scalar.cmpi .eq v67 c7_i32_65
  let c3_i32_66 : BitVec 32 := 3#32
  let c6_i32_63 : BitVec 32 := 6#32
  let v78 : BitVec 1 := Scalar.cmpi .eq v67 c6_i32_63
  let c7_i32_64 : BitVec 32 := 7#32
  let c5_i32_61 : BitVec 32 := 5#32
  let v76 : BitVec 1 := Scalar.cmpi .eq v67 c5_i32_61
  let c11_i32_62 : BitVec 32 := 11#32
  let c4_i32_59 : BitVec 32 := 4#32
  let v74 : BitVec 1 := Scalar.cmpi .eq v67 c4_i32_59
  let c15_i32_60 : BitVec 32 := 15#32
  let c3_i32_57 : BitVec 32 := 3#32
  let v72 : BitVec 1 := Scalar.cmpi .eq v67 c3_i32_57
  let c12_i32_58 : BitVec 32 := 12#32
  let c2_i32_55 : BitVec 32 := 2#32
  let v70 : BitVec 1 := Scalar.cmpi .eq v67 c2_i32_55
  let c8_i32_56 : BitVec 32 := 8#32
  let c1_i32_52 : BitVec 32 := 1#32
  let v68 : BitVec 1 := Scalar.cmpi .eq v67 c1_i32_52
  let c4_i32_53 : BitVec 32 := 4#32
  let c0_i32_54 : BitVec 32 := 0#32
  let v69 : BitVec 32 := Scalar.select v68 c4_i32_53 c0_i32_54
  let v71 : BitVec 32 := Scalar.select v70 c8_i32_56 v69
  let v73 : BitVec 32 := Scalar.select v72 c12_i32_58 v71
  let v75 : BitVec 32 := Scalar.select v74 c15_i32_60 v73
  let v77 : BitVec 32 := Scalar.select v76 c11_i32_62 v75
  let v79 : BitVec 32 := Scalar.select v78 c7_i32_64 v77
  let v81 : BitVec 32 := Scalar.select v80 c3_i32_66 v79
  let v83 : BitVec 32 := Scalar.select v82 c2_i32_68 v81
  let v85 : BitVec 32 := Scalar.select v84 c6_i32_70 v83
  let v87 : BitVec 32 := Scalar.select v86 c10_i32_72 v85
  let v89 : BitVec 32 := Scalar.select v88 c14_i32_74 v87
  let v91 : BitVec 32 := Scalar.select v90 c13_i32_76 v89
  let v93 : BitVec 32 := Scalar.select v92 c9_i32_78 v91
  let v95 : BitVec 32 := Scalar.select v94 c5_i32_80 v93
  let v97 : BitVec 32 := Scalar.select v96 c1_i32_82 v95
  let c1_i32_143 : BitVec 32 := 1#32
  let v158 : BitVec 32 := Scalar.muli v97 c1_i32_143
  let v159 : BitVec 32 := Scalar.addi c0_i32_144 v158
  v159.toNat
def k0_dev6 (d0 : Dev nD) : Nat :=
  let c0_i32_163 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c4_i32_15 : BitVec 32 := 4#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c12_i32_11 : BitVec 32 := 12#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c5_i32_8 : BitVec 32 := 5#32
  let c10_i32 : BitVec 32 := 10#32
  let v21 : BitVec 1 := Scalar.cmpi .eq v2 c10_i32
  let c10_i32_7 : BitVec 32 := 10#32
  let c9_i32_6 : BitVec 32 := 9#32
  let v19 : BitVec 1 := Scalar.cmpi .eq v2 c9_i32_6
  let c13_i32 : BitVec 32 := 13#32
  let c8_i32_4 : BitVec 32 := 8#32
  let v17 : BitVec 1 := Scalar.cmpi .eq v2 c8_i32_4
  let c2_i32_5 : BitVec 32 := 2#32
  let c7_i32_2 : BitVec 32 := 7#32
  let v15 : BitVec 1 := Scalar.cmpi .eq v2 c7_i32_2
  let c6_i32_3 : BitVec 32 := 6#32
  let c6_i32 : BitVec 32 := 6#32
  let v13 : BitVec 1 := Scalar.cmpi .eq v2 c6_i32
  let c9_i32 : BitVec 32 := 9#32
  let c5_i32 : BitVec 32 := 5#32
  let v11 : BitVec 1 := Scalar.cmpi .eq v2 c5_i32
  let c14_i32 : BitVec 32 := 14#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c7_i32 : BitVec 32 := 7#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c15_i32 : BitVec 32 := 15#32
  let c0_i32 : BitVec 32 := 0#32
  let v4 : BitVec 32 := Scalar.select v3 c15_i32 c0_i32
  let v6 : BitVec 32 := Scalar.select v5 c8_i32 v4
  let v8 : BitVec 32 := Scalar.select v7 c7_i32 v6
  let v10 : BitVec 32 := Scalar.select v9 c1_i32_1 v8
  let v12 : BitVec 32 := Scalar.select v11 c14_i32 v10
  let v14 : BitVec 32 := Scalar.select v13 c9_i32 v12
  let v16 : BitVec 32 := Scalar.select v15 c6_i32_3 v14
  let v18 : BitVec 32 := Scalar.select v17 c2_i32_5 v16
  let v20 : BitVec 32 := Scalar.select v19 c13_i32 v18
  let v22 : BitVec 32 := Scalar.select v21 c10_i32_7 v20
  let v24 : BitVec 32 := Scalar.select v23 c5_i32_8 v22
  let v26 : BitVec 32 := Scalar.select v25 c3_i32_9 v24
  let v28 : BitVec 32 := Scalar.select v27 c12_i32_11 v26
  let v30 : BitVec 32 := Scalar.select v29 c11_i32_13 v28
  let v32 : BitVec 32 := Scalar.select v31 c4_i32_15 v30
  let c16_i32_49 : BitVec 32 := 16#32
  let v65 : BitVec 32 := Scalar.addi v32 c16_i32_49
  let c1_i32_50 : BitVec 32 := 1#32
  let v66 : BitVec 32 := Scalar.subi v65 c1_i32_50
  let c16_i32_51 : BitVec 32 := 16#32
  let v67 : BitVec 32 := Scalar.remsi v66 c16_i32_51
  let c15_i32_81 : BitVec 32 := 15#32
  let v96 : BitVec 1 := Scalar.cmpi .eq v67 c15_i32_81
  let c1_i32_82 : BitVec 32 := 1#32
  let c14_i32_79 : BitVec 32 := 14#32
  let v94 : BitVec 1 := Scalar.cmpi .eq v67 c14_i32_79
  let c5_i32_80 : BitVec 32 := 5#32
  let c13_i32_77 : BitVec 32 := 13#32
  let v92 : BitVec 1 := Scalar.cmpi .eq v67 c13_i32_77
  let c9_i32_78 : BitVec 32 := 9#32
  let c12_i32_75 : BitVec 32 := 12#32
  let v90 : BitVec 1 := Scalar.cmpi .eq v67 c12_i32_75
  let c13_i32_76 : BitVec 32 := 13#32
  let c11_i32_73 : BitVec 32 := 11#32
  let v88 : BitVec 1 := Scalar.cmpi .eq v67 c11_i32_73
  let c14_i32_74 : BitVec 32 := 14#32
  let c10_i32_71 : BitVec 32 := 10#32
  let v86 : BitVec 1 := Scalar.cmpi .eq v67 c10_i32_71
  let c10_i32_72 : BitVec 32 := 10#32
  let c9_i32_69 : BitVec 32 := 9#32
  let v84 : BitVec 1 := Scalar.cmpi .eq v67 c9_i32_69
  let c6_i32_70 : BitVec 32 := 6#32
  let c8_i32_67 : BitVec 32 := 8#32
  let v82 : BitVec 1 := Scalar.cmpi .eq v67 c8_i32_67
  let c2_i32_68 : BitVec 32 := 2#32
  let c7_i32_65 : BitVec 32 := 7#32
  let v80 : BitVec 1 := Scalar.cmpi .eq v67 c7_i32_65
  let c3_i32_66 : BitVec 32 := 3#32
  let c6_i32_63 : BitVec 32 := 6#32
  let v78 : BitVec 1 := Scalar.cmpi .eq v67 c6_i32_63
  let c7_i32_64 : BitVec 32 := 7#32
  let c5_i32_61 : BitVec 32 := 5#32
  let v76 : BitVec 1 := Scalar.cmpi .eq v67 c5_i32_61
  let c11_i32_62 : BitVec 32 := 11#32
  let c4_i32_59 : BitVec 32 := 4#32
  let v74 : BitVec 1 := Scalar.cmpi .eq v67 c4_i32_59
  let c15_i32_60 : BitVec 32 := 15#32
  let c3_i32_57 : BitVec 32 := 3#32
  let v72 : BitVec 1 := Scalar.cmpi .eq v67 c3_i32_57
  let c12_i32_58 : BitVec 32 := 12#32
  let c2_i32_55 : BitVec 32 := 2#32
  let v70 : BitVec 1 := Scalar.cmpi .eq v67 c2_i32_55
  let c8_i32_56 : BitVec 32 := 8#32
  let c1_i32_52 : BitVec 32 := 1#32
  let v68 : BitVec 1 := Scalar.cmpi .eq v67 c1_i32_52
  let c4_i32_53 : BitVec 32 := 4#32
  let c0_i32_54 : BitVec 32 := 0#32
  let v69 : BitVec 32 := Scalar.select v68 c4_i32_53 c0_i32_54
  let v71 : BitVec 32 := Scalar.select v70 c8_i32_56 v69
  let v73 : BitVec 32 := Scalar.select v72 c12_i32_58 v71
  let v75 : BitVec 32 := Scalar.select v74 c15_i32_60 v73
  let v77 : BitVec 32 := Scalar.select v76 c11_i32_62 v75
  let v79 : BitVec 32 := Scalar.select v78 c7_i32_64 v77
  let v81 : BitVec 32 := Scalar.select v80 c3_i32_66 v79
  let v83 : BitVec 32 := Scalar.select v82 c2_i32_68 v81
  let v85 : BitVec 32 := Scalar.select v84 c6_i32_70 v83
  let v87 : BitVec 32 := Scalar.select v86 c10_i32_72 v85
  let v89 : BitVec 32 := Scalar.select v88 c14_i32_74 v87
  let v91 : BitVec 32 := Scalar.select v90 c13_i32_76 v89
  let v93 : BitVec 32 := Scalar.select v92 c9_i32_78 v91
  let v95 : BitVec 32 := Scalar.select v94 c5_i32_80 v93
  let v97 : BitVec 32 := Scalar.select v96 c1_i32_82 v95
  let c1_i32_162 : BitVec 32 := 1#32
  let v178 : BitVec 32 := Scalar.muli v97 c1_i32_162
  let v179 : BitVec 32 := Scalar.addi c0_i32_163 v178
  v179.toNat
def k0_off3 (d0 : Dev nD) (c0_i32_169 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c4_i32_15 : BitVec 32 := 4#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c12_i32_11 : BitVec 32 := 12#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c5_i32_8 : BitVec 32 := 5#32
  let c10_i32 : BitVec 32 := 10#32
  let v21 : BitVec 1 := Scalar.cmpi .eq v2 c10_i32
  let c10_i32_7 : BitVec 32 := 10#32
  let c9_i32_6 : BitVec 32 := 9#32
  let v19 : BitVec 1 := Scalar.cmpi .eq v2 c9_i32_6
  let c13_i32 : BitVec 32 := 13#32
  let c8_i32_4 : BitVec 32 := 8#32
  let v17 : BitVec 1 := Scalar.cmpi .eq v2 c8_i32_4
  let c2_i32_5 : BitVec 32 := 2#32
  let c7_i32_2 : BitVec 32 := 7#32
  let v15 : BitVec 1 := Scalar.cmpi .eq v2 c7_i32_2
  let c6_i32_3 : BitVec 32 := 6#32
  let c6_i32 : BitVec 32 := 6#32
  let v13 : BitVec 1 := Scalar.cmpi .eq v2 c6_i32
  let c9_i32 : BitVec 32 := 9#32
  let c5_i32 : BitVec 32 := 5#32
  let v11 : BitVec 1 := Scalar.cmpi .eq v2 c5_i32
  let c14_i32 : BitVec 32 := 14#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c7_i32 : BitVec 32 := 7#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c15_i32 : BitVec 32 := 15#32
  let c0_i32 : BitVec 32 := 0#32
  let v4 : BitVec 32 := Scalar.select v3 c15_i32 c0_i32
  let v6 : BitVec 32 := Scalar.select v5 c8_i32 v4
  let v8 : BitVec 32 := Scalar.select v7 c7_i32 v6
  let v10 : BitVec 32 := Scalar.select v9 c1_i32_1 v8
  let v12 : BitVec 32 := Scalar.select v11 c14_i32 v10
  let v14 : BitVec 32 := Scalar.select v13 c9_i32 v12
  let v16 : BitVec 32 := Scalar.select v15 c6_i32_3 v14
  let v18 : BitVec 32 := Scalar.select v17 c2_i32_5 v16
  let v20 : BitVec 32 := Scalar.select v19 c13_i32 v18
  let v22 : BitVec 32 := Scalar.select v21 c10_i32_7 v20
  let v24 : BitVec 32 := Scalar.select v23 c5_i32_8 v22
  let v26 : BitVec 32 := Scalar.select v25 c3_i32_9 v24
  let v28 : BitVec 32 := Scalar.select v27 c12_i32_11 v26
  let v30 : BitVec 32 := Scalar.select v29 c11_i32_13 v28
  let v32 : BitVec 32 := Scalar.select v31 c4_i32_15 v30
  let c32_i32 : BitVec 32 := 32#32
  let v188 : BitVec 32 := Scalar.addi v32 c32_i32
  let c2_i32_168 : BitVec 32 := 2#32
  let v189 : BitVec 32 := Scalar.subi v188 c2_i32_168
  let v190 : BitVec 32 := Scalar.subi v189 c0_i32_169
  let c16_i32_170 : BitVec 32 := 16#32
  let v191 : BitVec 32 := Scalar.remsi v190 c16_i32_170
  let c15_i32_200 : BitVec 32 := 15#32
  let v220 : BitVec 1 := Scalar.cmpi .eq v191 c15_i32_200
  let c1_i32_201 : BitVec 32 := 1#32
  let c14_i32_198 : BitVec 32 := 14#32
  let v218 : BitVec 1 := Scalar.cmpi .eq v191 c14_i32_198
  let c5_i32_199 : BitVec 32 := 5#32
  let c13_i32_196 : BitVec 32 := 13#32
  let v216 : BitVec 1 := Scalar.cmpi .eq v191 c13_i32_196
  let c9_i32_197 : BitVec 32 := 9#32
  let c12_i32_194 : BitVec 32 := 12#32
  let v214 : BitVec 1 := Scalar.cmpi .eq v191 c12_i32_194
  let c13_i32_195 : BitVec 32 := 13#32
  let c11_i32_192 : BitVec 32 := 11#32
  let v212 : BitVec 1 := Scalar.cmpi .eq v191 c11_i32_192
  let c14_i32_193 : BitVec 32 := 14#32
  let c10_i32_190 : BitVec 32 := 10#32
  let v210 : BitVec 1 := Scalar.cmpi .eq v191 c10_i32_190
  let c10_i32_191 : BitVec 32 := 10#32
  let c9_i32_188 : BitVec 32 := 9#32
  let v208 : BitVec 1 := Scalar.cmpi .eq v191 c9_i32_188
  let c6_i32_189 : BitVec 32 := 6#32
  let c8_i32_186 : BitVec 32 := 8#32
  let v206 : BitVec 1 := Scalar.cmpi .eq v191 c8_i32_186
  let c2_i32_187 : BitVec 32 := 2#32
  let c7_i32_184 : BitVec 32 := 7#32
  let v204 : BitVec 1 := Scalar.cmpi .eq v191 c7_i32_184
  let c3_i32_185 : BitVec 32 := 3#32
  let c6_i32_182 : BitVec 32 := 6#32
  let v202 : BitVec 1 := Scalar.cmpi .eq v191 c6_i32_182
  let c7_i32_183 : BitVec 32 := 7#32
  let c5_i32_180 : BitVec 32 := 5#32
  let v200 : BitVec 1 := Scalar.cmpi .eq v191 c5_i32_180
  let c11_i32_181 : BitVec 32 := 11#32
  let c4_i32_178 : BitVec 32 := 4#32
  let v198 : BitVec 1 := Scalar.cmpi .eq v191 c4_i32_178
  let c15_i32_179 : BitVec 32 := 15#32
  let c3_i32_176 : BitVec 32 := 3#32
  let v196 : BitVec 1 := Scalar.cmpi .eq v191 c3_i32_176
  let c12_i32_177 : BitVec 32 := 12#32
  let c2_i32_174 : BitVec 32 := 2#32
  let v194 : BitVec 1 := Scalar.cmpi .eq v191 c2_i32_174
  let c8_i32_175 : BitVec 32 := 8#32
  let c1_i32_171 : BitVec 32 := 1#32
  let v192 : BitVec 1 := Scalar.cmpi .eq v191 c1_i32_171
  let c4_i32_172 : BitVec 32 := 4#32
  let c0_i32_173 : BitVec 32 := 0#32
  let v193 : BitVec 32 := Scalar.select v192 c4_i32_172 c0_i32_173
  let v195 : BitVec 32 := Scalar.select v194 c8_i32_175 v193
  let v197 : BitVec 32 := Scalar.select v196 c12_i32_177 v195
  let v199 : BitVec 32 := Scalar.select v198 c15_i32_179 v197
  let v201 : BitVec 32 := Scalar.select v200 c11_i32_181 v199
  let v203 : BitVec 32 := Scalar.select v202 c7_i32_183 v201
  let v205 : BitVec 32 := Scalar.select v204 c3_i32_185 v203
  let v207 : BitVec 32 := Scalar.select v206 c2_i32_187 v205
  let v209 : BitVec 32 := Scalar.select v208 c6_i32_189 v207
  let v211 : BitVec 32 := Scalar.select v210 c10_i32_191 v209
  let v213 : BitVec 32 := Scalar.select v212 c14_i32_193 v211
  let v215 : BitVec 32 := Scalar.select v214 c13_i32_195 v213
  let v217 : BitVec 32 := Scalar.select v216 c9_i32_197 v215
  let v219 : BitVec 32 := Scalar.select v218 c5_i32_199 v217
  let v221 : BitVec 32 := Scalar.select v220 c1_i32_201 v219
  let c256_i32_202 : BitVec 32 := 256#32
  let v222 : BitVec 32 := Scalar.muli v221 c256_i32_202
  let v223 : Index := Scalar.indexCast v222
  let c0_203 : Index := 0#32
  ![v223.toNat, 0]
def k0_off4 (d0 : Dev nD) (c0_i32_208 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c4_i32_15 : BitVec 32 := 4#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c12_i32_11 : BitVec 32 := 12#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c5_i32_8 : BitVec 32 := 5#32
  let c10_i32 : BitVec 32 := 10#32
  let v21 : BitVec 1 := Scalar.cmpi .eq v2 c10_i32
  let c10_i32_7 : BitVec 32 := 10#32
  let c9_i32_6 : BitVec 32 := 9#32
  let v19 : BitVec 1 := Scalar.cmpi .eq v2 c9_i32_6
  let c13_i32 : BitVec 32 := 13#32
  let c8_i32_4 : BitVec 32 := 8#32
  let v17 : BitVec 1 := Scalar.cmpi .eq v2 c8_i32_4
  let c2_i32_5 : BitVec 32 := 2#32
  let c7_i32_2 : BitVec 32 := 7#32
  let v15 : BitVec 1 := Scalar.cmpi .eq v2 c7_i32_2
  let c6_i32_3 : BitVec 32 := 6#32
  let c6_i32 : BitVec 32 := 6#32
  let v13 : BitVec 1 := Scalar.cmpi .eq v2 c6_i32
  let c9_i32 : BitVec 32 := 9#32
  let c5_i32 : BitVec 32 := 5#32
  let v11 : BitVec 1 := Scalar.cmpi .eq v2 c5_i32
  let c14_i32 : BitVec 32 := 14#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c7_i32 : BitVec 32 := 7#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c15_i32 : BitVec 32 := 15#32
  let c0_i32 : BitVec 32 := 0#32
  let v4 : BitVec 32 := Scalar.select v3 c15_i32 c0_i32
  let v6 : BitVec 32 := Scalar.select v5 c8_i32 v4
  let v8 : BitVec 32 := Scalar.select v7 c7_i32 v6
  let v10 : BitVec 32 := Scalar.select v9 c1_i32_1 v8
  let v12 : BitVec 32 := Scalar.select v11 c14_i32 v10
  let v14 : BitVec 32 := Scalar.select v13 c9_i32 v12
  let v16 : BitVec 32 := Scalar.select v15 c6_i32_3 v14
  let v18 : BitVec 32 := Scalar.select v17 c2_i32_5 v16
  let v20 : BitVec 32 := Scalar.select v19 c13_i32 v18
  let v22 : BitVec 32 := Scalar.select v21 c10_i32_7 v20
  let v24 : BitVec 32 := Scalar.select v23 c5_i32_8 v22
  let v26 : BitVec 32 := Scalar.select v25 c3_i32_9 v24
  let v28 : BitVec 32 := Scalar.select v27 c12_i32_11 v26
  let v30 : BitVec 32 := Scalar.select v29 c11_i32_13 v28
  let v32 : BitVec 32 := Scalar.select v31 c4_i32_15 v30
  let c2_i32_207 : BitVec 32 := 2#32
  let v228 : BitVec 32 := Scalar.addi v32 c2_i32_207
  let v229 : BitVec 32 := Scalar.addi v228 c0_i32_208
  let c16_i32_209 : BitVec 32 := 16#32
  let v230 : BitVec 32 := Scalar.remsi v229 c16_i32_209
  let c15_i32_239 : BitVec 32 := 15#32
  let v259 : BitVec 1 := Scalar.cmpi .eq v230 c15_i32_239
  let c1_i32_240 : BitVec 32 := 1#32
  let c14_i32_237 : BitVec 32 := 14#32
  let v257 : BitVec 1 := Scalar.cmpi .eq v230 c14_i32_237
  let c5_i32_238 : BitVec 32 := 5#32
  let c13_i32_235 : BitVec 32 := 13#32
  let v255 : BitVec 1 := Scalar.cmpi .eq v230 c13_i32_235
  let c9_i32_236 : BitVec 32 := 9#32
  let c12_i32_233 : BitVec 32 := 12#32
  let v253 : BitVec 1 := Scalar.cmpi .eq v230 c12_i32_233
  let c13_i32_234 : BitVec 32 := 13#32
  let c11_i32_231 : BitVec 32 := 11#32
  let v251 : BitVec 1 := Scalar.cmpi .eq v230 c11_i32_231
  let c14_i32_232 : BitVec 32 := 14#32
  let c10_i32_229 : BitVec 32 := 10#32
  let v249 : BitVec 1 := Scalar.cmpi .eq v230 c10_i32_229
  let c10_i32_230 : BitVec 32 := 10#32
  let c9_i32_227 : BitVec 32 := 9#32
  let v247 : BitVec 1 := Scalar.cmpi .eq v230 c9_i32_227
  let c6_i32_228 : BitVec 32 := 6#32
  let c8_i32_225 : BitVec 32 := 8#32
  let v245 : BitVec 1 := Scalar.cmpi .eq v230 c8_i32_225
  let c2_i32_226 : BitVec 32 := 2#32
  let c7_i32_223 : BitVec 32 := 7#32
  let v243 : BitVec 1 := Scalar.cmpi .eq v230 c7_i32_223
  let c3_i32_224 : BitVec 32 := 3#32
  let c6_i32_221 : BitVec 32 := 6#32
  let v241 : BitVec 1 := Scalar.cmpi .eq v230 c6_i32_221
  let c7_i32_222 : BitVec 32 := 7#32
  let c5_i32_219 : BitVec 32 := 5#32
  let v239 : BitVec 1 := Scalar.cmpi .eq v230 c5_i32_219
  let c11_i32_220 : BitVec 32 := 11#32
  let c4_i32_217 : BitVec 32 := 4#32
  let v237 : BitVec 1 := Scalar.cmpi .eq v230 c4_i32_217
  let c15_i32_218 : BitVec 32 := 15#32
  let c3_i32_215 : BitVec 32 := 3#32
  let v235 : BitVec 1 := Scalar.cmpi .eq v230 c3_i32_215
  let c12_i32_216 : BitVec 32 := 12#32
  let c2_i32_213 : BitVec 32 := 2#32
  let v233 : BitVec 1 := Scalar.cmpi .eq v230 c2_i32_213
  let c8_i32_214 : BitVec 32 := 8#32
  let c1_i32_210 : BitVec 32 := 1#32
  let v231 : BitVec 1 := Scalar.cmpi .eq v230 c1_i32_210
  let c4_i32_211 : BitVec 32 := 4#32
  let c0_i32_212 : BitVec 32 := 0#32
  let v232 : BitVec 32 := Scalar.select v231 c4_i32_211 c0_i32_212
  let v234 : BitVec 32 := Scalar.select v233 c8_i32_214 v232
  let v236 : BitVec 32 := Scalar.select v235 c12_i32_216 v234
  let v238 : BitVec 32 := Scalar.select v237 c15_i32_218 v236
  let v240 : BitVec 32 := Scalar.select v239 c11_i32_220 v238
  let v242 : BitVec 32 := Scalar.select v241 c7_i32_222 v240
  let v244 : BitVec 32 := Scalar.select v243 c3_i32_224 v242
  let v246 : BitVec 32 := Scalar.select v245 c2_i32_226 v244
  let v248 : BitVec 32 := Scalar.select v247 c6_i32_228 v246
  let v250 : BitVec 32 := Scalar.select v249 c10_i32_230 v248
  let v252 : BitVec 32 := Scalar.select v251 c14_i32_232 v250
  let v254 : BitVec 32 := Scalar.select v253 c13_i32_234 v252
  let v256 : BitVec 32 := Scalar.select v255 c9_i32_236 v254
  let v258 : BitVec 32 := Scalar.select v257 c5_i32_238 v256
  let v260 : BitVec 32 := Scalar.select v259 c1_i32_240 v258
  let c256_i32_241 : BitVec 32 := 256#32
  let v261 : BitVec 32 := Scalar.muli v260 c256_i32_241
  let v262 : Index := Scalar.indexCast v261
  let c0_242 : Index := 0#32
  ![v262.toNat, 0]
def k0_dev7 (d0 : Dev nD) : Nat :=
  let c0_i32_281 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c4_i32_15 : BitVec 32 := 4#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c12_i32_11 : BitVec 32 := 12#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c5_i32_8 : BitVec 32 := 5#32
  let c10_i32 : BitVec 32 := 10#32
  let v21 : BitVec 1 := Scalar.cmpi .eq v2 c10_i32
  let c10_i32_7 : BitVec 32 := 10#32
  let c9_i32_6 : BitVec 32 := 9#32
  let v19 : BitVec 1 := Scalar.cmpi .eq v2 c9_i32_6
  let c13_i32 : BitVec 32 := 13#32
  let c8_i32_4 : BitVec 32 := 8#32
  let v17 : BitVec 1 := Scalar.cmpi .eq v2 c8_i32_4
  let c2_i32_5 : BitVec 32 := 2#32
  let c7_i32_2 : BitVec 32 := 7#32
  let v15 : BitVec 1 := Scalar.cmpi .eq v2 c7_i32_2
  let c6_i32_3 : BitVec 32 := 6#32
  let c6_i32 : BitVec 32 := 6#32
  let v13 : BitVec 1 := Scalar.cmpi .eq v2 c6_i32
  let c9_i32 : BitVec 32 := 9#32
  let c5_i32 : BitVec 32 := 5#32
  let v11 : BitVec 1 := Scalar.cmpi .eq v2 c5_i32
  let c14_i32 : BitVec 32 := 14#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c7_i32 : BitVec 32 := 7#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c15_i32 : BitVec 32 := 15#32
  let c0_i32 : BitVec 32 := 0#32
  let v4 : BitVec 32 := Scalar.select v3 c15_i32 c0_i32
  let v6 : BitVec 32 := Scalar.select v5 c8_i32 v4
  let v8 : BitVec 32 := Scalar.select v7 c7_i32 v6
  let v10 : BitVec 32 := Scalar.select v9 c1_i32_1 v8
  let v12 : BitVec 32 := Scalar.select v11 c14_i32 v10
  let v14 : BitVec 32 := Scalar.select v13 c9_i32 v12
  let v16 : BitVec 32 := Scalar.select v15 c6_i32_3 v14
  let v18 : BitVec 32 := Scalar.select v17 c2_i32_5 v16
  let v20 : BitVec 32 := Scalar.select v19 c13_i32 v18
  let v22 : BitVec 32 := Scalar.select v21 c10_i32_7 v20
  let v24 : BitVec 32 := Scalar.select v23 c5_i32_8 v22
  let v26 : BitVec 32 := Scalar.select v25 c3_i32_9 v24
  let v28 : BitVec 32 := Scalar.select v27 c12_i32_11 v26
  let v30 : BitVec 32 := Scalar.select v29 c11_i32_13 v28
  let v32 : BitVec 32 := Scalar.select v31 c4_i32_15 v30
  let c1_i32_16 : BitVec 32 := 1#32
  let v33 : BitVec 32 := Scalar.addi v32 c1_i32_16
  let c16_i32_17 : BitVec 32 := 16#32
  let v34 : BitVec 32 := Scalar.remsi v33 c16_i32_17
  let c15_i32_47 : BitVec 32 := 15#32
  let v63 : BitVec 1 := Scalar.cmpi .eq v34 c15_i32_47
  let c1_i32_48 : BitVec 32 := 1#32
  let c14_i32_45 : BitVec 32 := 14#32
  let v61 : BitVec 1 := Scalar.cmpi .eq v34 c14_i32_45
  let c5_i32_46 : BitVec 32 := 5#32
  let c13_i32_43 : BitVec 32 := 13#32
  let v59 : BitVec 1 := Scalar.cmpi .eq v34 c13_i32_43
  let c9_i32_44 : BitVec 32 := 9#32
  let c12_i32_41 : BitVec 32 := 12#32
  let v57 : BitVec 1 := Scalar.cmpi .eq v34 c12_i32_41
  let c13_i32_42 : BitVec 32 := 13#32
  let c11_i32_39 : BitVec 32 := 11#32
  let v55 : BitVec 1 := Scalar.cmpi .eq v34 c11_i32_39
  let c14_i32_40 : BitVec 32 := 14#32
  let c10_i32_37 : BitVec 32 := 10#32
  let v53 : BitVec 1 := Scalar.cmpi .eq v34 c10_i32_37
  let c10_i32_38 : BitVec 32 := 10#32
  let c9_i32_35 : BitVec 32 := 9#32
  let v51 : BitVec 1 := Scalar.cmpi .eq v34 c9_i32_35
  let c6_i32_36 : BitVec 32 := 6#32
  let c8_i32_33 : BitVec 32 := 8#32
  let v49 : BitVec 1 := Scalar.cmpi .eq v34 c8_i32_33
  let c2_i32_34 : BitVec 32 := 2#32
  let c7_i32_31 : BitVec 32 := 7#32
  let v47 : BitVec 1 := Scalar.cmpi .eq v34 c7_i32_31
  let c3_i32_32 : BitVec 32 := 3#32
  let c6_i32_29 : BitVec 32 := 6#32
  let v45 : BitVec 1 := Scalar.cmpi .eq v34 c6_i32_29
  let c7_i32_30 : BitVec 32 := 7#32
  let c5_i32_27 : BitVec 32 := 5#32
  let v43 : BitVec 1 := Scalar.cmpi .eq v34 c5_i32_27
  let c11_i32_28 : BitVec 32 := 11#32
  let c4_i32_25 : BitVec 32 := 4#32
  let v41 : BitVec 1 := Scalar.cmpi .eq v34 c4_i32_25
  let c15_i32_26 : BitVec 32 := 15#32
  let c3_i32_23 : BitVec 32 := 3#32
  let v39 : BitVec 1 := Scalar.cmpi .eq v34 c3_i32_23
  let c12_i32_24 : BitVec 32 := 12#32
  let c2_i32_21 : BitVec 32 := 2#32
  let v37 : BitVec 1 := Scalar.cmpi .eq v34 c2_i32_21
  let c8_i32_22 : BitVec 32 := 8#32
  let c1_i32_18 : BitVec 32 := 1#32
  let v35 : BitVec 1 := Scalar.cmpi .eq v34 c1_i32_18
  let c4_i32_19 : BitVec 32 := 4#32
  let c0_i32_20 : BitVec 32 := 0#32
  let v36 : BitVec 32 := Scalar.select v35 c4_i32_19 c0_i32_20
  let v38 : BitVec 32 := Scalar.select v37 c8_i32_22 v36
  let v40 : BitVec 32 := Scalar.select v39 c12_i32_24 v38
  let v42 : BitVec 32 := Scalar.select v41 c15_i32_26 v40
  let v44 : BitVec 32 := Scalar.select v43 c11_i32_28 v42
  let v46 : BitVec 32 := Scalar.select v45 c7_i32_30 v44
  let v48 : BitVec 32 := Scalar.select v47 c3_i32_32 v46
  let v50 : BitVec 32 := Scalar.select v49 c2_i32_34 v48
  let v52 : BitVec 32 := Scalar.select v51 c6_i32_36 v50
  let v54 : BitVec 32 := Scalar.select v53 c10_i32_38 v52
  let v56 : BitVec 32 := Scalar.select v55 c14_i32_40 v54
  let v58 : BitVec 32 := Scalar.select v57 c13_i32_42 v56
  let v60 : BitVec 32 := Scalar.select v59 c9_i32_44 v58
  let v62 : BitVec 32 := Scalar.select v61 c5_i32_46 v60
  let v64 : BitVec 32 := Scalar.select v63 c1_i32_48 v62
  let c1_i32_280 : BitVec 32 := 1#32
  let v290 : BitVec 32 := Scalar.muli v64 c1_i32_280
  let v291 : BitVec 32 := Scalar.addi c0_i32_281 v290
  v291.toNat
def k0_dev8 (d0 : Dev nD) : Nat :=
  let c0_i32_322 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c4_i32_15 : BitVec 32 := 4#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c12_i32_11 : BitVec 32 := 12#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c5_i32_8 : BitVec 32 := 5#32
  let c10_i32 : BitVec 32 := 10#32
  let v21 : BitVec 1 := Scalar.cmpi .eq v2 c10_i32
  let c10_i32_7 : BitVec 32 := 10#32
  let c9_i32_6 : BitVec 32 := 9#32
  let v19 : BitVec 1 := Scalar.cmpi .eq v2 c9_i32_6
  let c13_i32 : BitVec 32 := 13#32
  let c8_i32_4 : BitVec 32 := 8#32
  let v17 : BitVec 1 := Scalar.cmpi .eq v2 c8_i32_4
  let c2_i32_5 : BitVec 32 := 2#32
  let c7_i32_2 : BitVec 32 := 7#32
  let v15 : BitVec 1 := Scalar.cmpi .eq v2 c7_i32_2
  let c6_i32_3 : BitVec 32 := 6#32
  let c6_i32 : BitVec 32 := 6#32
  let v13 : BitVec 1 := Scalar.cmpi .eq v2 c6_i32
  let c9_i32 : BitVec 32 := 9#32
  let c5_i32 : BitVec 32 := 5#32
  let v11 : BitVec 1 := Scalar.cmpi .eq v2 c5_i32
  let c14_i32 : BitVec 32 := 14#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c7_i32 : BitVec 32 := 7#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c15_i32 : BitVec 32 := 15#32
  let c0_i32 : BitVec 32 := 0#32
  let v4 : BitVec 32 := Scalar.select v3 c15_i32 c0_i32
  let v6 : BitVec 32 := Scalar.select v5 c8_i32 v4
  let v8 : BitVec 32 := Scalar.select v7 c7_i32 v6
  let v10 : BitVec 32 := Scalar.select v9 c1_i32_1 v8
  let v12 : BitVec 32 := Scalar.select v11 c14_i32 v10
  let v14 : BitVec 32 := Scalar.select v13 c9_i32 v12
  let v16 : BitVec 32 := Scalar.select v15 c6_i32_3 v14
  let v18 : BitVec 32 := Scalar.select v17 c2_i32_5 v16
  let v20 : BitVec 32 := Scalar.select v19 c13_i32 v18
  let v22 : BitVec 32 := Scalar.select v21 c10_i32_7 v20
  let v24 : BitVec 32 := Scalar.select v23 c5_i32_8 v22
  let v26 : BitVec 32 := Scalar.select v25 c3_i32_9 v24
  let v28 : BitVec 32 := Scalar.select v27 c12_i32_11 v26
  let v30 : BitVec 32 := Scalar.select v29 c11_i32_13 v28
  let v32 : BitVec 32 := Scalar.select v31 c4_i32_15 v30
  let c1_i32_16 : BitVec 32 := 1#32
  let v33 : BitVec 32 := Scalar.addi v32 c1_i32_16
  let c16_i32_17 : BitVec 32 := 16#32
  let v34 : BitVec 32 := Scalar.remsi v33 c16_i32_17
  let c15_i32_47 : BitVec 32 := 15#32
  let v63 : BitVec 1 := Scalar.cmpi .eq v34 c15_i32_47
  let c1_i32_48 : BitVec 32 := 1#32
  let c14_i32_45 : BitVec 32 := 14#32
  let v61 : BitVec 1 := Scalar.cmpi .eq v34 c14_i32_45
  let c5_i32_46 : BitVec 32 := 5#32
  let c13_i32_43 : BitVec 32 := 13#32
  let v59 : BitVec 1 := Scalar.cmpi .eq v34 c13_i32_43
  let c9_i32_44 : BitVec 32 := 9#32
  let c12_i32_41 : BitVec 32 := 12#32
  let v57 : BitVec 1 := Scalar.cmpi .eq v34 c12_i32_41
  let c13_i32_42 : BitVec 32 := 13#32
  let c11_i32_39 : BitVec 32 := 11#32
  let v55 : BitVec 1 := Scalar.cmpi .eq v34 c11_i32_39
  let c14_i32_40 : BitVec 32 := 14#32
  let c10_i32_37 : BitVec 32 := 10#32
  let v53 : BitVec 1 := Scalar.cmpi .eq v34 c10_i32_37
  let c10_i32_38 : BitVec 32 := 10#32
  let c9_i32_35 : BitVec 32 := 9#32
  let v51 : BitVec 1 := Scalar.cmpi .eq v34 c9_i32_35
  let c6_i32_36 : BitVec 32 := 6#32
  let c8_i32_33 : BitVec 32 := 8#32
  let v49 : BitVec 1 := Scalar.cmpi .eq v34 c8_i32_33
  let c2_i32_34 : BitVec 32 := 2#32
  let c7_i32_31 : BitVec 32 := 7#32
  let v47 : BitVec 1 := Scalar.cmpi .eq v34 c7_i32_31
  let c3_i32_32 : BitVec 32 := 3#32
  let c6_i32_29 : BitVec 32 := 6#32
  let v45 : BitVec 1 := Scalar.cmpi .eq v34 c6_i32_29
  let c7_i32_30 : BitVec 32 := 7#32
  let c5_i32_27 : BitVec 32 := 5#32
  let v43 : BitVec 1 := Scalar.cmpi .eq v34 c5_i32_27
  let c11_i32_28 : BitVec 32 := 11#32
  let c4_i32_25 : BitVec 32 := 4#32
  let v41 : BitVec 1 := Scalar.cmpi .eq v34 c4_i32_25
  let c15_i32_26 : BitVec 32 := 15#32
  let c3_i32_23 : BitVec 32 := 3#32
  let v39 : BitVec 1 := Scalar.cmpi .eq v34 c3_i32_23
  let c12_i32_24 : BitVec 32 := 12#32
  let c2_i32_21 : BitVec 32 := 2#32
  let v37 : BitVec 1 := Scalar.cmpi .eq v34 c2_i32_21
  let c8_i32_22 : BitVec 32 := 8#32
  let c1_i32_18 : BitVec 32 := 1#32
  let v35 : BitVec 1 := Scalar.cmpi .eq v34 c1_i32_18
  let c4_i32_19 : BitVec 32 := 4#32
  let c0_i32_20 : BitVec 32 := 0#32
  let v36 : BitVec 32 := Scalar.select v35 c4_i32_19 c0_i32_20
  let v38 : BitVec 32 := Scalar.select v37 c8_i32_22 v36
  let v40 : BitVec 32 := Scalar.select v39 c12_i32_24 v38
  let v42 : BitVec 32 := Scalar.select v41 c15_i32_26 v40
  let v44 : BitVec 32 := Scalar.select v43 c11_i32_28 v42
  let v46 : BitVec 32 := Scalar.select v45 c7_i32_30 v44
  let v48 : BitVec 32 := Scalar.select v47 c3_i32_32 v46
  let v50 : BitVec 32 := Scalar.select v49 c2_i32_34 v48
  let v52 : BitVec 32 := Scalar.select v51 c6_i32_36 v50
  let v54 : BitVec 32 := Scalar.select v53 c10_i32_38 v52
  let v56 : BitVec 32 := Scalar.select v55 c14_i32_40 v54
  let v58 : BitVec 32 := Scalar.select v57 c13_i32_42 v56
  let v60 : BitVec 32 := Scalar.select v59 c9_i32_44 v58
  let v62 : BitVec 32 := Scalar.select v61 c5_i32_46 v60
  let v64 : BitVec 32 := Scalar.select v63 c1_i32_48 v62
  let c1_i32_321 : BitVec 32 := 1#32
  let v323 : BitVec 32 := Scalar.muli v64 c1_i32_321
  let v324 : BitVec 32 := Scalar.addi c0_i32_322 v323
  v324.toNat
def k0_dev9 (d0 : Dev nD) : Nat :=
  let c0_i32_363 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c4_i32_15 : BitVec 32 := 4#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c12_i32_11 : BitVec 32 := 12#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c5_i32_8 : BitVec 32 := 5#32
  let c10_i32 : BitVec 32 := 10#32
  let v21 : BitVec 1 := Scalar.cmpi .eq v2 c10_i32
  let c10_i32_7 : BitVec 32 := 10#32
  let c9_i32_6 : BitVec 32 := 9#32
  let v19 : BitVec 1 := Scalar.cmpi .eq v2 c9_i32_6
  let c13_i32 : BitVec 32 := 13#32
  let c8_i32_4 : BitVec 32 := 8#32
  let v17 : BitVec 1 := Scalar.cmpi .eq v2 c8_i32_4
  let c2_i32_5 : BitVec 32 := 2#32
  let c7_i32_2 : BitVec 32 := 7#32
  let v15 : BitVec 1 := Scalar.cmpi .eq v2 c7_i32_2
  let c6_i32_3 : BitVec 32 := 6#32
  let c6_i32 : BitVec 32 := 6#32
  let v13 : BitVec 1 := Scalar.cmpi .eq v2 c6_i32
  let c9_i32 : BitVec 32 := 9#32
  let c5_i32 : BitVec 32 := 5#32
  let v11 : BitVec 1 := Scalar.cmpi .eq v2 c5_i32
  let c14_i32 : BitVec 32 := 14#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c7_i32 : BitVec 32 := 7#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c15_i32 : BitVec 32 := 15#32
  let c0_i32 : BitVec 32 := 0#32
  let v4 : BitVec 32 := Scalar.select v3 c15_i32 c0_i32
  let v6 : BitVec 32 := Scalar.select v5 c8_i32 v4
  let v8 : BitVec 32 := Scalar.select v7 c7_i32 v6
  let v10 : BitVec 32 := Scalar.select v9 c1_i32_1 v8
  let v12 : BitVec 32 := Scalar.select v11 c14_i32 v10
  let v14 : BitVec 32 := Scalar.select v13 c9_i32 v12
  let v16 : BitVec 32 := Scalar.select v15 c6_i32_3 v14
  let v18 : BitVec 32 := Scalar.select v17 c2_i32_5 v16
  let v20 : BitVec 32 := Scalar.select v19 c13_i32 v18
  let v22 : BitVec 32 := Scalar.select v21 c10_i32_7 v20
  let v24 : BitVec 32 := Scalar.select v23 c5_i32_8 v22
  let v26 : BitVec 32 := Scalar.select v25 c3_i32_9 v24
  let v28 : BitVec 32 := Scalar.select v27 c12_i32_11 v26
  let v30 : BitVec 32 := Scalar.select v29 c11_i32_13 v28
  let v32 : BitVec 32 := Scalar.select v31 c4_i32_15 v30
  let c16_i32_49 : BitVec 32 := 16#32
  let v65 : BitVec 32 := Scalar.addi v32 c16_i32_49
  let c1_i32_50 : BitVec 32 := 1#32
  let v66 : BitVec 32 := Scalar.subi v65 c1_i32_50
  let c16_i32_51 : BitVec 32 := 16#32
  let v67 : BitVec 32 := Scalar.remsi v66 c16_i32_51
  let c15_i32_81 : BitVec 32 := 15#32
  let v96 : BitVec 1 := Scalar.cmpi .eq v67 c15_i32_81
  let c1_i32_82 : BitVec 32 := 1#32
  let c14_i32_79 : BitVec 32 := 14#32
  let v94 : BitVec 1 := Scalar.cmpi .eq v67 c14_i32_79
  let c5_i32_80 : BitVec 32 := 5#32
  let c13_i32_77 : BitVec 32 := 13#32
  let v92 : BitVec 1 := Scalar.cmpi .eq v67 c13_i32_77
  let c9_i32_78 : BitVec 32 := 9#32
  let c12_i32_75 : BitVec 32 := 12#32
  let v90 : BitVec 1 := Scalar.cmpi .eq v67 c12_i32_75
  let c13_i32_76 : BitVec 32 := 13#32
  let c11_i32_73 : BitVec 32 := 11#32
  let v88 : BitVec 1 := Scalar.cmpi .eq v67 c11_i32_73
  let c14_i32_74 : BitVec 32 := 14#32
  let c10_i32_71 : BitVec 32 := 10#32
  let v86 : BitVec 1 := Scalar.cmpi .eq v67 c10_i32_71
  let c10_i32_72 : BitVec 32 := 10#32
  let c9_i32_69 : BitVec 32 := 9#32
  let v84 : BitVec 1 := Scalar.cmpi .eq v67 c9_i32_69
  let c6_i32_70 : BitVec 32 := 6#32
  let c8_i32_67 : BitVec 32 := 8#32
  let v82 : BitVec 1 := Scalar.cmpi .eq v67 c8_i32_67
  let c2_i32_68 : BitVec 32 := 2#32
  let c7_i32_65 : BitVec 32 := 7#32
  let v80 : BitVec 1 := Scalar.cmpi .eq v67 c7_i32_65
  let c3_i32_66 : BitVec 32 := 3#32
  let c6_i32_63 : BitVec 32 := 6#32
  let v78 : BitVec 1 := Scalar.cmpi .eq v67 c6_i32_63
  let c7_i32_64 : BitVec 32 := 7#32
  let c5_i32_61 : BitVec 32 := 5#32
  let v76 : BitVec 1 := Scalar.cmpi .eq v67 c5_i32_61
  let c11_i32_62 : BitVec 32 := 11#32
  let c4_i32_59 : BitVec 32 := 4#32
  let v74 : BitVec 1 := Scalar.cmpi .eq v67 c4_i32_59
  let c15_i32_60 : BitVec 32 := 15#32
  let c3_i32_57 : BitVec 32 := 3#32
  let v72 : BitVec 1 := Scalar.cmpi .eq v67 c3_i32_57
  let c12_i32_58 : BitVec 32 := 12#32
  let c2_i32_55 : BitVec 32 := 2#32
  let v70 : BitVec 1 := Scalar.cmpi .eq v67 c2_i32_55
  let c8_i32_56 : BitVec 32 := 8#32
  let c1_i32_52 : BitVec 32 := 1#32
  let v68 : BitVec 1 := Scalar.cmpi .eq v67 c1_i32_52
  let c4_i32_53 : BitVec 32 := 4#32
  let c0_i32_54 : BitVec 32 := 0#32
  let v69 : BitVec 32 := Scalar.select v68 c4_i32_53 c0_i32_54
  let v71 : BitVec 32 := Scalar.select v70 c8_i32_56 v69
  let v73 : BitVec 32 := Scalar.select v72 c12_i32_58 v71
  let v75 : BitVec 32 := Scalar.select v74 c15_i32_60 v73
  let v77 : BitVec 32 := Scalar.select v76 c11_i32_62 v75
  let v79 : BitVec 32 := Scalar.select v78 c7_i32_64 v77
  let v81 : BitVec 32 := Scalar.select v80 c3_i32_66 v79
  let v83 : BitVec 32 := Scalar.select v82 c2_i32_68 v81
  let v85 : BitVec 32 := Scalar.select v84 c6_i32_70 v83
  let v87 : BitVec 32 := Scalar.select v86 c10_i32_72 v85
  let v89 : BitVec 32 := Scalar.select v88 c14_i32_74 v87
  let v91 : BitVec 32 := Scalar.select v90 c13_i32_76 v89
  let v93 : BitVec 32 := Scalar.select v92 c9_i32_78 v91
  let v95 : BitVec 32 := Scalar.select v94 c5_i32_80 v93
  let v97 : BitVec 32 := Scalar.select v96 c1_i32_82 v95
  let c1_i32_362 : BitVec 32 := 1#32
  let v356 : BitVec 32 := Scalar.muli v97 c1_i32_362
  let v357 : BitVec 32 := Scalar.addi c0_i32_363 v356
  v357.toNat
def k0_dev10 (d0 : Dev nD) : Nat :=
  let c0_i32_404 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c4_i32_15 : BitVec 32 := 4#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c12_i32_11 : BitVec 32 := 12#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c5_i32_8 : BitVec 32 := 5#32
  let c10_i32 : BitVec 32 := 10#32
  let v21 : BitVec 1 := Scalar.cmpi .eq v2 c10_i32
  let c10_i32_7 : BitVec 32 := 10#32
  let c9_i32_6 : BitVec 32 := 9#32
  let v19 : BitVec 1 := Scalar.cmpi .eq v2 c9_i32_6
  let c13_i32 : BitVec 32 := 13#32
  let c8_i32_4 : BitVec 32 := 8#32
  let v17 : BitVec 1 := Scalar.cmpi .eq v2 c8_i32_4
  let c2_i32_5 : BitVec 32 := 2#32
  let c7_i32_2 : BitVec 32 := 7#32
  let v15 : BitVec 1 := Scalar.cmpi .eq v2 c7_i32_2
  let c6_i32_3 : BitVec 32 := 6#32
  let c6_i32 : BitVec 32 := 6#32
  let v13 : BitVec 1 := Scalar.cmpi .eq v2 c6_i32
  let c9_i32 : BitVec 32 := 9#32
  let c5_i32 : BitVec 32 := 5#32
  let v11 : BitVec 1 := Scalar.cmpi .eq v2 c5_i32
  let c14_i32 : BitVec 32 := 14#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c7_i32 : BitVec 32 := 7#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c15_i32 : BitVec 32 := 15#32
  let c0_i32 : BitVec 32 := 0#32
  let v4 : BitVec 32 := Scalar.select v3 c15_i32 c0_i32
  let v6 : BitVec 32 := Scalar.select v5 c8_i32 v4
  let v8 : BitVec 32 := Scalar.select v7 c7_i32 v6
  let v10 : BitVec 32 := Scalar.select v9 c1_i32_1 v8
  let v12 : BitVec 32 := Scalar.select v11 c14_i32 v10
  let v14 : BitVec 32 := Scalar.select v13 c9_i32 v12
  let v16 : BitVec 32 := Scalar.select v15 c6_i32_3 v14
  let v18 : BitVec 32 := Scalar.select v17 c2_i32_5 v16
  let v20 : BitVec 32 := Scalar.select v19 c13_i32 v18
  let v22 : BitVec 32 := Scalar.select v21 c10_i32_7 v20
  let v24 : BitVec 32 := Scalar.select v23 c5_i32_8 v22
  let v26 : BitVec 32 := Scalar.select v25 c3_i32_9 v24
  let v28 : BitVec 32 := Scalar.select v27 c12_i32_11 v26
  let v30 : BitVec 32 := Scalar.select v29 c11_i32_13 v28
  let v32 : BitVec 32 := Scalar.select v31 c4_i32_15 v30
  let c16_i32_49 : BitVec 32 := 16#32
  let v65 : BitVec 32 := Scalar.addi v32 c16_i32_49
  let c1_i32_50 : BitVec 32 := 1#32
  let v66 : BitVec 32 := Scalar.subi v65 c1_i32_50
  let c16_i32_51 : BitVec 32 := 16#32
  let v67 : BitVec 32 := Scalar.remsi v66 c16_i32_51
  let c15_i32_81 : BitVec 32 := 15#32
  let v96 : BitVec 1 := Scalar.cmpi .eq v67 c15_i32_81
  let c1_i32_82 : BitVec 32 := 1#32
  let c14_i32_79 : BitVec 32 := 14#32
  let v94 : BitVec 1 := Scalar.cmpi .eq v67 c14_i32_79
  let c5_i32_80 : BitVec 32 := 5#32
  let c13_i32_77 : BitVec 32 := 13#32
  let v92 : BitVec 1 := Scalar.cmpi .eq v67 c13_i32_77
  let c9_i32_78 : BitVec 32 := 9#32
  let c12_i32_75 : BitVec 32 := 12#32
  let v90 : BitVec 1 := Scalar.cmpi .eq v67 c12_i32_75
  let c13_i32_76 : BitVec 32 := 13#32
  let c11_i32_73 : BitVec 32 := 11#32
  let v88 : BitVec 1 := Scalar.cmpi .eq v67 c11_i32_73
  let c14_i32_74 : BitVec 32 := 14#32
  let c10_i32_71 : BitVec 32 := 10#32
  let v86 : BitVec 1 := Scalar.cmpi .eq v67 c10_i32_71
  let c10_i32_72 : BitVec 32 := 10#32
  let c9_i32_69 : BitVec 32 := 9#32
  let v84 : BitVec 1 := Scalar.cmpi .eq v67 c9_i32_69
  let c6_i32_70 : BitVec 32 := 6#32
  let c8_i32_67 : BitVec 32 := 8#32
  let v82 : BitVec 1 := Scalar.cmpi .eq v67 c8_i32_67
  let c2_i32_68 : BitVec 32 := 2#32
  let c7_i32_65 : BitVec 32 := 7#32
  let v80 : BitVec 1 := Scalar.cmpi .eq v67 c7_i32_65
  let c3_i32_66 : BitVec 32 := 3#32
  let c6_i32_63 : BitVec 32 := 6#32
  let v78 : BitVec 1 := Scalar.cmpi .eq v67 c6_i32_63
  let c7_i32_64 : BitVec 32 := 7#32
  let c5_i32_61 : BitVec 32 := 5#32
  let v76 : BitVec 1 := Scalar.cmpi .eq v67 c5_i32_61
  let c11_i32_62 : BitVec 32 := 11#32
  let c4_i32_59 : BitVec 32 := 4#32
  let v74 : BitVec 1 := Scalar.cmpi .eq v67 c4_i32_59
  let c15_i32_60 : BitVec 32 := 15#32
  let c3_i32_57 : BitVec 32 := 3#32
  let v72 : BitVec 1 := Scalar.cmpi .eq v67 c3_i32_57
  let c12_i32_58 : BitVec 32 := 12#32
  let c2_i32_55 : BitVec 32 := 2#32
  let v70 : BitVec 1 := Scalar.cmpi .eq v67 c2_i32_55
  let c8_i32_56 : BitVec 32 := 8#32
  let c1_i32_52 : BitVec 32 := 1#32
  let v68 : BitVec 1 := Scalar.cmpi .eq v67 c1_i32_52
  let c4_i32_53 : BitVec 32 := 4#32
  let c0_i32_54 : BitVec 32 := 0#32
  let v69 : BitVec 32 := Scalar.select v68 c4_i32_53 c0_i32_54
  let v71 : BitVec 32 := Scalar.select v70 c8_i32_56 v69
  let v73 : BitVec 32 := Scalar.select v72 c12_i32_58 v71
  let v75 : BitVec 32 := Scalar.select v74 c15_i32_60 v73
  let v77 : BitVec 32 := Scalar.select v76 c11_i32_62 v75
  let v79 : BitVec 32 := Scalar.select v78 c7_i32_64 v77
  let v81 : BitVec 32 := Scalar.select v80 c3_i32_66 v79
  let v83 : BitVec 32 := Scalar.select v82 c2_i32_68 v81
  let v85 : BitVec 32 := Scalar.select v84 c6_i32_70 v83
  let v87 : BitVec 32 := Scalar.select v86 c10_i32_72 v85
  let v89 : BitVec 32 := Scalar.select v88 c14_i32_74 v87
  let v91 : BitVec 32 := Scalar.select v90 c13_i32_76 v89
  let v93 : BitVec 32 := Scalar.select v92 c9_i32_78 v91
  let v95 : BitVec 32 := Scalar.select v94 c5_i32_80 v93
  let v97 : BitVec 32 := Scalar.select v96 c1_i32_82 v95
  let c1_i32_403 : BitVec 32 := 1#32
  let v389 : BitVec 32 := Scalar.muli v97 c1_i32_403
  let v390 : BitVec 32 := Scalar.addi c0_i32_404 v389
  v390.toNat
def k0_dev11 (d0 : Dev nD) : Nat :=
  let c0_i32_523 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c4_i32_15 : BitVec 32 := 4#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c12_i32_11 : BitVec 32 := 12#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c5_i32_8 : BitVec 32 := 5#32
  let c10_i32 : BitVec 32 := 10#32
  let v21 : BitVec 1 := Scalar.cmpi .eq v2 c10_i32
  let c10_i32_7 : BitVec 32 := 10#32
  let c9_i32_6 : BitVec 32 := 9#32
  let v19 : BitVec 1 := Scalar.cmpi .eq v2 c9_i32_6
  let c13_i32 : BitVec 32 := 13#32
  let c8_i32_4 : BitVec 32 := 8#32
  let v17 : BitVec 1 := Scalar.cmpi .eq v2 c8_i32_4
  let c2_i32_5 : BitVec 32 := 2#32
  let c7_i32_2 : BitVec 32 := 7#32
  let v15 : BitVec 1 := Scalar.cmpi .eq v2 c7_i32_2
  let c6_i32_3 : BitVec 32 := 6#32
  let c6_i32 : BitVec 32 := 6#32
  let v13 : BitVec 1 := Scalar.cmpi .eq v2 c6_i32
  let c9_i32 : BitVec 32 := 9#32
  let c5_i32 : BitVec 32 := 5#32
  let v11 : BitVec 1 := Scalar.cmpi .eq v2 c5_i32
  let c14_i32 : BitVec 32 := 14#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c7_i32 : BitVec 32 := 7#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c15_i32 : BitVec 32 := 15#32
  let c0_i32 : BitVec 32 := 0#32
  let v4 : BitVec 32 := Scalar.select v3 c15_i32 c0_i32
  let v6 : BitVec 32 := Scalar.select v5 c8_i32 v4
  let v8 : BitVec 32 := Scalar.select v7 c7_i32 v6
  let v10 : BitVec 32 := Scalar.select v9 c1_i32_1 v8
  let v12 : BitVec 32 := Scalar.select v11 c14_i32 v10
  let v14 : BitVec 32 := Scalar.select v13 c9_i32 v12
  let v16 : BitVec 32 := Scalar.select v15 c6_i32_3 v14
  let v18 : BitVec 32 := Scalar.select v17 c2_i32_5 v16
  let v20 : BitVec 32 := Scalar.select v19 c13_i32 v18
  let v22 : BitVec 32 := Scalar.select v21 c10_i32_7 v20
  let v24 : BitVec 32 := Scalar.select v23 c5_i32_8 v22
  let v26 : BitVec 32 := Scalar.select v25 c3_i32_9 v24
  let v28 : BitVec 32 := Scalar.select v27 c12_i32_11 v26
  let v30 : BitVec 32 := Scalar.select v29 c11_i32_13 v28
  let v32 : BitVec 32 := Scalar.select v31 c4_i32_15 v30
  let c1_i32_16 : BitVec 32 := 1#32
  let v33 : BitVec 32 := Scalar.addi v32 c1_i32_16
  let c16_i32_17 : BitVec 32 := 16#32
  let v34 : BitVec 32 := Scalar.remsi v33 c16_i32_17
  let c15_i32_47 : BitVec 32 := 15#32
  let v63 : BitVec 1 := Scalar.cmpi .eq v34 c15_i32_47
  let c1_i32_48 : BitVec 32 := 1#32
  let c14_i32_45 : BitVec 32 := 14#32
  let v61 : BitVec 1 := Scalar.cmpi .eq v34 c14_i32_45
  let c5_i32_46 : BitVec 32 := 5#32
  let c13_i32_43 : BitVec 32 := 13#32
  let v59 : BitVec 1 := Scalar.cmpi .eq v34 c13_i32_43
  let c9_i32_44 : BitVec 32 := 9#32
  let c12_i32_41 : BitVec 32 := 12#32
  let v57 : BitVec 1 := Scalar.cmpi .eq v34 c12_i32_41
  let c13_i32_42 : BitVec 32 := 13#32
  let c11_i32_39 : BitVec 32 := 11#32
  let v55 : BitVec 1 := Scalar.cmpi .eq v34 c11_i32_39
  let c14_i32_40 : BitVec 32 := 14#32
  let c10_i32_37 : BitVec 32 := 10#32
  let v53 : BitVec 1 := Scalar.cmpi .eq v34 c10_i32_37
  let c10_i32_38 : BitVec 32 := 10#32
  let c9_i32_35 : BitVec 32 := 9#32
  let v51 : BitVec 1 := Scalar.cmpi .eq v34 c9_i32_35
  let c6_i32_36 : BitVec 32 := 6#32
  let c8_i32_33 : BitVec 32 := 8#32
  let v49 : BitVec 1 := Scalar.cmpi .eq v34 c8_i32_33
  let c2_i32_34 : BitVec 32 := 2#32
  let c7_i32_31 : BitVec 32 := 7#32
  let v47 : BitVec 1 := Scalar.cmpi .eq v34 c7_i32_31
  let c3_i32_32 : BitVec 32 := 3#32
  let c6_i32_29 : BitVec 32 := 6#32
  let v45 : BitVec 1 := Scalar.cmpi .eq v34 c6_i32_29
  let c7_i32_30 : BitVec 32 := 7#32
  let c5_i32_27 : BitVec 32 := 5#32
  let v43 : BitVec 1 := Scalar.cmpi .eq v34 c5_i32_27
  let c11_i32_28 : BitVec 32 := 11#32
  let c4_i32_25 : BitVec 32 := 4#32
  let v41 : BitVec 1 := Scalar.cmpi .eq v34 c4_i32_25
  let c15_i32_26 : BitVec 32 := 15#32
  let c3_i32_23 : BitVec 32 := 3#32
  let v39 : BitVec 1 := Scalar.cmpi .eq v34 c3_i32_23
  let c12_i32_24 : BitVec 32 := 12#32
  let c2_i32_21 : BitVec 32 := 2#32
  let v37 : BitVec 1 := Scalar.cmpi .eq v34 c2_i32_21
  let c8_i32_22 : BitVec 32 := 8#32
  let c1_i32_18 : BitVec 32 := 1#32
  let v35 : BitVec 1 := Scalar.cmpi .eq v34 c1_i32_18
  let c4_i32_19 : BitVec 32 := 4#32
  let c0_i32_20 : BitVec 32 := 0#32
  let v36 : BitVec 32 := Scalar.select v35 c4_i32_19 c0_i32_20
  let v38 : BitVec 32 := Scalar.select v37 c8_i32_22 v36
  let v40 : BitVec 32 := Scalar.select v39 c12_i32_24 v38
  let v42 : BitVec 32 := Scalar.select v41 c15_i32_26 v40
  let v44 : BitVec 32 := Scalar.select v43 c11_i32_28 v42
  let v46 : BitVec 32 := Scalar.select v45 c7_i32_30 v44
  let v48 : BitVec 32 := Scalar.select v47 c3_i32_32 v46
  let v50 : BitVec 32 := Scalar.select v49 c2_i32_34 v48
  let v52 : BitVec 32 := Scalar.select v51 c6_i32_36 v50
  let v54 : BitVec 32 := Scalar.select v53 c10_i32_38 v52
  let v56 : BitVec 32 := Scalar.select v55 c14_i32_40 v54
  let v58 : BitVec 32 := Scalar.select v57 c13_i32_42 v56
  let v60 : BitVec 32 := Scalar.select v59 c9_i32_44 v58
  let v62 : BitVec 32 := Scalar.select v61 c5_i32_46 v60
  let v64 : BitVec 32 := Scalar.select v63 c1_i32_48 v62
  let c1_i32_522 : BitVec 32 := 1#32
  let v501 : BitVec 32 := Scalar.muli v64 c1_i32_522
  let v502 : BitVec 32 := Scalar.addi c0_i32_523 v501
  v502.toNat
def k0_dev12 (d0 : Dev nD) : Nat :=
  let c0_i32_564 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c4_i32_15 : BitVec 32 := 4#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c12_i32_11 : BitVec 32 := 12#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c5_i32_8 : BitVec 32 := 5#32
  let c10_i32 : BitVec 32 := 10#32
  let v21 : BitVec 1 := Scalar.cmpi .eq v2 c10_i32
  let c10_i32_7 : BitVec 32 := 10#32
  let c9_i32_6 : BitVec 32 := 9#32
  let v19 : BitVec 1 := Scalar.cmpi .eq v2 c9_i32_6
  let c13_i32 : BitVec 32 := 13#32
  let c8_i32_4 : BitVec 32 := 8#32
  let v17 : BitVec 1 := Scalar.cmpi .eq v2 c8_i32_4
  let c2_i32_5 : BitVec 32 := 2#32
  let c7_i32_2 : BitVec 32 := 7#32
  let v15 : BitVec 1 := Scalar.cmpi .eq v2 c7_i32_2
  let c6_i32_3 : BitVec 32 := 6#32
  let c6_i32 : BitVec 32 := 6#32
  let v13 : BitVec 1 := Scalar.cmpi .eq v2 c6_i32
  let c9_i32 : BitVec 32 := 9#32
  let c5_i32 : BitVec 32 := 5#32
  let v11 : BitVec 1 := Scalar.cmpi .eq v2 c5_i32
  let c14_i32 : BitVec 32 := 14#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c7_i32 : BitVec 32 := 7#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c15_i32 : BitVec 32 := 15#32
  let c0_i32 : BitVec 32 := 0#32
  let v4 : BitVec 32 := Scalar.select v3 c15_i32 c0_i32
  let v6 : BitVec 32 := Scalar.select v5 c8_i32 v4
  let v8 : BitVec 32 := Scalar.select v7 c7_i32 v6
  let v10 : BitVec 32 := Scalar.select v9 c1_i32_1 v8
  let v12 : BitVec 32 := Scalar.select v11 c14_i32 v10
  let v14 : BitVec 32 := Scalar.select v13 c9_i32 v12
  let v16 : BitVec 32 := Scalar.select v15 c6_i32_3 v14
  let v18 : BitVec 32 := Scalar.select v17 c2_i32_5 v16
  let v20 : BitVec 32 := Scalar.select v19 c13_i32 v18
  let v22 : BitVec 32 := Scalar.select v21 c10_i32_7 v20
  let v24 : BitVec 32 := Scalar.select v23 c5_i32_8 v22
  let v26 : BitVec 32 := Scalar.select v25 c3_i32_9 v24
  let v28 : BitVec 32 := Scalar.select v27 c12_i32_11 v26
  let v30 : BitVec 32 := Scalar.select v29 c11_i32_13 v28
  let v32 : BitVec 32 := Scalar.select v31 c4_i32_15 v30
  let c1_i32_16 : BitVec 32 := 1#32
  let v33 : BitVec 32 := Scalar.addi v32 c1_i32_16
  let c16_i32_17 : BitVec 32 := 16#32
  let v34 : BitVec 32 := Scalar.remsi v33 c16_i32_17
  let c15_i32_47 : BitVec 32 := 15#32
  let v63 : BitVec 1 := Scalar.cmpi .eq v34 c15_i32_47
  let c1_i32_48 : BitVec 32 := 1#32
  let c14_i32_45 : BitVec 32 := 14#32
  let v61 : BitVec 1 := Scalar.cmpi .eq v34 c14_i32_45
  let c5_i32_46 : BitVec 32 := 5#32
  let c13_i32_43 : BitVec 32 := 13#32
  let v59 : BitVec 1 := Scalar.cmpi .eq v34 c13_i32_43
  let c9_i32_44 : BitVec 32 := 9#32
  let c12_i32_41 : BitVec 32 := 12#32
  let v57 : BitVec 1 := Scalar.cmpi .eq v34 c12_i32_41
  let c13_i32_42 : BitVec 32 := 13#32
  let c11_i32_39 : BitVec 32 := 11#32
  let v55 : BitVec 1 := Scalar.cmpi .eq v34 c11_i32_39
  let c14_i32_40 : BitVec 32 := 14#32
  let c10_i32_37 : BitVec 32 := 10#32
  let v53 : BitVec 1 := Scalar.cmpi .eq v34 c10_i32_37
  let c10_i32_38 : BitVec 32 := 10#32
  let c9_i32_35 : BitVec 32 := 9#32
  let v51 : BitVec 1 := Scalar.cmpi .eq v34 c9_i32_35
  let c6_i32_36 : BitVec 32 := 6#32
  let c8_i32_33 : BitVec 32 := 8#32
  let v49 : BitVec 1 := Scalar.cmpi .eq v34 c8_i32_33
  let c2_i32_34 : BitVec 32 := 2#32
  let c7_i32_31 : BitVec 32 := 7#32
  let v47 : BitVec 1 := Scalar.cmpi .eq v34 c7_i32_31
  let c3_i32_32 : BitVec 32 := 3#32
  let c6_i32_29 : BitVec 32 := 6#32
  let v45 : BitVec 1 := Scalar.cmpi .eq v34 c6_i32_29
  let c7_i32_30 : BitVec 32 := 7#32
  let c5_i32_27 : BitVec 32 := 5#32
  let v43 : BitVec 1 := Scalar.cmpi .eq v34 c5_i32_27
  let c11_i32_28 : BitVec 32 := 11#32
  let c4_i32_25 : BitVec 32 := 4#32
  let v41 : BitVec 1 := Scalar.cmpi .eq v34 c4_i32_25
  let c15_i32_26 : BitVec 32 := 15#32
  let c3_i32_23 : BitVec 32 := 3#32
  let v39 : BitVec 1 := Scalar.cmpi .eq v34 c3_i32_23
  let c12_i32_24 : BitVec 32 := 12#32
  let c2_i32_21 : BitVec 32 := 2#32
  let v37 : BitVec 1 := Scalar.cmpi .eq v34 c2_i32_21
  let c8_i32_22 : BitVec 32 := 8#32
  let c1_i32_18 : BitVec 32 := 1#32
  let v35 : BitVec 1 := Scalar.cmpi .eq v34 c1_i32_18
  let c4_i32_19 : BitVec 32 := 4#32
  let c0_i32_20 : BitVec 32 := 0#32
  let v36 : BitVec 32 := Scalar.select v35 c4_i32_19 c0_i32_20
  let v38 : BitVec 32 := Scalar.select v37 c8_i32_22 v36
  let v40 : BitVec 32 := Scalar.select v39 c12_i32_24 v38
  let v42 : BitVec 32 := Scalar.select v41 c15_i32_26 v40
  let v44 : BitVec 32 := Scalar.select v43 c11_i32_28 v42
  let v46 : BitVec 32 := Scalar.select v45 c7_i32_30 v44
  let v48 : BitVec 32 := Scalar.select v47 c3_i32_32 v46
  let v50 : BitVec 32 := Scalar.select v49 c2_i32_34 v48
  let v52 : BitVec 32 := Scalar.select v51 c6_i32_36 v50
  let v54 : BitVec 32 := Scalar.select v53 c10_i32_38 v52
  let v56 : BitVec 32 := Scalar.select v55 c14_i32_40 v54
  let v58 : BitVec 32 := Scalar.select v57 c13_i32_42 v56
  let v60 : BitVec 32 := Scalar.select v59 c9_i32_44 v58
  let v62 : BitVec 32 := Scalar.select v61 c5_i32_46 v60
  let v64 : BitVec 32 := Scalar.select v63 c1_i32_48 v62
  let c1_i32_563 : BitVec 32 := 1#32
  let v534 : BitVec 32 := Scalar.muli v64 c1_i32_563
  let v535 : BitVec 32 := Scalar.addi c0_i32_564 v534
  v535.toNat
def k0_dev13 (d0 : Dev nD) : Nat :=
  let c0_i32_605 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c4_i32_15 : BitVec 32 := 4#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c12_i32_11 : BitVec 32 := 12#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c5_i32_8 : BitVec 32 := 5#32
  let c10_i32 : BitVec 32 := 10#32
  let v21 : BitVec 1 := Scalar.cmpi .eq v2 c10_i32
  let c10_i32_7 : BitVec 32 := 10#32
  let c9_i32_6 : BitVec 32 := 9#32
  let v19 : BitVec 1 := Scalar.cmpi .eq v2 c9_i32_6
  let c13_i32 : BitVec 32 := 13#32
  let c8_i32_4 : BitVec 32 := 8#32
  let v17 : BitVec 1 := Scalar.cmpi .eq v2 c8_i32_4
  let c2_i32_5 : BitVec 32 := 2#32
  let c7_i32_2 : BitVec 32 := 7#32
  let v15 : BitVec 1 := Scalar.cmpi .eq v2 c7_i32_2
  let c6_i32_3 : BitVec 32 := 6#32
  let c6_i32 : BitVec 32 := 6#32
  let v13 : BitVec 1 := Scalar.cmpi .eq v2 c6_i32
  let c9_i32 : BitVec 32 := 9#32
  let c5_i32 : BitVec 32 := 5#32
  let v11 : BitVec 1 := Scalar.cmpi .eq v2 c5_i32
  let c14_i32 : BitVec 32 := 14#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c7_i32 : BitVec 32 := 7#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c15_i32 : BitVec 32 := 15#32
  let c0_i32 : BitVec 32 := 0#32
  let v4 : BitVec 32 := Scalar.select v3 c15_i32 c0_i32
  let v6 : BitVec 32 := Scalar.select v5 c8_i32 v4
  let v8 : BitVec 32 := Scalar.select v7 c7_i32 v6
  let v10 : BitVec 32 := Scalar.select v9 c1_i32_1 v8
  let v12 : BitVec 32 := Scalar.select v11 c14_i32 v10
  let v14 : BitVec 32 := Scalar.select v13 c9_i32 v12
  let v16 : BitVec 32 := Scalar.select v15 c6_i32_3 v14
  let v18 : BitVec 32 := Scalar.select v17 c2_i32_5 v16
  let v20 : BitVec 32 := Scalar.select v19 c13_i32 v18
  let v22 : BitVec 32 := Scalar.select v21 c10_i32_7 v20
  let v24 : BitVec 32 := Scalar.select v23 c5_i32_8 v22
  let v26 : BitVec 32 := Scalar.select v25 c3_i32_9 v24
  let v28 : BitVec 32 := Scalar.select v27 c12_i32_11 v26
  let v30 : BitVec 32 := Scalar.select v29 c11_i32_13 v28
  let v32 : BitVec 32 := Scalar.select v31 c4_i32_15 v30
  let c16_i32_49 : BitVec 32 := 16#32
  let v65 : BitVec 32 := Scalar.addi v32 c16_i32_49
  let c1_i32_50 : BitVec 32 := 1#32
  let v66 : BitVec 32 := Scalar.subi v65 c1_i32_50
  let c16_i32_51 : BitVec 32 := 16#32
  let v67 : BitVec 32 := Scalar.remsi v66 c16_i32_51
  let c15_i32_81 : BitVec 32 := 15#32
  let v96 : BitVec 1 := Scalar.cmpi .eq v67 c15_i32_81
  let c1_i32_82 : BitVec 32 := 1#32
  let c14_i32_79 : BitVec 32 := 14#32
  let v94 : BitVec 1 := Scalar.cmpi .eq v67 c14_i32_79
  let c5_i32_80 : BitVec 32 := 5#32
  let c13_i32_77 : BitVec 32 := 13#32
  let v92 : BitVec 1 := Scalar.cmpi .eq v67 c13_i32_77
  let c9_i32_78 : BitVec 32 := 9#32
  let c12_i32_75 : BitVec 32 := 12#32
  let v90 : BitVec 1 := Scalar.cmpi .eq v67 c12_i32_75
  let c13_i32_76 : BitVec 32 := 13#32
  let c11_i32_73 : BitVec 32 := 11#32
  let v88 : BitVec 1 := Scalar.cmpi .eq v67 c11_i32_73
  let c14_i32_74 : BitVec 32 := 14#32
  let c10_i32_71 : BitVec 32 := 10#32
  let v86 : BitVec 1 := Scalar.cmpi .eq v67 c10_i32_71
  let c10_i32_72 : BitVec 32 := 10#32
  let c9_i32_69 : BitVec 32 := 9#32
  let v84 : BitVec 1 := Scalar.cmpi .eq v67 c9_i32_69
  let c6_i32_70 : BitVec 32 := 6#32
  let c8_i32_67 : BitVec 32 := 8#32
  let v82 : BitVec 1 := Scalar.cmpi .eq v67 c8_i32_67
  let c2_i32_68 : BitVec 32 := 2#32
  let c7_i32_65 : BitVec 32 := 7#32
  let v80 : BitVec 1 := Scalar.cmpi .eq v67 c7_i32_65
  let c3_i32_66 : BitVec 32 := 3#32
  let c6_i32_63 : BitVec 32 := 6#32
  let v78 : BitVec 1 := Scalar.cmpi .eq v67 c6_i32_63
  let c7_i32_64 : BitVec 32 := 7#32
  let c5_i32_61 : BitVec 32 := 5#32
  let v76 : BitVec 1 := Scalar.cmpi .eq v67 c5_i32_61
  let c11_i32_62 : BitVec 32 := 11#32
  let c4_i32_59 : BitVec 32 := 4#32
  let v74 : BitVec 1 := Scalar.cmpi .eq v67 c4_i32_59
  let c15_i32_60 : BitVec 32 := 15#32
  let c3_i32_57 : BitVec 32 := 3#32
  let v72 : BitVec 1 := Scalar.cmpi .eq v67 c3_i32_57
  let c12_i32_58 : BitVec 32 := 12#32
  let c2_i32_55 : BitVec 32 := 2#32
  let v70 : BitVec 1 := Scalar.cmpi .eq v67 c2_i32_55
  let c8_i32_56 : BitVec 32 := 8#32
  let c1_i32_52 : BitVec 32 := 1#32
  let v68 : BitVec 1 := Scalar.cmpi .eq v67 c1_i32_52
  let c4_i32_53 : BitVec 32 := 4#32
  let c0_i32_54 : BitVec 32 := 0#32
  let v69 : BitVec 32 := Scalar.select v68 c4_i32_53 c0_i32_54
  let v71 : BitVec 32 := Scalar.select v70 c8_i32_56 v69
  let v73 : BitVec 32 := Scalar.select v72 c12_i32_58 v71
  let v75 : BitVec 32 := Scalar.select v74 c15_i32_60 v73
  let v77 : BitVec 32 := Scalar.select v76 c11_i32_62 v75
  let v79 : BitVec 32 := Scalar.select v78 c7_i32_64 v77
  let v81 : BitVec 32 := Scalar.select v80 c3_i32_66 v79
  let v83 : BitVec 32 := Scalar.select v82 c2_i32_68 v81
  let v85 : BitVec 32 := Scalar.select v84 c6_i32_70 v83
  let v87 : BitVec 32 := Scalar.select v86 c10_i32_72 v85
  let v89 : BitVec 32 := Scalar.select v88 c14_i32_74 v87
  let v91 : BitVec 32 := Scalar.select v90 c13_i32_76 v89
  let v93 : BitVec 32 := Scalar.select v92 c9_i32_78 v91
  let v95 : BitVec 32 := Scalar.select v94 c5_i32_80 v93
  let v97 : BitVec 32 := Scalar.select v96 c1_i32_82 v95
  let c1_i32_604 : BitVec 32 := 1#32
  let v567 : BitVec 32 := Scalar.muli v97 c1_i32_604
  let v568 : BitVec 32 := Scalar.addi c0_i32_605 v567
  v568.toNat
def k0_dev14 (d0 : Dev nD) : Nat :=
  let c0_i32_646 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c4_i32_15 : BitVec 32 := 4#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c12_i32_11 : BitVec 32 := 12#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c5_i32_8 : BitVec 32 := 5#32
  let c10_i32 : BitVec 32 := 10#32
  let v21 : BitVec 1 := Scalar.cmpi .eq v2 c10_i32
  let c10_i32_7 : BitVec 32 := 10#32
  let c9_i32_6 : BitVec 32 := 9#32
  let v19 : BitVec 1 := Scalar.cmpi .eq v2 c9_i32_6
  let c13_i32 : BitVec 32 := 13#32
  let c8_i32_4 : BitVec 32 := 8#32
  let v17 : BitVec 1 := Scalar.cmpi .eq v2 c8_i32_4
  let c2_i32_5 : BitVec 32 := 2#32
  let c7_i32_2 : BitVec 32 := 7#32
  let v15 : BitVec 1 := Scalar.cmpi .eq v2 c7_i32_2
  let c6_i32_3 : BitVec 32 := 6#32
  let c6_i32 : BitVec 32 := 6#32
  let v13 : BitVec 1 := Scalar.cmpi .eq v2 c6_i32
  let c9_i32 : BitVec 32 := 9#32
  let c5_i32 : BitVec 32 := 5#32
  let v11 : BitVec 1 := Scalar.cmpi .eq v2 c5_i32
  let c14_i32 : BitVec 32 := 14#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c7_i32 : BitVec 32 := 7#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c15_i32 : BitVec 32 := 15#32
  let c0_i32 : BitVec 32 := 0#32
  let v4 : BitVec 32 := Scalar.select v3 c15_i32 c0_i32
  let v6 : BitVec 32 := Scalar.select v5 c8_i32 v4
  let v8 : BitVec 32 := Scalar.select v7 c7_i32 v6
  let v10 : BitVec 32 := Scalar.select v9 c1_i32_1 v8
  let v12 : BitVec 32 := Scalar.select v11 c14_i32 v10
  let v14 : BitVec 32 := Scalar.select v13 c9_i32 v12
  let v16 : BitVec 32 := Scalar.select v15 c6_i32_3 v14
  let v18 : BitVec 32 := Scalar.select v17 c2_i32_5 v16
  let v20 : BitVec 32 := Scalar.select v19 c13_i32 v18
  let v22 : BitVec 32 := Scalar.select v21 c10_i32_7 v20
  let v24 : BitVec 32 := Scalar.select v23 c5_i32_8 v22
  let v26 : BitVec 32 := Scalar.select v25 c3_i32_9 v24
  let v28 : BitVec 32 := Scalar.select v27 c12_i32_11 v26
  let v30 : BitVec 32 := Scalar.select v29 c11_i32_13 v28
  let v32 : BitVec 32 := Scalar.select v31 c4_i32_15 v30
  let c16_i32_49 : BitVec 32 := 16#32
  let v65 : BitVec 32 := Scalar.addi v32 c16_i32_49
  let c1_i32_50 : BitVec 32 := 1#32
  let v66 : BitVec 32 := Scalar.subi v65 c1_i32_50
  let c16_i32_51 : BitVec 32 := 16#32
  let v67 : BitVec 32 := Scalar.remsi v66 c16_i32_51
  let c15_i32_81 : BitVec 32 := 15#32
  let v96 : BitVec 1 := Scalar.cmpi .eq v67 c15_i32_81
  let c1_i32_82 : BitVec 32 := 1#32
  let c14_i32_79 : BitVec 32 := 14#32
  let v94 : BitVec 1 := Scalar.cmpi .eq v67 c14_i32_79
  let c5_i32_80 : BitVec 32 := 5#32
  let c13_i32_77 : BitVec 32 := 13#32
  let v92 : BitVec 1 := Scalar.cmpi .eq v67 c13_i32_77
  let c9_i32_78 : BitVec 32 := 9#32
  let c12_i32_75 : BitVec 32 := 12#32
  let v90 : BitVec 1 := Scalar.cmpi .eq v67 c12_i32_75
  let c13_i32_76 : BitVec 32 := 13#32
  let c11_i32_73 : BitVec 32 := 11#32
  let v88 : BitVec 1 := Scalar.cmpi .eq v67 c11_i32_73
  let c14_i32_74 : BitVec 32 := 14#32
  let c10_i32_71 : BitVec 32 := 10#32
  let v86 : BitVec 1 := Scalar.cmpi .eq v67 c10_i32_71
  let c10_i32_72 : BitVec 32 := 10#32
  let c9_i32_69 : BitVec 32 := 9#32
  let v84 : BitVec 1 := Scalar.cmpi .eq v67 c9_i32_69
  let c6_i32_70 : BitVec 32 := 6#32
  let c8_i32_67 : BitVec 32 := 8#32
  let v82 : BitVec 1 := Scalar.cmpi .eq v67 c8_i32_67
  let c2_i32_68 : BitVec 32 := 2#32
  let c7_i32_65 : BitVec 32 := 7#32
  let v80 : BitVec 1 := Scalar.cmpi .eq v67 c7_i32_65
  let c3_i32_66 : BitVec 32 := 3#32
  let c6_i32_63 : BitVec 32 := 6#32
  let v78 : BitVec 1 := Scalar.cmpi .eq v67 c6_i32_63
  let c7_i32_64 : BitVec 32 := 7#32
  let c5_i32_61 : BitVec 32 := 5#32
  let v76 : BitVec 1 := Scalar.cmpi .eq v67 c5_i32_61
  let c11_i32_62 : BitVec 32 := 11#32
  let c4_i32_59 : BitVec 32 := 4#32
  let v74 : BitVec 1 := Scalar.cmpi .eq v67 c4_i32_59
  let c15_i32_60 : BitVec 32 := 15#32
  let c3_i32_57 : BitVec 32 := 3#32
  let v72 : BitVec 1 := Scalar.cmpi .eq v67 c3_i32_57
  let c12_i32_58 : BitVec 32 := 12#32
  let c2_i32_55 : BitVec 32 := 2#32
  let v70 : BitVec 1 := Scalar.cmpi .eq v67 c2_i32_55
  let c8_i32_56 : BitVec 32 := 8#32
  let c1_i32_52 : BitVec 32 := 1#32
  let v68 : BitVec 1 := Scalar.cmpi .eq v67 c1_i32_52
  let c4_i32_53 : BitVec 32 := 4#32
  let c0_i32_54 : BitVec 32 := 0#32
  let v69 : BitVec 32 := Scalar.select v68 c4_i32_53 c0_i32_54
  let v71 : BitVec 32 := Scalar.select v70 c8_i32_56 v69
  let v73 : BitVec 32 := Scalar.select v72 c12_i32_58 v71
  let v75 : BitVec 32 := Scalar.select v74 c15_i32_60 v73
  let v77 : BitVec 32 := Scalar.select v76 c11_i32_62 v75
  let v79 : BitVec 32 := Scalar.select v78 c7_i32_64 v77
  let v81 : BitVec 32 := Scalar.select v80 c3_i32_66 v79
  let v83 : BitVec 32 := Scalar.select v82 c2_i32_68 v81
  let v85 : BitVec 32 := Scalar.select v84 c6_i32_70 v83
  let v87 : BitVec 32 := Scalar.select v86 c10_i32_72 v85
  let v89 : BitVec 32 := Scalar.select v88 c14_i32_74 v87
  let v91 : BitVec 32 := Scalar.select v90 c13_i32_76 v89
  let v93 : BitVec 32 := Scalar.select v92 c9_i32_78 v91
  let v95 : BitVec 32 := Scalar.select v94 c5_i32_80 v93
  let v97 : BitVec 32 := Scalar.select v96 c1_i32_82 v95
  let c1_i32_645 : BitVec 32 := 1#32
  let v600 : BitVec 32 := Scalar.muli v97 c1_i32_645
  let v601 : BitVec 32 := Scalar.addi c0_i32_646 v600
  v601.toNat
def k0_dev15 (d0 : Dev nD) : Nat :=
  let c0_i32_765 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c4_i32_15 : BitVec 32 := 4#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c12_i32_11 : BitVec 32 := 12#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c5_i32_8 : BitVec 32 := 5#32
  let c10_i32 : BitVec 32 := 10#32
  let v21 : BitVec 1 := Scalar.cmpi .eq v2 c10_i32
  let c10_i32_7 : BitVec 32 := 10#32
  let c9_i32_6 : BitVec 32 := 9#32
  let v19 : BitVec 1 := Scalar.cmpi .eq v2 c9_i32_6
  let c13_i32 : BitVec 32 := 13#32
  let c8_i32_4 : BitVec 32 := 8#32
  let v17 : BitVec 1 := Scalar.cmpi .eq v2 c8_i32_4
  let c2_i32_5 : BitVec 32 := 2#32
  let c7_i32_2 : BitVec 32 := 7#32
  let v15 : BitVec 1 := Scalar.cmpi .eq v2 c7_i32_2
  let c6_i32_3 : BitVec 32 := 6#32
  let c6_i32 : BitVec 32 := 6#32
  let v13 : BitVec 1 := Scalar.cmpi .eq v2 c6_i32
  let c9_i32 : BitVec 32 := 9#32
  let c5_i32 : BitVec 32 := 5#32
  let v11 : BitVec 1 := Scalar.cmpi .eq v2 c5_i32
  let c14_i32 : BitVec 32 := 14#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c7_i32 : BitVec 32 := 7#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c15_i32 : BitVec 32 := 15#32
  let c0_i32 : BitVec 32 := 0#32
  let v4 : BitVec 32 := Scalar.select v3 c15_i32 c0_i32
  let v6 : BitVec 32 := Scalar.select v5 c8_i32 v4
  let v8 : BitVec 32 := Scalar.select v7 c7_i32 v6
  let v10 : BitVec 32 := Scalar.select v9 c1_i32_1 v8
  let v12 : BitVec 32 := Scalar.select v11 c14_i32 v10
  let v14 : BitVec 32 := Scalar.select v13 c9_i32 v12
  let v16 : BitVec 32 := Scalar.select v15 c6_i32_3 v14
  let v18 : BitVec 32 := Scalar.select v17 c2_i32_5 v16
  let v20 : BitVec 32 := Scalar.select v19 c13_i32 v18
  let v22 : BitVec 32 := Scalar.select v21 c10_i32_7 v20
  let v24 : BitVec 32 := Scalar.select v23 c5_i32_8 v22
  let v26 : BitVec 32 := Scalar.select v25 c3_i32_9 v24
  let v28 : BitVec 32 := Scalar.select v27 c12_i32_11 v26
  let v30 : BitVec 32 := Scalar.select v29 c11_i32_13 v28
  let v32 : BitVec 32 := Scalar.select v31 c4_i32_15 v30
  let c1_i32_16 : BitVec 32 := 1#32
  let v33 : BitVec 32 := Scalar.addi v32 c1_i32_16
  let c16_i32_17 : BitVec 32 := 16#32
  let v34 : BitVec 32 := Scalar.remsi v33 c16_i32_17
  let c15_i32_47 : BitVec 32 := 15#32
  let v63 : BitVec 1 := Scalar.cmpi .eq v34 c15_i32_47
  let c1_i32_48 : BitVec 32 := 1#32
  let c14_i32_45 : BitVec 32 := 14#32
  let v61 : BitVec 1 := Scalar.cmpi .eq v34 c14_i32_45
  let c5_i32_46 : BitVec 32 := 5#32
  let c13_i32_43 : BitVec 32 := 13#32
  let v59 : BitVec 1 := Scalar.cmpi .eq v34 c13_i32_43
  let c9_i32_44 : BitVec 32 := 9#32
  let c12_i32_41 : BitVec 32 := 12#32
  let v57 : BitVec 1 := Scalar.cmpi .eq v34 c12_i32_41
  let c13_i32_42 : BitVec 32 := 13#32
  let c11_i32_39 : BitVec 32 := 11#32
  let v55 : BitVec 1 := Scalar.cmpi .eq v34 c11_i32_39
  let c14_i32_40 : BitVec 32 := 14#32
  let c10_i32_37 : BitVec 32 := 10#32
  let v53 : BitVec 1 := Scalar.cmpi .eq v34 c10_i32_37
  let c10_i32_38 : BitVec 32 := 10#32
  let c9_i32_35 : BitVec 32 := 9#32
  let v51 : BitVec 1 := Scalar.cmpi .eq v34 c9_i32_35
  let c6_i32_36 : BitVec 32 := 6#32
  let c8_i32_33 : BitVec 32 := 8#32
  let v49 : BitVec 1 := Scalar.cmpi .eq v34 c8_i32_33
  let c2_i32_34 : BitVec 32 := 2#32
  let c7_i32_31 : BitVec 32 := 7#32
  let v47 : BitVec 1 := Scalar.cmpi .eq v34 c7_i32_31
  let c3_i32_32 : BitVec 32 := 3#32
  let c6_i32_29 : BitVec 32 := 6#32
  let v45 : BitVec 1 := Scalar.cmpi .eq v34 c6_i32_29
  let c7_i32_30 : BitVec 32 := 7#32
  let c5_i32_27 : BitVec 32 := 5#32
  let v43 : BitVec 1 := Scalar.cmpi .eq v34 c5_i32_27
  let c11_i32_28 : BitVec 32 := 11#32
  let c4_i32_25 : BitVec 32 := 4#32
  let v41 : BitVec 1 := Scalar.cmpi .eq v34 c4_i32_25
  let c15_i32_26 : BitVec 32 := 15#32
  let c3_i32_23 : BitVec 32 := 3#32
  let v39 : BitVec 1 := Scalar.cmpi .eq v34 c3_i32_23
  let c12_i32_24 : BitVec 32 := 12#32
  let c2_i32_21 : BitVec 32 := 2#32
  let v37 : BitVec 1 := Scalar.cmpi .eq v34 c2_i32_21
  let c8_i32_22 : BitVec 32 := 8#32
  let c1_i32_18 : BitVec 32 := 1#32
  let v35 : BitVec 1 := Scalar.cmpi .eq v34 c1_i32_18
  let c4_i32_19 : BitVec 32 := 4#32
  let c0_i32_20 : BitVec 32 := 0#32
  let v36 : BitVec 32 := Scalar.select v35 c4_i32_19 c0_i32_20
  let v38 : BitVec 32 := Scalar.select v37 c8_i32_22 v36
  let v40 : BitVec 32 := Scalar.select v39 c12_i32_24 v38
  let v42 : BitVec 32 := Scalar.select v41 c15_i32_26 v40
  let v44 : BitVec 32 := Scalar.select v43 c11_i32_28 v42
  let v46 : BitVec 32 := Scalar.select v45 c7_i32_30 v44
  let v48 : BitVec 32 := Scalar.select v47 c3_i32_32 v46
  let v50 : BitVec 32 := Scalar.select v49 c2_i32_34 v48
  let v52 : BitVec 32 := Scalar.select v51 c6_i32_36 v50
  let v54 : BitVec 32 := Scalar.select v53 c10_i32_38 v52
  let v56 : BitVec 32 := Scalar.select v55 c14_i32_40 v54
  let v58 : BitVec 32 := Scalar.select v57 c13_i32_42 v56
  let v60 : BitVec 32 := Scalar.select v59 c9_i32_44 v58
  let v62 : BitVec 32 := Scalar.select v61 c5_i32_46 v60
  let v64 : BitVec 32 := Scalar.select v63 c1_i32_48 v62
  let c1_i32_764 : BitVec 32 := 1#32
  let v712 : BitVec 32 := Scalar.muli v64 c1_i32_764
  let v713 : BitVec 32 := Scalar.addi c0_i32_765 v712
  v713.toNat
def k0_dev16 (d0 : Dev nD) : Nat :=
  let c0_i32_806 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c4_i32_15 : BitVec 32 := 4#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c12_i32_11 : BitVec 32 := 12#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c5_i32_8 : BitVec 32 := 5#32
  let c10_i32 : BitVec 32 := 10#32
  let v21 : BitVec 1 := Scalar.cmpi .eq v2 c10_i32
  let c10_i32_7 : BitVec 32 := 10#32
  let c9_i32_6 : BitVec 32 := 9#32
  let v19 : BitVec 1 := Scalar.cmpi .eq v2 c9_i32_6
  let c13_i32 : BitVec 32 := 13#32
  let c8_i32_4 : BitVec 32 := 8#32
  let v17 : BitVec 1 := Scalar.cmpi .eq v2 c8_i32_4
  let c2_i32_5 : BitVec 32 := 2#32
  let c7_i32_2 : BitVec 32 := 7#32
  let v15 : BitVec 1 := Scalar.cmpi .eq v2 c7_i32_2
  let c6_i32_3 : BitVec 32 := 6#32
  let c6_i32 : BitVec 32 := 6#32
  let v13 : BitVec 1 := Scalar.cmpi .eq v2 c6_i32
  let c9_i32 : BitVec 32 := 9#32
  let c5_i32 : BitVec 32 := 5#32
  let v11 : BitVec 1 := Scalar.cmpi .eq v2 c5_i32
  let c14_i32 : BitVec 32 := 14#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c7_i32 : BitVec 32 := 7#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c15_i32 : BitVec 32 := 15#32
  let c0_i32 : BitVec 32 := 0#32
  let v4 : BitVec 32 := Scalar.select v3 c15_i32 c0_i32
  let v6 : BitVec 32 := Scalar.select v5 c8_i32 v4
  let v8 : BitVec 32 := Scalar.select v7 c7_i32 v6
  let v10 : BitVec 32 := Scalar.select v9 c1_i32_1 v8
  let v12 : BitVec 32 := Scalar.select v11 c14_i32 v10
  let v14 : BitVec 32 := Scalar.select v13 c9_i32 v12
  let v16 : BitVec 32 := Scalar.select v15 c6_i32_3 v14
  let v18 : BitVec 32 := Scalar.select v17 c2_i32_5 v16
  let v20 : BitVec 32 := Scalar.select v19 c13_i32 v18
  let v22 : BitVec 32 := Scalar.select v21 c10_i32_7 v20
  let v24 : BitVec 32 := Scalar.select v23 c5_i32_8 v22
  let v26 : BitVec 32 := Scalar.select v25 c3_i32_9 v24
  let v28 : BitVec 32 := Scalar.select v27 c12_i32_11 v26
  let v30 : BitVec 32 := Scalar.select v29 c11_i32_13 v28
  let v32 : BitVec 32 := Scalar.select v31 c4_i32_15 v30
  let c1_i32_16 : BitVec 32 := 1#32
  let v33 : BitVec 32 := Scalar.addi v32 c1_i32_16
  let c16_i32_17 : BitVec 32 := 16#32
  let v34 : BitVec 32 := Scalar.remsi v33 c16_i32_17
  let c15_i32_47 : BitVec 32 := 15#32
  let v63 : BitVec 1 := Scalar.cmpi .eq v34 c15_i32_47
  let c1_i32_48 : BitVec 32 := 1#32
  let c14_i32_45 : BitVec 32 := 14#32
  let v61 : BitVec 1 := Scalar.cmpi .eq v34 c14_i32_45
  let c5_i32_46 : BitVec 32 := 5#32
  let c13_i32_43 : BitVec 32 := 13#32
  let v59 : BitVec 1 := Scalar.cmpi .eq v34 c13_i32_43
  let c9_i32_44 : BitVec 32 := 9#32
  let c12_i32_41 : BitVec 32 := 12#32
  let v57 : BitVec 1 := Scalar.cmpi .eq v34 c12_i32_41
  let c13_i32_42 : BitVec 32 := 13#32
  let c11_i32_39 : BitVec 32 := 11#32
  let v55 : BitVec 1 := Scalar.cmpi .eq v34 c11_i32_39
  let c14_i32_40 : BitVec 32 := 14#32
  let c10_i32_37 : BitVec 32 := 10#32
  let v53 : BitVec 1 := Scalar.cmpi .eq v34 c10_i32_37
  let c10_i32_38 : BitVec 32 := 10#32
  let c9_i32_35 : BitVec 32 := 9#32
  let v51 : BitVec 1 := Scalar.cmpi .eq v34 c9_i32_35
  let c6_i32_36 : BitVec 32 := 6#32
  let c8_i32_33 : BitVec 32 := 8#32
  let v49 : BitVec 1 := Scalar.cmpi .eq v34 c8_i32_33
  let c2_i32_34 : BitVec 32 := 2#32
  let c7_i32_31 : BitVec 32 := 7#32
  let v47 : BitVec 1 := Scalar.cmpi .eq v34 c7_i32_31
  let c3_i32_32 : BitVec 32 := 3#32
  let c6_i32_29 : BitVec 32 := 6#32
  let v45 : BitVec 1 := Scalar.cmpi .eq v34 c6_i32_29
  let c7_i32_30 : BitVec 32 := 7#32
  let c5_i32_27 : BitVec 32 := 5#32
  let v43 : BitVec 1 := Scalar.cmpi .eq v34 c5_i32_27
  let c11_i32_28 : BitVec 32 := 11#32
  let c4_i32_25 : BitVec 32 := 4#32
  let v41 : BitVec 1 := Scalar.cmpi .eq v34 c4_i32_25
  let c15_i32_26 : BitVec 32 := 15#32
  let c3_i32_23 : BitVec 32 := 3#32
  let v39 : BitVec 1 := Scalar.cmpi .eq v34 c3_i32_23
  let c12_i32_24 : BitVec 32 := 12#32
  let c2_i32_21 : BitVec 32 := 2#32
  let v37 : BitVec 1 := Scalar.cmpi .eq v34 c2_i32_21
  let c8_i32_22 : BitVec 32 := 8#32
  let c1_i32_18 : BitVec 32 := 1#32
  let v35 : BitVec 1 := Scalar.cmpi .eq v34 c1_i32_18
  let c4_i32_19 : BitVec 32 := 4#32
  let c0_i32_20 : BitVec 32 := 0#32
  let v36 : BitVec 32 := Scalar.select v35 c4_i32_19 c0_i32_20
  let v38 : BitVec 32 := Scalar.select v37 c8_i32_22 v36
  let v40 : BitVec 32 := Scalar.select v39 c12_i32_24 v38
  let v42 : BitVec 32 := Scalar.select v41 c15_i32_26 v40
  let v44 : BitVec 32 := Scalar.select v43 c11_i32_28 v42
  let v46 : BitVec 32 := Scalar.select v45 c7_i32_30 v44
  let v48 : BitVec 32 := Scalar.select v47 c3_i32_32 v46
  let v50 : BitVec 32 := Scalar.select v49 c2_i32_34 v48
  let v52 : BitVec 32 := Scalar.select v51 c6_i32_36 v50
  let v54 : BitVec 32 := Scalar.select v53 c10_i32_38 v52
  let v56 : BitVec 32 := Scalar.select v55 c14_i32_40 v54
  let v58 : BitVec 32 := Scalar.select v57 c13_i32_42 v56
  let v60 : BitVec 32 := Scalar.select v59 c9_i32_44 v58
  let v62 : BitVec 32 := Scalar.select v61 c5_i32_46 v60
  let v64 : BitVec 32 := Scalar.select v63 c1_i32_48 v62
  let c1_i32_805 : BitVec 32 := 1#32
  let v745 : BitVec 32 := Scalar.muli v64 c1_i32_805
  let v746 : BitVec 32 := Scalar.addi c0_i32_806 v745
  v746.toNat
def k0_dev17 (d0 : Dev nD) : Nat :=
  let c0_i32_847 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c4_i32_15 : BitVec 32 := 4#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c12_i32_11 : BitVec 32 := 12#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c5_i32_8 : BitVec 32 := 5#32
  let c10_i32 : BitVec 32 := 10#32
  let v21 : BitVec 1 := Scalar.cmpi .eq v2 c10_i32
  let c10_i32_7 : BitVec 32 := 10#32
  let c9_i32_6 : BitVec 32 := 9#32
  let v19 : BitVec 1 := Scalar.cmpi .eq v2 c9_i32_6
  let c13_i32 : BitVec 32 := 13#32
  let c8_i32_4 : BitVec 32 := 8#32
  let v17 : BitVec 1 := Scalar.cmpi .eq v2 c8_i32_4
  let c2_i32_5 : BitVec 32 := 2#32
  let c7_i32_2 : BitVec 32 := 7#32
  let v15 : BitVec 1 := Scalar.cmpi .eq v2 c7_i32_2
  let c6_i32_3 : BitVec 32 := 6#32
  let c6_i32 : BitVec 32 := 6#32
  let v13 : BitVec 1 := Scalar.cmpi .eq v2 c6_i32
  let c9_i32 : BitVec 32 := 9#32
  let c5_i32 : BitVec 32 := 5#32
  let v11 : BitVec 1 := Scalar.cmpi .eq v2 c5_i32
  let c14_i32 : BitVec 32 := 14#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c7_i32 : BitVec 32 := 7#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c15_i32 : BitVec 32 := 15#32
  let c0_i32 : BitVec 32 := 0#32
  let v4 : BitVec 32 := Scalar.select v3 c15_i32 c0_i32
  let v6 : BitVec 32 := Scalar.select v5 c8_i32 v4
  let v8 : BitVec 32 := Scalar.select v7 c7_i32 v6
  let v10 : BitVec 32 := Scalar.select v9 c1_i32_1 v8
  let v12 : BitVec 32 := Scalar.select v11 c14_i32 v10
  let v14 : BitVec 32 := Scalar.select v13 c9_i32 v12
  let v16 : BitVec 32 := Scalar.select v15 c6_i32_3 v14
  let v18 : BitVec 32 := Scalar.select v17 c2_i32_5 v16
  let v20 : BitVec 32 := Scalar.select v19 c13_i32 v18
  let v22 : BitVec 32 := Scalar.select v21 c10_i32_7 v20
  let v24 : BitVec 32 := Scalar.select v23 c5_i32_8 v22
  let v26 : BitVec 32 := Scalar.select v25 c3_i32_9 v24
  let v28 : BitVec 32 := Scalar.select v27 c12_i32_11 v26
  let v30 : BitVec 32 := Scalar.select v29 c11_i32_13 v28
  let v32 : BitVec 32 := Scalar.select v31 c4_i32_15 v30
  let c16_i32_49 : BitVec 32 := 16#32
  let v65 : BitVec 32 := Scalar.addi v32 c16_i32_49
  let c1_i32_50 : BitVec 32 := 1#32
  let v66 : BitVec 32 := Scalar.subi v65 c1_i32_50
  let c16_i32_51 : BitVec 32 := 16#32
  let v67 : BitVec 32 := Scalar.remsi v66 c16_i32_51
  let c15_i32_81 : BitVec 32 := 15#32
  let v96 : BitVec 1 := Scalar.cmpi .eq v67 c15_i32_81
  let c1_i32_82 : BitVec 32 := 1#32
  let c14_i32_79 : BitVec 32 := 14#32
  let v94 : BitVec 1 := Scalar.cmpi .eq v67 c14_i32_79
  let c5_i32_80 : BitVec 32 := 5#32
  let c13_i32_77 : BitVec 32 := 13#32
  let v92 : BitVec 1 := Scalar.cmpi .eq v67 c13_i32_77
  let c9_i32_78 : BitVec 32 := 9#32
  let c12_i32_75 : BitVec 32 := 12#32
  let v90 : BitVec 1 := Scalar.cmpi .eq v67 c12_i32_75
  let c13_i32_76 : BitVec 32 := 13#32
  let c11_i32_73 : BitVec 32 := 11#32
  let v88 : BitVec 1 := Scalar.cmpi .eq v67 c11_i32_73
  let c14_i32_74 : BitVec 32 := 14#32
  let c10_i32_71 : BitVec 32 := 10#32
  let v86 : BitVec 1 := Scalar.cmpi .eq v67 c10_i32_71
  let c10_i32_72 : BitVec 32 := 10#32
  let c9_i32_69 : BitVec 32 := 9#32
  let v84 : BitVec 1 := Scalar.cmpi .eq v67 c9_i32_69
  let c6_i32_70 : BitVec 32 := 6#32
  let c8_i32_67 : BitVec 32 := 8#32
  let v82 : BitVec 1 := Scalar.cmpi .eq v67 c8_i32_67
  let c2_i32_68 : BitVec 32 := 2#32
  let c7_i32_65 : BitVec 32 := 7#32
  let v80 : BitVec 1 := Scalar.cmpi .eq v67 c7_i32_65
  let c3_i32_66 : BitVec 32 := 3#32
  let c6_i32_63 : BitVec 32 := 6#32
  let v78 : BitVec 1 := Scalar.cmpi .eq v67 c6_i32_63
  let c7_i32_64 : BitVec 32 := 7#32
  let c5_i32_61 : BitVec 32 := 5#32
  let v76 : BitVec 1 := Scalar.cmpi .eq v67 c5_i32_61
  let c11_i32_62 : BitVec 32 := 11#32
  let c4_i32_59 : BitVec 32 := 4#32
  let v74 : BitVec 1 := Scalar.cmpi .eq v67 c4_i32_59
  let c15_i32_60 : BitVec 32 := 15#32
  let c3_i32_57 : BitVec 32 := 3#32
  let v72 : BitVec 1 := Scalar.cmpi .eq v67 c3_i32_57
  let c12_i32_58 : BitVec 32 := 12#32
  let c2_i32_55 : BitVec 32 := 2#32
  let v70 : BitVec 1 := Scalar.cmpi .eq v67 c2_i32_55
  let c8_i32_56 : BitVec 32 := 8#32
  let c1_i32_52 : BitVec 32 := 1#32
  let v68 : BitVec 1 := Scalar.cmpi .eq v67 c1_i32_52
  let c4_i32_53 : BitVec 32 := 4#32
  let c0_i32_54 : BitVec 32 := 0#32
  let v69 : BitVec 32 := Scalar.select v68 c4_i32_53 c0_i32_54
  let v71 : BitVec 32 := Scalar.select v70 c8_i32_56 v69
  let v73 : BitVec 32 := Scalar.select v72 c12_i32_58 v71
  let v75 : BitVec 32 := Scalar.select v74 c15_i32_60 v73
  let v77 : BitVec 32 := Scalar.select v76 c11_i32_62 v75
  let v79 : BitVec 32 := Scalar.select v78 c7_i32_64 v77
  let v81 : BitVec 32 := Scalar.select v80 c3_i32_66 v79
  let v83 : BitVec 32 := Scalar.select v82 c2_i32_68 v81
  let v85 : BitVec 32 := Scalar.select v84 c6_i32_70 v83
  let v87 : BitVec 32 := Scalar.select v86 c10_i32_72 v85
  let v89 : BitVec 32 := Scalar.select v88 c14_i32_74 v87
  let v91 : BitVec 32 := Scalar.select v90 c13_i32_76 v89
  let v93 : BitVec 32 := Scalar.select v92 c9_i32_78 v91
  let v95 : BitVec 32 := Scalar.select v94 c5_i32_80 v93
  let v97 : BitVec 32 := Scalar.select v96 c1_i32_82 v95
  let c1_i32_846 : BitVec 32 := 1#32
  let v778 : BitVec 32 := Scalar.muli v97 c1_i32_846
  let v779 : BitVec 32 := Scalar.addi c0_i32_847 v778
  v779.toNat
def k0_dev18 (d0 : Dev nD) : Nat :=
  let c0_i32_888 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c4_i32_15 : BitVec 32 := 4#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c12_i32_11 : BitVec 32 := 12#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c5_i32_8 : BitVec 32 := 5#32
  let c10_i32 : BitVec 32 := 10#32
  let v21 : BitVec 1 := Scalar.cmpi .eq v2 c10_i32
  let c10_i32_7 : BitVec 32 := 10#32
  let c9_i32_6 : BitVec 32 := 9#32
  let v19 : BitVec 1 := Scalar.cmpi .eq v2 c9_i32_6
  let c13_i32 : BitVec 32 := 13#32
  let c8_i32_4 : BitVec 32 := 8#32
  let v17 : BitVec 1 := Scalar.cmpi .eq v2 c8_i32_4
  let c2_i32_5 : BitVec 32 := 2#32
  let c7_i32_2 : BitVec 32 := 7#32
  let v15 : BitVec 1 := Scalar.cmpi .eq v2 c7_i32_2
  let c6_i32_3 : BitVec 32 := 6#32
  let c6_i32 : BitVec 32 := 6#32
  let v13 : BitVec 1 := Scalar.cmpi .eq v2 c6_i32
  let c9_i32 : BitVec 32 := 9#32
  let c5_i32 : BitVec 32 := 5#32
  let v11 : BitVec 1 := Scalar.cmpi .eq v2 c5_i32
  let c14_i32 : BitVec 32 := 14#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c7_i32 : BitVec 32 := 7#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c15_i32 : BitVec 32 := 15#32
  let c0_i32 : BitVec 32 := 0#32
  let v4 : BitVec 32 := Scalar.select v3 c15_i32 c0_i32
  let v6 : BitVec 32 := Scalar.select v5 c8_i32 v4
  let v8 : BitVec 32 := Scalar.select v7 c7_i32 v6
  let v10 : BitVec 32 := Scalar.select v9 c1_i32_1 v8
  let v12 : BitVec 32 := Scalar.select v11 c14_i32 v10
  let v14 : BitVec 32 := Scalar.select v13 c9_i32 v12
  let v16 : BitVec 32 := Scalar.select v15 c6_i32_3 v14
  let v18 : BitVec 32 := Scalar.select v17 c2_i32_5 v16
  let v20 : BitVec 32 := Scalar.select v19 c13_i32 v18
  let v22 : BitVec 32 := Scalar.select v21 c10_i32_7 v20
  let v24 : BitVec 32 := Scalar.select v23 c5_i32_8 v22
  let v26 : BitVec 32 := Scalar.select v25 c3_i32_9 v24
  let v28 : BitVec 32 := Scalar.select v27 c12_i32_11 v26
  let v30 : BitVec 32 := Scalar.select v29 c11_i32_13 v28
  let v32 : BitVec 32 := Scalar.select v31 c4_i32_15 v30
  let c16_i32_49 : BitVec 32 := 16#32
  let v65 : BitVec 32 := Scalar.addi v32 c16_i32_49
  let c1_i32_50 : BitVec 32 := 1#32
  let v66 : BitVec 32 := Scalar.subi v65 c1_i32_50
  let c16_i32_51 : BitVec 32 := 16#32
  let v67 : BitVec 32 := Scalar.remsi v66 c16_i32_51
  let c15_i32_81 : BitVec 32 := 15#32
  let v96 : BitVec 1 := Scalar.cmpi .eq v67 c15_i32_81
  let c1_i32_82 : BitVec 32 := 1#32
  let c14_i32_79 : BitVec 32 := 14#32
  let v94 : BitVec 1 := Scalar.cmpi .eq v67 c14_i32_79
  let c5_i32_80 : BitVec 32 := 5#32
  let c13_i32_77 : BitVec 32 := 13#32
  let v92 : BitVec 1 := Scalar.cmpi .eq v67 c13_i32_77
  let c9_i32_78 : BitVec 32 := 9#32
  let c12_i32_75 : BitVec 32 := 12#32
  let v90 : BitVec 1 := Scalar.cmpi .eq v67 c12_i32_75
  let c13_i32_76 : BitVec 32 := 13#32
  let c11_i32_73 : BitVec 32 := 11#32
  let v88 : BitVec 1 := Scalar.cmpi .eq v67 c11_i32_73
  let c14_i32_74 : BitVec 32 := 14#32
  let c10_i32_71 : BitVec 32 := 10#32
  let v86 : BitVec 1 := Scalar.cmpi .eq v67 c10_i32_71
  let c10_i32_72 : BitVec 32 := 10#32
  let c9_i32_69 : BitVec 32 := 9#32
  let v84 : BitVec 1 := Scalar.cmpi .eq v67 c9_i32_69
  let c6_i32_70 : BitVec 32 := 6#32
  let c8_i32_67 : BitVec 32 := 8#32
  let v82 : BitVec 1 := Scalar.cmpi .eq v67 c8_i32_67
  let c2_i32_68 : BitVec 32 := 2#32
  let c7_i32_65 : BitVec 32 := 7#32
  let v80 : BitVec 1 := Scalar.cmpi .eq v67 c7_i32_65
  let c3_i32_66 : BitVec 32 := 3#32
  let c6_i32_63 : BitVec 32 := 6#32
  let v78 : BitVec 1 := Scalar.cmpi .eq v67 c6_i32_63
  let c7_i32_64 : BitVec 32 := 7#32
  let c5_i32_61 : BitVec 32 := 5#32
  let v76 : BitVec 1 := Scalar.cmpi .eq v67 c5_i32_61
  let c11_i32_62 : BitVec 32 := 11#32
  let c4_i32_59 : BitVec 32 := 4#32
  let v74 : BitVec 1 := Scalar.cmpi .eq v67 c4_i32_59
  let c15_i32_60 : BitVec 32 := 15#32
  let c3_i32_57 : BitVec 32 := 3#32
  let v72 : BitVec 1 := Scalar.cmpi .eq v67 c3_i32_57
  let c12_i32_58 : BitVec 32 := 12#32
  let c2_i32_55 : BitVec 32 := 2#32
  let v70 : BitVec 1 := Scalar.cmpi .eq v67 c2_i32_55
  let c8_i32_56 : BitVec 32 := 8#32
  let c1_i32_52 : BitVec 32 := 1#32
  let v68 : BitVec 1 := Scalar.cmpi .eq v67 c1_i32_52
  let c4_i32_53 : BitVec 32 := 4#32
  let c0_i32_54 : BitVec 32 := 0#32
  let v69 : BitVec 32 := Scalar.select v68 c4_i32_53 c0_i32_54
  let v71 : BitVec 32 := Scalar.select v70 c8_i32_56 v69
  let v73 : BitVec 32 := Scalar.select v72 c12_i32_58 v71
  let v75 : BitVec 32 := Scalar.select v74 c15_i32_60 v73
  let v77 : BitVec 32 := Scalar.select v76 c11_i32_62 v75
  let v79 : BitVec 32 := Scalar.select v78 c7_i32_64 v77
  let v81 : BitVec 32 := Scalar.select v80 c3_i32_66 v79
  let v83 : BitVec 32 := Scalar.select v82 c2_i32_68 v81
  let v85 : BitVec 32 := Scalar.select v84 c6_i32_70 v83
  let v87 : BitVec 32 := Scalar.select v86 c10_i32_72 v85
  let v89 : BitVec 32 := Scalar.select v88 c14_i32_74 v87
  let v91 : BitVec 32 := Scalar.select v90 c13_i32_76 v89
  let v93 : BitVec 32 := Scalar.select v92 c9_i32_78 v91
  let v95 : BitVec 32 := Scalar.select v94 c5_i32_80 v93
  let v97 : BitVec 32 := Scalar.select v96 c1_i32_82 v95
  let c1_i32_887 : BitVec 32 := 1#32
  let v811 : BitVec 32 := Scalar.muli v97 c1_i32_887
  let v812 : BitVec 32 := Scalar.addi c0_i32_888 v811
  v812.toNat
def k0_dev19 (d0 : Dev nD) : Nat :=
  let c0_i32_1007 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c4_i32_15 : BitVec 32 := 4#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c12_i32_11 : BitVec 32 := 12#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c5_i32_8 : BitVec 32 := 5#32
  let c10_i32 : BitVec 32 := 10#32
  let v21 : BitVec 1 := Scalar.cmpi .eq v2 c10_i32
  let c10_i32_7 : BitVec 32 := 10#32
  let c9_i32_6 : BitVec 32 := 9#32
  let v19 : BitVec 1 := Scalar.cmpi .eq v2 c9_i32_6
  let c13_i32 : BitVec 32 := 13#32
  let c8_i32_4 : BitVec 32 := 8#32
  let v17 : BitVec 1 := Scalar.cmpi .eq v2 c8_i32_4
  let c2_i32_5 : BitVec 32 := 2#32
  let c7_i32_2 : BitVec 32 := 7#32
  let v15 : BitVec 1 := Scalar.cmpi .eq v2 c7_i32_2
  let c6_i32_3 : BitVec 32 := 6#32
  let c6_i32 : BitVec 32 := 6#32
  let v13 : BitVec 1 := Scalar.cmpi .eq v2 c6_i32
  let c9_i32 : BitVec 32 := 9#32
  let c5_i32 : BitVec 32 := 5#32
  let v11 : BitVec 1 := Scalar.cmpi .eq v2 c5_i32
  let c14_i32 : BitVec 32 := 14#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c7_i32 : BitVec 32 := 7#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c15_i32 : BitVec 32 := 15#32
  let c0_i32 : BitVec 32 := 0#32
  let v4 : BitVec 32 := Scalar.select v3 c15_i32 c0_i32
  let v6 : BitVec 32 := Scalar.select v5 c8_i32 v4
  let v8 : BitVec 32 := Scalar.select v7 c7_i32 v6
  let v10 : BitVec 32 := Scalar.select v9 c1_i32_1 v8
  let v12 : BitVec 32 := Scalar.select v11 c14_i32 v10
  let v14 : BitVec 32 := Scalar.select v13 c9_i32 v12
  let v16 : BitVec 32 := Scalar.select v15 c6_i32_3 v14
  let v18 : BitVec 32 := Scalar.select v17 c2_i32_5 v16
  let v20 : BitVec 32 := Scalar.select v19 c13_i32 v18
  let v22 : BitVec 32 := Scalar.select v21 c10_i32_7 v20
  let v24 : BitVec 32 := Scalar.select v23 c5_i32_8 v22
  let v26 : BitVec 32 := Scalar.select v25 c3_i32_9 v24
  let v28 : BitVec 32 := Scalar.select v27 c12_i32_11 v26
  let v30 : BitVec 32 := Scalar.select v29 c11_i32_13 v28
  let v32 : BitVec 32 := Scalar.select v31 c4_i32_15 v30
  let c1_i32_16 : BitVec 32 := 1#32
  let v33 : BitVec 32 := Scalar.addi v32 c1_i32_16
  let c16_i32_17 : BitVec 32 := 16#32
  let v34 : BitVec 32 := Scalar.remsi v33 c16_i32_17
  let c15_i32_47 : BitVec 32 := 15#32
  let v63 : BitVec 1 := Scalar.cmpi .eq v34 c15_i32_47
  let c1_i32_48 : BitVec 32 := 1#32
  let c14_i32_45 : BitVec 32 := 14#32
  let v61 : BitVec 1 := Scalar.cmpi .eq v34 c14_i32_45
  let c5_i32_46 : BitVec 32 := 5#32
  let c13_i32_43 : BitVec 32 := 13#32
  let v59 : BitVec 1 := Scalar.cmpi .eq v34 c13_i32_43
  let c9_i32_44 : BitVec 32 := 9#32
  let c12_i32_41 : BitVec 32 := 12#32
  let v57 : BitVec 1 := Scalar.cmpi .eq v34 c12_i32_41
  let c13_i32_42 : BitVec 32 := 13#32
  let c11_i32_39 : BitVec 32 := 11#32
  let v55 : BitVec 1 := Scalar.cmpi .eq v34 c11_i32_39
  let c14_i32_40 : BitVec 32 := 14#32
  let c10_i32_37 : BitVec 32 := 10#32
  let v53 : BitVec 1 := Scalar.cmpi .eq v34 c10_i32_37
  let c10_i32_38 : BitVec 32 := 10#32
  let c9_i32_35 : BitVec 32 := 9#32
  let v51 : BitVec 1 := Scalar.cmpi .eq v34 c9_i32_35
  let c6_i32_36 : BitVec 32 := 6#32
  let c8_i32_33 : BitVec 32 := 8#32
  let v49 : BitVec 1 := Scalar.cmpi .eq v34 c8_i32_33
  let c2_i32_34 : BitVec 32 := 2#32
  let c7_i32_31 : BitVec 32 := 7#32
  let v47 : BitVec 1 := Scalar.cmpi .eq v34 c7_i32_31
  let c3_i32_32 : BitVec 32 := 3#32
  let c6_i32_29 : BitVec 32 := 6#32
  let v45 : BitVec 1 := Scalar.cmpi .eq v34 c6_i32_29
  let c7_i32_30 : BitVec 32 := 7#32
  let c5_i32_27 : BitVec 32 := 5#32
  let v43 : BitVec 1 := Scalar.cmpi .eq v34 c5_i32_27
  let c11_i32_28 : BitVec 32 := 11#32
  let c4_i32_25 : BitVec 32 := 4#32
  let v41 : BitVec 1 := Scalar.cmpi .eq v34 c4_i32_25
  let c15_i32_26 : BitVec 32 := 15#32
  let c3_i32_23 : BitVec 32 := 3#32
  let v39 : BitVec 1 := Scalar.cmpi .eq v34 c3_i32_23
  let c12_i32_24 : BitVec 32 := 12#32
  let c2_i32_21 : BitVec 32 := 2#32
  let v37 : BitVec 1 := Scalar.cmpi .eq v34 c2_i32_21
  let c8_i32_22 : BitVec 32 := 8#32
  let c1_i32_18 : BitVec 32 := 1#32
  let v35 : BitVec 1 := Scalar.cmpi .eq v34 c1_i32_18
  let c4_i32_19 : BitVec 32 := 4#32
  let c0_i32_20 : BitVec 32 := 0#32
  let v36 : BitVec 32 := Scalar.select v35 c4_i32_19 c0_i32_20
  let v38 : BitVec 32 := Scalar.select v37 c8_i32_22 v36
  let v40 : BitVec 32 := Scalar.select v39 c12_i32_24 v38
  let v42 : BitVec 32 := Scalar.select v41 c15_i32_26 v40
  let v44 : BitVec 32 := Scalar.select v43 c11_i32_28 v42
  let v46 : BitVec 32 := Scalar.select v45 c7_i32_30 v44
  let v48 : BitVec 32 := Scalar.select v47 c3_i32_32 v46
  let v50 : BitVec 32 := Scalar.select v49 c2_i32_34 v48
  let v52 : BitVec 32 := Scalar.select v51 c6_i32_36 v50
  let v54 : BitVec 32 := Scalar.select v53 c10_i32_38 v52
  let v56 : BitVec 32 := Scalar.select v55 c14_i32_40 v54
  let v58 : BitVec 32 := Scalar.select v57 c13_i32_42 v56
  let v60 : BitVec 32 := Scalar.select v59 c9_i32_44 v58
  let v62 : BitVec 32 := Scalar.select v61 c5_i32_46 v60
  let v64 : BitVec 32 := Scalar.select v63 c1_i32_48 v62
  let c1_i32_1006 : BitVec 32 := 1#32
  let v923 : BitVec 32 := Scalar.muli v64 c1_i32_1006
  let v924 : BitVec 32 := Scalar.addi c0_i32_1007 v923
  v924.toNat
def k0_dev20 (d0 : Dev nD) : Nat :=
  let c0_i32_1048 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c4_i32_15 : BitVec 32 := 4#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c12_i32_11 : BitVec 32 := 12#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c5_i32_8 : BitVec 32 := 5#32
  let c10_i32 : BitVec 32 := 10#32
  let v21 : BitVec 1 := Scalar.cmpi .eq v2 c10_i32
  let c10_i32_7 : BitVec 32 := 10#32
  let c9_i32_6 : BitVec 32 := 9#32
  let v19 : BitVec 1 := Scalar.cmpi .eq v2 c9_i32_6
  let c13_i32 : BitVec 32 := 13#32
  let c8_i32_4 : BitVec 32 := 8#32
  let v17 : BitVec 1 := Scalar.cmpi .eq v2 c8_i32_4
  let c2_i32_5 : BitVec 32 := 2#32
  let c7_i32_2 : BitVec 32 := 7#32
  let v15 : BitVec 1 := Scalar.cmpi .eq v2 c7_i32_2
  let c6_i32_3 : BitVec 32 := 6#32
  let c6_i32 : BitVec 32 := 6#32
  let v13 : BitVec 1 := Scalar.cmpi .eq v2 c6_i32
  let c9_i32 : BitVec 32 := 9#32
  let c5_i32 : BitVec 32 := 5#32
  let v11 : BitVec 1 := Scalar.cmpi .eq v2 c5_i32
  let c14_i32 : BitVec 32 := 14#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c7_i32 : BitVec 32 := 7#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c15_i32 : BitVec 32 := 15#32
  let c0_i32 : BitVec 32 := 0#32
  let v4 : BitVec 32 := Scalar.select v3 c15_i32 c0_i32
  let v6 : BitVec 32 := Scalar.select v5 c8_i32 v4
  let v8 : BitVec 32 := Scalar.select v7 c7_i32 v6
  let v10 : BitVec 32 := Scalar.select v9 c1_i32_1 v8
  let v12 : BitVec 32 := Scalar.select v11 c14_i32 v10
  let v14 : BitVec 32 := Scalar.select v13 c9_i32 v12
  let v16 : BitVec 32 := Scalar.select v15 c6_i32_3 v14
  let v18 : BitVec 32 := Scalar.select v17 c2_i32_5 v16
  let v20 : BitVec 32 := Scalar.select v19 c13_i32 v18
  let v22 : BitVec 32 := Scalar.select v21 c10_i32_7 v20
  let v24 : BitVec 32 := Scalar.select v23 c5_i32_8 v22
  let v26 : BitVec 32 := Scalar.select v25 c3_i32_9 v24
  let v28 : BitVec 32 := Scalar.select v27 c12_i32_11 v26
  let v30 : BitVec 32 := Scalar.select v29 c11_i32_13 v28
  let v32 : BitVec 32 := Scalar.select v31 c4_i32_15 v30
  let c1_i32_16 : BitVec 32 := 1#32
  let v33 : BitVec 32 := Scalar.addi v32 c1_i32_16
  let c16_i32_17 : BitVec 32 := 16#32
  let v34 : BitVec 32 := Scalar.remsi v33 c16_i32_17
  let c15_i32_47 : BitVec 32 := 15#32
  let v63 : BitVec 1 := Scalar.cmpi .eq v34 c15_i32_47
  let c1_i32_48 : BitVec 32 := 1#32
  let c14_i32_45 : BitVec 32 := 14#32
  let v61 : BitVec 1 := Scalar.cmpi .eq v34 c14_i32_45
  let c5_i32_46 : BitVec 32 := 5#32
  let c13_i32_43 : BitVec 32 := 13#32
  let v59 : BitVec 1 := Scalar.cmpi .eq v34 c13_i32_43
  let c9_i32_44 : BitVec 32 := 9#32
  let c12_i32_41 : BitVec 32 := 12#32
  let v57 : BitVec 1 := Scalar.cmpi .eq v34 c12_i32_41
  let c13_i32_42 : BitVec 32 := 13#32
  let c11_i32_39 : BitVec 32 := 11#32
  let v55 : BitVec 1 := Scalar.cmpi .eq v34 c11_i32_39
  let c14_i32_40 : BitVec 32 := 14#32
  let c10_i32_37 : BitVec 32 := 10#32
  let v53 : BitVec 1 := Scalar.cmpi .eq v34 c10_i32_37
  let c10_i32_38 : BitVec 32 := 10#32
  let c9_i32_35 : BitVec 32 := 9#32
  let v51 : BitVec 1 := Scalar.cmpi .eq v34 c9_i32_35
  let c6_i32_36 : BitVec 32 := 6#32
  let c8_i32_33 : BitVec 32 := 8#32
  let v49 : BitVec 1 := Scalar.cmpi .eq v34 c8_i32_33
  let c2_i32_34 : BitVec 32 := 2#32
  let c7_i32_31 : BitVec 32 := 7#32
  let v47 : BitVec 1 := Scalar.cmpi .eq v34 c7_i32_31
  let c3_i32_32 : BitVec 32 := 3#32
  let c6_i32_29 : BitVec 32 := 6#32
  let v45 : BitVec 1 := Scalar.cmpi .eq v34 c6_i32_29
  let c7_i32_30 : BitVec 32 := 7#32
  let c5_i32_27 : BitVec 32 := 5#32
  let v43 : BitVec 1 := Scalar.cmpi .eq v34 c5_i32_27
  let c11_i32_28 : BitVec 32 := 11#32
  let c4_i32_25 : BitVec 32 := 4#32
  let v41 : BitVec 1 := Scalar.cmpi .eq v34 c4_i32_25
  let c15_i32_26 : BitVec 32 := 15#32
  let c3_i32_23 : BitVec 32 := 3#32
  let v39 : BitVec 1 := Scalar.cmpi .eq v34 c3_i32_23
  let c12_i32_24 : BitVec 32 := 12#32
  let c2_i32_21 : BitVec 32 := 2#32
  let v37 : BitVec 1 := Scalar.cmpi .eq v34 c2_i32_21
  let c8_i32_22 : BitVec 32 := 8#32
  let c1_i32_18 : BitVec 32 := 1#32
  let v35 : BitVec 1 := Scalar.cmpi .eq v34 c1_i32_18
  let c4_i32_19 : BitVec 32 := 4#32
  let c0_i32_20 : BitVec 32 := 0#32
  let v36 : BitVec 32 := Scalar.select v35 c4_i32_19 c0_i32_20
  let v38 : BitVec 32 := Scalar.select v37 c8_i32_22 v36
  let v40 : BitVec 32 := Scalar.select v39 c12_i32_24 v38
  let v42 : BitVec 32 := Scalar.select v41 c15_i32_26 v40
  let v44 : BitVec 32 := Scalar.select v43 c11_i32_28 v42
  let v46 : BitVec 32 := Scalar.select v45 c7_i32_30 v44
  let v48 : BitVec 32 := Scalar.select v47 c3_i32_32 v46
  let v50 : BitVec 32 := Scalar.select v49 c2_i32_34 v48
  let v52 : BitVec 32 := Scalar.select v51 c6_i32_36 v50
  let v54 : BitVec 32 := Scalar.select v53 c10_i32_38 v52
  let v56 : BitVec 32 := Scalar.select v55 c14_i32_40 v54
  let v58 : BitVec 32 := Scalar.select v57 c13_i32_42 v56
  let v60 : BitVec 32 := Scalar.select v59 c9_i32_44 v58
  let v62 : BitVec 32 := Scalar.select v61 c5_i32_46 v60
  let v64 : BitVec 32 := Scalar.select v63 c1_i32_48 v62
  let c1_i32_1047 : BitVec 32 := 1#32
  let v956 : BitVec 32 := Scalar.muli v64 c1_i32_1047
  let v957 : BitVec 32 := Scalar.addi c0_i32_1048 v956
  v957.toNat
def k0_dev21 (d0 : Dev nD) : Nat :=
  let c0_i32_1089 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c4_i32_15 : BitVec 32 := 4#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c12_i32_11 : BitVec 32 := 12#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c5_i32_8 : BitVec 32 := 5#32
  let c10_i32 : BitVec 32 := 10#32
  let v21 : BitVec 1 := Scalar.cmpi .eq v2 c10_i32
  let c10_i32_7 : BitVec 32 := 10#32
  let c9_i32_6 : BitVec 32 := 9#32
  let v19 : BitVec 1 := Scalar.cmpi .eq v2 c9_i32_6
  let c13_i32 : BitVec 32 := 13#32
  let c8_i32_4 : BitVec 32 := 8#32
  let v17 : BitVec 1 := Scalar.cmpi .eq v2 c8_i32_4
  let c2_i32_5 : BitVec 32 := 2#32
  let c7_i32_2 : BitVec 32 := 7#32
  let v15 : BitVec 1 := Scalar.cmpi .eq v2 c7_i32_2
  let c6_i32_3 : BitVec 32 := 6#32
  let c6_i32 : BitVec 32 := 6#32
  let v13 : BitVec 1 := Scalar.cmpi .eq v2 c6_i32
  let c9_i32 : BitVec 32 := 9#32
  let c5_i32 : BitVec 32 := 5#32
  let v11 : BitVec 1 := Scalar.cmpi .eq v2 c5_i32
  let c14_i32 : BitVec 32 := 14#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c7_i32 : BitVec 32 := 7#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c15_i32 : BitVec 32 := 15#32
  let c0_i32 : BitVec 32 := 0#32
  let v4 : BitVec 32 := Scalar.select v3 c15_i32 c0_i32
  let v6 : BitVec 32 := Scalar.select v5 c8_i32 v4
  let v8 : BitVec 32 := Scalar.select v7 c7_i32 v6
  let v10 : BitVec 32 := Scalar.select v9 c1_i32_1 v8
  let v12 : BitVec 32 := Scalar.select v11 c14_i32 v10
  let v14 : BitVec 32 := Scalar.select v13 c9_i32 v12
  let v16 : BitVec 32 := Scalar.select v15 c6_i32_3 v14
  let v18 : BitVec 32 := Scalar.select v17 c2_i32_5 v16
  let v20 : BitVec 32 := Scalar.select v19 c13_i32 v18
  let v22 : BitVec 32 := Scalar.select v21 c10_i32_7 v20
  let v24 : BitVec 32 := Scalar.select v23 c5_i32_8 v22
  let v26 : BitVec 32 := Scalar.select v25 c3_i32_9 v24
  let v28 : BitVec 32 := Scalar.select v27 c12_i32_11 v26
  let v30 : BitVec 32 := Scalar.select v29 c11_i32_13 v28
  let v32 : BitVec 32 := Scalar.select v31 c4_i32_15 v30
  let c16_i32_49 : BitVec 32 := 16#32
  let v65 : BitVec 32 := Scalar.addi v32 c16_i32_49
  let c1_i32_50 : BitVec 32 := 1#32
  let v66 : BitVec 32 := Scalar.subi v65 c1_i32_50
  let c16_i32_51 : BitVec 32 := 16#32
  let v67 : BitVec 32 := Scalar.remsi v66 c16_i32_51
  let c15_i32_81 : BitVec 32 := 15#32
  let v96 : BitVec 1 := Scalar.cmpi .eq v67 c15_i32_81
  let c1_i32_82 : BitVec 32 := 1#32
  let c14_i32_79 : BitVec 32 := 14#32
  let v94 : BitVec 1 := Scalar.cmpi .eq v67 c14_i32_79
  let c5_i32_80 : BitVec 32 := 5#32
  let c13_i32_77 : BitVec 32 := 13#32
  let v92 : BitVec 1 := Scalar.cmpi .eq v67 c13_i32_77
  let c9_i32_78 : BitVec 32 := 9#32
  let c12_i32_75 : BitVec 32 := 12#32
  let v90 : BitVec 1 := Scalar.cmpi .eq v67 c12_i32_75
  let c13_i32_76 : BitVec 32 := 13#32
  let c11_i32_73 : BitVec 32 := 11#32
  let v88 : BitVec 1 := Scalar.cmpi .eq v67 c11_i32_73
  let c14_i32_74 : BitVec 32 := 14#32
  let c10_i32_71 : BitVec 32 := 10#32
  let v86 : BitVec 1 := Scalar.cmpi .eq v67 c10_i32_71
  let c10_i32_72 : BitVec 32 := 10#32
  let c9_i32_69 : BitVec 32 := 9#32
  let v84 : BitVec 1 := Scalar.cmpi .eq v67 c9_i32_69
  let c6_i32_70 : BitVec 32 := 6#32
  let c8_i32_67 : BitVec 32 := 8#32
  let v82 : BitVec 1 := Scalar.cmpi .eq v67 c8_i32_67
  let c2_i32_68 : BitVec 32 := 2#32
  let c7_i32_65 : BitVec 32 := 7#32
  let v80 : BitVec 1 := Scalar.cmpi .eq v67 c7_i32_65
  let c3_i32_66 : BitVec 32 := 3#32
  let c6_i32_63 : BitVec 32 := 6#32
  let v78 : BitVec 1 := Scalar.cmpi .eq v67 c6_i32_63
  let c7_i32_64 : BitVec 32 := 7#32
  let c5_i32_61 : BitVec 32 := 5#32
  let v76 : BitVec 1 := Scalar.cmpi .eq v67 c5_i32_61
  let c11_i32_62 : BitVec 32 := 11#32
  let c4_i32_59 : BitVec 32 := 4#32
  let v74 : BitVec 1 := Scalar.cmpi .eq v67 c4_i32_59
  let c15_i32_60 : BitVec 32 := 15#32
  let c3_i32_57 : BitVec 32 := 3#32
  let v72 : BitVec 1 := Scalar.cmpi .eq v67 c3_i32_57
  let c12_i32_58 : BitVec 32 := 12#32
  let c2_i32_55 : BitVec 32 := 2#32
  let v70 : BitVec 1 := Scalar.cmpi .eq v67 c2_i32_55
  let c8_i32_56 : BitVec 32 := 8#32
  let c1_i32_52 : BitVec 32 := 1#32
  let v68 : BitVec 1 := Scalar.cmpi .eq v67 c1_i32_52
  let c4_i32_53 : BitVec 32 := 4#32
  let c0_i32_54 : BitVec 32 := 0#32
  let v69 : BitVec 32 := Scalar.select v68 c4_i32_53 c0_i32_54
  let v71 : BitVec 32 := Scalar.select v70 c8_i32_56 v69
  let v73 : BitVec 32 := Scalar.select v72 c12_i32_58 v71
  let v75 : BitVec 32 := Scalar.select v74 c15_i32_60 v73
  let v77 : BitVec 32 := Scalar.select v76 c11_i32_62 v75
  let v79 : BitVec 32 := Scalar.select v78 c7_i32_64 v77
  let v81 : BitVec 32 := Scalar.select v80 c3_i32_66 v79
  let v83 : BitVec 32 := Scalar.select v82 c2_i32_68 v81
  let v85 : BitVec 32 := Scalar.select v84 c6_i32_70 v83
  let v87 : BitVec 32 := Scalar.select v86 c10_i32_72 v85
  let v89 : BitVec 32 := Scalar.select v88 c14_i32_74 v87
  let v91 : BitVec 32 := Scalar.select v90 c13_i32_76 v89
  let v93 : BitVec 32 := Scalar.select v92 c9_i32_78 v91
  let v95 : BitVec 32 := Scalar.select v94 c5_i32_80 v93
  let v97 : BitVec 32 := Scalar.select v96 c1_i32_82 v95
  let c1_i32_1088 : BitVec 32 := 1#32
  let v989 : BitVec 32 := Scalar.muli v97 c1_i32_1088
  let v990 : BitVec 32 := Scalar.addi c0_i32_1089 v989
  v990.toNat
def k0_dev22 (d0 : Dev nD) : Nat :=
  let c0_i32_1130 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c4_i32_15 : BitVec 32 := 4#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c12_i32_11 : BitVec 32 := 12#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c5_i32_8 : BitVec 32 := 5#32
  let c10_i32 : BitVec 32 := 10#32
  let v21 : BitVec 1 := Scalar.cmpi .eq v2 c10_i32
  let c10_i32_7 : BitVec 32 := 10#32
  let c9_i32_6 : BitVec 32 := 9#32
  let v19 : BitVec 1 := Scalar.cmpi .eq v2 c9_i32_6
  let c13_i32 : BitVec 32 := 13#32
  let c8_i32_4 : BitVec 32 := 8#32
  let v17 : BitVec 1 := Scalar.cmpi .eq v2 c8_i32_4
  let c2_i32_5 : BitVec 32 := 2#32
  let c7_i32_2 : BitVec 32 := 7#32
  let v15 : BitVec 1 := Scalar.cmpi .eq v2 c7_i32_2
  let c6_i32_3 : BitVec 32 := 6#32
  let c6_i32 : BitVec 32 := 6#32
  let v13 : BitVec 1 := Scalar.cmpi .eq v2 c6_i32
  let c9_i32 : BitVec 32 := 9#32
  let c5_i32 : BitVec 32 := 5#32
  let v11 : BitVec 1 := Scalar.cmpi .eq v2 c5_i32
  let c14_i32 : BitVec 32 := 14#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c7_i32 : BitVec 32 := 7#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c15_i32 : BitVec 32 := 15#32
  let c0_i32 : BitVec 32 := 0#32
  let v4 : BitVec 32 := Scalar.select v3 c15_i32 c0_i32
  let v6 : BitVec 32 := Scalar.select v5 c8_i32 v4
  let v8 : BitVec 32 := Scalar.select v7 c7_i32 v6
  let v10 : BitVec 32 := Scalar.select v9 c1_i32_1 v8
  let v12 : BitVec 32 := Scalar.select v11 c14_i32 v10
  let v14 : BitVec 32 := Scalar.select v13 c9_i32 v12
  let v16 : BitVec 32 := Scalar.select v15 c6_i32_3 v14
  let v18 : BitVec 32 := Scalar.select v17 c2_i32_5 v16
  let v20 : BitVec 32 := Scalar.select v19 c13_i32 v18
  let v22 : BitVec 32 := Scalar.select v21 c10_i32_7 v20
  let v24 : BitVec 32 := Scalar.select v23 c5_i32_8 v22
  let v26 : BitVec 32 := Scalar.select v25 c3_i32_9 v24
  let v28 : BitVec 32 := Scalar.select v27 c12_i32_11 v26
  let v30 : BitVec 32 := Scalar.select v29 c11_i32_13 v28
  let v32 : BitVec 32 := Scalar.select v31 c4_i32_15 v30
  let c16_i32_49 : BitVec 32 := 16#32
  let v65 : BitVec 32 := Scalar.addi v32 c16_i32_49
  let c1_i32_50 : BitVec 32 := 1#32
  let v66 : BitVec 32 := Scalar.subi v65 c1_i32_50
  let c16_i32_51 : BitVec 32 := 16#32
  let v67 : BitVec 32 := Scalar.remsi v66 c16_i32_51
  let c15_i32_81 : BitVec 32 := 15#32
  let v96 : BitVec 1 := Scalar.cmpi .eq v67 c15_i32_81
  let c1_i32_82 : BitVec 32 := 1#32
  let c14_i32_79 : BitVec 32 := 14#32
  let v94 : BitVec 1 := Scalar.cmpi .eq v67 c14_i32_79
  let c5_i32_80 : BitVec 32 := 5#32
  let c13_i32_77 : BitVec 32 := 13#32
  let v92 : BitVec 1 := Scalar.cmpi .eq v67 c13_i32_77
  let c9_i32_78 : BitVec 32 := 9#32
  let c12_i32_75 : BitVec 32 := 12#32
  let v90 : BitVec 1 := Scalar.cmpi .eq v67 c12_i32_75
  let c13_i32_76 : BitVec 32 := 13#32
  let c11_i32_73 : BitVec 32 := 11#32
  let v88 : BitVec 1 := Scalar.cmpi .eq v67 c11_i32_73
  let c14_i32_74 : BitVec 32 := 14#32
  let c10_i32_71 : BitVec 32 := 10#32
  let v86 : BitVec 1 := Scalar.cmpi .eq v67 c10_i32_71
  let c10_i32_72 : BitVec 32 := 10#32
  let c9_i32_69 : BitVec 32 := 9#32
  let v84 : BitVec 1 := Scalar.cmpi .eq v67 c9_i32_69
  let c6_i32_70 : BitVec 32 := 6#32
  let c8_i32_67 : BitVec 32 := 8#32
  let v82 : BitVec 1 := Scalar.cmpi .eq v67 c8_i32_67
  let c2_i32_68 : BitVec 32 := 2#32
  let c7_i32_65 : BitVec 32 := 7#32
  let v80 : BitVec 1 := Scalar.cmpi .eq v67 c7_i32_65
  let c3_i32_66 : BitVec 32 := 3#32
  let c6_i32_63 : BitVec 32 := 6#32
  let v78 : BitVec 1 := Scalar.cmpi .eq v67 c6_i32_63
  let c7_i32_64 : BitVec 32 := 7#32
  let c5_i32_61 : BitVec 32 := 5#32
  let v76 : BitVec 1 := Scalar.cmpi .eq v67 c5_i32_61
  let c11_i32_62 : BitVec 32 := 11#32
  let c4_i32_59 : BitVec 32 := 4#32
  let v74 : BitVec 1 := Scalar.cmpi .eq v67 c4_i32_59
  let c15_i32_60 : BitVec 32 := 15#32
  let c3_i32_57 : BitVec 32 := 3#32
  let v72 : BitVec 1 := Scalar.cmpi .eq v67 c3_i32_57
  let c12_i32_58 : BitVec 32 := 12#32
  let c2_i32_55 : BitVec 32 := 2#32
  let v70 : BitVec 1 := Scalar.cmpi .eq v67 c2_i32_55
  let c8_i32_56 : BitVec 32 := 8#32
  let c1_i32_52 : BitVec 32 := 1#32
  let v68 : BitVec 1 := Scalar.cmpi .eq v67 c1_i32_52
  let c4_i32_53 : BitVec 32 := 4#32
  let c0_i32_54 : BitVec 32 := 0#32
  let v69 : BitVec 32 := Scalar.select v68 c4_i32_53 c0_i32_54
  let v71 : BitVec 32 := Scalar.select v70 c8_i32_56 v69
  let v73 : BitVec 32 := Scalar.select v72 c12_i32_58 v71
  let v75 : BitVec 32 := Scalar.select v74 c15_i32_60 v73
  let v77 : BitVec 32 := Scalar.select v76 c11_i32_62 v75
  let v79 : BitVec 32 := Scalar.select v78 c7_i32_64 v77
  let v81 : BitVec 32 := Scalar.select v80 c3_i32_66 v79
  let v83 : BitVec 32 := Scalar.select v82 c2_i32_68 v81
  let v85 : BitVec 32 := Scalar.select v84 c6_i32_70 v83
  let v87 : BitVec 32 := Scalar.select v86 c10_i32_72 v85
  let v89 : BitVec 32 := Scalar.select v88 c14_i32_74 v87
  let v91 : BitVec 32 := Scalar.select v90 c13_i32_76 v89
  let v93 : BitVec 32 := Scalar.select v92 c9_i32_78 v91
  let v95 : BitVec 32 := Scalar.select v94 c5_i32_80 v93
  let v97 : BitVec 32 := Scalar.select v96 c1_i32_82 v95
  let c1_i32_1129 : BitVec 32 := 1#32
  let v1022 : BitVec 32 := Scalar.muli v97 c1_i32_1129
  let v1023 : BitVec 32 := Scalar.addi c0_i32_1130 v1022
  v1023.toNat
def k0_dev23 (d0 : Dev nD) : Nat :=
  let c0_i32_1249 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c4_i32_15 : BitVec 32 := 4#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c12_i32_11 : BitVec 32 := 12#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c5_i32_8 : BitVec 32 := 5#32
  let c10_i32 : BitVec 32 := 10#32
  let v21 : BitVec 1 := Scalar.cmpi .eq v2 c10_i32
  let c10_i32_7 : BitVec 32 := 10#32
  let c9_i32_6 : BitVec 32 := 9#32
  let v19 : BitVec 1 := Scalar.cmpi .eq v2 c9_i32_6
  let c13_i32 : BitVec 32 := 13#32
  let c8_i32_4 : BitVec 32 := 8#32
  let v17 : BitVec 1 := Scalar.cmpi .eq v2 c8_i32_4
  let c2_i32_5 : BitVec 32 := 2#32
  let c7_i32_2 : BitVec 32 := 7#32
  let v15 : BitVec 1 := Scalar.cmpi .eq v2 c7_i32_2
  let c6_i32_3 : BitVec 32 := 6#32
  let c6_i32 : BitVec 32 := 6#32
  let v13 : BitVec 1 := Scalar.cmpi .eq v2 c6_i32
  let c9_i32 : BitVec 32 := 9#32
  let c5_i32 : BitVec 32 := 5#32
  let v11 : BitVec 1 := Scalar.cmpi .eq v2 c5_i32
  let c14_i32 : BitVec 32 := 14#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c7_i32 : BitVec 32 := 7#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c15_i32 : BitVec 32 := 15#32
  let c0_i32 : BitVec 32 := 0#32
  let v4 : BitVec 32 := Scalar.select v3 c15_i32 c0_i32
  let v6 : BitVec 32 := Scalar.select v5 c8_i32 v4
  let v8 : BitVec 32 := Scalar.select v7 c7_i32 v6
  let v10 : BitVec 32 := Scalar.select v9 c1_i32_1 v8
  let v12 : BitVec 32 := Scalar.select v11 c14_i32 v10
  let v14 : BitVec 32 := Scalar.select v13 c9_i32 v12
  let v16 : BitVec 32 := Scalar.select v15 c6_i32_3 v14
  let v18 : BitVec 32 := Scalar.select v17 c2_i32_5 v16
  let v20 : BitVec 32 := Scalar.select v19 c13_i32 v18
  let v22 : BitVec 32 := Scalar.select v21 c10_i32_7 v20
  let v24 : BitVec 32 := Scalar.select v23 c5_i32_8 v22
  let v26 : BitVec 32 := Scalar.select v25 c3_i32_9 v24
  let v28 : BitVec 32 := Scalar.select v27 c12_i32_11 v26
  let v30 : BitVec 32 := Scalar.select v29 c11_i32_13 v28
  let v32 : BitVec 32 := Scalar.select v31 c4_i32_15 v30
  let c1_i32_16 : BitVec 32 := 1#32
  let v33 : BitVec 32 := Scalar.addi v32 c1_i32_16
  let c16_i32_17 : BitVec 32 := 16#32
  let v34 : BitVec 32 := Scalar.remsi v33 c16_i32_17
  let c15_i32_47 : BitVec 32 := 15#32
  let v63 : BitVec 1 := Scalar.cmpi .eq v34 c15_i32_47
  let c1_i32_48 : BitVec 32 := 1#32
  let c14_i32_45 : BitVec 32 := 14#32
  let v61 : BitVec 1 := Scalar.cmpi .eq v34 c14_i32_45
  let c5_i32_46 : BitVec 32 := 5#32
  let c13_i32_43 : BitVec 32 := 13#32
  let v59 : BitVec 1 := Scalar.cmpi .eq v34 c13_i32_43
  let c9_i32_44 : BitVec 32 := 9#32
  let c12_i32_41 : BitVec 32 := 12#32
  let v57 : BitVec 1 := Scalar.cmpi .eq v34 c12_i32_41
  let c13_i32_42 : BitVec 32 := 13#32
  let c11_i32_39 : BitVec 32 := 11#32
  let v55 : BitVec 1 := Scalar.cmpi .eq v34 c11_i32_39
  let c14_i32_40 : BitVec 32 := 14#32
  let c10_i32_37 : BitVec 32 := 10#32
  let v53 : BitVec 1 := Scalar.cmpi .eq v34 c10_i32_37
  let c10_i32_38 : BitVec 32 := 10#32
  let c9_i32_35 : BitVec 32 := 9#32
  let v51 : BitVec 1 := Scalar.cmpi .eq v34 c9_i32_35
  let c6_i32_36 : BitVec 32 := 6#32
  let c8_i32_33 : BitVec 32 := 8#32
  let v49 : BitVec 1 := Scalar.cmpi .eq v34 c8_i32_33
  let c2_i32_34 : BitVec 32 := 2#32
  let c7_i32_31 : BitVec 32 := 7#32
  let v47 : BitVec 1 := Scalar.cmpi .eq v34 c7_i32_31
  let c3_i32_32 : BitVec 32 := 3#32
  let c6_i32_29 : BitVec 32 := 6#32
  let v45 : BitVec 1 := Scalar.cmpi .eq v34 c6_i32_29
  let c7_i32_30 : BitVec 32 := 7#32
  let c5_i32_27 : BitVec 32 := 5#32
  let v43 : BitVec 1 := Scalar.cmpi .eq v34 c5_i32_27
  let c11_i32_28 : BitVec 32 := 11#32
  let c4_i32_25 : BitVec 32 := 4#32
  let v41 : BitVec 1 := Scalar.cmpi .eq v34 c4_i32_25
  let c15_i32_26 : BitVec 32 := 15#32
  let c3_i32_23 : BitVec 32 := 3#32
  let v39 : BitVec 1 := Scalar.cmpi .eq v34 c3_i32_23
  let c12_i32_24 : BitVec 32 := 12#32
  let c2_i32_21 : BitVec 32 := 2#32
  let v37 : BitVec 1 := Scalar.cmpi .eq v34 c2_i32_21
  let c8_i32_22 : BitVec 32 := 8#32
  let c1_i32_18 : BitVec 32 := 1#32
  let v35 : BitVec 1 := Scalar.cmpi .eq v34 c1_i32_18
  let c4_i32_19 : BitVec 32 := 4#32
  let c0_i32_20 : BitVec 32 := 0#32
  let v36 : BitVec 32 := Scalar.select v35 c4_i32_19 c0_i32_20
  let v38 : BitVec 32 := Scalar.select v37 c8_i32_22 v36
  let v40 : BitVec 32 := Scalar.select v39 c12_i32_24 v38
  let v42 : BitVec 32 := Scalar.select v41 c15_i32_26 v40
  let v44 : BitVec 32 := Scalar.select v43 c11_i32_28 v42
  let v46 : BitVec 32 := Scalar.select v45 c7_i32_30 v44
  let v48 : BitVec 32 := Scalar.select v47 c3_i32_32 v46
  let v50 : BitVec 32 := Scalar.select v49 c2_i32_34 v48
  let v52 : BitVec 32 := Scalar.select v51 c6_i32_36 v50
  let v54 : BitVec 32 := Scalar.select v53 c10_i32_38 v52
  let v56 : BitVec 32 := Scalar.select v55 c14_i32_40 v54
  let v58 : BitVec 32 := Scalar.select v57 c13_i32_42 v56
  let v60 : BitVec 32 := Scalar.select v59 c9_i32_44 v58
  let v62 : BitVec 32 := Scalar.select v61 c5_i32_46 v60
  let v64 : BitVec 32 := Scalar.select v63 c1_i32_48 v62
  let c1_i32_1248 : BitVec 32 := 1#32
  let v1134 : BitVec 32 := Scalar.muli v64 c1_i32_1248
  let v1135 : BitVec 32 := Scalar.addi c0_i32_1249 v1134
  v1135.toNat
def k0_dev24 (d0 : Dev nD) : Nat :=
  let c0_i32_1290 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c4_i32_15 : BitVec 32 := 4#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c12_i32_11 : BitVec 32 := 12#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c5_i32_8 : BitVec 32 := 5#32
  let c10_i32 : BitVec 32 := 10#32
  let v21 : BitVec 1 := Scalar.cmpi .eq v2 c10_i32
  let c10_i32_7 : BitVec 32 := 10#32
  let c9_i32_6 : BitVec 32 := 9#32
  let v19 : BitVec 1 := Scalar.cmpi .eq v2 c9_i32_6
  let c13_i32 : BitVec 32 := 13#32
  let c8_i32_4 : BitVec 32 := 8#32
  let v17 : BitVec 1 := Scalar.cmpi .eq v2 c8_i32_4
  let c2_i32_5 : BitVec 32 := 2#32
  let c7_i32_2 : BitVec 32 := 7#32
  let v15 : BitVec 1 := Scalar.cmpi .eq v2 c7_i32_2
  let c6_i32_3 : BitVec 32 := 6#32
  let c6_i32 : BitVec 32 := 6#32
  let v13 : BitVec 1 := Scalar.cmpi .eq v2 c6_i32
  let c9_i32 : BitVec 32 := 9#32
  let c5_i32 : BitVec 32 := 5#32
  let v11 : BitVec 1 := Scalar.cmpi .eq v2 c5_i32
  let c14_i32 : BitVec 32 := 14#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c7_i32 : BitVec 32 := 7#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c15_i32 : BitVec 32 := 15#32
  let c0_i32 : BitVec 32 := 0#32
  let v4 : BitVec 32 := Scalar.select v3 c15_i32 c0_i32
  let v6 : BitVec 32 := Scalar.select v5 c8_i32 v4
  let v8 : BitVec 32 := Scalar.select v7 c7_i32 v6
  let v10 : BitVec 32 := Scalar.select v9 c1_i32_1 v8
  let v12 : BitVec 32 := Scalar.select v11 c14_i32 v10
  let v14 : BitVec 32 := Scalar.select v13 c9_i32 v12
  let v16 : BitVec 32 := Scalar.select v15 c6_i32_3 v14
  let v18 : BitVec 32 := Scalar.select v17 c2_i32_5 v16
  let v20 : BitVec 32 := Scalar.select v19 c13_i32 v18
  let v22 : BitVec 32 := Scalar.select v21 c10_i32_7 v20
  let v24 : BitVec 32 := Scalar.select v23 c5_i32_8 v22
  let v26 : BitVec 32 := Scalar.select v25 c3_i32_9 v24
  let v28 : BitVec 32 := Scalar.select v27 c12_i32_11 v26
  let v30 : BitVec 32 := Scalar.select v29 c11_i32_13 v28
  let v32 : BitVec 32 := Scalar.select v31 c4_i32_15 v30
  let c1_i32_16 : BitVec 32 := 1#32
  let v33 : BitVec 32 := Scalar.addi v32 c1_i32_16
  let c16_i32_17 : BitVec 32 := 16#32
  let v34 : BitVec 32 := Scalar.remsi v33 c16_i32_17
  let c15_i32_47 : BitVec 32 := 15#32
  let v63 : BitVec 1 := Scalar.cmpi .eq v34 c15_i32_47
  let c1_i32_48 : BitVec 32 := 1#32
  let c14_i32_45 : BitVec 32 := 14#32
  let v61 : BitVec 1 := Scalar.cmpi .eq v34 c14_i32_45
  let c5_i32_46 : BitVec 32 := 5#32
  let c13_i32_43 : BitVec 32 := 13#32
  let v59 : BitVec 1 := Scalar.cmpi .eq v34 c13_i32_43
  let c9_i32_44 : BitVec 32 := 9#32
  let c12_i32_41 : BitVec 32 := 12#32
  let v57 : BitVec 1 := Scalar.cmpi .eq v34 c12_i32_41
  let c13_i32_42 : BitVec 32 := 13#32
  let c11_i32_39 : BitVec 32 := 11#32
  let v55 : BitVec 1 := Scalar.cmpi .eq v34 c11_i32_39
  let c14_i32_40 : BitVec 32 := 14#32
  let c10_i32_37 : BitVec 32 := 10#32
  let v53 : BitVec 1 := Scalar.cmpi .eq v34 c10_i32_37
  let c10_i32_38 : BitVec 32 := 10#32
  let c9_i32_35 : BitVec 32 := 9#32
  let v51 : BitVec 1 := Scalar.cmpi .eq v34 c9_i32_35
  let c6_i32_36 : BitVec 32 := 6#32
  let c8_i32_33 : BitVec 32 := 8#32
  let v49 : BitVec 1 := Scalar.cmpi .eq v34 c8_i32_33
  let c2_i32_34 : BitVec 32 := 2#32
  let c7_i32_31 : BitVec 32 := 7#32
  let v47 : BitVec 1 := Scalar.cmpi .eq v34 c7_i32_31
  let c3_i32_32 : BitVec 32 := 3#32
  let c6_i32_29 : BitVec 32 := 6#32
  let v45 : BitVec 1 := Scalar.cmpi .eq v34 c6_i32_29
  let c7_i32_30 : BitVec 32 := 7#32
  let c5_i32_27 : BitVec 32 := 5#32
  let v43 : BitVec 1 := Scalar.cmpi .eq v34 c5_i32_27
  let c11_i32_28 : BitVec 32 := 11#32
  let c4_i32_25 : BitVec 32 := 4#32
  let v41 : BitVec 1 := Scalar.cmpi .eq v34 c4_i32_25
  let c15_i32_26 : BitVec 32 := 15#32
  let c3_i32_23 : BitVec 32 := 3#32
  let v39 : BitVec 1 := Scalar.cmpi .eq v34 c3_i32_23
  let c12_i32_24 : BitVec 32 := 12#32
  let c2_i32_21 : BitVec 32 := 2#32
  let v37 : BitVec 1 := Scalar.cmpi .eq v34 c2_i32_21
  let c8_i32_22 : BitVec 32 := 8#32
  let c1_i32_18 : BitVec 32 := 1#32
  let v35 : BitVec 1 := Scalar.cmpi .eq v34 c1_i32_18
  let c4_i32_19 : BitVec 32 := 4#32
  let c0_i32_20 : BitVec 32 := 0#32
  let v36 : BitVec 32 := Scalar.select v35 c4_i32_19 c0_i32_20
  let v38 : BitVec 32 := Scalar.select v37 c8_i32_22 v36
  let v40 : BitVec 32 := Scalar.select v39 c12_i32_24 v38
  let v42 : BitVec 32 := Scalar.select v41 c15_i32_26 v40
  let v44 : BitVec 32 := Scalar.select v43 c11_i32_28 v42
  let v46 : BitVec 32 := Scalar.select v45 c7_i32_30 v44
  let v48 : BitVec 32 := Scalar.select v47 c3_i32_32 v46
  let v50 : BitVec 32 := Scalar.select v49 c2_i32_34 v48
  let v52 : BitVec 32 := Scalar.select v51 c6_i32_36 v50
  let v54 : BitVec 32 := Scalar.select v53 c10_i32_38 v52
  let v56 : BitVec 32 := Scalar.select v55 c14_i32_40 v54
  let v58 : BitVec 32 := Scalar.select v57 c13_i32_42 v56
  let v60 : BitVec 32 := Scalar.select v59 c9_i32_44 v58
  let v62 : BitVec 32 := Scalar.select v61 c5_i32_46 v60
  let v64 : BitVec 32 := Scalar.select v63 c1_i32_48 v62
  let c1_i32_1289 : BitVec 32 := 1#32
  let v1167 : BitVec 32 := Scalar.muli v64 c1_i32_1289
  let v1168 : BitVec 32 := Scalar.addi c0_i32_1290 v1167
  v1168.toNat
def k0_dev25 (d0 : Dev nD) : Nat :=
  let c0_i32_1331 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c4_i32_15 : BitVec 32 := 4#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c12_i32_11 : BitVec 32 := 12#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c5_i32_8 : BitVec 32 := 5#32
  let c10_i32 : BitVec 32 := 10#32
  let v21 : BitVec 1 := Scalar.cmpi .eq v2 c10_i32
  let c10_i32_7 : BitVec 32 := 10#32
  let c9_i32_6 : BitVec 32 := 9#32
  let v19 : BitVec 1 := Scalar.cmpi .eq v2 c9_i32_6
  let c13_i32 : BitVec 32 := 13#32
  let c8_i32_4 : BitVec 32 := 8#32
  let v17 : BitVec 1 := Scalar.cmpi .eq v2 c8_i32_4
  let c2_i32_5 : BitVec 32 := 2#32
  let c7_i32_2 : BitVec 32 := 7#32
  let v15 : BitVec 1 := Scalar.cmpi .eq v2 c7_i32_2
  let c6_i32_3 : BitVec 32 := 6#32
  let c6_i32 : BitVec 32 := 6#32
  let v13 : BitVec 1 := Scalar.cmpi .eq v2 c6_i32
  let c9_i32 : BitVec 32 := 9#32
  let c5_i32 : BitVec 32 := 5#32
  let v11 : BitVec 1 := Scalar.cmpi .eq v2 c5_i32
  let c14_i32 : BitVec 32 := 14#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c7_i32 : BitVec 32 := 7#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c15_i32 : BitVec 32 := 15#32
  let c0_i32 : BitVec 32 := 0#32
  let v4 : BitVec 32 := Scalar.select v3 c15_i32 c0_i32
  let v6 : BitVec 32 := Scalar.select v5 c8_i32 v4
  let v8 : BitVec 32 := Scalar.select v7 c7_i32 v6
  let v10 : BitVec 32 := Scalar.select v9 c1_i32_1 v8
  let v12 : BitVec 32 := Scalar.select v11 c14_i32 v10
  let v14 : BitVec 32 := Scalar.select v13 c9_i32 v12
  let v16 : BitVec 32 := Scalar.select v15 c6_i32_3 v14
  let v18 : BitVec 32 := Scalar.select v17 c2_i32_5 v16
  let v20 : BitVec 32 := Scalar.select v19 c13_i32 v18
  let v22 : BitVec 32 := Scalar.select v21 c10_i32_7 v20
  let v24 : BitVec 32 := Scalar.select v23 c5_i32_8 v22
  let v26 : BitVec 32 := Scalar.select v25 c3_i32_9 v24
  let v28 : BitVec 32 := Scalar.select v27 c12_i32_11 v26
  let v30 : BitVec 32 := Scalar.select v29 c11_i32_13 v28
  let v32 : BitVec 32 := Scalar.select v31 c4_i32_15 v30
  let c16_i32_49 : BitVec 32 := 16#32
  let v65 : BitVec 32 := Scalar.addi v32 c16_i32_49
  let c1_i32_50 : BitVec 32 := 1#32
  let v66 : BitVec 32 := Scalar.subi v65 c1_i32_50
  let c16_i32_51 : BitVec 32 := 16#32
  let v67 : BitVec 32 := Scalar.remsi v66 c16_i32_51
  let c15_i32_81 : BitVec 32 := 15#32
  let v96 : BitVec 1 := Scalar.cmpi .eq v67 c15_i32_81
  let c1_i32_82 : BitVec 32 := 1#32
  let c14_i32_79 : BitVec 32 := 14#32
  let v94 : BitVec 1 := Scalar.cmpi .eq v67 c14_i32_79
  let c5_i32_80 : BitVec 32 := 5#32
  let c13_i32_77 : BitVec 32 := 13#32
  let v92 : BitVec 1 := Scalar.cmpi .eq v67 c13_i32_77
  let c9_i32_78 : BitVec 32 := 9#32
  let c12_i32_75 : BitVec 32 := 12#32
  let v90 : BitVec 1 := Scalar.cmpi .eq v67 c12_i32_75
  let c13_i32_76 : BitVec 32 := 13#32
  let c11_i32_73 : BitVec 32 := 11#32
  let v88 : BitVec 1 := Scalar.cmpi .eq v67 c11_i32_73
  let c14_i32_74 : BitVec 32 := 14#32
  let c10_i32_71 : BitVec 32 := 10#32
  let v86 : BitVec 1 := Scalar.cmpi .eq v67 c10_i32_71
  let c10_i32_72 : BitVec 32 := 10#32
  let c9_i32_69 : BitVec 32 := 9#32
  let v84 : BitVec 1 := Scalar.cmpi .eq v67 c9_i32_69
  let c6_i32_70 : BitVec 32 := 6#32
  let c8_i32_67 : BitVec 32 := 8#32
  let v82 : BitVec 1 := Scalar.cmpi .eq v67 c8_i32_67
  let c2_i32_68 : BitVec 32 := 2#32
  let c7_i32_65 : BitVec 32 := 7#32
  let v80 : BitVec 1 := Scalar.cmpi .eq v67 c7_i32_65
  let c3_i32_66 : BitVec 32 := 3#32
  let c6_i32_63 : BitVec 32 := 6#32
  let v78 : BitVec 1 := Scalar.cmpi .eq v67 c6_i32_63
  let c7_i32_64 : BitVec 32 := 7#32
  let c5_i32_61 : BitVec 32 := 5#32
  let v76 : BitVec 1 := Scalar.cmpi .eq v67 c5_i32_61
  let c11_i32_62 : BitVec 32 := 11#32
  let c4_i32_59 : BitVec 32 := 4#32
  let v74 : BitVec 1 := Scalar.cmpi .eq v67 c4_i32_59
  let c15_i32_60 : BitVec 32 := 15#32
  let c3_i32_57 : BitVec 32 := 3#32
  let v72 : BitVec 1 := Scalar.cmpi .eq v67 c3_i32_57
  let c12_i32_58 : BitVec 32 := 12#32
  let c2_i32_55 : BitVec 32 := 2#32
  let v70 : BitVec 1 := Scalar.cmpi .eq v67 c2_i32_55
  let c8_i32_56 : BitVec 32 := 8#32
  let c1_i32_52 : BitVec 32 := 1#32
  let v68 : BitVec 1 := Scalar.cmpi .eq v67 c1_i32_52
  let c4_i32_53 : BitVec 32 := 4#32
  let c0_i32_54 : BitVec 32 := 0#32
  let v69 : BitVec 32 := Scalar.select v68 c4_i32_53 c0_i32_54
  let v71 : BitVec 32 := Scalar.select v70 c8_i32_56 v69
  let v73 : BitVec 32 := Scalar.select v72 c12_i32_58 v71
  let v75 : BitVec 32 := Scalar.select v74 c15_i32_60 v73
  let v77 : BitVec 32 := Scalar.select v76 c11_i32_62 v75
  let v79 : BitVec 32 := Scalar.select v78 c7_i32_64 v77
  let v81 : BitVec 32 := Scalar.select v80 c3_i32_66 v79
  let v83 : BitVec 32 := Scalar.select v82 c2_i32_68 v81
  let v85 : BitVec 32 := Scalar.select v84 c6_i32_70 v83
  let v87 : BitVec 32 := Scalar.select v86 c10_i32_72 v85
  let v89 : BitVec 32 := Scalar.select v88 c14_i32_74 v87
  let v91 : BitVec 32 := Scalar.select v90 c13_i32_76 v89
  let v93 : BitVec 32 := Scalar.select v92 c9_i32_78 v91
  let v95 : BitVec 32 := Scalar.select v94 c5_i32_80 v93
  let v97 : BitVec 32 := Scalar.select v96 c1_i32_82 v95
  let c1_i32_1330 : BitVec 32 := 1#32
  let v1200 : BitVec 32 := Scalar.muli v97 c1_i32_1330
  let v1201 : BitVec 32 := Scalar.addi c0_i32_1331 v1200
  v1201.toNat
def k0_dev26 (d0 : Dev nD) : Nat :=
  let c0_i32_1372 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c4_i32_15 : BitVec 32 := 4#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c12_i32_11 : BitVec 32 := 12#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c5_i32_8 : BitVec 32 := 5#32
  let c10_i32 : BitVec 32 := 10#32
  let v21 : BitVec 1 := Scalar.cmpi .eq v2 c10_i32
  let c10_i32_7 : BitVec 32 := 10#32
  let c9_i32_6 : BitVec 32 := 9#32
  let v19 : BitVec 1 := Scalar.cmpi .eq v2 c9_i32_6
  let c13_i32 : BitVec 32 := 13#32
  let c8_i32_4 : BitVec 32 := 8#32
  let v17 : BitVec 1 := Scalar.cmpi .eq v2 c8_i32_4
  let c2_i32_5 : BitVec 32 := 2#32
  let c7_i32_2 : BitVec 32 := 7#32
  let v15 : BitVec 1 := Scalar.cmpi .eq v2 c7_i32_2
  let c6_i32_3 : BitVec 32 := 6#32
  let c6_i32 : BitVec 32 := 6#32
  let v13 : BitVec 1 := Scalar.cmpi .eq v2 c6_i32
  let c9_i32 : BitVec 32 := 9#32
  let c5_i32 : BitVec 32 := 5#32
  let v11 : BitVec 1 := Scalar.cmpi .eq v2 c5_i32
  let c14_i32 : BitVec 32 := 14#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c7_i32 : BitVec 32 := 7#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c15_i32 : BitVec 32 := 15#32
  let c0_i32 : BitVec 32 := 0#32
  let v4 : BitVec 32 := Scalar.select v3 c15_i32 c0_i32
  let v6 : BitVec 32 := Scalar.select v5 c8_i32 v4
  let v8 : BitVec 32 := Scalar.select v7 c7_i32 v6
  let v10 : BitVec 32 := Scalar.select v9 c1_i32_1 v8
  let v12 : BitVec 32 := Scalar.select v11 c14_i32 v10
  let v14 : BitVec 32 := Scalar.select v13 c9_i32 v12
  let v16 : BitVec 32 := Scalar.select v15 c6_i32_3 v14
  let v18 : BitVec 32 := Scalar.select v17 c2_i32_5 v16
  let v20 : BitVec 32 := Scalar.select v19 c13_i32 v18
  let v22 : BitVec 32 := Scalar.select v21 c10_i32_7 v20
  let v24 : BitVec 32 := Scalar.select v23 c5_i32_8 v22
  let v26 : BitVec 32 := Scalar.select v25 c3_i32_9 v24
  let v28 : BitVec 32 := Scalar.select v27 c12_i32_11 v26
  let v30 : BitVec 32 := Scalar.select v29 c11_i32_13 v28
  let v32 : BitVec 32 := Scalar.select v31 c4_i32_15 v30
  let c16_i32_49 : BitVec 32 := 16#32
  let v65 : BitVec 32 := Scalar.addi v32 c16_i32_49
  let c1_i32_50 : BitVec 32 := 1#32
  let v66 : BitVec 32 := Scalar.subi v65 c1_i32_50
  let c16_i32_51 : BitVec 32 := 16#32
  let v67 : BitVec 32 := Scalar.remsi v66 c16_i32_51
  let c15_i32_81 : BitVec 32 := 15#32
  let v96 : BitVec 1 := Scalar.cmpi .eq v67 c15_i32_81
  let c1_i32_82 : BitVec 32 := 1#32
  let c14_i32_79 : BitVec 32 := 14#32
  let v94 : BitVec 1 := Scalar.cmpi .eq v67 c14_i32_79
  let c5_i32_80 : BitVec 32 := 5#32
  let c13_i32_77 : BitVec 32 := 13#32
  let v92 : BitVec 1 := Scalar.cmpi .eq v67 c13_i32_77
  let c9_i32_78 : BitVec 32 := 9#32
  let c12_i32_75 : BitVec 32 := 12#32
  let v90 : BitVec 1 := Scalar.cmpi .eq v67 c12_i32_75
  let c13_i32_76 : BitVec 32 := 13#32
  let c11_i32_73 : BitVec 32 := 11#32
  let v88 : BitVec 1 := Scalar.cmpi .eq v67 c11_i32_73
  let c14_i32_74 : BitVec 32 := 14#32
  let c10_i32_71 : BitVec 32 := 10#32
  let v86 : BitVec 1 := Scalar.cmpi .eq v67 c10_i32_71
  let c10_i32_72 : BitVec 32 := 10#32
  let c9_i32_69 : BitVec 32 := 9#32
  let v84 : BitVec 1 := Scalar.cmpi .eq v67 c9_i32_69
  let c6_i32_70 : BitVec 32 := 6#32
  let c8_i32_67 : BitVec 32 := 8#32
  let v82 : BitVec 1 := Scalar.cmpi .eq v67 c8_i32_67
  let c2_i32_68 : BitVec 32 := 2#32
  let c7_i32_65 : BitVec 32 := 7#32
  let v80 : BitVec 1 := Scalar.cmpi .eq v67 c7_i32_65
  let c3_i32_66 : BitVec 32 := 3#32
  let c6_i32_63 : BitVec 32 := 6#32
  let v78 : BitVec 1 := Scalar.cmpi .eq v67 c6_i32_63
  let c7_i32_64 : BitVec 32 := 7#32
  let c5_i32_61 : BitVec 32 := 5#32
  let v76 : BitVec 1 := Scalar.cmpi .eq v67 c5_i32_61
  let c11_i32_62 : BitVec 32 := 11#32
  let c4_i32_59 : BitVec 32 := 4#32
  let v74 : BitVec 1 := Scalar.cmpi .eq v67 c4_i32_59
  let c15_i32_60 : BitVec 32 := 15#32
  let c3_i32_57 : BitVec 32 := 3#32
  let v72 : BitVec 1 := Scalar.cmpi .eq v67 c3_i32_57
  let c12_i32_58 : BitVec 32 := 12#32
  let c2_i32_55 : BitVec 32 := 2#32
  let v70 : BitVec 1 := Scalar.cmpi .eq v67 c2_i32_55
  let c8_i32_56 : BitVec 32 := 8#32
  let c1_i32_52 : BitVec 32 := 1#32
  let v68 : BitVec 1 := Scalar.cmpi .eq v67 c1_i32_52
  let c4_i32_53 : BitVec 32 := 4#32
  let c0_i32_54 : BitVec 32 := 0#32
  let v69 : BitVec 32 := Scalar.select v68 c4_i32_53 c0_i32_54
  let v71 : BitVec 32 := Scalar.select v70 c8_i32_56 v69
  let v73 : BitVec 32 := Scalar.select v72 c12_i32_58 v71
  let v75 : BitVec 32 := Scalar.select v74 c15_i32_60 v73
  let v77 : BitVec 32 := Scalar.select v76 c11_i32_62 v75
  let v79 : BitVec 32 := Scalar.select v78 c7_i32_64 v77
  let v81 : BitVec 32 := Scalar.select v80 c3_i32_66 v79
  let v83 : BitVec 32 := Scalar.select v82 c2_i32_68 v81
  let v85 : BitVec 32 := Scalar.select v84 c6_i32_70 v83
  let v87 : BitVec 32 := Scalar.select v86 c10_i32_72 v85
  let v89 : BitVec 32 := Scalar.select v88 c14_i32_74 v87
  let v91 : BitVec 32 := Scalar.select v90 c13_i32_76 v89
  let v93 : BitVec 32 := Scalar.select v92 c9_i32_78 v91
  let v95 : BitVec 32 := Scalar.select v94 c5_i32_80 v93
  let v97 : BitVec 32 := Scalar.select v96 c1_i32_82 v95
  let c1_i32_1371 : BitVec 32 := 1#32
  let v1233 : BitVec 32 := Scalar.muli v97 c1_i32_1371
  let v1234 : BitVec 32 := Scalar.addi c0_i32_1372 v1233
  v1234.toNat
def k0_dev27 (d0 : Dev nD) : Nat :=
  let c0_i32_1491 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c4_i32_15 : BitVec 32 := 4#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c12_i32_11 : BitVec 32 := 12#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c5_i32_8 : BitVec 32 := 5#32
  let c10_i32 : BitVec 32 := 10#32
  let v21 : BitVec 1 := Scalar.cmpi .eq v2 c10_i32
  let c10_i32_7 : BitVec 32 := 10#32
  let c9_i32_6 : BitVec 32 := 9#32
  let v19 : BitVec 1 := Scalar.cmpi .eq v2 c9_i32_6
  let c13_i32 : BitVec 32 := 13#32
  let c8_i32_4 : BitVec 32 := 8#32
  let v17 : BitVec 1 := Scalar.cmpi .eq v2 c8_i32_4
  let c2_i32_5 : BitVec 32 := 2#32
  let c7_i32_2 : BitVec 32 := 7#32
  let v15 : BitVec 1 := Scalar.cmpi .eq v2 c7_i32_2
  let c6_i32_3 : BitVec 32 := 6#32
  let c6_i32 : BitVec 32 := 6#32
  let v13 : BitVec 1 := Scalar.cmpi .eq v2 c6_i32
  let c9_i32 : BitVec 32 := 9#32
  let c5_i32 : BitVec 32 := 5#32
  let v11 : BitVec 1 := Scalar.cmpi .eq v2 c5_i32
  let c14_i32 : BitVec 32 := 14#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c7_i32 : BitVec 32 := 7#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c15_i32 : BitVec 32 := 15#32
  let c0_i32 : BitVec 32 := 0#32
  let v4 : BitVec 32 := Scalar.select v3 c15_i32 c0_i32
  let v6 : BitVec 32 := Scalar.select v5 c8_i32 v4
  let v8 : BitVec 32 := Scalar.select v7 c7_i32 v6
  let v10 : BitVec 32 := Scalar.select v9 c1_i32_1 v8
  let v12 : BitVec 32 := Scalar.select v11 c14_i32 v10
  let v14 : BitVec 32 := Scalar.select v13 c9_i32 v12
  let v16 : BitVec 32 := Scalar.select v15 c6_i32_3 v14
  let v18 : BitVec 32 := Scalar.select v17 c2_i32_5 v16
  let v20 : BitVec 32 := Scalar.select v19 c13_i32 v18
  let v22 : BitVec 32 := Scalar.select v21 c10_i32_7 v20
  let v24 : BitVec 32 := Scalar.select v23 c5_i32_8 v22
  let v26 : BitVec 32 := Scalar.select v25 c3_i32_9 v24
  let v28 : BitVec 32 := Scalar.select v27 c12_i32_11 v26
  let v30 : BitVec 32 := Scalar.select v29 c11_i32_13 v28
  let v32 : BitVec 32 := Scalar.select v31 c4_i32_15 v30
  let c1_i32_16 : BitVec 32 := 1#32
  let v33 : BitVec 32 := Scalar.addi v32 c1_i32_16
  let c16_i32_17 : BitVec 32 := 16#32
  let v34 : BitVec 32 := Scalar.remsi v33 c16_i32_17
  let c15_i32_47 : BitVec 32 := 15#32
  let v63 : BitVec 1 := Scalar.cmpi .eq v34 c15_i32_47
  let c1_i32_48 : BitVec 32 := 1#32
  let c14_i32_45 : BitVec 32 := 14#32
  let v61 : BitVec 1 := Scalar.cmpi .eq v34 c14_i32_45
  let c5_i32_46 : BitVec 32 := 5#32
  let c13_i32_43 : BitVec 32 := 13#32
  let v59 : BitVec 1 := Scalar.cmpi .eq v34 c13_i32_43
  let c9_i32_44 : BitVec 32 := 9#32
  let c12_i32_41 : BitVec 32 := 12#32
  let v57 : BitVec 1 := Scalar.cmpi .eq v34 c12_i32_41
  let c13_i32_42 : BitVec 32 := 13#32
  let c11_i32_39 : BitVec 32 := 11#32
  let v55 : BitVec 1 := Scalar.cmpi .eq v34 c11_i32_39
  let c14_i32_40 : BitVec 32 := 14#32
  let c10_i32_37 : BitVec 32 := 10#32
  let v53 : BitVec 1 := Scalar.cmpi .eq v34 c10_i32_37
  let c10_i32_38 : BitVec 32 := 10#32
  let c9_i32_35 : BitVec 32 := 9#32
  let v51 : BitVec 1 := Scalar.cmpi .eq v34 c9_i32_35
  let c6_i32_36 : BitVec 32 := 6#32
  let c8_i32_33 : BitVec 32 := 8#32
  let v49 : BitVec 1 := Scalar.cmpi .eq v34 c8_i32_33
  let c2_i32_34 : BitVec 32 := 2#32
  let c7_i32_31 : BitVec 32 := 7#32
  let v47 : BitVec 1 := Scalar.cmpi .eq v34 c7_i32_31
  let c3_i32_32 : BitVec 32 := 3#32
  let c6_i32_29 : BitVec 32 := 6#32
  let v45 : BitVec 1 := Scalar.cmpi .eq v34 c6_i32_29
  let c7_i32_30 : BitVec 32 := 7#32
  let c5_i32_27 : BitVec 32 := 5#32
  let v43 : BitVec 1 := Scalar.cmpi .eq v34 c5_i32_27
  let c11_i32_28 : BitVec 32 := 11#32
  let c4_i32_25 : BitVec 32 := 4#32
  let v41 : BitVec 1 := Scalar.cmpi .eq v34 c4_i32_25
  let c15_i32_26 : BitVec 32 := 15#32
  let c3_i32_23 : BitVec 32 := 3#32
  let v39 : BitVec 1 := Scalar.cmpi .eq v34 c3_i32_23
  let c12_i32_24 : BitVec 32 := 12#32
  let c2_i32_21 : BitVec 32 := 2#32
  let v37 : BitVec 1 := Scalar.cmpi .eq v34 c2_i32_21
  let c8_i32_22 : BitVec 32 := 8#32
  let c1_i32_18 : BitVec 32 := 1#32
  let v35 : BitVec 1 := Scalar.cmpi .eq v34 c1_i32_18
  let c4_i32_19 : BitVec 32 := 4#32
  let c0_i32_20 : BitVec 32 := 0#32
  let v36 : BitVec 32 := Scalar.select v35 c4_i32_19 c0_i32_20
  let v38 : BitVec 32 := Scalar.select v37 c8_i32_22 v36
  let v40 : BitVec 32 := Scalar.select v39 c12_i32_24 v38
  let v42 : BitVec 32 := Scalar.select v41 c15_i32_26 v40
  let v44 : BitVec 32 := Scalar.select v43 c11_i32_28 v42
  let v46 : BitVec 32 := Scalar.select v45 c7_i32_30 v44
  let v48 : BitVec 32 := Scalar.select v47 c3_i32_32 v46
  let v50 : BitVec 32 := Scalar.select v49 c2_i32_34 v48
  let v52 : BitVec 32 := Scalar.select v51 c6_i32_36 v50
  let v54 : BitVec 32 := Scalar.select v53 c10_i32_38 v52
  let v56 : BitVec 32 := Scalar.select v55 c14_i32_40 v54
  let v58 : BitVec 32 := Scalar.select v57 c13_i32_42 v56
  let v60 : BitVec 32 := Scalar.select v59 c9_i32_44 v58
  let v62 : BitVec 32 := Scalar.select v61 c5_i32_46 v60
  let v64 : BitVec 32 := Scalar.select v63 c1_i32_48 v62
  let c1_i32_1490 : BitVec 32 := 1#32
  let v1345 : BitVec 32 := Scalar.muli v64 c1_i32_1490
  let v1346 : BitVec 32 := Scalar.addi c0_i32_1491 v1345
  v1346.toNat
def k0_dev28 (d0 : Dev nD) : Nat :=
  let c0_i32_1532 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c4_i32_15 : BitVec 32 := 4#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c12_i32_11 : BitVec 32 := 12#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c5_i32_8 : BitVec 32 := 5#32
  let c10_i32 : BitVec 32 := 10#32
  let v21 : BitVec 1 := Scalar.cmpi .eq v2 c10_i32
  let c10_i32_7 : BitVec 32 := 10#32
  let c9_i32_6 : BitVec 32 := 9#32
  let v19 : BitVec 1 := Scalar.cmpi .eq v2 c9_i32_6
  let c13_i32 : BitVec 32 := 13#32
  let c8_i32_4 : BitVec 32 := 8#32
  let v17 : BitVec 1 := Scalar.cmpi .eq v2 c8_i32_4
  let c2_i32_5 : BitVec 32 := 2#32
  let c7_i32_2 : BitVec 32 := 7#32
  let v15 : BitVec 1 := Scalar.cmpi .eq v2 c7_i32_2
  let c6_i32_3 : BitVec 32 := 6#32
  let c6_i32 : BitVec 32 := 6#32
  let v13 : BitVec 1 := Scalar.cmpi .eq v2 c6_i32
  let c9_i32 : BitVec 32 := 9#32
  let c5_i32 : BitVec 32 := 5#32
  let v11 : BitVec 1 := Scalar.cmpi .eq v2 c5_i32
  let c14_i32 : BitVec 32 := 14#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c7_i32 : BitVec 32 := 7#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c15_i32 : BitVec 32 := 15#32
  let c0_i32 : BitVec 32 := 0#32
  let v4 : BitVec 32 := Scalar.select v3 c15_i32 c0_i32
  let v6 : BitVec 32 := Scalar.select v5 c8_i32 v4
  let v8 : BitVec 32 := Scalar.select v7 c7_i32 v6
  let v10 : BitVec 32 := Scalar.select v9 c1_i32_1 v8
  let v12 : BitVec 32 := Scalar.select v11 c14_i32 v10
  let v14 : BitVec 32 := Scalar.select v13 c9_i32 v12
  let v16 : BitVec 32 := Scalar.select v15 c6_i32_3 v14
  let v18 : BitVec 32 := Scalar.select v17 c2_i32_5 v16
  let v20 : BitVec 32 := Scalar.select v19 c13_i32 v18
  let v22 : BitVec 32 := Scalar.select v21 c10_i32_7 v20
  let v24 : BitVec 32 := Scalar.select v23 c5_i32_8 v22
  let v26 : BitVec 32 := Scalar.select v25 c3_i32_9 v24
  let v28 : BitVec 32 := Scalar.select v27 c12_i32_11 v26
  let v30 : BitVec 32 := Scalar.select v29 c11_i32_13 v28
  let v32 : BitVec 32 := Scalar.select v31 c4_i32_15 v30
  let c1_i32_16 : BitVec 32 := 1#32
  let v33 : BitVec 32 := Scalar.addi v32 c1_i32_16
  let c16_i32_17 : BitVec 32 := 16#32
  let v34 : BitVec 32 := Scalar.remsi v33 c16_i32_17
  let c15_i32_47 : BitVec 32 := 15#32
  let v63 : BitVec 1 := Scalar.cmpi .eq v34 c15_i32_47
  let c1_i32_48 : BitVec 32 := 1#32
  let c14_i32_45 : BitVec 32 := 14#32
  let v61 : BitVec 1 := Scalar.cmpi .eq v34 c14_i32_45
  let c5_i32_46 : BitVec 32 := 5#32
  let c13_i32_43 : BitVec 32 := 13#32
  let v59 : BitVec 1 := Scalar.cmpi .eq v34 c13_i32_43
  let c9_i32_44 : BitVec 32 := 9#32
  let c12_i32_41 : BitVec 32 := 12#32
  let v57 : BitVec 1 := Scalar.cmpi .eq v34 c12_i32_41
  let c13_i32_42 : BitVec 32 := 13#32
  let c11_i32_39 : BitVec 32 := 11#32
  let v55 : BitVec 1 := Scalar.cmpi .eq v34 c11_i32_39
  let c14_i32_40 : BitVec 32 := 14#32
  let c10_i32_37 : BitVec 32 := 10#32
  let v53 : BitVec 1 := Scalar.cmpi .eq v34 c10_i32_37
  let c10_i32_38 : BitVec 32 := 10#32
  let c9_i32_35 : BitVec 32 := 9#32
  let v51 : BitVec 1 := Scalar.cmpi .eq v34 c9_i32_35
  let c6_i32_36 : BitVec 32 := 6#32
  let c8_i32_33 : BitVec 32 := 8#32
  let v49 : BitVec 1 := Scalar.cmpi .eq v34 c8_i32_33
  let c2_i32_34 : BitVec 32 := 2#32
  let c7_i32_31 : BitVec 32 := 7#32
  let v47 : BitVec 1 := Scalar.cmpi .eq v34 c7_i32_31
  let c3_i32_32 : BitVec 32 := 3#32
  let c6_i32_29 : BitVec 32 := 6#32
  let v45 : BitVec 1 := Scalar.cmpi .eq v34 c6_i32_29
  let c7_i32_30 : BitVec 32 := 7#32
  let c5_i32_27 : BitVec 32 := 5#32
  let v43 : BitVec 1 := Scalar.cmpi .eq v34 c5_i32_27
  let c11_i32_28 : BitVec 32 := 11#32
  let c4_i32_25 : BitVec 32 := 4#32
  let v41 : BitVec 1 := Scalar.cmpi .eq v34 c4_i32_25
  let c15_i32_26 : BitVec 32 := 15#32
  let c3_i32_23 : BitVec 32 := 3#32
  let v39 : BitVec 1 := Scalar.cmpi .eq v34 c3_i32_23
  let c12_i32_24 : BitVec 32 := 12#32
  let c2_i32_21 : BitVec 32 := 2#32
  let v37 : BitVec 1 := Scalar.cmpi .eq v34 c2_i32_21
  let c8_i32_22 : BitVec 32 := 8#32
  let c1_i32_18 : BitVec 32 := 1#32
  let v35 : BitVec 1 := Scalar.cmpi .eq v34 c1_i32_18
  let c4_i32_19 : BitVec 32 := 4#32
  let c0_i32_20 : BitVec 32 := 0#32
  let v36 : BitVec 32 := Scalar.select v35 c4_i32_19 c0_i32_20
  let v38 : BitVec 32 := Scalar.select v37 c8_i32_22 v36
  let v40 : BitVec 32 := Scalar.select v39 c12_i32_24 v38
  let v42 : BitVec 32 := Scalar.select v41 c15_i32_26 v40
  let v44 : BitVec 32 := Scalar.select v43 c11_i32_28 v42
  let v46 : BitVec 32 := Scalar.select v45 c7_i32_30 v44
  let v48 : BitVec 32 := Scalar.select v47 c3_i32_32 v46
  let v50 : BitVec 32 := Scalar.select v49 c2_i32_34 v48
  let v52 : BitVec 32 := Scalar.select v51 c6_i32_36 v50
  let v54 : BitVec 32 := Scalar.select v53 c10_i32_38 v52
  let v56 : BitVec 32 := Scalar.select v55 c14_i32_40 v54
  let v58 : BitVec 32 := Scalar.select v57 c13_i32_42 v56
  let v60 : BitVec 32 := Scalar.select v59 c9_i32_44 v58
  let v62 : BitVec 32 := Scalar.select v61 c5_i32_46 v60
  let v64 : BitVec 32 := Scalar.select v63 c1_i32_48 v62
  let c1_i32_1531 : BitVec 32 := 1#32
  let v1378 : BitVec 32 := Scalar.muli v64 c1_i32_1531
  let v1379 : BitVec 32 := Scalar.addi c0_i32_1532 v1378
  v1379.toNat
def k0_dev29 (d0 : Dev nD) : Nat :=
  let c0_i32_1573 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c4_i32_15 : BitVec 32 := 4#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c12_i32_11 : BitVec 32 := 12#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c5_i32_8 : BitVec 32 := 5#32
  let c10_i32 : BitVec 32 := 10#32
  let v21 : BitVec 1 := Scalar.cmpi .eq v2 c10_i32
  let c10_i32_7 : BitVec 32 := 10#32
  let c9_i32_6 : BitVec 32 := 9#32
  let v19 : BitVec 1 := Scalar.cmpi .eq v2 c9_i32_6
  let c13_i32 : BitVec 32 := 13#32
  let c8_i32_4 : BitVec 32 := 8#32
  let v17 : BitVec 1 := Scalar.cmpi .eq v2 c8_i32_4
  let c2_i32_5 : BitVec 32 := 2#32
  let c7_i32_2 : BitVec 32 := 7#32
  let v15 : BitVec 1 := Scalar.cmpi .eq v2 c7_i32_2
  let c6_i32_3 : BitVec 32 := 6#32
  let c6_i32 : BitVec 32 := 6#32
  let v13 : BitVec 1 := Scalar.cmpi .eq v2 c6_i32
  let c9_i32 : BitVec 32 := 9#32
  let c5_i32 : BitVec 32 := 5#32
  let v11 : BitVec 1 := Scalar.cmpi .eq v2 c5_i32
  let c14_i32 : BitVec 32 := 14#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c7_i32 : BitVec 32 := 7#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c15_i32 : BitVec 32 := 15#32
  let c0_i32 : BitVec 32 := 0#32
  let v4 : BitVec 32 := Scalar.select v3 c15_i32 c0_i32
  let v6 : BitVec 32 := Scalar.select v5 c8_i32 v4
  let v8 : BitVec 32 := Scalar.select v7 c7_i32 v6
  let v10 : BitVec 32 := Scalar.select v9 c1_i32_1 v8
  let v12 : BitVec 32 := Scalar.select v11 c14_i32 v10
  let v14 : BitVec 32 := Scalar.select v13 c9_i32 v12
  let v16 : BitVec 32 := Scalar.select v15 c6_i32_3 v14
  let v18 : BitVec 32 := Scalar.select v17 c2_i32_5 v16
  let v20 : BitVec 32 := Scalar.select v19 c13_i32 v18
  let v22 : BitVec 32 := Scalar.select v21 c10_i32_7 v20
  let v24 : BitVec 32 := Scalar.select v23 c5_i32_8 v22
  let v26 : BitVec 32 := Scalar.select v25 c3_i32_9 v24
  let v28 : BitVec 32 := Scalar.select v27 c12_i32_11 v26
  let v30 : BitVec 32 := Scalar.select v29 c11_i32_13 v28
  let v32 : BitVec 32 := Scalar.select v31 c4_i32_15 v30
  let c16_i32_49 : BitVec 32 := 16#32
  let v65 : BitVec 32 := Scalar.addi v32 c16_i32_49
  let c1_i32_50 : BitVec 32 := 1#32
  let v66 : BitVec 32 := Scalar.subi v65 c1_i32_50
  let c16_i32_51 : BitVec 32 := 16#32
  let v67 : BitVec 32 := Scalar.remsi v66 c16_i32_51
  let c15_i32_81 : BitVec 32 := 15#32
  let v96 : BitVec 1 := Scalar.cmpi .eq v67 c15_i32_81
  let c1_i32_82 : BitVec 32 := 1#32
  let c14_i32_79 : BitVec 32 := 14#32
  let v94 : BitVec 1 := Scalar.cmpi .eq v67 c14_i32_79
  let c5_i32_80 : BitVec 32 := 5#32
  let c13_i32_77 : BitVec 32 := 13#32
  let v92 : BitVec 1 := Scalar.cmpi .eq v67 c13_i32_77
  let c9_i32_78 : BitVec 32 := 9#32
  let c12_i32_75 : BitVec 32 := 12#32
  let v90 : BitVec 1 := Scalar.cmpi .eq v67 c12_i32_75
  let c13_i32_76 : BitVec 32 := 13#32
  let c11_i32_73 : BitVec 32 := 11#32
  let v88 : BitVec 1 := Scalar.cmpi .eq v67 c11_i32_73
  let c14_i32_74 : BitVec 32 := 14#32
  let c10_i32_71 : BitVec 32 := 10#32
  let v86 : BitVec 1 := Scalar.cmpi .eq v67 c10_i32_71
  let c10_i32_72 : BitVec 32 := 10#32
  let c9_i32_69 : BitVec 32 := 9#32
  let v84 : BitVec 1 := Scalar.cmpi .eq v67 c9_i32_69
  let c6_i32_70 : BitVec 32 := 6#32
  let c8_i32_67 : BitVec 32 := 8#32
  let v82 : BitVec 1 := Scalar.cmpi .eq v67 c8_i32_67
  let c2_i32_68 : BitVec 32 := 2#32
  let c7_i32_65 : BitVec 32 := 7#32
  let v80 : BitVec 1 := Scalar.cmpi .eq v67 c7_i32_65
  let c3_i32_66 : BitVec 32 := 3#32
  let c6_i32_63 : BitVec 32 := 6#32
  let v78 : BitVec 1 := Scalar.cmpi .eq v67 c6_i32_63
  let c7_i32_64 : BitVec 32 := 7#32
  let c5_i32_61 : BitVec 32 := 5#32
  let v76 : BitVec 1 := Scalar.cmpi .eq v67 c5_i32_61
  let c11_i32_62 : BitVec 32 := 11#32
  let c4_i32_59 : BitVec 32 := 4#32
  let v74 : BitVec 1 := Scalar.cmpi .eq v67 c4_i32_59
  let c15_i32_60 : BitVec 32 := 15#32
  let c3_i32_57 : BitVec 32 := 3#32
  let v72 : BitVec 1 := Scalar.cmpi .eq v67 c3_i32_57
  let c12_i32_58 : BitVec 32 := 12#32
  let c2_i32_55 : BitVec 32 := 2#32
  let v70 : BitVec 1 := Scalar.cmpi .eq v67 c2_i32_55
  let c8_i32_56 : BitVec 32 := 8#32
  let c1_i32_52 : BitVec 32 := 1#32
  let v68 : BitVec 1 := Scalar.cmpi .eq v67 c1_i32_52
  let c4_i32_53 : BitVec 32 := 4#32
  let c0_i32_54 : BitVec 32 := 0#32
  let v69 : BitVec 32 := Scalar.select v68 c4_i32_53 c0_i32_54
  let v71 : BitVec 32 := Scalar.select v70 c8_i32_56 v69
  let v73 : BitVec 32 := Scalar.select v72 c12_i32_58 v71
  let v75 : BitVec 32 := Scalar.select v74 c15_i32_60 v73
  let v77 : BitVec 32 := Scalar.select v76 c11_i32_62 v75
  let v79 : BitVec 32 := Scalar.select v78 c7_i32_64 v77
  let v81 : BitVec 32 := Scalar.select v80 c3_i32_66 v79
  let v83 : BitVec 32 := Scalar.select v82 c2_i32_68 v81
  let v85 : BitVec 32 := Scalar.select v84 c6_i32_70 v83
  let v87 : BitVec 32 := Scalar.select v86 c10_i32_72 v85
  let v89 : BitVec 32 := Scalar.select v88 c14_i32_74 v87
  let v91 : BitVec 32 := Scalar.select v90 c13_i32_76 v89
  let v93 : BitVec 32 := Scalar.select v92 c9_i32_78 v91
  let v95 : BitVec 32 := Scalar.select v94 c5_i32_80 v93
  let v97 : BitVec 32 := Scalar.select v96 c1_i32_82 v95
  let c1_i32_1572 : BitVec 32 := 1#32
  let v1411 : BitVec 32 := Scalar.muli v97 c1_i32_1572
  let v1412 : BitVec 32 := Scalar.addi c0_i32_1573 v1411
  v1412.toNat
def k0_dev30 (d0 : Dev nD) : Nat :=
  let c0_i32_1614 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c4_i32_15 : BitVec 32 := 4#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c12_i32_11 : BitVec 32 := 12#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c5_i32_8 : BitVec 32 := 5#32
  let c10_i32 : BitVec 32 := 10#32
  let v21 : BitVec 1 := Scalar.cmpi .eq v2 c10_i32
  let c10_i32_7 : BitVec 32 := 10#32
  let c9_i32_6 : BitVec 32 := 9#32
  let v19 : BitVec 1 := Scalar.cmpi .eq v2 c9_i32_6
  let c13_i32 : BitVec 32 := 13#32
  let c8_i32_4 : BitVec 32 := 8#32
  let v17 : BitVec 1 := Scalar.cmpi .eq v2 c8_i32_4
  let c2_i32_5 : BitVec 32 := 2#32
  let c7_i32_2 : BitVec 32 := 7#32
  let v15 : BitVec 1 := Scalar.cmpi .eq v2 c7_i32_2
  let c6_i32_3 : BitVec 32 := 6#32
  let c6_i32 : BitVec 32 := 6#32
  let v13 : BitVec 1 := Scalar.cmpi .eq v2 c6_i32
  let c9_i32 : BitVec 32 := 9#32
  let c5_i32 : BitVec 32 := 5#32
  let v11 : BitVec 1 := Scalar.cmpi .eq v2 c5_i32
  let c14_i32 : BitVec 32 := 14#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c7_i32 : BitVec 32 := 7#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c15_i32 : BitVec 32 := 15#32
  let c0_i32 : BitVec 32 := 0#32
  let v4 : BitVec 32 := Scalar.select v3 c15_i32 c0_i32
  let v6 : BitVec 32 := Scalar.select v5 c8_i32 v4
  let v8 : BitVec 32 := Scalar.select v7 c7_i32 v6
  let v10 : BitVec 32 := Scalar.select v9 c1_i32_1 v8
  let v12 : BitVec 32 := Scalar.select v11 c14_i32 v10
  let v14 : BitVec 32 := Scalar.select v13 c9_i32 v12
  let v16 : BitVec 32 := Scalar.select v15 c6_i32_3 v14
  let v18 : BitVec 32 := Scalar.select v17 c2_i32_5 v16
  let v20 : BitVec 32 := Scalar.select v19 c13_i32 v18
  let v22 : BitVec 32 := Scalar.select v21 c10_i32_7 v20
  let v24 : BitVec 32 := Scalar.select v23 c5_i32_8 v22
  let v26 : BitVec 32 := Scalar.select v25 c3_i32_9 v24
  let v28 : BitVec 32 := Scalar.select v27 c12_i32_11 v26
  let v30 : BitVec 32 := Scalar.select v29 c11_i32_13 v28
  let v32 : BitVec 32 := Scalar.select v31 c4_i32_15 v30
  let c16_i32_49 : BitVec 32 := 16#32
  let v65 : BitVec 32 := Scalar.addi v32 c16_i32_49
  let c1_i32_50 : BitVec 32 := 1#32
  let v66 : BitVec 32 := Scalar.subi v65 c1_i32_50
  let c16_i32_51 : BitVec 32 := 16#32
  let v67 : BitVec 32 := Scalar.remsi v66 c16_i32_51
  let c15_i32_81 : BitVec 32 := 15#32
  let v96 : BitVec 1 := Scalar.cmpi .eq v67 c15_i32_81
  let c1_i32_82 : BitVec 32 := 1#32
  let c14_i32_79 : BitVec 32 := 14#32
  let v94 : BitVec 1 := Scalar.cmpi .eq v67 c14_i32_79
  let c5_i32_80 : BitVec 32 := 5#32
  let c13_i32_77 : BitVec 32 := 13#32
  let v92 : BitVec 1 := Scalar.cmpi .eq v67 c13_i32_77
  let c9_i32_78 : BitVec 32 := 9#32
  let c12_i32_75 : BitVec 32 := 12#32
  let v90 : BitVec 1 := Scalar.cmpi .eq v67 c12_i32_75
  let c13_i32_76 : BitVec 32 := 13#32
  let c11_i32_73 : BitVec 32 := 11#32
  let v88 : BitVec 1 := Scalar.cmpi .eq v67 c11_i32_73
  let c14_i32_74 : BitVec 32 := 14#32
  let c10_i32_71 : BitVec 32 := 10#32
  let v86 : BitVec 1 := Scalar.cmpi .eq v67 c10_i32_71
  let c10_i32_72 : BitVec 32 := 10#32
  let c9_i32_69 : BitVec 32 := 9#32
  let v84 : BitVec 1 := Scalar.cmpi .eq v67 c9_i32_69
  let c6_i32_70 : BitVec 32 := 6#32
  let c8_i32_67 : BitVec 32 := 8#32
  let v82 : BitVec 1 := Scalar.cmpi .eq v67 c8_i32_67
  let c2_i32_68 : BitVec 32 := 2#32
  let c7_i32_65 : BitVec 32 := 7#32
  let v80 : BitVec 1 := Scalar.cmpi .eq v67 c7_i32_65
  let c3_i32_66 : BitVec 32 := 3#32
  let c6_i32_63 : BitVec 32 := 6#32
  let v78 : BitVec 1 := Scalar.cmpi .eq v67 c6_i32_63
  let c7_i32_64 : BitVec 32 := 7#32
  let c5_i32_61 : BitVec 32 := 5#32
  let v76 : BitVec 1 := Scalar.cmpi .eq v67 c5_i32_61
  let c11_i32_62 : BitVec 32 := 11#32
  let c4_i32_59 : BitVec 32 := 4#32
  let v74 : BitVec 1 := Scalar.cmpi .eq v67 c4_i32_59
  let c15_i32_60 : BitVec 32 := 15#32
  let c3_i32_57 : BitVec 32 := 3#32
  let v72 : BitVec 1 := Scalar.cmpi .eq v67 c3_i32_57
  let c12_i32_58 : BitVec 32 := 12#32
  let c2_i32_55 : BitVec 32 := 2#32
  let v70 : BitVec 1 := Scalar.cmpi .eq v67 c2_i32_55
  let c8_i32_56 : BitVec 32 := 8#32
  let c1_i32_52 : BitVec 32 := 1#32
  let v68 : BitVec 1 := Scalar.cmpi .eq v67 c1_i32_52
  let c4_i32_53 : BitVec 32 := 4#32
  let c0_i32_54 : BitVec 32 := 0#32
  let v69 : BitVec 32 := Scalar.select v68 c4_i32_53 c0_i32_54
  let v71 : BitVec 32 := Scalar.select v70 c8_i32_56 v69
  let v73 : BitVec 32 := Scalar.select v72 c12_i32_58 v71
  let v75 : BitVec 32 := Scalar.select v74 c15_i32_60 v73
  let v77 : BitVec 32 := Scalar.select v76 c11_i32_62 v75
  let v79 : BitVec 32 := Scalar.select v78 c7_i32_64 v77
  let v81 : BitVec 32 := Scalar.select v80 c3_i32_66 v79
  let v83 : BitVec 32 := Scalar.select v82 c2_i32_68 v81
  let v85 : BitVec 32 := Scalar.select v84 c6_i32_70 v83
  let v87 : BitVec 32 := Scalar.select v86 c10_i32_72 v85
  let v89 : BitVec 32 := Scalar.select v88 c14_i32_74 v87
  let v91 : BitVec 32 := Scalar.select v90 c13_i32_76 v89
  let v93 : BitVec 32 := Scalar.select v92 c9_i32_78 v91
  let v95 : BitVec 32 := Scalar.select v94 c5_i32_80 v93
  let v97 : BitVec 32 := Scalar.select v96 c1_i32_82 v95
  let c1_i32_1613 : BitVec 32 := 1#32
  let v1444 : BitVec 32 := Scalar.muli v97 c1_i32_1613
  let v1445 : BitVec 32 := Scalar.addi c0_i32_1614 v1444
  v1445.toNat
def k0_dev31 (d0 : Dev nD) : Nat :=
  let c0_i32_1733 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c4_i32_15 : BitVec 32 := 4#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c12_i32_11 : BitVec 32 := 12#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c5_i32_8 : BitVec 32 := 5#32
  let c10_i32 : BitVec 32 := 10#32
  let v21 : BitVec 1 := Scalar.cmpi .eq v2 c10_i32
  let c10_i32_7 : BitVec 32 := 10#32
  let c9_i32_6 : BitVec 32 := 9#32
  let v19 : BitVec 1 := Scalar.cmpi .eq v2 c9_i32_6
  let c13_i32 : BitVec 32 := 13#32
  let c8_i32_4 : BitVec 32 := 8#32
  let v17 : BitVec 1 := Scalar.cmpi .eq v2 c8_i32_4
  let c2_i32_5 : BitVec 32 := 2#32
  let c7_i32_2 : BitVec 32 := 7#32
  let v15 : BitVec 1 := Scalar.cmpi .eq v2 c7_i32_2
  let c6_i32_3 : BitVec 32 := 6#32
  let c6_i32 : BitVec 32 := 6#32
  let v13 : BitVec 1 := Scalar.cmpi .eq v2 c6_i32
  let c9_i32 : BitVec 32 := 9#32
  let c5_i32 : BitVec 32 := 5#32
  let v11 : BitVec 1 := Scalar.cmpi .eq v2 c5_i32
  let c14_i32 : BitVec 32 := 14#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c7_i32 : BitVec 32 := 7#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c15_i32 : BitVec 32 := 15#32
  let c0_i32 : BitVec 32 := 0#32
  let v4 : BitVec 32 := Scalar.select v3 c15_i32 c0_i32
  let v6 : BitVec 32 := Scalar.select v5 c8_i32 v4
  let v8 : BitVec 32 := Scalar.select v7 c7_i32 v6
  let v10 : BitVec 32 := Scalar.select v9 c1_i32_1 v8
  let v12 : BitVec 32 := Scalar.select v11 c14_i32 v10
  let v14 : BitVec 32 := Scalar.select v13 c9_i32 v12
  let v16 : BitVec 32 := Scalar.select v15 c6_i32_3 v14
  let v18 : BitVec 32 := Scalar.select v17 c2_i32_5 v16
  let v20 : BitVec 32 := Scalar.select v19 c13_i32 v18
  let v22 : BitVec 32 := Scalar.select v21 c10_i32_7 v20
  let v24 : BitVec 32 := Scalar.select v23 c5_i32_8 v22
  let v26 : BitVec 32 := Scalar.select v25 c3_i32_9 v24
  let v28 : BitVec 32 := Scalar.select v27 c12_i32_11 v26
  let v30 : BitVec 32 := Scalar.select v29 c11_i32_13 v28
  let v32 : BitVec 32 := Scalar.select v31 c4_i32_15 v30
  let c1_i32_16 : BitVec 32 := 1#32
  let v33 : BitVec 32 := Scalar.addi v32 c1_i32_16
  let c16_i32_17 : BitVec 32 := 16#32
  let v34 : BitVec 32 := Scalar.remsi v33 c16_i32_17
  let c15_i32_47 : BitVec 32 := 15#32
  let v63 : BitVec 1 := Scalar.cmpi .eq v34 c15_i32_47
  let c1_i32_48 : BitVec 32 := 1#32
  let c14_i32_45 : BitVec 32 := 14#32
  let v61 : BitVec 1 := Scalar.cmpi .eq v34 c14_i32_45
  let c5_i32_46 : BitVec 32 := 5#32
  let c13_i32_43 : BitVec 32 := 13#32
  let v59 : BitVec 1 := Scalar.cmpi .eq v34 c13_i32_43
  let c9_i32_44 : BitVec 32 := 9#32
  let c12_i32_41 : BitVec 32 := 12#32
  let v57 : BitVec 1 := Scalar.cmpi .eq v34 c12_i32_41
  let c13_i32_42 : BitVec 32 := 13#32
  let c11_i32_39 : BitVec 32 := 11#32
  let v55 : BitVec 1 := Scalar.cmpi .eq v34 c11_i32_39
  let c14_i32_40 : BitVec 32 := 14#32
  let c10_i32_37 : BitVec 32 := 10#32
  let v53 : BitVec 1 := Scalar.cmpi .eq v34 c10_i32_37
  let c10_i32_38 : BitVec 32 := 10#32
  let c9_i32_35 : BitVec 32 := 9#32
  let v51 : BitVec 1 := Scalar.cmpi .eq v34 c9_i32_35
  let c6_i32_36 : BitVec 32 := 6#32
  let c8_i32_33 : BitVec 32 := 8#32
  let v49 : BitVec 1 := Scalar.cmpi .eq v34 c8_i32_33
  let c2_i32_34 : BitVec 32 := 2#32
  let c7_i32_31 : BitVec 32 := 7#32
  let v47 : BitVec 1 := Scalar.cmpi .eq v34 c7_i32_31
  let c3_i32_32 : BitVec 32 := 3#32
  let c6_i32_29 : BitVec 32 := 6#32
  let v45 : BitVec 1 := Scalar.cmpi .eq v34 c6_i32_29
  let c7_i32_30 : BitVec 32 := 7#32
  let c5_i32_27 : BitVec 32 := 5#32
  let v43 : BitVec 1 := Scalar.cmpi .eq v34 c5_i32_27
  let c11_i32_28 : BitVec 32 := 11#32
  let c4_i32_25 : BitVec 32 := 4#32
  let v41 : BitVec 1 := Scalar.cmpi .eq v34 c4_i32_25
  let c15_i32_26 : BitVec 32 := 15#32
  let c3_i32_23 : BitVec 32 := 3#32
  let v39 : BitVec 1 := Scalar.cmpi .eq v34 c3_i32_23
  let c12_i32_24 : BitVec 32 := 12#32
  let c2_i32_21 : BitVec 32 := 2#32
  let v37 : BitVec 1 := Scalar.cmpi .eq v34 c2_i32_21
  let c8_i32_22 : BitVec 32 := 8#32
  let c1_i32_18 : BitVec 32 := 1#32
  let v35 : BitVec 1 := Scalar.cmpi .eq v34 c1_i32_18
  let c4_i32_19 : BitVec 32 := 4#32
  let c0_i32_20 : BitVec 32 := 0#32
  let v36 : BitVec 32 := Scalar.select v35 c4_i32_19 c0_i32_20
  let v38 : BitVec 32 := Scalar.select v37 c8_i32_22 v36
  let v40 : BitVec 32 := Scalar.select v39 c12_i32_24 v38
  let v42 : BitVec 32 := Scalar.select v41 c15_i32_26 v40
  let v44 : BitVec 32 := Scalar.select v43 c11_i32_28 v42
  let v46 : BitVec 32 := Scalar.select v45 c7_i32_30 v44
  let v48 : BitVec 32 := Scalar.select v47 c3_i32_32 v46
  let v50 : BitVec 32 := Scalar.select v49 c2_i32_34 v48
  let v52 : BitVec 32 := Scalar.select v51 c6_i32_36 v50
  let v54 : BitVec 32 := Scalar.select v53 c10_i32_38 v52
  let v56 : BitVec 32 := Scalar.select v55 c14_i32_40 v54
  let v58 : BitVec 32 := Scalar.select v57 c13_i32_42 v56
  let v60 : BitVec 32 := Scalar.select v59 c9_i32_44 v58
  let v62 : BitVec 32 := Scalar.select v61 c5_i32_46 v60
  let v64 : BitVec 32 := Scalar.select v63 c1_i32_48 v62
  let c1_i32_1732 : BitVec 32 := 1#32
  let v1556 : BitVec 32 := Scalar.muli v64 c1_i32_1732
  let v1557 : BitVec 32 := Scalar.addi c0_i32_1733 v1556
  v1557.toNat
def k0_dev32 (d0 : Dev nD) : Nat :=
  let c0_i32_1774 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c4_i32_15 : BitVec 32 := 4#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c12_i32_11 : BitVec 32 := 12#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c5_i32_8 : BitVec 32 := 5#32
  let c10_i32 : BitVec 32 := 10#32
  let v21 : BitVec 1 := Scalar.cmpi .eq v2 c10_i32
  let c10_i32_7 : BitVec 32 := 10#32
  let c9_i32_6 : BitVec 32 := 9#32
  let v19 : BitVec 1 := Scalar.cmpi .eq v2 c9_i32_6
  let c13_i32 : BitVec 32 := 13#32
  let c8_i32_4 : BitVec 32 := 8#32
  let v17 : BitVec 1 := Scalar.cmpi .eq v2 c8_i32_4
  let c2_i32_5 : BitVec 32 := 2#32
  let c7_i32_2 : BitVec 32 := 7#32
  let v15 : BitVec 1 := Scalar.cmpi .eq v2 c7_i32_2
  let c6_i32_3 : BitVec 32 := 6#32
  let c6_i32 : BitVec 32 := 6#32
  let v13 : BitVec 1 := Scalar.cmpi .eq v2 c6_i32
  let c9_i32 : BitVec 32 := 9#32
  let c5_i32 : BitVec 32 := 5#32
  let v11 : BitVec 1 := Scalar.cmpi .eq v2 c5_i32
  let c14_i32 : BitVec 32 := 14#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c7_i32 : BitVec 32 := 7#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c15_i32 : BitVec 32 := 15#32
  let c0_i32 : BitVec 32 := 0#32
  let v4 : BitVec 32 := Scalar.select v3 c15_i32 c0_i32
  let v6 : BitVec 32 := Scalar.select v5 c8_i32 v4
  let v8 : BitVec 32 := Scalar.select v7 c7_i32 v6
  let v10 : BitVec 32 := Scalar.select v9 c1_i32_1 v8
  let v12 : BitVec 32 := Scalar.select v11 c14_i32 v10
  let v14 : BitVec 32 := Scalar.select v13 c9_i32 v12
  let v16 : BitVec 32 := Scalar.select v15 c6_i32_3 v14
  let v18 : BitVec 32 := Scalar.select v17 c2_i32_5 v16
  let v20 : BitVec 32 := Scalar.select v19 c13_i32 v18
  let v22 : BitVec 32 := Scalar.select v21 c10_i32_7 v20
  let v24 : BitVec 32 := Scalar.select v23 c5_i32_8 v22
  let v26 : BitVec 32 := Scalar.select v25 c3_i32_9 v24
  let v28 : BitVec 32 := Scalar.select v27 c12_i32_11 v26
  let v30 : BitVec 32 := Scalar.select v29 c11_i32_13 v28
  let v32 : BitVec 32 := Scalar.select v31 c4_i32_15 v30
  let c1_i32_16 : BitVec 32 := 1#32
  let v33 : BitVec 32 := Scalar.addi v32 c1_i32_16
  let c16_i32_17 : BitVec 32 := 16#32
  let v34 : BitVec 32 := Scalar.remsi v33 c16_i32_17
  let c15_i32_47 : BitVec 32 := 15#32
  let v63 : BitVec 1 := Scalar.cmpi .eq v34 c15_i32_47
  let c1_i32_48 : BitVec 32 := 1#32
  let c14_i32_45 : BitVec 32 := 14#32
  let v61 : BitVec 1 := Scalar.cmpi .eq v34 c14_i32_45
  let c5_i32_46 : BitVec 32 := 5#32
  let c13_i32_43 : BitVec 32 := 13#32
  let v59 : BitVec 1 := Scalar.cmpi .eq v34 c13_i32_43
  let c9_i32_44 : BitVec 32 := 9#32
  let c12_i32_41 : BitVec 32 := 12#32
  let v57 : BitVec 1 := Scalar.cmpi .eq v34 c12_i32_41
  let c13_i32_42 : BitVec 32 := 13#32
  let c11_i32_39 : BitVec 32 := 11#32
  let v55 : BitVec 1 := Scalar.cmpi .eq v34 c11_i32_39
  let c14_i32_40 : BitVec 32 := 14#32
  let c10_i32_37 : BitVec 32 := 10#32
  let v53 : BitVec 1 := Scalar.cmpi .eq v34 c10_i32_37
  let c10_i32_38 : BitVec 32 := 10#32
  let c9_i32_35 : BitVec 32 := 9#32
  let v51 : BitVec 1 := Scalar.cmpi .eq v34 c9_i32_35
  let c6_i32_36 : BitVec 32 := 6#32
  let c8_i32_33 : BitVec 32 := 8#32
  let v49 : BitVec 1 := Scalar.cmpi .eq v34 c8_i32_33
  let c2_i32_34 : BitVec 32 := 2#32
  let c7_i32_31 : BitVec 32 := 7#32
  let v47 : BitVec 1 := Scalar.cmpi .eq v34 c7_i32_31
  let c3_i32_32 : BitVec 32 := 3#32
  let c6_i32_29 : BitVec 32 := 6#32
  let v45 : BitVec 1 := Scalar.cmpi .eq v34 c6_i32_29
  let c7_i32_30 : BitVec 32 := 7#32
  let c5_i32_27 : BitVec 32 := 5#32
  let v43 : BitVec 1 := Scalar.cmpi .eq v34 c5_i32_27
  let c11_i32_28 : BitVec 32 := 11#32
  let c4_i32_25 : BitVec 32 := 4#32
  let v41 : BitVec 1 := Scalar.cmpi .eq v34 c4_i32_25
  let c15_i32_26 : BitVec 32 := 15#32
  let c3_i32_23 : BitVec 32 := 3#32
  let v39 : BitVec 1 := Scalar.cmpi .eq v34 c3_i32_23
  let c12_i32_24 : BitVec 32 := 12#32
  let c2_i32_21 : BitVec 32 := 2#32
  let v37 : BitVec 1 := Scalar.cmpi .eq v34 c2_i32_21
  let c8_i32_22 : BitVec 32 := 8#32
  let c1_i32_18 : BitVec 32 := 1#32
  let v35 : BitVec 1 := Scalar.cmpi .eq v34 c1_i32_18
  let c4_i32_19 : BitVec 32 := 4#32
  let c0_i32_20 : BitVec 32 := 0#32
  let v36 : BitVec 32 := Scalar.select v35 c4_i32_19 c0_i32_20
  let v38 : BitVec 32 := Scalar.select v37 c8_i32_22 v36
  let v40 : BitVec 32 := Scalar.select v39 c12_i32_24 v38
  let v42 : BitVec 32 := Scalar.select v41 c15_i32_26 v40
  let v44 : BitVec 32 := Scalar.select v43 c11_i32_28 v42
  let v46 : BitVec 32 := Scalar.select v45 c7_i32_30 v44
  let v48 : BitVec 32 := Scalar.select v47 c3_i32_32 v46
  let v50 : BitVec 32 := Scalar.select v49 c2_i32_34 v48
  let v52 : BitVec 32 := Scalar.select v51 c6_i32_36 v50
  let v54 : BitVec 32 := Scalar.select v53 c10_i32_38 v52
  let v56 : BitVec 32 := Scalar.select v55 c14_i32_40 v54
  let v58 : BitVec 32 := Scalar.select v57 c13_i32_42 v56
  let v60 : BitVec 32 := Scalar.select v59 c9_i32_44 v58
  let v62 : BitVec 32 := Scalar.select v61 c5_i32_46 v60
  let v64 : BitVec 32 := Scalar.select v63 c1_i32_48 v62
  let c1_i32_1773 : BitVec 32 := 1#32
  let v1589 : BitVec 32 := Scalar.muli v64 c1_i32_1773
  let v1590 : BitVec 32 := Scalar.addi c0_i32_1774 v1589
  v1590.toNat
def k0_dev33 (d0 : Dev nD) : Nat :=
  let c0_i32_1815 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c4_i32_15 : BitVec 32 := 4#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c12_i32_11 : BitVec 32 := 12#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c5_i32_8 : BitVec 32 := 5#32
  let c10_i32 : BitVec 32 := 10#32
  let v21 : BitVec 1 := Scalar.cmpi .eq v2 c10_i32
  let c10_i32_7 : BitVec 32 := 10#32
  let c9_i32_6 : BitVec 32 := 9#32
  let v19 : BitVec 1 := Scalar.cmpi .eq v2 c9_i32_6
  let c13_i32 : BitVec 32 := 13#32
  let c8_i32_4 : BitVec 32 := 8#32
  let v17 : BitVec 1 := Scalar.cmpi .eq v2 c8_i32_4
  let c2_i32_5 : BitVec 32 := 2#32
  let c7_i32_2 : BitVec 32 := 7#32
  let v15 : BitVec 1 := Scalar.cmpi .eq v2 c7_i32_2
  let c6_i32_3 : BitVec 32 := 6#32
  let c6_i32 : BitVec 32 := 6#32
  let v13 : BitVec 1 := Scalar.cmpi .eq v2 c6_i32
  let c9_i32 : BitVec 32 := 9#32
  let c5_i32 : BitVec 32 := 5#32
  let v11 : BitVec 1 := Scalar.cmpi .eq v2 c5_i32
  let c14_i32 : BitVec 32 := 14#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c7_i32 : BitVec 32 := 7#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c15_i32 : BitVec 32 := 15#32
  let c0_i32 : BitVec 32 := 0#32
  let v4 : BitVec 32 := Scalar.select v3 c15_i32 c0_i32
  let v6 : BitVec 32 := Scalar.select v5 c8_i32 v4
  let v8 : BitVec 32 := Scalar.select v7 c7_i32 v6
  let v10 : BitVec 32 := Scalar.select v9 c1_i32_1 v8
  let v12 : BitVec 32 := Scalar.select v11 c14_i32 v10
  let v14 : BitVec 32 := Scalar.select v13 c9_i32 v12
  let v16 : BitVec 32 := Scalar.select v15 c6_i32_3 v14
  let v18 : BitVec 32 := Scalar.select v17 c2_i32_5 v16
  let v20 : BitVec 32 := Scalar.select v19 c13_i32 v18
  let v22 : BitVec 32 := Scalar.select v21 c10_i32_7 v20
  let v24 : BitVec 32 := Scalar.select v23 c5_i32_8 v22
  let v26 : BitVec 32 := Scalar.select v25 c3_i32_9 v24
  let v28 : BitVec 32 := Scalar.select v27 c12_i32_11 v26
  let v30 : BitVec 32 := Scalar.select v29 c11_i32_13 v28
  let v32 : BitVec 32 := Scalar.select v31 c4_i32_15 v30
  let c16_i32_49 : BitVec 32 := 16#32
  let v65 : BitVec 32 := Scalar.addi v32 c16_i32_49
  let c1_i32_50 : BitVec 32 := 1#32
  let v66 : BitVec 32 := Scalar.subi v65 c1_i32_50
  let c16_i32_51 : BitVec 32 := 16#32
  let v67 : BitVec 32 := Scalar.remsi v66 c16_i32_51
  let c15_i32_81 : BitVec 32 := 15#32
  let v96 : BitVec 1 := Scalar.cmpi .eq v67 c15_i32_81
  let c1_i32_82 : BitVec 32 := 1#32
  let c14_i32_79 : BitVec 32 := 14#32
  let v94 : BitVec 1 := Scalar.cmpi .eq v67 c14_i32_79
  let c5_i32_80 : BitVec 32 := 5#32
  let c13_i32_77 : BitVec 32 := 13#32
  let v92 : BitVec 1 := Scalar.cmpi .eq v67 c13_i32_77
  let c9_i32_78 : BitVec 32 := 9#32
  let c12_i32_75 : BitVec 32 := 12#32
  let v90 : BitVec 1 := Scalar.cmpi .eq v67 c12_i32_75
  let c13_i32_76 : BitVec 32 := 13#32
  let c11_i32_73 : BitVec 32 := 11#32
  let v88 : BitVec 1 := Scalar.cmpi .eq v67 c11_i32_73
  let c14_i32_74 : BitVec 32 := 14#32
  let c10_i32_71 : BitVec 32 := 10#32
  let v86 : BitVec 1 := Scalar.cmpi .eq v67 c10_i32_71
  let c10_i32_72 : BitVec 32 := 10#32
  let c9_i32_69 : BitVec 32 := 9#32
  let v84 : BitVec 1 := Scalar.cmpi .eq v67 c9_i32_69
  let c6_i32_70 : BitVec 32 := 6#32
  let c8_i32_67 : BitVec 32 := 8#32
  let v82 : BitVec 1 := Scalar.cmpi .eq v67 c8_i32_67
  let c2_i32_68 : BitVec 32 := 2#32
  let c7_i32_65 : BitVec 32 := 7#32
  let v80 : BitVec 1 := Scalar.cmpi .eq v67 c7_i32_65
  let c3_i32_66 : BitVec 32 := 3#32
  let c6_i32_63 : BitVec 32 := 6#32
  let v78 : BitVec 1 := Scalar.cmpi .eq v67 c6_i32_63
  let c7_i32_64 : BitVec 32 := 7#32
  let c5_i32_61 : BitVec 32 := 5#32
  let v76 : BitVec 1 := Scalar.cmpi .eq v67 c5_i32_61
  let c11_i32_62 : BitVec 32 := 11#32
  let c4_i32_59 : BitVec 32 := 4#32
  let v74 : BitVec 1 := Scalar.cmpi .eq v67 c4_i32_59
  let c15_i32_60 : BitVec 32 := 15#32
  let c3_i32_57 : BitVec 32 := 3#32
  let v72 : BitVec 1 := Scalar.cmpi .eq v67 c3_i32_57
  let c12_i32_58 : BitVec 32 := 12#32
  let c2_i32_55 : BitVec 32 := 2#32
  let v70 : BitVec 1 := Scalar.cmpi .eq v67 c2_i32_55
  let c8_i32_56 : BitVec 32 := 8#32
  let c1_i32_52 : BitVec 32 := 1#32
  let v68 : BitVec 1 := Scalar.cmpi .eq v67 c1_i32_52
  let c4_i32_53 : BitVec 32 := 4#32
  let c0_i32_54 : BitVec 32 := 0#32
  let v69 : BitVec 32 := Scalar.select v68 c4_i32_53 c0_i32_54
  let v71 : BitVec 32 := Scalar.select v70 c8_i32_56 v69
  let v73 : BitVec 32 := Scalar.select v72 c12_i32_58 v71
  let v75 : BitVec 32 := Scalar.select v74 c15_i32_60 v73
  let v77 : BitVec 32 := Scalar.select v76 c11_i32_62 v75
  let v79 : BitVec 32 := Scalar.select v78 c7_i32_64 v77
  let v81 : BitVec 32 := Scalar.select v80 c3_i32_66 v79
  let v83 : BitVec 32 := Scalar.select v82 c2_i32_68 v81
  let v85 : BitVec 32 := Scalar.select v84 c6_i32_70 v83
  let v87 : BitVec 32 := Scalar.select v86 c10_i32_72 v85
  let v89 : BitVec 32 := Scalar.select v88 c14_i32_74 v87
  let v91 : BitVec 32 := Scalar.select v90 c13_i32_76 v89
  let v93 : BitVec 32 := Scalar.select v92 c9_i32_78 v91
  let v95 : BitVec 32 := Scalar.select v94 c5_i32_80 v93
  let v97 : BitVec 32 := Scalar.select v96 c1_i32_82 v95
  let c1_i32_1814 : BitVec 32 := 1#32
  let v1622 : BitVec 32 := Scalar.muli v97 c1_i32_1814
  let v1623 : BitVec 32 := Scalar.addi c0_i32_1815 v1622
  v1623.toNat
def k0_dev34 (d0 : Dev nD) : Nat :=
  let c0_i32_1856 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c4_i32_15 : BitVec 32 := 4#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c12_i32_11 : BitVec 32 := 12#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c5_i32_8 : BitVec 32 := 5#32
  let c10_i32 : BitVec 32 := 10#32
  let v21 : BitVec 1 := Scalar.cmpi .eq v2 c10_i32
  let c10_i32_7 : BitVec 32 := 10#32
  let c9_i32_6 : BitVec 32 := 9#32
  let v19 : BitVec 1 := Scalar.cmpi .eq v2 c9_i32_6
  let c13_i32 : BitVec 32 := 13#32
  let c8_i32_4 : BitVec 32 := 8#32
  let v17 : BitVec 1 := Scalar.cmpi .eq v2 c8_i32_4
  let c2_i32_5 : BitVec 32 := 2#32
  let c7_i32_2 : BitVec 32 := 7#32
  let v15 : BitVec 1 := Scalar.cmpi .eq v2 c7_i32_2
  let c6_i32_3 : BitVec 32 := 6#32
  let c6_i32 : BitVec 32 := 6#32
  let v13 : BitVec 1 := Scalar.cmpi .eq v2 c6_i32
  let c9_i32 : BitVec 32 := 9#32
  let c5_i32 : BitVec 32 := 5#32
  let v11 : BitVec 1 := Scalar.cmpi .eq v2 c5_i32
  let c14_i32 : BitVec 32 := 14#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c7_i32 : BitVec 32 := 7#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c15_i32 : BitVec 32 := 15#32
  let c0_i32 : BitVec 32 := 0#32
  let v4 : BitVec 32 := Scalar.select v3 c15_i32 c0_i32
  let v6 : BitVec 32 := Scalar.select v5 c8_i32 v4
  let v8 : BitVec 32 := Scalar.select v7 c7_i32 v6
  let v10 : BitVec 32 := Scalar.select v9 c1_i32_1 v8
  let v12 : BitVec 32 := Scalar.select v11 c14_i32 v10
  let v14 : BitVec 32 := Scalar.select v13 c9_i32 v12
  let v16 : BitVec 32 := Scalar.select v15 c6_i32_3 v14
  let v18 : BitVec 32 := Scalar.select v17 c2_i32_5 v16
  let v20 : BitVec 32 := Scalar.select v19 c13_i32 v18
  let v22 : BitVec 32 := Scalar.select v21 c10_i32_7 v20
  let v24 : BitVec 32 := Scalar.select v23 c5_i32_8 v22
  let v26 : BitVec 32 := Scalar.select v25 c3_i32_9 v24
  let v28 : BitVec 32 := Scalar.select v27 c12_i32_11 v26
  let v30 : BitVec 32 := Scalar.select v29 c11_i32_13 v28
  let v32 : BitVec 32 := Scalar.select v31 c4_i32_15 v30
  let c16_i32_49 : BitVec 32 := 16#32
  let v65 : BitVec 32 := Scalar.addi v32 c16_i32_49
  let c1_i32_50 : BitVec 32 := 1#32
  let v66 : BitVec 32 := Scalar.subi v65 c1_i32_50
  let c16_i32_51 : BitVec 32 := 16#32
  let v67 : BitVec 32 := Scalar.remsi v66 c16_i32_51
  let c15_i32_81 : BitVec 32 := 15#32
  let v96 : BitVec 1 := Scalar.cmpi .eq v67 c15_i32_81
  let c1_i32_82 : BitVec 32 := 1#32
  let c14_i32_79 : BitVec 32 := 14#32
  let v94 : BitVec 1 := Scalar.cmpi .eq v67 c14_i32_79
  let c5_i32_80 : BitVec 32 := 5#32
  let c13_i32_77 : BitVec 32 := 13#32
  let v92 : BitVec 1 := Scalar.cmpi .eq v67 c13_i32_77
  let c9_i32_78 : BitVec 32 := 9#32
  let c12_i32_75 : BitVec 32 := 12#32
  let v90 : BitVec 1 := Scalar.cmpi .eq v67 c12_i32_75
  let c13_i32_76 : BitVec 32 := 13#32
  let c11_i32_73 : BitVec 32 := 11#32
  let v88 : BitVec 1 := Scalar.cmpi .eq v67 c11_i32_73
  let c14_i32_74 : BitVec 32 := 14#32
  let c10_i32_71 : BitVec 32 := 10#32
  let v86 : BitVec 1 := Scalar.cmpi .eq v67 c10_i32_71
  let c10_i32_72 : BitVec 32 := 10#32
  let c9_i32_69 : BitVec 32 := 9#32
  let v84 : BitVec 1 := Scalar.cmpi .eq v67 c9_i32_69
  let c6_i32_70 : BitVec 32 := 6#32
  let c8_i32_67 : BitVec 32 := 8#32
  let v82 : BitVec 1 := Scalar.cmpi .eq v67 c8_i32_67
  let c2_i32_68 : BitVec 32 := 2#32
  let c7_i32_65 : BitVec 32 := 7#32
  let v80 : BitVec 1 := Scalar.cmpi .eq v67 c7_i32_65
  let c3_i32_66 : BitVec 32 := 3#32
  let c6_i32_63 : BitVec 32 := 6#32
  let v78 : BitVec 1 := Scalar.cmpi .eq v67 c6_i32_63
  let c7_i32_64 : BitVec 32 := 7#32
  let c5_i32_61 : BitVec 32 := 5#32
  let v76 : BitVec 1 := Scalar.cmpi .eq v67 c5_i32_61
  let c11_i32_62 : BitVec 32 := 11#32
  let c4_i32_59 : BitVec 32 := 4#32
  let v74 : BitVec 1 := Scalar.cmpi .eq v67 c4_i32_59
  let c15_i32_60 : BitVec 32 := 15#32
  let c3_i32_57 : BitVec 32 := 3#32
  let v72 : BitVec 1 := Scalar.cmpi .eq v67 c3_i32_57
  let c12_i32_58 : BitVec 32 := 12#32
  let c2_i32_55 : BitVec 32 := 2#32
  let v70 : BitVec 1 := Scalar.cmpi .eq v67 c2_i32_55
  let c8_i32_56 : BitVec 32 := 8#32
  let c1_i32_52 : BitVec 32 := 1#32
  let v68 : BitVec 1 := Scalar.cmpi .eq v67 c1_i32_52
  let c4_i32_53 : BitVec 32 := 4#32
  let c0_i32_54 : BitVec 32 := 0#32
  let v69 : BitVec 32 := Scalar.select v68 c4_i32_53 c0_i32_54
  let v71 : BitVec 32 := Scalar.select v70 c8_i32_56 v69
  let v73 : BitVec 32 := Scalar.select v72 c12_i32_58 v71
  let v75 : BitVec 32 := Scalar.select v74 c15_i32_60 v73
  let v77 : BitVec 32 := Scalar.select v76 c11_i32_62 v75
  let v79 : BitVec 32 := Scalar.select v78 c7_i32_64 v77
  let v81 : BitVec 32 := Scalar.select v80 c3_i32_66 v79
  let v83 : BitVec 32 := Scalar.select v82 c2_i32_68 v81
  let v85 : BitVec 32 := Scalar.select v84 c6_i32_70 v83
  let v87 : BitVec 32 := Scalar.select v86 c10_i32_72 v85
  let v89 : BitVec 32 := Scalar.select v88 c14_i32_74 v87
  let v91 : BitVec 32 := Scalar.select v90 c13_i32_76 v89
  let v93 : BitVec 32 := Scalar.select v92 c9_i32_78 v91
  let v95 : BitVec 32 := Scalar.select v94 c5_i32_80 v93
  let v97 : BitVec 32 := Scalar.select v96 c1_i32_82 v95
  let c1_i32_1855 : BitVec 32 := 1#32
  let v1655 : BitVec 32 := Scalar.muli v97 c1_i32_1855
  let v1656 : BitVec 32 := Scalar.addi c0_i32_1856 v1655
  v1656.toNat
def k0_dev35 (d0 : Dev nD) : Nat :=
  let c0_i32_1975 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c4_i32_15 : BitVec 32 := 4#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c12_i32_11 : BitVec 32 := 12#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c5_i32_8 : BitVec 32 := 5#32
  let c10_i32 : BitVec 32 := 10#32
  let v21 : BitVec 1 := Scalar.cmpi .eq v2 c10_i32
  let c10_i32_7 : BitVec 32 := 10#32
  let c9_i32_6 : BitVec 32 := 9#32
  let v19 : BitVec 1 := Scalar.cmpi .eq v2 c9_i32_6
  let c13_i32 : BitVec 32 := 13#32
  let c8_i32_4 : BitVec 32 := 8#32
  let v17 : BitVec 1 := Scalar.cmpi .eq v2 c8_i32_4
  let c2_i32_5 : BitVec 32 := 2#32
  let c7_i32_2 : BitVec 32 := 7#32
  let v15 : BitVec 1 := Scalar.cmpi .eq v2 c7_i32_2
  let c6_i32_3 : BitVec 32 := 6#32
  let c6_i32 : BitVec 32 := 6#32
  let v13 : BitVec 1 := Scalar.cmpi .eq v2 c6_i32
  let c9_i32 : BitVec 32 := 9#32
  let c5_i32 : BitVec 32 := 5#32
  let v11 : BitVec 1 := Scalar.cmpi .eq v2 c5_i32
  let c14_i32 : BitVec 32 := 14#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c7_i32 : BitVec 32 := 7#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c15_i32 : BitVec 32 := 15#32
  let c0_i32 : BitVec 32 := 0#32
  let v4 : BitVec 32 := Scalar.select v3 c15_i32 c0_i32
  let v6 : BitVec 32 := Scalar.select v5 c8_i32 v4
  let v8 : BitVec 32 := Scalar.select v7 c7_i32 v6
  let v10 : BitVec 32 := Scalar.select v9 c1_i32_1 v8
  let v12 : BitVec 32 := Scalar.select v11 c14_i32 v10
  let v14 : BitVec 32 := Scalar.select v13 c9_i32 v12
  let v16 : BitVec 32 := Scalar.select v15 c6_i32_3 v14
  let v18 : BitVec 32 := Scalar.select v17 c2_i32_5 v16
  let v20 : BitVec 32 := Scalar.select v19 c13_i32 v18
  let v22 : BitVec 32 := Scalar.select v21 c10_i32_7 v20
  let v24 : BitVec 32 := Scalar.select v23 c5_i32_8 v22
  let v26 : BitVec 32 := Scalar.select v25 c3_i32_9 v24
  let v28 : BitVec 32 := Scalar.select v27 c12_i32_11 v26
  let v30 : BitVec 32 := Scalar.select v29 c11_i32_13 v28
  let v32 : BitVec 32 := Scalar.select v31 c4_i32_15 v30
  let c1_i32_16 : BitVec 32 := 1#32
  let v33 : BitVec 32 := Scalar.addi v32 c1_i32_16
  let c16_i32_17 : BitVec 32 := 16#32
  let v34 : BitVec 32 := Scalar.remsi v33 c16_i32_17
  let c15_i32_47 : BitVec 32 := 15#32
  let v63 : BitVec 1 := Scalar.cmpi .eq v34 c15_i32_47
  let c1_i32_48 : BitVec 32 := 1#32
  let c14_i32_45 : BitVec 32 := 14#32
  let v61 : BitVec 1 := Scalar.cmpi .eq v34 c14_i32_45
  let c5_i32_46 : BitVec 32 := 5#32
  let c13_i32_43 : BitVec 32 := 13#32
  let v59 : BitVec 1 := Scalar.cmpi .eq v34 c13_i32_43
  let c9_i32_44 : BitVec 32 := 9#32
  let c12_i32_41 : BitVec 32 := 12#32
  let v57 : BitVec 1 := Scalar.cmpi .eq v34 c12_i32_41
  let c13_i32_42 : BitVec 32 := 13#32
  let c11_i32_39 : BitVec 32 := 11#32
  let v55 : BitVec 1 := Scalar.cmpi .eq v34 c11_i32_39
  let c14_i32_40 : BitVec 32 := 14#32
  let c10_i32_37 : BitVec 32 := 10#32
  let v53 : BitVec 1 := Scalar.cmpi .eq v34 c10_i32_37
  let c10_i32_38 : BitVec 32 := 10#32
  let c9_i32_35 : BitVec 32 := 9#32
  let v51 : BitVec 1 := Scalar.cmpi .eq v34 c9_i32_35
  let c6_i32_36 : BitVec 32 := 6#32
  let c8_i32_33 : BitVec 32 := 8#32
  let v49 : BitVec 1 := Scalar.cmpi .eq v34 c8_i32_33
  let c2_i32_34 : BitVec 32 := 2#32
  let c7_i32_31 : BitVec 32 := 7#32
  let v47 : BitVec 1 := Scalar.cmpi .eq v34 c7_i32_31
  let c3_i32_32 : BitVec 32 := 3#32
  let c6_i32_29 : BitVec 32 := 6#32
  let v45 : BitVec 1 := Scalar.cmpi .eq v34 c6_i32_29
  let c7_i32_30 : BitVec 32 := 7#32
  let c5_i32_27 : BitVec 32 := 5#32
  let v43 : BitVec 1 := Scalar.cmpi .eq v34 c5_i32_27
  let c11_i32_28 : BitVec 32 := 11#32
  let c4_i32_25 : BitVec 32 := 4#32
  let v41 : BitVec 1 := Scalar.cmpi .eq v34 c4_i32_25
  let c15_i32_26 : BitVec 32 := 15#32
  let c3_i32_23 : BitVec 32 := 3#32
  let v39 : BitVec 1 := Scalar.cmpi .eq v34 c3_i32_23
  let c12_i32_24 : BitVec 32 := 12#32
  let c2_i32_21 : BitVec 32 := 2#32
  let v37 : BitVec 1 := Scalar.cmpi .eq v34 c2_i32_21
  let c8_i32_22 : BitVec 32 := 8#32
  let c1_i32_18 : BitVec 32 := 1#32
  let v35 : BitVec 1 := Scalar.cmpi .eq v34 c1_i32_18
  let c4_i32_19 : BitVec 32 := 4#32
  let c0_i32_20 : BitVec 32 := 0#32
  let v36 : BitVec 32 := Scalar.select v35 c4_i32_19 c0_i32_20
  let v38 : BitVec 32 := Scalar.select v37 c8_i32_22 v36
  let v40 : BitVec 32 := Scalar.select v39 c12_i32_24 v38
  let v42 : BitVec 32 := Scalar.select v41 c15_i32_26 v40
  let v44 : BitVec 32 := Scalar.select v43 c11_i32_28 v42
  let v46 : BitVec 32 := Scalar.select v45 c7_i32_30 v44
  let v48 : BitVec 32 := Scalar.select v47 c3_i32_32 v46
  let v50 : BitVec 32 := Scalar.select v49 c2_i32_34 v48
  let v52 : BitVec 32 := Scalar.select v51 c6_i32_36 v50
  let v54 : BitVec 32 := Scalar.select v53 c10_i32_38 v52
  let v56 : BitVec 32 := Scalar.select v55 c14_i32_40 v54
  let v58 : BitVec 32 := Scalar.select v57 c13_i32_42 v56
  let v60 : BitVec 32 := Scalar.select v59 c9_i32_44 v58
  let v62 : BitVec 32 := Scalar.select v61 c5_i32_46 v60
  let v64 : BitVec 32 := Scalar.select v63 c1_i32_48 v62
  let c1_i32_1974 : BitVec 32 := 1#32
  let v1767 : BitVec 32 := Scalar.muli v64 c1_i32_1974
  let v1768 : BitVec 32 := Scalar.addi c0_i32_1975 v1767
  v1768.toNat
def k0_dev36 (d0 : Dev nD) : Nat :=
  let c0_i32_2016 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c4_i32_15 : BitVec 32 := 4#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c12_i32_11 : BitVec 32 := 12#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c5_i32_8 : BitVec 32 := 5#32
  let c10_i32 : BitVec 32 := 10#32
  let v21 : BitVec 1 := Scalar.cmpi .eq v2 c10_i32
  let c10_i32_7 : BitVec 32 := 10#32
  let c9_i32_6 : BitVec 32 := 9#32
  let v19 : BitVec 1 := Scalar.cmpi .eq v2 c9_i32_6
  let c13_i32 : BitVec 32 := 13#32
  let c8_i32_4 : BitVec 32 := 8#32
  let v17 : BitVec 1 := Scalar.cmpi .eq v2 c8_i32_4
  let c2_i32_5 : BitVec 32 := 2#32
  let c7_i32_2 : BitVec 32 := 7#32
  let v15 : BitVec 1 := Scalar.cmpi .eq v2 c7_i32_2
  let c6_i32_3 : BitVec 32 := 6#32
  let c6_i32 : BitVec 32 := 6#32
  let v13 : BitVec 1 := Scalar.cmpi .eq v2 c6_i32
  let c9_i32 : BitVec 32 := 9#32
  let c5_i32 : BitVec 32 := 5#32
  let v11 : BitVec 1 := Scalar.cmpi .eq v2 c5_i32
  let c14_i32 : BitVec 32 := 14#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c7_i32 : BitVec 32 := 7#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c15_i32 : BitVec 32 := 15#32
  let c0_i32 : BitVec 32 := 0#32
  let v4 : BitVec 32 := Scalar.select v3 c15_i32 c0_i32
  let v6 : BitVec 32 := Scalar.select v5 c8_i32 v4
  let v8 : BitVec 32 := Scalar.select v7 c7_i32 v6
  let v10 : BitVec 32 := Scalar.select v9 c1_i32_1 v8
  let v12 : BitVec 32 := Scalar.select v11 c14_i32 v10
  let v14 : BitVec 32 := Scalar.select v13 c9_i32 v12
  let v16 : BitVec 32 := Scalar.select v15 c6_i32_3 v14
  let v18 : BitVec 32 := Scalar.select v17 c2_i32_5 v16
  let v20 : BitVec 32 := Scalar.select v19 c13_i32 v18
  let v22 : BitVec 32 := Scalar.select v21 c10_i32_7 v20
  let v24 : BitVec 32 := Scalar.select v23 c5_i32_8 v22
  let v26 : BitVec 32 := Scalar.select v25 c3_i32_9 v24
  let v28 : BitVec 32 := Scalar.select v27 c12_i32_11 v26
  let v30 : BitVec 32 := Scalar.select v29 c11_i32_13 v28
  let v32 : BitVec 32 := Scalar.select v31 c4_i32_15 v30
  let c1_i32_16 : BitVec 32 := 1#32
  let v33 : BitVec 32 := Scalar.addi v32 c1_i32_16
  let c16_i32_17 : BitVec 32 := 16#32
  let v34 : BitVec 32 := Scalar.remsi v33 c16_i32_17
  let c15_i32_47 : BitVec 32 := 15#32
  let v63 : BitVec 1 := Scalar.cmpi .eq v34 c15_i32_47
  let c1_i32_48 : BitVec 32 := 1#32
  let c14_i32_45 : BitVec 32 := 14#32
  let v61 : BitVec 1 := Scalar.cmpi .eq v34 c14_i32_45
  let c5_i32_46 : BitVec 32 := 5#32
  let c13_i32_43 : BitVec 32 := 13#32
  let v59 : BitVec 1 := Scalar.cmpi .eq v34 c13_i32_43
  let c9_i32_44 : BitVec 32 := 9#32
  let c12_i32_41 : BitVec 32 := 12#32
  let v57 : BitVec 1 := Scalar.cmpi .eq v34 c12_i32_41
  let c13_i32_42 : BitVec 32 := 13#32
  let c11_i32_39 : BitVec 32 := 11#32
  let v55 : BitVec 1 := Scalar.cmpi .eq v34 c11_i32_39
  let c14_i32_40 : BitVec 32 := 14#32
  let c10_i32_37 : BitVec 32 := 10#32
  let v53 : BitVec 1 := Scalar.cmpi .eq v34 c10_i32_37
  let c10_i32_38 : BitVec 32 := 10#32
  let c9_i32_35 : BitVec 32 := 9#32
  let v51 : BitVec 1 := Scalar.cmpi .eq v34 c9_i32_35
  let c6_i32_36 : BitVec 32 := 6#32
  let c8_i32_33 : BitVec 32 := 8#32
  let v49 : BitVec 1 := Scalar.cmpi .eq v34 c8_i32_33
  let c2_i32_34 : BitVec 32 := 2#32
  let c7_i32_31 : BitVec 32 := 7#32
  let v47 : BitVec 1 := Scalar.cmpi .eq v34 c7_i32_31
  let c3_i32_32 : BitVec 32 := 3#32
  let c6_i32_29 : BitVec 32 := 6#32
  let v45 : BitVec 1 := Scalar.cmpi .eq v34 c6_i32_29
  let c7_i32_30 : BitVec 32 := 7#32
  let c5_i32_27 : BitVec 32 := 5#32
  let v43 : BitVec 1 := Scalar.cmpi .eq v34 c5_i32_27
  let c11_i32_28 : BitVec 32 := 11#32
  let c4_i32_25 : BitVec 32 := 4#32
  let v41 : BitVec 1 := Scalar.cmpi .eq v34 c4_i32_25
  let c15_i32_26 : BitVec 32 := 15#32
  let c3_i32_23 : BitVec 32 := 3#32
  let v39 : BitVec 1 := Scalar.cmpi .eq v34 c3_i32_23
  let c12_i32_24 : BitVec 32 := 12#32
  let c2_i32_21 : BitVec 32 := 2#32
  let v37 : BitVec 1 := Scalar.cmpi .eq v34 c2_i32_21
  let c8_i32_22 : BitVec 32 := 8#32
  let c1_i32_18 : BitVec 32 := 1#32
  let v35 : BitVec 1 := Scalar.cmpi .eq v34 c1_i32_18
  let c4_i32_19 : BitVec 32 := 4#32
  let c0_i32_20 : BitVec 32 := 0#32
  let v36 : BitVec 32 := Scalar.select v35 c4_i32_19 c0_i32_20
  let v38 : BitVec 32 := Scalar.select v37 c8_i32_22 v36
  let v40 : BitVec 32 := Scalar.select v39 c12_i32_24 v38
  let v42 : BitVec 32 := Scalar.select v41 c15_i32_26 v40
  let v44 : BitVec 32 := Scalar.select v43 c11_i32_28 v42
  let v46 : BitVec 32 := Scalar.select v45 c7_i32_30 v44
  let v48 : BitVec 32 := Scalar.select v47 c3_i32_32 v46
  let v50 : BitVec 32 := Scalar.select v49 c2_i32_34 v48
  let v52 : BitVec 32 := Scalar.select v51 c6_i32_36 v50
  let v54 : BitVec 32 := Scalar.select v53 c10_i32_38 v52
  let v56 : BitVec 32 := Scalar.select v55 c14_i32_40 v54
  let v58 : BitVec 32 := Scalar.select v57 c13_i32_42 v56
  let v60 : BitVec 32 := Scalar.select v59 c9_i32_44 v58
  let v62 : BitVec 32 := Scalar.select v61 c5_i32_46 v60
  let v64 : BitVec 32 := Scalar.select v63 c1_i32_48 v62
  let c1_i32_2015 : BitVec 32 := 1#32
  let v1800 : BitVec 32 := Scalar.muli v64 c1_i32_2015
  let v1801 : BitVec 32 := Scalar.addi c0_i32_2016 v1800
  v1801.toNat
def k0_dev37 (d0 : Dev nD) : Nat :=
  let c0_i32_2057 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c4_i32_15 : BitVec 32 := 4#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c12_i32_11 : BitVec 32 := 12#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c5_i32_8 : BitVec 32 := 5#32
  let c10_i32 : BitVec 32 := 10#32
  let v21 : BitVec 1 := Scalar.cmpi .eq v2 c10_i32
  let c10_i32_7 : BitVec 32 := 10#32
  let c9_i32_6 : BitVec 32 := 9#32
  let v19 : BitVec 1 := Scalar.cmpi .eq v2 c9_i32_6
  let c13_i32 : BitVec 32 := 13#32
  let c8_i32_4 : BitVec 32 := 8#32
  let v17 : BitVec 1 := Scalar.cmpi .eq v2 c8_i32_4
  let c2_i32_5 : BitVec 32 := 2#32
  let c7_i32_2 : BitVec 32 := 7#32
  let v15 : BitVec 1 := Scalar.cmpi .eq v2 c7_i32_2
  let c6_i32_3 : BitVec 32 := 6#32
  let c6_i32 : BitVec 32 := 6#32
  let v13 : BitVec 1 := Scalar.cmpi .eq v2 c6_i32
  let c9_i32 : BitVec 32 := 9#32
  let c5_i32 : BitVec 32 := 5#32
  let v11 : BitVec 1 := Scalar.cmpi .eq v2 c5_i32
  let c14_i32 : BitVec 32 := 14#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c7_i32 : BitVec 32 := 7#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c15_i32 : BitVec 32 := 15#32
  let c0_i32 : BitVec 32 := 0#32
  let v4 : BitVec 32 := Scalar.select v3 c15_i32 c0_i32
  let v6 : BitVec 32 := Scalar.select v5 c8_i32 v4
  let v8 : BitVec 32 := Scalar.select v7 c7_i32 v6
  let v10 : BitVec 32 := Scalar.select v9 c1_i32_1 v8
  let v12 : BitVec 32 := Scalar.select v11 c14_i32 v10
  let v14 : BitVec 32 := Scalar.select v13 c9_i32 v12
  let v16 : BitVec 32 := Scalar.select v15 c6_i32_3 v14
  let v18 : BitVec 32 := Scalar.select v17 c2_i32_5 v16
  let v20 : BitVec 32 := Scalar.select v19 c13_i32 v18
  let v22 : BitVec 32 := Scalar.select v21 c10_i32_7 v20
  let v24 : BitVec 32 := Scalar.select v23 c5_i32_8 v22
  let v26 : BitVec 32 := Scalar.select v25 c3_i32_9 v24
  let v28 : BitVec 32 := Scalar.select v27 c12_i32_11 v26
  let v30 : BitVec 32 := Scalar.select v29 c11_i32_13 v28
  let v32 : BitVec 32 := Scalar.select v31 c4_i32_15 v30
  let c16_i32_49 : BitVec 32 := 16#32
  let v65 : BitVec 32 := Scalar.addi v32 c16_i32_49
  let c1_i32_50 : BitVec 32 := 1#32
  let v66 : BitVec 32 := Scalar.subi v65 c1_i32_50
  let c16_i32_51 : BitVec 32 := 16#32
  let v67 : BitVec 32 := Scalar.remsi v66 c16_i32_51
  let c15_i32_81 : BitVec 32 := 15#32
  let v96 : BitVec 1 := Scalar.cmpi .eq v67 c15_i32_81
  let c1_i32_82 : BitVec 32 := 1#32
  let c14_i32_79 : BitVec 32 := 14#32
  let v94 : BitVec 1 := Scalar.cmpi .eq v67 c14_i32_79
  let c5_i32_80 : BitVec 32 := 5#32
  let c13_i32_77 : BitVec 32 := 13#32
  let v92 : BitVec 1 := Scalar.cmpi .eq v67 c13_i32_77
  let c9_i32_78 : BitVec 32 := 9#32
  let c12_i32_75 : BitVec 32 := 12#32
  let v90 : BitVec 1 := Scalar.cmpi .eq v67 c12_i32_75
  let c13_i32_76 : BitVec 32 := 13#32
  let c11_i32_73 : BitVec 32 := 11#32
  let v88 : BitVec 1 := Scalar.cmpi .eq v67 c11_i32_73
  let c14_i32_74 : BitVec 32 := 14#32
  let c10_i32_71 : BitVec 32 := 10#32
  let v86 : BitVec 1 := Scalar.cmpi .eq v67 c10_i32_71
  let c10_i32_72 : BitVec 32 := 10#32
  let c9_i32_69 : BitVec 32 := 9#32
  let v84 : BitVec 1 := Scalar.cmpi .eq v67 c9_i32_69
  let c6_i32_70 : BitVec 32 := 6#32
  let c8_i32_67 : BitVec 32 := 8#32
  let v82 : BitVec 1 := Scalar.cmpi .eq v67 c8_i32_67
  let c2_i32_68 : BitVec 32 := 2#32
  let c7_i32_65 : BitVec 32 := 7#32
  let v80 : BitVec 1 := Scalar.cmpi .eq v67 c7_i32_65
  let c3_i32_66 : BitVec 32 := 3#32
  let c6_i32_63 : BitVec 32 := 6#32
  let v78 : BitVec 1 := Scalar.cmpi .eq v67 c6_i32_63
  let c7_i32_64 : BitVec 32 := 7#32
  let c5_i32_61 : BitVec 32 := 5#32
  let v76 : BitVec 1 := Scalar.cmpi .eq v67 c5_i32_61
  let c11_i32_62 : BitVec 32 := 11#32
  let c4_i32_59 : BitVec 32 := 4#32
  let v74 : BitVec 1 := Scalar.cmpi .eq v67 c4_i32_59
  let c15_i32_60 : BitVec 32 := 15#32
  let c3_i32_57 : BitVec 32 := 3#32
  let v72 : BitVec 1 := Scalar.cmpi .eq v67 c3_i32_57
  let c12_i32_58 : BitVec 32 := 12#32
  let c2_i32_55 : BitVec 32 := 2#32
  let v70 : BitVec 1 := Scalar.cmpi .eq v67 c2_i32_55
  let c8_i32_56 : BitVec 32 := 8#32
  let c1_i32_52 : BitVec 32 := 1#32
  let v68 : BitVec 1 := Scalar.cmpi .eq v67 c1_i32_52
  let c4_i32_53 : BitVec 32 := 4#32
  let c0_i32_54 : BitVec 32 := 0#32
  let v69 : BitVec 32 := Scalar.select v68 c4_i32_53 c0_i32_54
  let v71 : BitVec 32 := Scalar.select v70 c8_i32_56 v69
  let v73 : BitVec 32 := Scalar.select v72 c12_i32_58 v71
  let v75 : BitVec 32 := Scalar.select v74 c15_i32_60 v73
  let v77 : BitVec 32 := Scalar.select v76 c11_i32_62 v75
  let v79 : BitVec 32 := Scalar.select v78 c7_i32_64 v77
  let v81 : BitVec 32 := Scalar.select v80 c3_i32_66 v79
  let v83 : BitVec 32 := Scalar.select v82 c2_i32_68 v81
  let v85 : BitVec 32 := Scalar.select v84 c6_i32_70 v83
  let v87 : BitVec 32 := Scalar.select v86 c10_i32_72 v85
  let v89 : BitVec 32 := Scalar.select v88 c14_i32_74 v87
  let v91 : BitVec 32 := Scalar.select v90 c13_i32_76 v89
  let v93 : BitVec 32 := Scalar.select v92 c9_i32_78 v91
  let v95 : BitVec 32 := Scalar.select v94 c5_i32_80 v93
  let v97 : BitVec 32 := Scalar.select v96 c1_i32_82 v95
  let c1_i32_2056 : BitVec 32 := 1#32
  let v1833 : BitVec 32 := Scalar.muli v97 c1_i32_2056
  let v1834 : BitVec 32 := Scalar.addi c0_i32_2057 v1833
  v1834.toNat
def k0_dev38 (d0 : Dev nD) : Nat :=
  let c0_i32_2098 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c4_i32_15 : BitVec 32 := 4#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c12_i32_11 : BitVec 32 := 12#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c5_i32_8 : BitVec 32 := 5#32
  let c10_i32 : BitVec 32 := 10#32
  let v21 : BitVec 1 := Scalar.cmpi .eq v2 c10_i32
  let c10_i32_7 : BitVec 32 := 10#32
  let c9_i32_6 : BitVec 32 := 9#32
  let v19 : BitVec 1 := Scalar.cmpi .eq v2 c9_i32_6
  let c13_i32 : BitVec 32 := 13#32
  let c8_i32_4 : BitVec 32 := 8#32
  let v17 : BitVec 1 := Scalar.cmpi .eq v2 c8_i32_4
  let c2_i32_5 : BitVec 32 := 2#32
  let c7_i32_2 : BitVec 32 := 7#32
  let v15 : BitVec 1 := Scalar.cmpi .eq v2 c7_i32_2
  let c6_i32_3 : BitVec 32 := 6#32
  let c6_i32 : BitVec 32 := 6#32
  let v13 : BitVec 1 := Scalar.cmpi .eq v2 c6_i32
  let c9_i32 : BitVec 32 := 9#32
  let c5_i32 : BitVec 32 := 5#32
  let v11 : BitVec 1 := Scalar.cmpi .eq v2 c5_i32
  let c14_i32 : BitVec 32 := 14#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c7_i32 : BitVec 32 := 7#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c15_i32 : BitVec 32 := 15#32
  let c0_i32 : BitVec 32 := 0#32
  let v4 : BitVec 32 := Scalar.select v3 c15_i32 c0_i32
  let v6 : BitVec 32 := Scalar.select v5 c8_i32 v4
  let v8 : BitVec 32 := Scalar.select v7 c7_i32 v6
  let v10 : BitVec 32 := Scalar.select v9 c1_i32_1 v8
  let v12 : BitVec 32 := Scalar.select v11 c14_i32 v10
  let v14 : BitVec 32 := Scalar.select v13 c9_i32 v12
  let v16 : BitVec 32 := Scalar.select v15 c6_i32_3 v14
  let v18 : BitVec 32 := Scalar.select v17 c2_i32_5 v16
  let v20 : BitVec 32 := Scalar.select v19 c13_i32 v18
  let v22 : BitVec 32 := Scalar.select v21 c10_i32_7 v20
  let v24 : BitVec 32 := Scalar.select v23 c5_i32_8 v22
  let v26 : BitVec 32 := Scalar.select v25 c3_i32_9 v24
  let v28 : BitVec 32 := Scalar.select v27 c12_i32_11 v26
  let v30 : BitVec 32 := Scalar.select v29 c11_i32_13 v28
  let v32 : BitVec 32 := Scalar.select v31 c4_i32_15 v30
  let c16_i32_49 : BitVec 32 := 16#32
  let v65 : BitVec 32 := Scalar.addi v32 c16_i32_49
  let c1_i32_50 : BitVec 32 := 1#32
  let v66 : BitVec 32 := Scalar.subi v65 c1_i32_50
  let c16_i32_51 : BitVec 32 := 16#32
  let v67 : BitVec 32 := Scalar.remsi v66 c16_i32_51
  let c15_i32_81 : BitVec 32 := 15#32
  let v96 : BitVec 1 := Scalar.cmpi .eq v67 c15_i32_81
  let c1_i32_82 : BitVec 32 := 1#32
  let c14_i32_79 : BitVec 32 := 14#32
  let v94 : BitVec 1 := Scalar.cmpi .eq v67 c14_i32_79
  let c5_i32_80 : BitVec 32 := 5#32
  let c13_i32_77 : BitVec 32 := 13#32
  let v92 : BitVec 1 := Scalar.cmpi .eq v67 c13_i32_77
  let c9_i32_78 : BitVec 32 := 9#32
  let c12_i32_75 : BitVec 32 := 12#32
  let v90 : BitVec 1 := Scalar.cmpi .eq v67 c12_i32_75
  let c13_i32_76 : BitVec 32 := 13#32
  let c11_i32_73 : BitVec 32 := 11#32
  let v88 : BitVec 1 := Scalar.cmpi .eq v67 c11_i32_73
  let c14_i32_74 : BitVec 32 := 14#32
  let c10_i32_71 : BitVec 32 := 10#32
  let v86 : BitVec 1 := Scalar.cmpi .eq v67 c10_i32_71
  let c10_i32_72 : BitVec 32 := 10#32
  let c9_i32_69 : BitVec 32 := 9#32
  let v84 : BitVec 1 := Scalar.cmpi .eq v67 c9_i32_69
  let c6_i32_70 : BitVec 32 := 6#32
  let c8_i32_67 : BitVec 32 := 8#32
  let v82 : BitVec 1 := Scalar.cmpi .eq v67 c8_i32_67
  let c2_i32_68 : BitVec 32 := 2#32
  let c7_i32_65 : BitVec 32 := 7#32
  let v80 : BitVec 1 := Scalar.cmpi .eq v67 c7_i32_65
  let c3_i32_66 : BitVec 32 := 3#32
  let c6_i32_63 : BitVec 32 := 6#32
  let v78 : BitVec 1 := Scalar.cmpi .eq v67 c6_i32_63
  let c7_i32_64 : BitVec 32 := 7#32
  let c5_i32_61 : BitVec 32 := 5#32
  let v76 : BitVec 1 := Scalar.cmpi .eq v67 c5_i32_61
  let c11_i32_62 : BitVec 32 := 11#32
  let c4_i32_59 : BitVec 32 := 4#32
  let v74 : BitVec 1 := Scalar.cmpi .eq v67 c4_i32_59
  let c15_i32_60 : BitVec 32 := 15#32
  let c3_i32_57 : BitVec 32 := 3#32
  let v72 : BitVec 1 := Scalar.cmpi .eq v67 c3_i32_57
  let c12_i32_58 : BitVec 32 := 12#32
  let c2_i32_55 : BitVec 32 := 2#32
  let v70 : BitVec 1 := Scalar.cmpi .eq v67 c2_i32_55
  let c8_i32_56 : BitVec 32 := 8#32
  let c1_i32_52 : BitVec 32 := 1#32
  let v68 : BitVec 1 := Scalar.cmpi .eq v67 c1_i32_52
  let c4_i32_53 : BitVec 32 := 4#32
  let c0_i32_54 : BitVec 32 := 0#32
  let v69 : BitVec 32 := Scalar.select v68 c4_i32_53 c0_i32_54
  let v71 : BitVec 32 := Scalar.select v70 c8_i32_56 v69
  let v73 : BitVec 32 := Scalar.select v72 c12_i32_58 v71
  let v75 : BitVec 32 := Scalar.select v74 c15_i32_60 v73
  let v77 : BitVec 32 := Scalar.select v76 c11_i32_62 v75
  let v79 : BitVec 32 := Scalar.select v78 c7_i32_64 v77
  let v81 : BitVec 32 := Scalar.select v80 c3_i32_66 v79
  let v83 : BitVec 32 := Scalar.select v82 c2_i32_68 v81
  let v85 : BitVec 32 := Scalar.select v84 c6_i32_70 v83
  let v87 : BitVec 32 := Scalar.select v86 c10_i32_72 v85
  let v89 : BitVec 32 := Scalar.select v88 c14_i32_74 v87
  let v91 : BitVec 32 := Scalar.select v90 c13_i32_76 v89
  let v93 : BitVec 32 := Scalar.select v92 c9_i32_78 v91
  let v95 : BitVec 32 := Scalar.select v94 c5_i32_80 v93
  let v97 : BitVec 32 := Scalar.select v96 c1_i32_82 v95
  let c1_i32_2097 : BitVec 32 := 1#32
  let v1866 : BitVec 32 := Scalar.muli v97 c1_i32_2097
  let v1867 : BitVec 32 := Scalar.addi c0_i32_2098 v1866
  v1867.toNat
def k0_dev39 (d0 : Dev nD) : Nat :=
  let c0_i32_2217 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c4_i32_15 : BitVec 32 := 4#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c12_i32_11 : BitVec 32 := 12#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c5_i32_8 : BitVec 32 := 5#32
  let c10_i32 : BitVec 32 := 10#32
  let v21 : BitVec 1 := Scalar.cmpi .eq v2 c10_i32
  let c10_i32_7 : BitVec 32 := 10#32
  let c9_i32_6 : BitVec 32 := 9#32
  let v19 : BitVec 1 := Scalar.cmpi .eq v2 c9_i32_6
  let c13_i32 : BitVec 32 := 13#32
  let c8_i32_4 : BitVec 32 := 8#32
  let v17 : BitVec 1 := Scalar.cmpi .eq v2 c8_i32_4
  let c2_i32_5 : BitVec 32 := 2#32
  let c7_i32_2 : BitVec 32 := 7#32
  let v15 : BitVec 1 := Scalar.cmpi .eq v2 c7_i32_2
  let c6_i32_3 : BitVec 32 := 6#32
  let c6_i32 : BitVec 32 := 6#32
  let v13 : BitVec 1 := Scalar.cmpi .eq v2 c6_i32
  let c9_i32 : BitVec 32 := 9#32
  let c5_i32 : BitVec 32 := 5#32
  let v11 : BitVec 1 := Scalar.cmpi .eq v2 c5_i32
  let c14_i32 : BitVec 32 := 14#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c7_i32 : BitVec 32 := 7#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c15_i32 : BitVec 32 := 15#32
  let c0_i32 : BitVec 32 := 0#32
  let v4 : BitVec 32 := Scalar.select v3 c15_i32 c0_i32
  let v6 : BitVec 32 := Scalar.select v5 c8_i32 v4
  let v8 : BitVec 32 := Scalar.select v7 c7_i32 v6
  let v10 : BitVec 32 := Scalar.select v9 c1_i32_1 v8
  let v12 : BitVec 32 := Scalar.select v11 c14_i32 v10
  let v14 : BitVec 32 := Scalar.select v13 c9_i32 v12
  let v16 : BitVec 32 := Scalar.select v15 c6_i32_3 v14
  let v18 : BitVec 32 := Scalar.select v17 c2_i32_5 v16
  let v20 : BitVec 32 := Scalar.select v19 c13_i32 v18
  let v22 : BitVec 32 := Scalar.select v21 c10_i32_7 v20
  let v24 : BitVec 32 := Scalar.select v23 c5_i32_8 v22
  let v26 : BitVec 32 := Scalar.select v25 c3_i32_9 v24
  let v28 : BitVec 32 := Scalar.select v27 c12_i32_11 v26
  let v30 : BitVec 32 := Scalar.select v29 c11_i32_13 v28
  let v32 : BitVec 32 := Scalar.select v31 c4_i32_15 v30
  let c1_i32_16 : BitVec 32 := 1#32
  let v33 : BitVec 32 := Scalar.addi v32 c1_i32_16
  let c16_i32_17 : BitVec 32 := 16#32
  let v34 : BitVec 32 := Scalar.remsi v33 c16_i32_17
  let c15_i32_47 : BitVec 32 := 15#32
  let v63 : BitVec 1 := Scalar.cmpi .eq v34 c15_i32_47
  let c1_i32_48 : BitVec 32 := 1#32
  let c14_i32_45 : BitVec 32 := 14#32
  let v61 : BitVec 1 := Scalar.cmpi .eq v34 c14_i32_45
  let c5_i32_46 : BitVec 32 := 5#32
  let c13_i32_43 : BitVec 32 := 13#32
  let v59 : BitVec 1 := Scalar.cmpi .eq v34 c13_i32_43
  let c9_i32_44 : BitVec 32 := 9#32
  let c12_i32_41 : BitVec 32 := 12#32
  let v57 : BitVec 1 := Scalar.cmpi .eq v34 c12_i32_41
  let c13_i32_42 : BitVec 32 := 13#32
  let c11_i32_39 : BitVec 32 := 11#32
  let v55 : BitVec 1 := Scalar.cmpi .eq v34 c11_i32_39
  let c14_i32_40 : BitVec 32 := 14#32
  let c10_i32_37 : BitVec 32 := 10#32
  let v53 : BitVec 1 := Scalar.cmpi .eq v34 c10_i32_37
  let c10_i32_38 : BitVec 32 := 10#32
  let c9_i32_35 : BitVec 32 := 9#32
  let v51 : BitVec 1 := Scalar.cmpi .eq v34 c9_i32_35
  let c6_i32_36 : BitVec 32 := 6#32
  let c8_i32_33 : BitVec 32 := 8#32
  let v49 : BitVec 1 := Scalar.cmpi .eq v34 c8_i32_33
  let c2_i32_34 : BitVec 32 := 2#32
  let c7_i32_31 : BitVec 32 := 7#32
  let v47 : BitVec 1 := Scalar.cmpi .eq v34 c7_i32_31
  let c3_i32_32 : BitVec 32 := 3#32
  let c6_i32_29 : BitVec 32 := 6#32
  let v45 : BitVec 1 := Scalar.cmpi .eq v34 c6_i32_29
  let c7_i32_30 : BitVec 32 := 7#32
  let c5_i32_27 : BitVec 32 := 5#32
  let v43 : BitVec 1 := Scalar.cmpi .eq v34 c5_i32_27
  let c11_i32_28 : BitVec 32 := 11#32
  let c4_i32_25 : BitVec 32 := 4#32
  let v41 : BitVec 1 := Scalar.cmpi .eq v34 c4_i32_25
  let c15_i32_26 : BitVec 32 := 15#32
  let c3_i32_23 : BitVec 32 := 3#32
  let v39 : BitVec 1 := Scalar.cmpi .eq v34 c3_i32_23
  let c12_i32_24 : BitVec 32 := 12#32
  let c2_i32_21 : BitVec 32 := 2#32
  let v37 : BitVec 1 := Scalar.cmpi .eq v34 c2_i32_21
  let c8_i32_22 : BitVec 32 := 8#32
  let c1_i32_18 : BitVec 32 := 1#32
  let v35 : BitVec 1 := Scalar.cmpi .eq v34 c1_i32_18
  let c4_i32_19 : BitVec 32 := 4#32
  let c0_i32_20 : BitVec 32 := 0#32
  let v36 : BitVec 32 := Scalar.select v35 c4_i32_19 c0_i32_20
  let v38 : BitVec 32 := Scalar.select v37 c8_i32_22 v36
  let v40 : BitVec 32 := Scalar.select v39 c12_i32_24 v38
  let v42 : BitVec 32 := Scalar.select v41 c15_i32_26 v40
  let v44 : BitVec 32 := Scalar.select v43 c11_i32_28 v42
  let v46 : BitVec 32 := Scalar.select v45 c7_i32_30 v44
  let v48 : BitVec 32 := Scalar.select v47 c3_i32_32 v46
  let v50 : BitVec 32 := Scalar.select v49 c2_i32_34 v48
  let v52 : BitVec 32 := Scalar.select v51 c6_i32_36 v50
  let v54 : BitVec 32 := Scalar.select v53 c10_i32_38 v52
  let v56 : BitVec 32 := Scalar.select v55 c14_i32_40 v54
  let v58 : BitVec 32 := Scalar.select v57 c13_i32_42 v56
  let v60 : BitVec 32 := Scalar.select v59 c9_i32_44 v58
  let v62 : BitVec 32 := Scalar.select v61 c5_i32_46 v60
  let v64 : BitVec 32 := Scalar.select v63 c1_i32_48 v62
  let c1_i32_2216 : BitVec 32 := 1#32
  let v1978 : BitVec 32 := Scalar.muli v64 c1_i32_2216
  let v1979 : BitVec 32 := Scalar.addi c0_i32_2217 v1978
  v1979.toNat
def k0_dev40 (d0 : Dev nD) : Nat :=
  let c0_i32_2258 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c4_i32_15 : BitVec 32 := 4#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c12_i32_11 : BitVec 32 := 12#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c5_i32_8 : BitVec 32 := 5#32
  let c10_i32 : BitVec 32 := 10#32
  let v21 : BitVec 1 := Scalar.cmpi .eq v2 c10_i32
  let c10_i32_7 : BitVec 32 := 10#32
  let c9_i32_6 : BitVec 32 := 9#32
  let v19 : BitVec 1 := Scalar.cmpi .eq v2 c9_i32_6
  let c13_i32 : BitVec 32 := 13#32
  let c8_i32_4 : BitVec 32 := 8#32
  let v17 : BitVec 1 := Scalar.cmpi .eq v2 c8_i32_4
  let c2_i32_5 : BitVec 32 := 2#32
  let c7_i32_2 : BitVec 32 := 7#32
  let v15 : BitVec 1 := Scalar.cmpi .eq v2 c7_i32_2
  let c6_i32_3 : BitVec 32 := 6#32
  let c6_i32 : BitVec 32 := 6#32
  let v13 : BitVec 1 := Scalar.cmpi .eq v2 c6_i32
  let c9_i32 : BitVec 32 := 9#32
  let c5_i32 : BitVec 32 := 5#32
  let v11 : BitVec 1 := Scalar.cmpi .eq v2 c5_i32
  let c14_i32 : BitVec 32 := 14#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c7_i32 : BitVec 32 := 7#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c15_i32 : BitVec 32 := 15#32
  let c0_i32 : BitVec 32 := 0#32
  let v4 : BitVec 32 := Scalar.select v3 c15_i32 c0_i32
  let v6 : BitVec 32 := Scalar.select v5 c8_i32 v4
  let v8 : BitVec 32 := Scalar.select v7 c7_i32 v6
  let v10 : BitVec 32 := Scalar.select v9 c1_i32_1 v8
  let v12 : BitVec 32 := Scalar.select v11 c14_i32 v10
  let v14 : BitVec 32 := Scalar.select v13 c9_i32 v12
  let v16 : BitVec 32 := Scalar.select v15 c6_i32_3 v14
  let v18 : BitVec 32 := Scalar.select v17 c2_i32_5 v16
  let v20 : BitVec 32 := Scalar.select v19 c13_i32 v18
  let v22 : BitVec 32 := Scalar.select v21 c10_i32_7 v20
  let v24 : BitVec 32 := Scalar.select v23 c5_i32_8 v22
  let v26 : BitVec 32 := Scalar.select v25 c3_i32_9 v24
  let v28 : BitVec 32 := Scalar.select v27 c12_i32_11 v26
  let v30 : BitVec 32 := Scalar.select v29 c11_i32_13 v28
  let v32 : BitVec 32 := Scalar.select v31 c4_i32_15 v30
  let c1_i32_16 : BitVec 32 := 1#32
  let v33 : BitVec 32 := Scalar.addi v32 c1_i32_16
  let c16_i32_17 : BitVec 32 := 16#32
  let v34 : BitVec 32 := Scalar.remsi v33 c16_i32_17
  let c15_i32_47 : BitVec 32 := 15#32
  let v63 : BitVec 1 := Scalar.cmpi .eq v34 c15_i32_47
  let c1_i32_48 : BitVec 32 := 1#32
  let c14_i32_45 : BitVec 32 := 14#32
  let v61 : BitVec 1 := Scalar.cmpi .eq v34 c14_i32_45
  let c5_i32_46 : BitVec 32 := 5#32
  let c13_i32_43 : BitVec 32 := 13#32
  let v59 : BitVec 1 := Scalar.cmpi .eq v34 c13_i32_43
  let c9_i32_44 : BitVec 32 := 9#32
  let c12_i32_41 : BitVec 32 := 12#32
  let v57 : BitVec 1 := Scalar.cmpi .eq v34 c12_i32_41
  let c13_i32_42 : BitVec 32 := 13#32
  let c11_i32_39 : BitVec 32 := 11#32
  let v55 : BitVec 1 := Scalar.cmpi .eq v34 c11_i32_39
  let c14_i32_40 : BitVec 32 := 14#32
  let c10_i32_37 : BitVec 32 := 10#32
  let v53 : BitVec 1 := Scalar.cmpi .eq v34 c10_i32_37
  let c10_i32_38 : BitVec 32 := 10#32
  let c9_i32_35 : BitVec 32 := 9#32
  let v51 : BitVec 1 := Scalar.cmpi .eq v34 c9_i32_35
  let c6_i32_36 : BitVec 32 := 6#32
  let c8_i32_33 : BitVec 32 := 8#32
  let v49 : BitVec 1 := Scalar.cmpi .eq v34 c8_i32_33
  let c2_i32_34 : BitVec 32 := 2#32
  let c7_i32_31 : BitVec 32 := 7#32
  let v47 : BitVec 1 := Scalar.cmpi .eq v34 c7_i32_31
  let c3_i32_32 : BitVec 32 := 3#32
  let c6_i32_29 : BitVec 32 := 6#32
  let v45 : BitVec 1 := Scalar.cmpi .eq v34 c6_i32_29
  let c7_i32_30 : BitVec 32 := 7#32
  let c5_i32_27 : BitVec 32 := 5#32
  let v43 : BitVec 1 := Scalar.cmpi .eq v34 c5_i32_27
  let c11_i32_28 : BitVec 32 := 11#32
  let c4_i32_25 : BitVec 32 := 4#32
  let v41 : BitVec 1 := Scalar.cmpi .eq v34 c4_i32_25
  let c15_i32_26 : BitVec 32 := 15#32
  let c3_i32_23 : BitVec 32 := 3#32
  let v39 : BitVec 1 := Scalar.cmpi .eq v34 c3_i32_23
  let c12_i32_24 : BitVec 32 := 12#32
  let c2_i32_21 : BitVec 32 := 2#32
  let v37 : BitVec 1 := Scalar.cmpi .eq v34 c2_i32_21
  let c8_i32_22 : BitVec 32 := 8#32
  let c1_i32_18 : BitVec 32 := 1#32
  let v35 : BitVec 1 := Scalar.cmpi .eq v34 c1_i32_18
  let c4_i32_19 : BitVec 32 := 4#32
  let c0_i32_20 : BitVec 32 := 0#32
  let v36 : BitVec 32 := Scalar.select v35 c4_i32_19 c0_i32_20
  let v38 : BitVec 32 := Scalar.select v37 c8_i32_22 v36
  let v40 : BitVec 32 := Scalar.select v39 c12_i32_24 v38
  let v42 : BitVec 32 := Scalar.select v41 c15_i32_26 v40
  let v44 : BitVec 32 := Scalar.select v43 c11_i32_28 v42
  let v46 : BitVec 32 := Scalar.select v45 c7_i32_30 v44
  let v48 : BitVec 32 := Scalar.select v47 c3_i32_32 v46
  let v50 : BitVec 32 := Scalar.select v49 c2_i32_34 v48
  let v52 : BitVec 32 := Scalar.select v51 c6_i32_36 v50
  let v54 : BitVec 32 := Scalar.select v53 c10_i32_38 v52
  let v56 : BitVec 32 := Scalar.select v55 c14_i32_40 v54
  let v58 : BitVec 32 := Scalar.select v57 c13_i32_42 v56
  let v60 : BitVec 32 := Scalar.select v59 c9_i32_44 v58
  let v62 : BitVec 32 := Scalar.select v61 c5_i32_46 v60
  let v64 : BitVec 32 := Scalar.select v63 c1_i32_48 v62
  let c1_i32_2257 : BitVec 32 := 1#32
  let v2011 : BitVec 32 := Scalar.muli v64 c1_i32_2257
  let v2012 : BitVec 32 := Scalar.addi c0_i32_2258 v2011
  v2012.toNat
def k0_dev41 (d0 : Dev nD) : Nat :=
  let c0_i32_2299 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c4_i32_15 : BitVec 32 := 4#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c12_i32_11 : BitVec 32 := 12#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c5_i32_8 : BitVec 32 := 5#32
  let c10_i32 : BitVec 32 := 10#32
  let v21 : BitVec 1 := Scalar.cmpi .eq v2 c10_i32
  let c10_i32_7 : BitVec 32 := 10#32
  let c9_i32_6 : BitVec 32 := 9#32
  let v19 : BitVec 1 := Scalar.cmpi .eq v2 c9_i32_6
  let c13_i32 : BitVec 32 := 13#32
  let c8_i32_4 : BitVec 32 := 8#32
  let v17 : BitVec 1 := Scalar.cmpi .eq v2 c8_i32_4
  let c2_i32_5 : BitVec 32 := 2#32
  let c7_i32_2 : BitVec 32 := 7#32
  let v15 : BitVec 1 := Scalar.cmpi .eq v2 c7_i32_2
  let c6_i32_3 : BitVec 32 := 6#32
  let c6_i32 : BitVec 32 := 6#32
  let v13 : BitVec 1 := Scalar.cmpi .eq v2 c6_i32
  let c9_i32 : BitVec 32 := 9#32
  let c5_i32 : BitVec 32 := 5#32
  let v11 : BitVec 1 := Scalar.cmpi .eq v2 c5_i32
  let c14_i32 : BitVec 32 := 14#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c7_i32 : BitVec 32 := 7#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c15_i32 : BitVec 32 := 15#32
  let c0_i32 : BitVec 32 := 0#32
  let v4 : BitVec 32 := Scalar.select v3 c15_i32 c0_i32
  let v6 : BitVec 32 := Scalar.select v5 c8_i32 v4
  let v8 : BitVec 32 := Scalar.select v7 c7_i32 v6
  let v10 : BitVec 32 := Scalar.select v9 c1_i32_1 v8
  let v12 : BitVec 32 := Scalar.select v11 c14_i32 v10
  let v14 : BitVec 32 := Scalar.select v13 c9_i32 v12
  let v16 : BitVec 32 := Scalar.select v15 c6_i32_3 v14
  let v18 : BitVec 32 := Scalar.select v17 c2_i32_5 v16
  let v20 : BitVec 32 := Scalar.select v19 c13_i32 v18
  let v22 : BitVec 32 := Scalar.select v21 c10_i32_7 v20
  let v24 : BitVec 32 := Scalar.select v23 c5_i32_8 v22
  let v26 : BitVec 32 := Scalar.select v25 c3_i32_9 v24
  let v28 : BitVec 32 := Scalar.select v27 c12_i32_11 v26
  let v30 : BitVec 32 := Scalar.select v29 c11_i32_13 v28
  let v32 : BitVec 32 := Scalar.select v31 c4_i32_15 v30
  let c16_i32_49 : BitVec 32 := 16#32
  let v65 : BitVec 32 := Scalar.addi v32 c16_i32_49
  let c1_i32_50 : BitVec 32 := 1#32
  let v66 : BitVec 32 := Scalar.subi v65 c1_i32_50
  let c16_i32_51 : BitVec 32 := 16#32
  let v67 : BitVec 32 := Scalar.remsi v66 c16_i32_51
  let c15_i32_81 : BitVec 32 := 15#32
  let v96 : BitVec 1 := Scalar.cmpi .eq v67 c15_i32_81
  let c1_i32_82 : BitVec 32 := 1#32
  let c14_i32_79 : BitVec 32 := 14#32
  let v94 : BitVec 1 := Scalar.cmpi .eq v67 c14_i32_79
  let c5_i32_80 : BitVec 32 := 5#32
  let c13_i32_77 : BitVec 32 := 13#32
  let v92 : BitVec 1 := Scalar.cmpi .eq v67 c13_i32_77
  let c9_i32_78 : BitVec 32 := 9#32
  let c12_i32_75 : BitVec 32 := 12#32
  let v90 : BitVec 1 := Scalar.cmpi .eq v67 c12_i32_75
  let c13_i32_76 : BitVec 32 := 13#32
  let c11_i32_73 : BitVec 32 := 11#32
  let v88 : BitVec 1 := Scalar.cmpi .eq v67 c11_i32_73
  let c14_i32_74 : BitVec 32 := 14#32
  let c10_i32_71 : BitVec 32 := 10#32
  let v86 : BitVec 1 := Scalar.cmpi .eq v67 c10_i32_71
  let c10_i32_72 : BitVec 32 := 10#32
  let c9_i32_69 : BitVec 32 := 9#32
  let v84 : BitVec 1 := Scalar.cmpi .eq v67 c9_i32_69
  let c6_i32_70 : BitVec 32 := 6#32
  let c8_i32_67 : BitVec 32 := 8#32
  let v82 : BitVec 1 := Scalar.cmpi .eq v67 c8_i32_67
  let c2_i32_68 : BitVec 32 := 2#32
  let c7_i32_65 : BitVec 32 := 7#32
  let v80 : BitVec 1 := Scalar.cmpi .eq v67 c7_i32_65
  let c3_i32_66 : BitVec 32 := 3#32
  let c6_i32_63 : BitVec 32 := 6#32
  let v78 : BitVec 1 := Scalar.cmpi .eq v67 c6_i32_63
  let c7_i32_64 : BitVec 32 := 7#32
  let c5_i32_61 : BitVec 32 := 5#32
  let v76 : BitVec 1 := Scalar.cmpi .eq v67 c5_i32_61
  let c11_i32_62 : BitVec 32 := 11#32
  let c4_i32_59 : BitVec 32 := 4#32
  let v74 : BitVec 1 := Scalar.cmpi .eq v67 c4_i32_59
  let c15_i32_60 : BitVec 32 := 15#32
  let c3_i32_57 : BitVec 32 := 3#32
  let v72 : BitVec 1 := Scalar.cmpi .eq v67 c3_i32_57
  let c12_i32_58 : BitVec 32 := 12#32
  let c2_i32_55 : BitVec 32 := 2#32
  let v70 : BitVec 1 := Scalar.cmpi .eq v67 c2_i32_55
  let c8_i32_56 : BitVec 32 := 8#32
  let c1_i32_52 : BitVec 32 := 1#32
  let v68 : BitVec 1 := Scalar.cmpi .eq v67 c1_i32_52
  let c4_i32_53 : BitVec 32 := 4#32
  let c0_i32_54 : BitVec 32 := 0#32
  let v69 : BitVec 32 := Scalar.select v68 c4_i32_53 c0_i32_54
  let v71 : BitVec 32 := Scalar.select v70 c8_i32_56 v69
  let v73 : BitVec 32 := Scalar.select v72 c12_i32_58 v71
  let v75 : BitVec 32 := Scalar.select v74 c15_i32_60 v73
  let v77 : BitVec 32 := Scalar.select v76 c11_i32_62 v75
  let v79 : BitVec 32 := Scalar.select v78 c7_i32_64 v77
  let v81 : BitVec 32 := Scalar.select v80 c3_i32_66 v79
  let v83 : BitVec 32 := Scalar.select v82 c2_i32_68 v81
  let v85 : BitVec 32 := Scalar.select v84 c6_i32_70 v83
  let v87 : BitVec 32 := Scalar.select v86 c10_i32_72 v85
  let v89 : BitVec 32 := Scalar.select v88 c14_i32_74 v87
  let v91 : BitVec 32 := Scalar.select v90 c13_i32_76 v89
  let v93 : BitVec 32 := Scalar.select v92 c9_i32_78 v91
  let v95 : BitVec 32 := Scalar.select v94 c5_i32_80 v93
  let v97 : BitVec 32 := Scalar.select v96 c1_i32_82 v95
  let c1_i32_2298 : BitVec 32 := 1#32
  let v2044 : BitVec 32 := Scalar.muli v97 c1_i32_2298
  let v2045 : BitVec 32 := Scalar.addi c0_i32_2299 v2044
  v2045.toNat
def k0_dev42 (d0 : Dev nD) : Nat :=
  let c0_i32_2340 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c4_i32_15 : BitVec 32 := 4#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c12_i32_11 : BitVec 32 := 12#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c5_i32_8 : BitVec 32 := 5#32
  let c10_i32 : BitVec 32 := 10#32
  let v21 : BitVec 1 := Scalar.cmpi .eq v2 c10_i32
  let c10_i32_7 : BitVec 32 := 10#32
  let c9_i32_6 : BitVec 32 := 9#32
  let v19 : BitVec 1 := Scalar.cmpi .eq v2 c9_i32_6
  let c13_i32 : BitVec 32 := 13#32
  let c8_i32_4 : BitVec 32 := 8#32
  let v17 : BitVec 1 := Scalar.cmpi .eq v2 c8_i32_4
  let c2_i32_5 : BitVec 32 := 2#32
  let c7_i32_2 : BitVec 32 := 7#32
  let v15 : BitVec 1 := Scalar.cmpi .eq v2 c7_i32_2
  let c6_i32_3 : BitVec 32 := 6#32
  let c6_i32 : BitVec 32 := 6#32
  let v13 : BitVec 1 := Scalar.cmpi .eq v2 c6_i32
  let c9_i32 : BitVec 32 := 9#32
  let c5_i32 : BitVec 32 := 5#32
  let v11 : BitVec 1 := Scalar.cmpi .eq v2 c5_i32
  let c14_i32 : BitVec 32 := 14#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c7_i32 : BitVec 32 := 7#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c15_i32 : BitVec 32 := 15#32
  let c0_i32 : BitVec 32 := 0#32
  let v4 : BitVec 32 := Scalar.select v3 c15_i32 c0_i32
  let v6 : BitVec 32 := Scalar.select v5 c8_i32 v4
  let v8 : BitVec 32 := Scalar.select v7 c7_i32 v6
  let v10 : BitVec 32 := Scalar.select v9 c1_i32_1 v8
  let v12 : BitVec 32 := Scalar.select v11 c14_i32 v10
  let v14 : BitVec 32 := Scalar.select v13 c9_i32 v12
  let v16 : BitVec 32 := Scalar.select v15 c6_i32_3 v14
  let v18 : BitVec 32 := Scalar.select v17 c2_i32_5 v16
  let v20 : BitVec 32 := Scalar.select v19 c13_i32 v18
  let v22 : BitVec 32 := Scalar.select v21 c10_i32_7 v20
  let v24 : BitVec 32 := Scalar.select v23 c5_i32_8 v22
  let v26 : BitVec 32 := Scalar.select v25 c3_i32_9 v24
  let v28 : BitVec 32 := Scalar.select v27 c12_i32_11 v26
  let v30 : BitVec 32 := Scalar.select v29 c11_i32_13 v28
  let v32 : BitVec 32 := Scalar.select v31 c4_i32_15 v30
  let c16_i32_49 : BitVec 32 := 16#32
  let v65 : BitVec 32 := Scalar.addi v32 c16_i32_49
  let c1_i32_50 : BitVec 32 := 1#32
  let v66 : BitVec 32 := Scalar.subi v65 c1_i32_50
  let c16_i32_51 : BitVec 32 := 16#32
  let v67 : BitVec 32 := Scalar.remsi v66 c16_i32_51
  let c15_i32_81 : BitVec 32 := 15#32
  let v96 : BitVec 1 := Scalar.cmpi .eq v67 c15_i32_81
  let c1_i32_82 : BitVec 32 := 1#32
  let c14_i32_79 : BitVec 32 := 14#32
  let v94 : BitVec 1 := Scalar.cmpi .eq v67 c14_i32_79
  let c5_i32_80 : BitVec 32 := 5#32
  let c13_i32_77 : BitVec 32 := 13#32
  let v92 : BitVec 1 := Scalar.cmpi .eq v67 c13_i32_77
  let c9_i32_78 : BitVec 32 := 9#32
  let c12_i32_75 : BitVec 32 := 12#32
  let v90 : BitVec 1 := Scalar.cmpi .eq v67 c12_i32_75
  let c13_i32_76 : BitVec 32 := 13#32
  let c11_i32_73 : BitVec 32 := 11#32
  let v88 : BitVec 1 := Scalar.cmpi .eq v67 c11_i32_73
  let c14_i32_74 : BitVec 32 := 14#32
  let c10_i32_71 : BitVec 32 := 10#32
  let v86 : BitVec 1 := Scalar.cmpi .eq v67 c10_i32_71
  let c10_i32_72 : BitVec 32 := 10#32
  let c9_i32_69 : BitVec 32 := 9#32
  let v84 : BitVec 1 := Scalar.cmpi .eq v67 c9_i32_69
  let c6_i32_70 : BitVec 32 := 6#32
  let c8_i32_67 : BitVec 32 := 8#32
  let v82 : BitVec 1 := Scalar.cmpi .eq v67 c8_i32_67
  let c2_i32_68 : BitVec 32 := 2#32
  let c7_i32_65 : BitVec 32 := 7#32
  let v80 : BitVec 1 := Scalar.cmpi .eq v67 c7_i32_65
  let c3_i32_66 : BitVec 32 := 3#32
  let c6_i32_63 : BitVec 32 := 6#32
  let v78 : BitVec 1 := Scalar.cmpi .eq v67 c6_i32_63
  let c7_i32_64 : BitVec 32 := 7#32
  let c5_i32_61 : BitVec 32 := 5#32
  let v76 : BitVec 1 := Scalar.cmpi .eq v67 c5_i32_61
  let c11_i32_62 : BitVec 32 := 11#32
  let c4_i32_59 : BitVec 32 := 4#32
  let v74 : BitVec 1 := Scalar.cmpi .eq v67 c4_i32_59
  let c15_i32_60 : BitVec 32 := 15#32
  let c3_i32_57 : BitVec 32 := 3#32
  let v72 : BitVec 1 := Scalar.cmpi .eq v67 c3_i32_57
  let c12_i32_58 : BitVec 32 := 12#32
  let c2_i32_55 : BitVec 32 := 2#32
  let v70 : BitVec 1 := Scalar.cmpi .eq v67 c2_i32_55
  let c8_i32_56 : BitVec 32 := 8#32
  let c1_i32_52 : BitVec 32 := 1#32
  let v68 : BitVec 1 := Scalar.cmpi .eq v67 c1_i32_52
  let c4_i32_53 : BitVec 32 := 4#32
  let c0_i32_54 : BitVec 32 := 0#32
  let v69 : BitVec 32 := Scalar.select v68 c4_i32_53 c0_i32_54
  let v71 : BitVec 32 := Scalar.select v70 c8_i32_56 v69
  let v73 : BitVec 32 := Scalar.select v72 c12_i32_58 v71
  let v75 : BitVec 32 := Scalar.select v74 c15_i32_60 v73
  let v77 : BitVec 32 := Scalar.select v76 c11_i32_62 v75
  let v79 : BitVec 32 := Scalar.select v78 c7_i32_64 v77
  let v81 : BitVec 32 := Scalar.select v80 c3_i32_66 v79
  let v83 : BitVec 32 := Scalar.select v82 c2_i32_68 v81
  let v85 : BitVec 32 := Scalar.select v84 c6_i32_70 v83
  let v87 : BitVec 32 := Scalar.select v86 c10_i32_72 v85
  let v89 : BitVec 32 := Scalar.select v88 c14_i32_74 v87
  let v91 : BitVec 32 := Scalar.select v90 c13_i32_76 v89
  let v93 : BitVec 32 := Scalar.select v92 c9_i32_78 v91
  let v95 : BitVec 32 := Scalar.select v94 c5_i32_80 v93
  let v97 : BitVec 32 := Scalar.select v96 c1_i32_82 v95
  let c1_i32_2339 : BitVec 32 := 1#32
  let v2077 : BitVec 32 := Scalar.muli v97 c1_i32_2339
  let v2078 : BitVec 32 := Scalar.addi c0_i32_2340 v2077
  v2078.toNat
def k0_dev43 (d0 : Dev nD) : Nat :=
  let c0_i32_2459 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c4_i32_15 : BitVec 32 := 4#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c12_i32_11 : BitVec 32 := 12#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c5_i32_8 : BitVec 32 := 5#32
  let c10_i32 : BitVec 32 := 10#32
  let v21 : BitVec 1 := Scalar.cmpi .eq v2 c10_i32
  let c10_i32_7 : BitVec 32 := 10#32
  let c9_i32_6 : BitVec 32 := 9#32
  let v19 : BitVec 1 := Scalar.cmpi .eq v2 c9_i32_6
  let c13_i32 : BitVec 32 := 13#32
  let c8_i32_4 : BitVec 32 := 8#32
  let v17 : BitVec 1 := Scalar.cmpi .eq v2 c8_i32_4
  let c2_i32_5 : BitVec 32 := 2#32
  let c7_i32_2 : BitVec 32 := 7#32
  let v15 : BitVec 1 := Scalar.cmpi .eq v2 c7_i32_2
  let c6_i32_3 : BitVec 32 := 6#32
  let c6_i32 : BitVec 32 := 6#32
  let v13 : BitVec 1 := Scalar.cmpi .eq v2 c6_i32
  let c9_i32 : BitVec 32 := 9#32
  let c5_i32 : BitVec 32 := 5#32
  let v11 : BitVec 1 := Scalar.cmpi .eq v2 c5_i32
  let c14_i32 : BitVec 32 := 14#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c7_i32 : BitVec 32 := 7#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c15_i32 : BitVec 32 := 15#32
  let c0_i32 : BitVec 32 := 0#32
  let v4 : BitVec 32 := Scalar.select v3 c15_i32 c0_i32
  let v6 : BitVec 32 := Scalar.select v5 c8_i32 v4
  let v8 : BitVec 32 := Scalar.select v7 c7_i32 v6
  let v10 : BitVec 32 := Scalar.select v9 c1_i32_1 v8
  let v12 : BitVec 32 := Scalar.select v11 c14_i32 v10
  let v14 : BitVec 32 := Scalar.select v13 c9_i32 v12
  let v16 : BitVec 32 := Scalar.select v15 c6_i32_3 v14
  let v18 : BitVec 32 := Scalar.select v17 c2_i32_5 v16
  let v20 : BitVec 32 := Scalar.select v19 c13_i32 v18
  let v22 : BitVec 32 := Scalar.select v21 c10_i32_7 v20
  let v24 : BitVec 32 := Scalar.select v23 c5_i32_8 v22
  let v26 : BitVec 32 := Scalar.select v25 c3_i32_9 v24
  let v28 : BitVec 32 := Scalar.select v27 c12_i32_11 v26
  let v30 : BitVec 32 := Scalar.select v29 c11_i32_13 v28
  let v32 : BitVec 32 := Scalar.select v31 c4_i32_15 v30
  let c1_i32_16 : BitVec 32 := 1#32
  let v33 : BitVec 32 := Scalar.addi v32 c1_i32_16
  let c16_i32_17 : BitVec 32 := 16#32
  let v34 : BitVec 32 := Scalar.remsi v33 c16_i32_17
  let c15_i32_47 : BitVec 32 := 15#32
  let v63 : BitVec 1 := Scalar.cmpi .eq v34 c15_i32_47
  let c1_i32_48 : BitVec 32 := 1#32
  let c14_i32_45 : BitVec 32 := 14#32
  let v61 : BitVec 1 := Scalar.cmpi .eq v34 c14_i32_45
  let c5_i32_46 : BitVec 32 := 5#32
  let c13_i32_43 : BitVec 32 := 13#32
  let v59 : BitVec 1 := Scalar.cmpi .eq v34 c13_i32_43
  let c9_i32_44 : BitVec 32 := 9#32
  let c12_i32_41 : BitVec 32 := 12#32
  let v57 : BitVec 1 := Scalar.cmpi .eq v34 c12_i32_41
  let c13_i32_42 : BitVec 32 := 13#32
  let c11_i32_39 : BitVec 32 := 11#32
  let v55 : BitVec 1 := Scalar.cmpi .eq v34 c11_i32_39
  let c14_i32_40 : BitVec 32 := 14#32
  let c10_i32_37 : BitVec 32 := 10#32
  let v53 : BitVec 1 := Scalar.cmpi .eq v34 c10_i32_37
  let c10_i32_38 : BitVec 32 := 10#32
  let c9_i32_35 : BitVec 32 := 9#32
  let v51 : BitVec 1 := Scalar.cmpi .eq v34 c9_i32_35
  let c6_i32_36 : BitVec 32 := 6#32
  let c8_i32_33 : BitVec 32 := 8#32
  let v49 : BitVec 1 := Scalar.cmpi .eq v34 c8_i32_33
  let c2_i32_34 : BitVec 32 := 2#32
  let c7_i32_31 : BitVec 32 := 7#32
  let v47 : BitVec 1 := Scalar.cmpi .eq v34 c7_i32_31
  let c3_i32_32 : BitVec 32 := 3#32
  let c6_i32_29 : BitVec 32 := 6#32
  let v45 : BitVec 1 := Scalar.cmpi .eq v34 c6_i32_29
  let c7_i32_30 : BitVec 32 := 7#32
  let c5_i32_27 : BitVec 32 := 5#32
  let v43 : BitVec 1 := Scalar.cmpi .eq v34 c5_i32_27
  let c11_i32_28 : BitVec 32 := 11#32
  let c4_i32_25 : BitVec 32 := 4#32
  let v41 : BitVec 1 := Scalar.cmpi .eq v34 c4_i32_25
  let c15_i32_26 : BitVec 32 := 15#32
  let c3_i32_23 : BitVec 32 := 3#32
  let v39 : BitVec 1 := Scalar.cmpi .eq v34 c3_i32_23
  let c12_i32_24 : BitVec 32 := 12#32
  let c2_i32_21 : BitVec 32 := 2#32
  let v37 : BitVec 1 := Scalar.cmpi .eq v34 c2_i32_21
  let c8_i32_22 : BitVec 32 := 8#32
  let c1_i32_18 : BitVec 32 := 1#32
  let v35 : BitVec 1 := Scalar.cmpi .eq v34 c1_i32_18
  let c4_i32_19 : BitVec 32 := 4#32
  let c0_i32_20 : BitVec 32 := 0#32
  let v36 : BitVec 32 := Scalar.select v35 c4_i32_19 c0_i32_20
  let v38 : BitVec 32 := Scalar.select v37 c8_i32_22 v36
  let v40 : BitVec 32 := Scalar.select v39 c12_i32_24 v38
  let v42 : BitVec 32 := Scalar.select v41 c15_i32_26 v40
  let v44 : BitVec 32 := Scalar.select v43 c11_i32_28 v42
  let v46 : BitVec 32 := Scalar.select v45 c7_i32_30 v44
  let v48 : BitVec 32 := Scalar.select v47 c3_i32_32 v46
  let v50 : BitVec 32 := Scalar.select v49 c2_i32_34 v48
  let v52 : BitVec 32 := Scalar.select v51 c6_i32_36 v50
  let v54 : BitVec 32 := Scalar.select v53 c10_i32_38 v52
  let v56 : BitVec 32 := Scalar.select v55 c14_i32_40 v54
  let v58 : BitVec 32 := Scalar.select v57 c13_i32_42 v56
  let v60 : BitVec 32 := Scalar.select v59 c9_i32_44 v58
  let v62 : BitVec 32 := Scalar.select v61 c5_i32_46 v60
  let v64 : BitVec 32 := Scalar.select v63 c1_i32_48 v62
  let c1_i32_2458 : BitVec 32 := 1#32
  let v2189 : BitVec 32 := Scalar.muli v64 c1_i32_2458
  let v2190 : BitVec 32 := Scalar.addi c0_i32_2459 v2189
  v2190.toNat
def k0_dev44 (d0 : Dev nD) : Nat :=
  let c0_i32_2500 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c4_i32_15 : BitVec 32 := 4#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c12_i32_11 : BitVec 32 := 12#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c5_i32_8 : BitVec 32 := 5#32
  let c10_i32 : BitVec 32 := 10#32
  let v21 : BitVec 1 := Scalar.cmpi .eq v2 c10_i32
  let c10_i32_7 : BitVec 32 := 10#32
  let c9_i32_6 : BitVec 32 := 9#32
  let v19 : BitVec 1 := Scalar.cmpi .eq v2 c9_i32_6
  let c13_i32 : BitVec 32 := 13#32
  let c8_i32_4 : BitVec 32 := 8#32
  let v17 : BitVec 1 := Scalar.cmpi .eq v2 c8_i32_4
  let c2_i32_5 : BitVec 32 := 2#32
  let c7_i32_2 : BitVec 32 := 7#32
  let v15 : BitVec 1 := Scalar.cmpi .eq v2 c7_i32_2
  let c6_i32_3 : BitVec 32 := 6#32
  let c6_i32 : BitVec 32 := 6#32
  let v13 : BitVec 1 := Scalar.cmpi .eq v2 c6_i32
  let c9_i32 : BitVec 32 := 9#32
  let c5_i32 : BitVec 32 := 5#32
  let v11 : BitVec 1 := Scalar.cmpi .eq v2 c5_i32
  let c14_i32 : BitVec 32 := 14#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c7_i32 : BitVec 32 := 7#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c15_i32 : BitVec 32 := 15#32
  let c0_i32 : BitVec 32 := 0#32
  let v4 : BitVec 32 := Scalar.select v3 c15_i32 c0_i32
  let v6 : BitVec 32 := Scalar.select v5 c8_i32 v4
  let v8 : BitVec 32 := Scalar.select v7 c7_i32 v6
  let v10 : BitVec 32 := Scalar.select v9 c1_i32_1 v8
  let v12 : BitVec 32 := Scalar.select v11 c14_i32 v10
  let v14 : BitVec 32 := Scalar.select v13 c9_i32 v12
  let v16 : BitVec 32 := Scalar.select v15 c6_i32_3 v14
  let v18 : BitVec 32 := Scalar.select v17 c2_i32_5 v16
  let v20 : BitVec 32 := Scalar.select v19 c13_i32 v18
  let v22 : BitVec 32 := Scalar.select v21 c10_i32_7 v20
  let v24 : BitVec 32 := Scalar.select v23 c5_i32_8 v22
  let v26 : BitVec 32 := Scalar.select v25 c3_i32_9 v24
  let v28 : BitVec 32 := Scalar.select v27 c12_i32_11 v26
  let v30 : BitVec 32 := Scalar.select v29 c11_i32_13 v28
  let v32 : BitVec 32 := Scalar.select v31 c4_i32_15 v30
  let c1_i32_16 : BitVec 32 := 1#32
  let v33 : BitVec 32 := Scalar.addi v32 c1_i32_16
  let c16_i32_17 : BitVec 32 := 16#32
  let v34 : BitVec 32 := Scalar.remsi v33 c16_i32_17
  let c15_i32_47 : BitVec 32 := 15#32
  let v63 : BitVec 1 := Scalar.cmpi .eq v34 c15_i32_47
  let c1_i32_48 : BitVec 32 := 1#32
  let c14_i32_45 : BitVec 32 := 14#32
  let v61 : BitVec 1 := Scalar.cmpi .eq v34 c14_i32_45
  let c5_i32_46 : BitVec 32 := 5#32
  let c13_i32_43 : BitVec 32 := 13#32
  let v59 : BitVec 1 := Scalar.cmpi .eq v34 c13_i32_43
  let c9_i32_44 : BitVec 32 := 9#32
  let c12_i32_41 : BitVec 32 := 12#32
  let v57 : BitVec 1 := Scalar.cmpi .eq v34 c12_i32_41
  let c13_i32_42 : BitVec 32 := 13#32
  let c11_i32_39 : BitVec 32 := 11#32
  let v55 : BitVec 1 := Scalar.cmpi .eq v34 c11_i32_39
  let c14_i32_40 : BitVec 32 := 14#32
  let c10_i32_37 : BitVec 32 := 10#32
  let v53 : BitVec 1 := Scalar.cmpi .eq v34 c10_i32_37
  let c10_i32_38 : BitVec 32 := 10#32
  let c9_i32_35 : BitVec 32 := 9#32
  let v51 : BitVec 1 := Scalar.cmpi .eq v34 c9_i32_35
  let c6_i32_36 : BitVec 32 := 6#32
  let c8_i32_33 : BitVec 32 := 8#32
  let v49 : BitVec 1 := Scalar.cmpi .eq v34 c8_i32_33
  let c2_i32_34 : BitVec 32 := 2#32
  let c7_i32_31 : BitVec 32 := 7#32
  let v47 : BitVec 1 := Scalar.cmpi .eq v34 c7_i32_31
  let c3_i32_32 : BitVec 32 := 3#32
  let c6_i32_29 : BitVec 32 := 6#32
  let v45 : BitVec 1 := Scalar.cmpi .eq v34 c6_i32_29
  let c7_i32_30 : BitVec 32 := 7#32
  let c5_i32_27 : BitVec 32 := 5#32
  let v43 : BitVec 1 := Scalar.cmpi .eq v34 c5_i32_27
  let c11_i32_28 : BitVec 32 := 11#32
  let c4_i32_25 : BitVec 32 := 4#32
  let v41 : BitVec 1 := Scalar.cmpi .eq v34 c4_i32_25
  let c15_i32_26 : BitVec 32 := 15#32
  let c3_i32_23 : BitVec 32 := 3#32
  let v39 : BitVec 1 := Scalar.cmpi .eq v34 c3_i32_23
  let c12_i32_24 : BitVec 32 := 12#32
  let c2_i32_21 : BitVec 32 := 2#32
  let v37 : BitVec 1 := Scalar.cmpi .eq v34 c2_i32_21
  let c8_i32_22 : BitVec 32 := 8#32
  let c1_i32_18 : BitVec 32 := 1#32
  let v35 : BitVec 1 := Scalar.cmpi .eq v34 c1_i32_18
  let c4_i32_19 : BitVec 32 := 4#32
  let c0_i32_20 : BitVec 32 := 0#32
  let v36 : BitVec 32 := Scalar.select v35 c4_i32_19 c0_i32_20
  let v38 : BitVec 32 := Scalar.select v37 c8_i32_22 v36
  let v40 : BitVec 32 := Scalar.select v39 c12_i32_24 v38
  let v42 : BitVec 32 := Scalar.select v41 c15_i32_26 v40
  let v44 : BitVec 32 := Scalar.select v43 c11_i32_28 v42
  let v46 : BitVec 32 := Scalar.select v45 c7_i32_30 v44
  let v48 : BitVec 32 := Scalar.select v47 c3_i32_32 v46
  let v50 : BitVec 32 := Scalar.select v49 c2_i32_34 v48
  let v52 : BitVec 32 := Scalar.select v51 c6_i32_36 v50
  let v54 : BitVec 32 := Scalar.select v53 c10_i32_38 v52
  let v56 : BitVec 32 := Scalar.select v55 c14_i32_40 v54
  let v58 : BitVec 32 := Scalar.select v57 c13_i32_42 v56
  let v60 : BitVec 32 := Scalar.select v59 c9_i32_44 v58
  let v62 : BitVec 32 := Scalar.select v61 c5_i32_46 v60
  let v64 : BitVec 32 := Scalar.select v63 c1_i32_48 v62
  let c1_i32_2499 : BitVec 32 := 1#32
  let v2222 : BitVec 32 := Scalar.muli v64 c1_i32_2499
  let v2223 : BitVec 32 := Scalar.addi c0_i32_2500 v2222
  v2223.toNat
def k0_dev45 (d0 : Dev nD) : Nat :=
  let c0_i32_2541 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c4_i32_15 : BitVec 32 := 4#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c12_i32_11 : BitVec 32 := 12#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c5_i32_8 : BitVec 32 := 5#32
  let c10_i32 : BitVec 32 := 10#32
  let v21 : BitVec 1 := Scalar.cmpi .eq v2 c10_i32
  let c10_i32_7 : BitVec 32 := 10#32
  let c9_i32_6 : BitVec 32 := 9#32
  let v19 : BitVec 1 := Scalar.cmpi .eq v2 c9_i32_6
  let c13_i32 : BitVec 32 := 13#32
  let c8_i32_4 : BitVec 32 := 8#32
  let v17 : BitVec 1 := Scalar.cmpi .eq v2 c8_i32_4
  let c2_i32_5 : BitVec 32 := 2#32
  let c7_i32_2 : BitVec 32 := 7#32
  let v15 : BitVec 1 := Scalar.cmpi .eq v2 c7_i32_2
  let c6_i32_3 : BitVec 32 := 6#32
  let c6_i32 : BitVec 32 := 6#32
  let v13 : BitVec 1 := Scalar.cmpi .eq v2 c6_i32
  let c9_i32 : BitVec 32 := 9#32
  let c5_i32 : BitVec 32 := 5#32
  let v11 : BitVec 1 := Scalar.cmpi .eq v2 c5_i32
  let c14_i32 : BitVec 32 := 14#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c7_i32 : BitVec 32 := 7#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c15_i32 : BitVec 32 := 15#32
  let c0_i32 : BitVec 32 := 0#32
  let v4 : BitVec 32 := Scalar.select v3 c15_i32 c0_i32
  let v6 : BitVec 32 := Scalar.select v5 c8_i32 v4
  let v8 : BitVec 32 := Scalar.select v7 c7_i32 v6
  let v10 : BitVec 32 := Scalar.select v9 c1_i32_1 v8
  let v12 : BitVec 32 := Scalar.select v11 c14_i32 v10
  let v14 : BitVec 32 := Scalar.select v13 c9_i32 v12
  let v16 : BitVec 32 := Scalar.select v15 c6_i32_3 v14
  let v18 : BitVec 32 := Scalar.select v17 c2_i32_5 v16
  let v20 : BitVec 32 := Scalar.select v19 c13_i32 v18
  let v22 : BitVec 32 := Scalar.select v21 c10_i32_7 v20
  let v24 : BitVec 32 := Scalar.select v23 c5_i32_8 v22
  let v26 : BitVec 32 := Scalar.select v25 c3_i32_9 v24
  let v28 : BitVec 32 := Scalar.select v27 c12_i32_11 v26
  let v30 : BitVec 32 := Scalar.select v29 c11_i32_13 v28
  let v32 : BitVec 32 := Scalar.select v31 c4_i32_15 v30
  let c16_i32_49 : BitVec 32 := 16#32
  let v65 : BitVec 32 := Scalar.addi v32 c16_i32_49
  let c1_i32_50 : BitVec 32 := 1#32
  let v66 : BitVec 32 := Scalar.subi v65 c1_i32_50
  let c16_i32_51 : BitVec 32 := 16#32
  let v67 : BitVec 32 := Scalar.remsi v66 c16_i32_51
  let c15_i32_81 : BitVec 32 := 15#32
  let v96 : BitVec 1 := Scalar.cmpi .eq v67 c15_i32_81
  let c1_i32_82 : BitVec 32 := 1#32
  let c14_i32_79 : BitVec 32 := 14#32
  let v94 : BitVec 1 := Scalar.cmpi .eq v67 c14_i32_79
  let c5_i32_80 : BitVec 32 := 5#32
  let c13_i32_77 : BitVec 32 := 13#32
  let v92 : BitVec 1 := Scalar.cmpi .eq v67 c13_i32_77
  let c9_i32_78 : BitVec 32 := 9#32
  let c12_i32_75 : BitVec 32 := 12#32
  let v90 : BitVec 1 := Scalar.cmpi .eq v67 c12_i32_75
  let c13_i32_76 : BitVec 32 := 13#32
  let c11_i32_73 : BitVec 32 := 11#32
  let v88 : BitVec 1 := Scalar.cmpi .eq v67 c11_i32_73
  let c14_i32_74 : BitVec 32 := 14#32
  let c10_i32_71 : BitVec 32 := 10#32
  let v86 : BitVec 1 := Scalar.cmpi .eq v67 c10_i32_71
  let c10_i32_72 : BitVec 32 := 10#32
  let c9_i32_69 : BitVec 32 := 9#32
  let v84 : BitVec 1 := Scalar.cmpi .eq v67 c9_i32_69
  let c6_i32_70 : BitVec 32 := 6#32
  let c8_i32_67 : BitVec 32 := 8#32
  let v82 : BitVec 1 := Scalar.cmpi .eq v67 c8_i32_67
  let c2_i32_68 : BitVec 32 := 2#32
  let c7_i32_65 : BitVec 32 := 7#32
  let v80 : BitVec 1 := Scalar.cmpi .eq v67 c7_i32_65
  let c3_i32_66 : BitVec 32 := 3#32
  let c6_i32_63 : BitVec 32 := 6#32
  let v78 : BitVec 1 := Scalar.cmpi .eq v67 c6_i32_63
  let c7_i32_64 : BitVec 32 := 7#32
  let c5_i32_61 : BitVec 32 := 5#32
  let v76 : BitVec 1 := Scalar.cmpi .eq v67 c5_i32_61
  let c11_i32_62 : BitVec 32 := 11#32
  let c4_i32_59 : BitVec 32 := 4#32
  let v74 : BitVec 1 := Scalar.cmpi .eq v67 c4_i32_59
  let c15_i32_60 : BitVec 32 := 15#32
  let c3_i32_57 : BitVec 32 := 3#32
  let v72 : BitVec 1 := Scalar.cmpi .eq v67 c3_i32_57
  let c12_i32_58 : BitVec 32 := 12#32
  let c2_i32_55 : BitVec 32 := 2#32
  let v70 : BitVec 1 := Scalar.cmpi .eq v67 c2_i32_55
  let c8_i32_56 : BitVec 32 := 8#32
  let c1_i32_52 : BitVec 32 := 1#32
  let v68 : BitVec 1 := Scalar.cmpi .eq v67 c1_i32_52
  let c4_i32_53 : BitVec 32 := 4#32
  let c0_i32_54 : BitVec 32 := 0#32
  let v69 : BitVec 32 := Scalar.select v68 c4_i32_53 c0_i32_54
  let v71 : BitVec 32 := Scalar.select v70 c8_i32_56 v69
  let v73 : BitVec 32 := Scalar.select v72 c12_i32_58 v71
  let v75 : BitVec 32 := Scalar.select v74 c15_i32_60 v73
  let v77 : BitVec 32 := Scalar.select v76 c11_i32_62 v75
  let v79 : BitVec 32 := Scalar.select v78 c7_i32_64 v77
  let v81 : BitVec 32 := Scalar.select v80 c3_i32_66 v79
  let v83 : BitVec 32 := Scalar.select v82 c2_i32_68 v81
  let v85 : BitVec 32 := Scalar.select v84 c6_i32_70 v83
  let v87 : BitVec 32 := Scalar.select v86 c10_i32_72 v85
  let v89 : BitVec 32 := Scalar.select v88 c14_i32_74 v87
  let v91 : BitVec 32 := Scalar.select v90 c13_i32_76 v89
  let v93 : BitVec 32 := Scalar.select v92 c9_i32_78 v91
  let v95 : BitVec 32 := Scalar.select v94 c5_i32_80 v93
  let v97 : BitVec 32 := Scalar.select v96 c1_i32_82 v95
  let c1_i32_2540 : BitVec 32 := 1#32
  let v2255 : BitVec 32 := Scalar.muli v97 c1_i32_2540
  let v2256 : BitVec 32 := Scalar.addi c0_i32_2541 v2255
  v2256.toNat
def k0_dev46 (d0 : Dev nD) : Nat :=
  let c0_i32_2582 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c4_i32_15 : BitVec 32 := 4#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c12_i32_11 : BitVec 32 := 12#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c5_i32_8 : BitVec 32 := 5#32
  let c10_i32 : BitVec 32 := 10#32
  let v21 : BitVec 1 := Scalar.cmpi .eq v2 c10_i32
  let c10_i32_7 : BitVec 32 := 10#32
  let c9_i32_6 : BitVec 32 := 9#32
  let v19 : BitVec 1 := Scalar.cmpi .eq v2 c9_i32_6
  let c13_i32 : BitVec 32 := 13#32
  let c8_i32_4 : BitVec 32 := 8#32
  let v17 : BitVec 1 := Scalar.cmpi .eq v2 c8_i32_4
  let c2_i32_5 : BitVec 32 := 2#32
  let c7_i32_2 : BitVec 32 := 7#32
  let v15 : BitVec 1 := Scalar.cmpi .eq v2 c7_i32_2
  let c6_i32_3 : BitVec 32 := 6#32
  let c6_i32 : BitVec 32 := 6#32
  let v13 : BitVec 1 := Scalar.cmpi .eq v2 c6_i32
  let c9_i32 : BitVec 32 := 9#32
  let c5_i32 : BitVec 32 := 5#32
  let v11 : BitVec 1 := Scalar.cmpi .eq v2 c5_i32
  let c14_i32 : BitVec 32 := 14#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c7_i32 : BitVec 32 := 7#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c15_i32 : BitVec 32 := 15#32
  let c0_i32 : BitVec 32 := 0#32
  let v4 : BitVec 32 := Scalar.select v3 c15_i32 c0_i32
  let v6 : BitVec 32 := Scalar.select v5 c8_i32 v4
  let v8 : BitVec 32 := Scalar.select v7 c7_i32 v6
  let v10 : BitVec 32 := Scalar.select v9 c1_i32_1 v8
  let v12 : BitVec 32 := Scalar.select v11 c14_i32 v10
  let v14 : BitVec 32 := Scalar.select v13 c9_i32 v12
  let v16 : BitVec 32 := Scalar.select v15 c6_i32_3 v14
  let v18 : BitVec 32 := Scalar.select v17 c2_i32_5 v16
  let v20 : BitVec 32 := Scalar.select v19 c13_i32 v18
  let v22 : BitVec 32 := Scalar.select v21 c10_i32_7 v20
  let v24 : BitVec 32 := Scalar.select v23 c5_i32_8 v22
  let v26 : BitVec 32 := Scalar.select v25 c3_i32_9 v24
  let v28 : BitVec 32 := Scalar.select v27 c12_i32_11 v26
  let v30 : BitVec 32 := Scalar.select v29 c11_i32_13 v28
  let v32 : BitVec 32 := Scalar.select v31 c4_i32_15 v30
  let c16_i32_49 : BitVec 32 := 16#32
  let v65 : BitVec 32 := Scalar.addi v32 c16_i32_49
  let c1_i32_50 : BitVec 32 := 1#32
  let v66 : BitVec 32 := Scalar.subi v65 c1_i32_50
  let c16_i32_51 : BitVec 32 := 16#32
  let v67 : BitVec 32 := Scalar.remsi v66 c16_i32_51
  let c15_i32_81 : BitVec 32 := 15#32
  let v96 : BitVec 1 := Scalar.cmpi .eq v67 c15_i32_81
  let c1_i32_82 : BitVec 32 := 1#32
  let c14_i32_79 : BitVec 32 := 14#32
  let v94 : BitVec 1 := Scalar.cmpi .eq v67 c14_i32_79
  let c5_i32_80 : BitVec 32 := 5#32
  let c13_i32_77 : BitVec 32 := 13#32
  let v92 : BitVec 1 := Scalar.cmpi .eq v67 c13_i32_77
  let c9_i32_78 : BitVec 32 := 9#32
  let c12_i32_75 : BitVec 32 := 12#32
  let v90 : BitVec 1 := Scalar.cmpi .eq v67 c12_i32_75
  let c13_i32_76 : BitVec 32 := 13#32
  let c11_i32_73 : BitVec 32 := 11#32
  let v88 : BitVec 1 := Scalar.cmpi .eq v67 c11_i32_73
  let c14_i32_74 : BitVec 32 := 14#32
  let c10_i32_71 : BitVec 32 := 10#32
  let v86 : BitVec 1 := Scalar.cmpi .eq v67 c10_i32_71
  let c10_i32_72 : BitVec 32 := 10#32
  let c9_i32_69 : BitVec 32 := 9#32
  let v84 : BitVec 1 := Scalar.cmpi .eq v67 c9_i32_69
  let c6_i32_70 : BitVec 32 := 6#32
  let c8_i32_67 : BitVec 32 := 8#32
  let v82 : BitVec 1 := Scalar.cmpi .eq v67 c8_i32_67
  let c2_i32_68 : BitVec 32 := 2#32
  let c7_i32_65 : BitVec 32 := 7#32
  let v80 : BitVec 1 := Scalar.cmpi .eq v67 c7_i32_65
  let c3_i32_66 : BitVec 32 := 3#32
  let c6_i32_63 : BitVec 32 := 6#32
  let v78 : BitVec 1 := Scalar.cmpi .eq v67 c6_i32_63
  let c7_i32_64 : BitVec 32 := 7#32
  let c5_i32_61 : BitVec 32 := 5#32
  let v76 : BitVec 1 := Scalar.cmpi .eq v67 c5_i32_61
  let c11_i32_62 : BitVec 32 := 11#32
  let c4_i32_59 : BitVec 32 := 4#32
  let v74 : BitVec 1 := Scalar.cmpi .eq v67 c4_i32_59
  let c15_i32_60 : BitVec 32 := 15#32
  let c3_i32_57 : BitVec 32 := 3#32
  let v72 : BitVec 1 := Scalar.cmpi .eq v67 c3_i32_57
  let c12_i32_58 : BitVec 32 := 12#32
  let c2_i32_55 : BitVec 32 := 2#32
  let v70 : BitVec 1 := Scalar.cmpi .eq v67 c2_i32_55
  let c8_i32_56 : BitVec 32 := 8#32
  let c1_i32_52 : BitVec 32 := 1#32
  let v68 : BitVec 1 := Scalar.cmpi .eq v67 c1_i32_52
  let c4_i32_53 : BitVec 32 := 4#32
  let c0_i32_54 : BitVec 32 := 0#32
  let v69 : BitVec 32 := Scalar.select v68 c4_i32_53 c0_i32_54
  let v71 : BitVec 32 := Scalar.select v70 c8_i32_56 v69
  let v73 : BitVec 32 := Scalar.select v72 c12_i32_58 v71
  let v75 : BitVec 32 := Scalar.select v74 c15_i32_60 v73
  let v77 : BitVec 32 := Scalar.select v76 c11_i32_62 v75
  let v79 : BitVec 32 := Scalar.select v78 c7_i32_64 v77
  let v81 : BitVec 32 := Scalar.select v80 c3_i32_66 v79
  let v83 : BitVec 32 := Scalar.select v82 c2_i32_68 v81
  let v85 : BitVec 32 := Scalar.select v84 c6_i32_70 v83
  let v87 : BitVec 32 := Scalar.select v86 c10_i32_72 v85
  let v89 : BitVec 32 := Scalar.select v88 c14_i32_74 v87
  let v91 : BitVec 32 := Scalar.select v90 c13_i32_76 v89
  let v93 : BitVec 32 := Scalar.select v92 c9_i32_78 v91
  let v95 : BitVec 32 := Scalar.select v94 c5_i32_80 v93
  let v97 : BitVec 32 := Scalar.select v96 c1_i32_82 v95
  let c1_i32_2581 : BitVec 32 := 1#32
  let v2288 : BitVec 32 := Scalar.muli v97 c1_i32_2581
  let v2289 : BitVec 32 := Scalar.addi c0_i32_2582 v2288
  v2289.toNat
def k0_dev47 (d0 : Dev nD) : Nat :=
  let c0_i32_2701 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c4_i32_15 : BitVec 32 := 4#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c12_i32_11 : BitVec 32 := 12#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c5_i32_8 : BitVec 32 := 5#32
  let c10_i32 : BitVec 32 := 10#32
  let v21 : BitVec 1 := Scalar.cmpi .eq v2 c10_i32
  let c10_i32_7 : BitVec 32 := 10#32
  let c9_i32_6 : BitVec 32 := 9#32
  let v19 : BitVec 1 := Scalar.cmpi .eq v2 c9_i32_6
  let c13_i32 : BitVec 32 := 13#32
  let c8_i32_4 : BitVec 32 := 8#32
  let v17 : BitVec 1 := Scalar.cmpi .eq v2 c8_i32_4
  let c2_i32_5 : BitVec 32 := 2#32
  let c7_i32_2 : BitVec 32 := 7#32
  let v15 : BitVec 1 := Scalar.cmpi .eq v2 c7_i32_2
  let c6_i32_3 : BitVec 32 := 6#32
  let c6_i32 : BitVec 32 := 6#32
  let v13 : BitVec 1 := Scalar.cmpi .eq v2 c6_i32
  let c9_i32 : BitVec 32 := 9#32
  let c5_i32 : BitVec 32 := 5#32
  let v11 : BitVec 1 := Scalar.cmpi .eq v2 c5_i32
  let c14_i32 : BitVec 32 := 14#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c7_i32 : BitVec 32 := 7#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c15_i32 : BitVec 32 := 15#32
  let c0_i32 : BitVec 32 := 0#32
  let v4 : BitVec 32 := Scalar.select v3 c15_i32 c0_i32
  let v6 : BitVec 32 := Scalar.select v5 c8_i32 v4
  let v8 : BitVec 32 := Scalar.select v7 c7_i32 v6
  let v10 : BitVec 32 := Scalar.select v9 c1_i32_1 v8
  let v12 : BitVec 32 := Scalar.select v11 c14_i32 v10
  let v14 : BitVec 32 := Scalar.select v13 c9_i32 v12
  let v16 : BitVec 32 := Scalar.select v15 c6_i32_3 v14
  let v18 : BitVec 32 := Scalar.select v17 c2_i32_5 v16
  let v20 : BitVec 32 := Scalar.select v19 c13_i32 v18
  let v22 : BitVec 32 := Scalar.select v21 c10_i32_7 v20
  let v24 : BitVec 32 := Scalar.select v23 c5_i32_8 v22
  let v26 : BitVec 32 := Scalar.select v25 c3_i32_9 v24
  let v28 : BitVec 32 := Scalar.select v27 c12_i32_11 v26
  let v30 : BitVec 32 := Scalar.select v29 c11_i32_13 v28
  let v32 : BitVec 32 := Scalar.select v31 c4_i32_15 v30
  let c1_i32_16 : BitVec 32 := 1#32
  let v33 : BitVec 32 := Scalar.addi v32 c1_i32_16
  let c16_i32_17 : BitVec 32 := 16#32
  let v34 : BitVec 32 := Scalar.remsi v33 c16_i32_17
  let c15_i32_47 : BitVec 32 := 15#32
  let v63 : BitVec 1 := Scalar.cmpi .eq v34 c15_i32_47
  let c1_i32_48 : BitVec 32 := 1#32
  let c14_i32_45 : BitVec 32 := 14#32
  let v61 : BitVec 1 := Scalar.cmpi .eq v34 c14_i32_45
  let c5_i32_46 : BitVec 32 := 5#32
  let c13_i32_43 : BitVec 32 := 13#32
  let v59 : BitVec 1 := Scalar.cmpi .eq v34 c13_i32_43
  let c9_i32_44 : BitVec 32 := 9#32
  let c12_i32_41 : BitVec 32 := 12#32
  let v57 : BitVec 1 := Scalar.cmpi .eq v34 c12_i32_41
  let c13_i32_42 : BitVec 32 := 13#32
  let c11_i32_39 : BitVec 32 := 11#32
  let v55 : BitVec 1 := Scalar.cmpi .eq v34 c11_i32_39
  let c14_i32_40 : BitVec 32 := 14#32
  let c10_i32_37 : BitVec 32 := 10#32
  let v53 : BitVec 1 := Scalar.cmpi .eq v34 c10_i32_37
  let c10_i32_38 : BitVec 32 := 10#32
  let c9_i32_35 : BitVec 32 := 9#32
  let v51 : BitVec 1 := Scalar.cmpi .eq v34 c9_i32_35
  let c6_i32_36 : BitVec 32 := 6#32
  let c8_i32_33 : BitVec 32 := 8#32
  let v49 : BitVec 1 := Scalar.cmpi .eq v34 c8_i32_33
  let c2_i32_34 : BitVec 32 := 2#32
  let c7_i32_31 : BitVec 32 := 7#32
  let v47 : BitVec 1 := Scalar.cmpi .eq v34 c7_i32_31
  let c3_i32_32 : BitVec 32 := 3#32
  let c6_i32_29 : BitVec 32 := 6#32
  let v45 : BitVec 1 := Scalar.cmpi .eq v34 c6_i32_29
  let c7_i32_30 : BitVec 32 := 7#32
  let c5_i32_27 : BitVec 32 := 5#32
  let v43 : BitVec 1 := Scalar.cmpi .eq v34 c5_i32_27
  let c11_i32_28 : BitVec 32 := 11#32
  let c4_i32_25 : BitVec 32 := 4#32
  let v41 : BitVec 1 := Scalar.cmpi .eq v34 c4_i32_25
  let c15_i32_26 : BitVec 32 := 15#32
  let c3_i32_23 : BitVec 32 := 3#32
  let v39 : BitVec 1 := Scalar.cmpi .eq v34 c3_i32_23
  let c12_i32_24 : BitVec 32 := 12#32
  let c2_i32_21 : BitVec 32 := 2#32
  let v37 : BitVec 1 := Scalar.cmpi .eq v34 c2_i32_21
  let c8_i32_22 : BitVec 32 := 8#32
  let c1_i32_18 : BitVec 32 := 1#32
  let v35 : BitVec 1 := Scalar.cmpi .eq v34 c1_i32_18
  let c4_i32_19 : BitVec 32 := 4#32
  let c0_i32_20 : BitVec 32 := 0#32
  let v36 : BitVec 32 := Scalar.select v35 c4_i32_19 c0_i32_20
  let v38 : BitVec 32 := Scalar.select v37 c8_i32_22 v36
  let v40 : BitVec 32 := Scalar.select v39 c12_i32_24 v38
  let v42 : BitVec 32 := Scalar.select v41 c15_i32_26 v40
  let v44 : BitVec 32 := Scalar.select v43 c11_i32_28 v42
  let v46 : BitVec 32 := Scalar.select v45 c7_i32_30 v44
  let v48 : BitVec 32 := Scalar.select v47 c3_i32_32 v46
  let v50 : BitVec 32 := Scalar.select v49 c2_i32_34 v48
  let v52 : BitVec 32 := Scalar.select v51 c6_i32_36 v50
  let v54 : BitVec 32 := Scalar.select v53 c10_i32_38 v52
  let v56 : BitVec 32 := Scalar.select v55 c14_i32_40 v54
  let v58 : BitVec 32 := Scalar.select v57 c13_i32_42 v56
  let v60 : BitVec 32 := Scalar.select v59 c9_i32_44 v58
  let v62 : BitVec 32 := Scalar.select v61 c5_i32_46 v60
  let v64 : BitVec 32 := Scalar.select v63 c1_i32_48 v62
  let c1_i32_2700 : BitVec 32 := 1#32
  let v2400 : BitVec 32 := Scalar.muli v64 c1_i32_2700
  let v2401 : BitVec 32 := Scalar.addi c0_i32_2701 v2400
  v2401.toNat
def k0_dev48 (d0 : Dev nD) : Nat :=
  let c0_i32_2742 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c4_i32_15 : BitVec 32 := 4#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c12_i32_11 : BitVec 32 := 12#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c5_i32_8 : BitVec 32 := 5#32
  let c10_i32 : BitVec 32 := 10#32
  let v21 : BitVec 1 := Scalar.cmpi .eq v2 c10_i32
  let c10_i32_7 : BitVec 32 := 10#32
  let c9_i32_6 : BitVec 32 := 9#32
  let v19 : BitVec 1 := Scalar.cmpi .eq v2 c9_i32_6
  let c13_i32 : BitVec 32 := 13#32
  let c8_i32_4 : BitVec 32 := 8#32
  let v17 : BitVec 1 := Scalar.cmpi .eq v2 c8_i32_4
  let c2_i32_5 : BitVec 32 := 2#32
  let c7_i32_2 : BitVec 32 := 7#32
  let v15 : BitVec 1 := Scalar.cmpi .eq v2 c7_i32_2
  let c6_i32_3 : BitVec 32 := 6#32
  let c6_i32 : BitVec 32 := 6#32
  let v13 : BitVec 1 := Scalar.cmpi .eq v2 c6_i32
  let c9_i32 : BitVec 32 := 9#32
  let c5_i32 : BitVec 32 := 5#32
  let v11 : BitVec 1 := Scalar.cmpi .eq v2 c5_i32
  let c14_i32 : BitVec 32 := 14#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c7_i32 : BitVec 32 := 7#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c15_i32 : BitVec 32 := 15#32
  let c0_i32 : BitVec 32 := 0#32
  let v4 : BitVec 32 := Scalar.select v3 c15_i32 c0_i32
  let v6 : BitVec 32 := Scalar.select v5 c8_i32 v4
  let v8 : BitVec 32 := Scalar.select v7 c7_i32 v6
  let v10 : BitVec 32 := Scalar.select v9 c1_i32_1 v8
  let v12 : BitVec 32 := Scalar.select v11 c14_i32 v10
  let v14 : BitVec 32 := Scalar.select v13 c9_i32 v12
  let v16 : BitVec 32 := Scalar.select v15 c6_i32_3 v14
  let v18 : BitVec 32 := Scalar.select v17 c2_i32_5 v16
  let v20 : BitVec 32 := Scalar.select v19 c13_i32 v18
  let v22 : BitVec 32 := Scalar.select v21 c10_i32_7 v20
  let v24 : BitVec 32 := Scalar.select v23 c5_i32_8 v22
  let v26 : BitVec 32 := Scalar.select v25 c3_i32_9 v24
  let v28 : BitVec 32 := Scalar.select v27 c12_i32_11 v26
  let v30 : BitVec 32 := Scalar.select v29 c11_i32_13 v28
  let v32 : BitVec 32 := Scalar.select v31 c4_i32_15 v30
  let c1_i32_16 : BitVec 32 := 1#32
  let v33 : BitVec 32 := Scalar.addi v32 c1_i32_16
  let c16_i32_17 : BitVec 32 := 16#32
  let v34 : BitVec 32 := Scalar.remsi v33 c16_i32_17
  let c15_i32_47 : BitVec 32 := 15#32
  let v63 : BitVec 1 := Scalar.cmpi .eq v34 c15_i32_47
  let c1_i32_48 : BitVec 32 := 1#32
  let c14_i32_45 : BitVec 32 := 14#32
  let v61 : BitVec 1 := Scalar.cmpi .eq v34 c14_i32_45
  let c5_i32_46 : BitVec 32 := 5#32
  let c13_i32_43 : BitVec 32 := 13#32
  let v59 : BitVec 1 := Scalar.cmpi .eq v34 c13_i32_43
  let c9_i32_44 : BitVec 32 := 9#32
  let c12_i32_41 : BitVec 32 := 12#32
  let v57 : BitVec 1 := Scalar.cmpi .eq v34 c12_i32_41
  let c13_i32_42 : BitVec 32 := 13#32
  let c11_i32_39 : BitVec 32 := 11#32
  let v55 : BitVec 1 := Scalar.cmpi .eq v34 c11_i32_39
  let c14_i32_40 : BitVec 32 := 14#32
  let c10_i32_37 : BitVec 32 := 10#32
  let v53 : BitVec 1 := Scalar.cmpi .eq v34 c10_i32_37
  let c10_i32_38 : BitVec 32 := 10#32
  let c9_i32_35 : BitVec 32 := 9#32
  let v51 : BitVec 1 := Scalar.cmpi .eq v34 c9_i32_35
  let c6_i32_36 : BitVec 32 := 6#32
  let c8_i32_33 : BitVec 32 := 8#32
  let v49 : BitVec 1 := Scalar.cmpi .eq v34 c8_i32_33
  let c2_i32_34 : BitVec 32 := 2#32
  let c7_i32_31 : BitVec 32 := 7#32
  let v47 : BitVec 1 := Scalar.cmpi .eq v34 c7_i32_31
  let c3_i32_32 : BitVec 32 := 3#32
  let c6_i32_29 : BitVec 32 := 6#32
  let v45 : BitVec 1 := Scalar.cmpi .eq v34 c6_i32_29
  let c7_i32_30 : BitVec 32 := 7#32
  let c5_i32_27 : BitVec 32 := 5#32
  let v43 : BitVec 1 := Scalar.cmpi .eq v34 c5_i32_27
  let c11_i32_28 : BitVec 32 := 11#32
  let c4_i32_25 : BitVec 32 := 4#32
  let v41 : BitVec 1 := Scalar.cmpi .eq v34 c4_i32_25
  let c15_i32_26 : BitVec 32 := 15#32
  let c3_i32_23 : BitVec 32 := 3#32
  let v39 : BitVec 1 := Scalar.cmpi .eq v34 c3_i32_23
  let c12_i32_24 : BitVec 32 := 12#32
  let c2_i32_21 : BitVec 32 := 2#32
  let v37 : BitVec 1 := Scalar.cmpi .eq v34 c2_i32_21
  let c8_i32_22 : BitVec 32 := 8#32
  let c1_i32_18 : BitVec 32 := 1#32
  let v35 : BitVec 1 := Scalar.cmpi .eq v34 c1_i32_18
  let c4_i32_19 : BitVec 32 := 4#32
  let c0_i32_20 : BitVec 32 := 0#32
  let v36 : BitVec 32 := Scalar.select v35 c4_i32_19 c0_i32_20
  let v38 : BitVec 32 := Scalar.select v37 c8_i32_22 v36
  let v40 : BitVec 32 := Scalar.select v39 c12_i32_24 v38
  let v42 : BitVec 32 := Scalar.select v41 c15_i32_26 v40
  let v44 : BitVec 32 := Scalar.select v43 c11_i32_28 v42
  let v46 : BitVec 32 := Scalar.select v45 c7_i32_30 v44
  let v48 : BitVec 32 := Scalar.select v47 c3_i32_32 v46
  let v50 : BitVec 32 := Scalar.select v49 c2_i32_34 v48
  let v52 : BitVec 32 := Scalar.select v51 c6_i32_36 v50
  let v54 : BitVec 32 := Scalar.select v53 c10_i32_38 v52
  let v56 : BitVec 32 := Scalar.select v55 c14_i32_40 v54
  let v58 : BitVec 32 := Scalar.select v57 c13_i32_42 v56
  let v60 : BitVec 32 := Scalar.select v59 c9_i32_44 v58
  let v62 : BitVec 32 := Scalar.select v61 c5_i32_46 v60
  let v64 : BitVec 32 := Scalar.select v63 c1_i32_48 v62
  let c1_i32_2741 : BitVec 32 := 1#32
  let v2433 : BitVec 32 := Scalar.muli v64 c1_i32_2741
  let v2434 : BitVec 32 := Scalar.addi c0_i32_2742 v2433
  v2434.toNat
def k0_dev49 (d0 : Dev nD) : Nat :=
  let c0_i32_2783 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c4_i32_15 : BitVec 32 := 4#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c12_i32_11 : BitVec 32 := 12#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c5_i32_8 : BitVec 32 := 5#32
  let c10_i32 : BitVec 32 := 10#32
  let v21 : BitVec 1 := Scalar.cmpi .eq v2 c10_i32
  let c10_i32_7 : BitVec 32 := 10#32
  let c9_i32_6 : BitVec 32 := 9#32
  let v19 : BitVec 1 := Scalar.cmpi .eq v2 c9_i32_6
  let c13_i32 : BitVec 32 := 13#32
  let c8_i32_4 : BitVec 32 := 8#32
  let v17 : BitVec 1 := Scalar.cmpi .eq v2 c8_i32_4
  let c2_i32_5 : BitVec 32 := 2#32
  let c7_i32_2 : BitVec 32 := 7#32
  let v15 : BitVec 1 := Scalar.cmpi .eq v2 c7_i32_2
  let c6_i32_3 : BitVec 32 := 6#32
  let c6_i32 : BitVec 32 := 6#32
  let v13 : BitVec 1 := Scalar.cmpi .eq v2 c6_i32
  let c9_i32 : BitVec 32 := 9#32
  let c5_i32 : BitVec 32 := 5#32
  let v11 : BitVec 1 := Scalar.cmpi .eq v2 c5_i32
  let c14_i32 : BitVec 32 := 14#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c7_i32 : BitVec 32 := 7#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c15_i32 : BitVec 32 := 15#32
  let c0_i32 : BitVec 32 := 0#32
  let v4 : BitVec 32 := Scalar.select v3 c15_i32 c0_i32
  let v6 : BitVec 32 := Scalar.select v5 c8_i32 v4
  let v8 : BitVec 32 := Scalar.select v7 c7_i32 v6
  let v10 : BitVec 32 := Scalar.select v9 c1_i32_1 v8
  let v12 : BitVec 32 := Scalar.select v11 c14_i32 v10
  let v14 : BitVec 32 := Scalar.select v13 c9_i32 v12
  let v16 : BitVec 32 := Scalar.select v15 c6_i32_3 v14
  let v18 : BitVec 32 := Scalar.select v17 c2_i32_5 v16
  let v20 : BitVec 32 := Scalar.select v19 c13_i32 v18
  let v22 : BitVec 32 := Scalar.select v21 c10_i32_7 v20
  let v24 : BitVec 32 := Scalar.select v23 c5_i32_8 v22
  let v26 : BitVec 32 := Scalar.select v25 c3_i32_9 v24
  let v28 : BitVec 32 := Scalar.select v27 c12_i32_11 v26
  let v30 : BitVec 32 := Scalar.select v29 c11_i32_13 v28
  let v32 : BitVec 32 := Scalar.select v31 c4_i32_15 v30
  let c16_i32_49 : BitVec 32 := 16#32
  let v65 : BitVec 32 := Scalar.addi v32 c16_i32_49
  let c1_i32_50 : BitVec 32 := 1#32
  let v66 : BitVec 32 := Scalar.subi v65 c1_i32_50
  let c16_i32_51 : BitVec 32 := 16#32
  let v67 : BitVec 32 := Scalar.remsi v66 c16_i32_51
  let c15_i32_81 : BitVec 32 := 15#32
  let v96 : BitVec 1 := Scalar.cmpi .eq v67 c15_i32_81
  let c1_i32_82 : BitVec 32 := 1#32
  let c14_i32_79 : BitVec 32 := 14#32
  let v94 : BitVec 1 := Scalar.cmpi .eq v67 c14_i32_79
  let c5_i32_80 : BitVec 32 := 5#32
  let c13_i32_77 : BitVec 32 := 13#32
  let v92 : BitVec 1 := Scalar.cmpi .eq v67 c13_i32_77
  let c9_i32_78 : BitVec 32 := 9#32
  let c12_i32_75 : BitVec 32 := 12#32
  let v90 : BitVec 1 := Scalar.cmpi .eq v67 c12_i32_75
  let c13_i32_76 : BitVec 32 := 13#32
  let c11_i32_73 : BitVec 32 := 11#32
  let v88 : BitVec 1 := Scalar.cmpi .eq v67 c11_i32_73
  let c14_i32_74 : BitVec 32 := 14#32
  let c10_i32_71 : BitVec 32 := 10#32
  let v86 : BitVec 1 := Scalar.cmpi .eq v67 c10_i32_71
  let c10_i32_72 : BitVec 32 := 10#32
  let c9_i32_69 : BitVec 32 := 9#32
  let v84 : BitVec 1 := Scalar.cmpi .eq v67 c9_i32_69
  let c6_i32_70 : BitVec 32 := 6#32
  let c8_i32_67 : BitVec 32 := 8#32
  let v82 : BitVec 1 := Scalar.cmpi .eq v67 c8_i32_67
  let c2_i32_68 : BitVec 32 := 2#32
  let c7_i32_65 : BitVec 32 := 7#32
  let v80 : BitVec 1 := Scalar.cmpi .eq v67 c7_i32_65
  let c3_i32_66 : BitVec 32 := 3#32
  let c6_i32_63 : BitVec 32 := 6#32
  let v78 : BitVec 1 := Scalar.cmpi .eq v67 c6_i32_63
  let c7_i32_64 : BitVec 32 := 7#32
  let c5_i32_61 : BitVec 32 := 5#32
  let v76 : BitVec 1 := Scalar.cmpi .eq v67 c5_i32_61
  let c11_i32_62 : BitVec 32 := 11#32
  let c4_i32_59 : BitVec 32 := 4#32
  let v74 : BitVec 1 := Scalar.cmpi .eq v67 c4_i32_59
  let c15_i32_60 : BitVec 32 := 15#32
  let c3_i32_57 : BitVec 32 := 3#32
  let v72 : BitVec 1 := Scalar.cmpi .eq v67 c3_i32_57
  let c12_i32_58 : BitVec 32 := 12#32
  let c2_i32_55 : BitVec 32 := 2#32
  let v70 : BitVec 1 := Scalar.cmpi .eq v67 c2_i32_55
  let c8_i32_56 : BitVec 32 := 8#32
  let c1_i32_52 : BitVec 32 := 1#32
  let v68 : BitVec 1 := Scalar.cmpi .eq v67 c1_i32_52
  let c4_i32_53 : BitVec 32 := 4#32
  let c0_i32_54 : BitVec 32 := 0#32
  let v69 : BitVec 32 := Scalar.select v68 c4_i32_53 c0_i32_54
  let v71 : BitVec 32 := Scalar.select v70 c8_i32_56 v69
  let v73 : BitVec 32 := Scalar.select v72 c12_i32_58 v71
  let v75 : BitVec 32 := Scalar.select v74 c15_i32_60 v73
  let v77 : BitVec 32 := Scalar.select v76 c11_i32_62 v75
  let v79 : BitVec 32 := Scalar.select v78 c7_i32_64 v77
  let v81 : BitVec 32 := Scalar.select v80 c3_i32_66 v79
  let v83 : BitVec 32 := Scalar.select v82 c2_i32_68 v81
  let v85 : BitVec 32 := Scalar.select v84 c6_i32_70 v83
  let v87 : BitVec 32 := Scalar.select v86 c10_i32_72 v85
  let v89 : BitVec 32 := Scalar.select v88 c14_i32_74 v87
  let v91 : BitVec 32 := Scalar.select v90 c13_i32_76 v89
  let v93 : BitVec 32 := Scalar.select v92 c9_i32_78 v91
  let v95 : BitVec 32 := Scalar.select v94 c5_i32_80 v93
  let v97 : BitVec 32 := Scalar.select v96 c1_i32_82 v95
  let c1_i32_2782 : BitVec 32 := 1#32
  let v2466 : BitVec 32 := Scalar.muli v97 c1_i32_2782
  let v2467 : BitVec 32 := Scalar.addi c0_i32_2783 v2466
  v2467.toNat
def k0_dev50 (d0 : Dev nD) : Nat :=
  let c0_i32_2824 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c4_i32_15 : BitVec 32 := 4#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c12_i32_11 : BitVec 32 := 12#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c5_i32_8 : BitVec 32 := 5#32
  let c10_i32 : BitVec 32 := 10#32
  let v21 : BitVec 1 := Scalar.cmpi .eq v2 c10_i32
  let c10_i32_7 : BitVec 32 := 10#32
  let c9_i32_6 : BitVec 32 := 9#32
  let v19 : BitVec 1 := Scalar.cmpi .eq v2 c9_i32_6
  let c13_i32 : BitVec 32 := 13#32
  let c8_i32_4 : BitVec 32 := 8#32
  let v17 : BitVec 1 := Scalar.cmpi .eq v2 c8_i32_4
  let c2_i32_5 : BitVec 32 := 2#32
  let c7_i32_2 : BitVec 32 := 7#32
  let v15 : BitVec 1 := Scalar.cmpi .eq v2 c7_i32_2
  let c6_i32_3 : BitVec 32 := 6#32
  let c6_i32 : BitVec 32 := 6#32
  let v13 : BitVec 1 := Scalar.cmpi .eq v2 c6_i32
  let c9_i32 : BitVec 32 := 9#32
  let c5_i32 : BitVec 32 := 5#32
  let v11 : BitVec 1 := Scalar.cmpi .eq v2 c5_i32
  let c14_i32 : BitVec 32 := 14#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c7_i32 : BitVec 32 := 7#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c15_i32 : BitVec 32 := 15#32
  let c0_i32 : BitVec 32 := 0#32
  let v4 : BitVec 32 := Scalar.select v3 c15_i32 c0_i32
  let v6 : BitVec 32 := Scalar.select v5 c8_i32 v4
  let v8 : BitVec 32 := Scalar.select v7 c7_i32 v6
  let v10 : BitVec 32 := Scalar.select v9 c1_i32_1 v8
  let v12 : BitVec 32 := Scalar.select v11 c14_i32 v10
  let v14 : BitVec 32 := Scalar.select v13 c9_i32 v12
  let v16 : BitVec 32 := Scalar.select v15 c6_i32_3 v14
  let v18 : BitVec 32 := Scalar.select v17 c2_i32_5 v16
  let v20 : BitVec 32 := Scalar.select v19 c13_i32 v18
  let v22 : BitVec 32 := Scalar.select v21 c10_i32_7 v20
  let v24 : BitVec 32 := Scalar.select v23 c5_i32_8 v22
  let v26 : BitVec 32 := Scalar.select v25 c3_i32_9 v24
  let v28 : BitVec 32 := Scalar.select v27 c12_i32_11 v26
  let v30 : BitVec 32 := Scalar.select v29 c11_i32_13 v28
  let v32 : BitVec 32 := Scalar.select v31 c4_i32_15 v30
  let c16_i32_49 : BitVec 32 := 16#32
  let v65 : BitVec 32 := Scalar.addi v32 c16_i32_49
  let c1_i32_50 : BitVec 32 := 1#32
  let v66 : BitVec 32 := Scalar.subi v65 c1_i32_50
  let c16_i32_51 : BitVec 32 := 16#32
  let v67 : BitVec 32 := Scalar.remsi v66 c16_i32_51
  let c15_i32_81 : BitVec 32 := 15#32
  let v96 : BitVec 1 := Scalar.cmpi .eq v67 c15_i32_81
  let c1_i32_82 : BitVec 32 := 1#32
  let c14_i32_79 : BitVec 32 := 14#32
  let v94 : BitVec 1 := Scalar.cmpi .eq v67 c14_i32_79
  let c5_i32_80 : BitVec 32 := 5#32
  let c13_i32_77 : BitVec 32 := 13#32
  let v92 : BitVec 1 := Scalar.cmpi .eq v67 c13_i32_77
  let c9_i32_78 : BitVec 32 := 9#32
  let c12_i32_75 : BitVec 32 := 12#32
  let v90 : BitVec 1 := Scalar.cmpi .eq v67 c12_i32_75
  let c13_i32_76 : BitVec 32 := 13#32
  let c11_i32_73 : BitVec 32 := 11#32
  let v88 : BitVec 1 := Scalar.cmpi .eq v67 c11_i32_73
  let c14_i32_74 : BitVec 32 := 14#32
  let c10_i32_71 : BitVec 32 := 10#32
  let v86 : BitVec 1 := Scalar.cmpi .eq v67 c10_i32_71
  let c10_i32_72 : BitVec 32 := 10#32
  let c9_i32_69 : BitVec 32 := 9#32
  let v84 : BitVec 1 := Scalar.cmpi .eq v67 c9_i32_69
  let c6_i32_70 : BitVec 32 := 6#32
  let c8_i32_67 : BitVec 32 := 8#32
  let v82 : BitVec 1 := Scalar.cmpi .eq v67 c8_i32_67
  let c2_i32_68 : BitVec 32 := 2#32
  let c7_i32_65 : BitVec 32 := 7#32
  let v80 : BitVec 1 := Scalar.cmpi .eq v67 c7_i32_65
  let c3_i32_66 : BitVec 32 := 3#32
  let c6_i32_63 : BitVec 32 := 6#32
  let v78 : BitVec 1 := Scalar.cmpi .eq v67 c6_i32_63
  let c7_i32_64 : BitVec 32 := 7#32
  let c5_i32_61 : BitVec 32 := 5#32
  let v76 : BitVec 1 := Scalar.cmpi .eq v67 c5_i32_61
  let c11_i32_62 : BitVec 32 := 11#32
  let c4_i32_59 : BitVec 32 := 4#32
  let v74 : BitVec 1 := Scalar.cmpi .eq v67 c4_i32_59
  let c15_i32_60 : BitVec 32 := 15#32
  let c3_i32_57 : BitVec 32 := 3#32
  let v72 : BitVec 1 := Scalar.cmpi .eq v67 c3_i32_57
  let c12_i32_58 : BitVec 32 := 12#32
  let c2_i32_55 : BitVec 32 := 2#32
  let v70 : BitVec 1 := Scalar.cmpi .eq v67 c2_i32_55
  let c8_i32_56 : BitVec 32 := 8#32
  let c1_i32_52 : BitVec 32 := 1#32
  let v68 : BitVec 1 := Scalar.cmpi .eq v67 c1_i32_52
  let c4_i32_53 : BitVec 32 := 4#32
  let c0_i32_54 : BitVec 32 := 0#32
  let v69 : BitVec 32 := Scalar.select v68 c4_i32_53 c0_i32_54
  let v71 : BitVec 32 := Scalar.select v70 c8_i32_56 v69
  let v73 : BitVec 32 := Scalar.select v72 c12_i32_58 v71
  let v75 : BitVec 32 := Scalar.select v74 c15_i32_60 v73
  let v77 : BitVec 32 := Scalar.select v76 c11_i32_62 v75
  let v79 : BitVec 32 := Scalar.select v78 c7_i32_64 v77
  let v81 : BitVec 32 := Scalar.select v80 c3_i32_66 v79
  let v83 : BitVec 32 := Scalar.select v82 c2_i32_68 v81
  let v85 : BitVec 32 := Scalar.select v84 c6_i32_70 v83
  let v87 : BitVec 32 := Scalar.select v86 c10_i32_72 v85
  let v89 : BitVec 32 := Scalar.select v88 c14_i32_74 v87
  let v91 : BitVec 32 := Scalar.select v90 c13_i32_76 v89
  let v93 : BitVec 32 := Scalar.select v92 c9_i32_78 v91
  let v95 : BitVec 32 := Scalar.select v94 c5_i32_80 v93
  let v97 : BitVec 32 := Scalar.select v96 c1_i32_82 v95
  let c1_i32_2823 : BitVec 32 := 1#32
  let v2499 : BitVec 32 := Scalar.muli v97 c1_i32_2823
  let v2500 : BitVec 32 := Scalar.addi c0_i32_2824 v2499
  v2500.toNat
def k0_dev51 (d0 : Dev nD) : Nat :=
  let c0_i32_2943 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c4_i32_15 : BitVec 32 := 4#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c12_i32_11 : BitVec 32 := 12#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c5_i32_8 : BitVec 32 := 5#32
  let c10_i32 : BitVec 32 := 10#32
  let v21 : BitVec 1 := Scalar.cmpi .eq v2 c10_i32
  let c10_i32_7 : BitVec 32 := 10#32
  let c9_i32_6 : BitVec 32 := 9#32
  let v19 : BitVec 1 := Scalar.cmpi .eq v2 c9_i32_6
  let c13_i32 : BitVec 32 := 13#32
  let c8_i32_4 : BitVec 32 := 8#32
  let v17 : BitVec 1 := Scalar.cmpi .eq v2 c8_i32_4
  let c2_i32_5 : BitVec 32 := 2#32
  let c7_i32_2 : BitVec 32 := 7#32
  let v15 : BitVec 1 := Scalar.cmpi .eq v2 c7_i32_2
  let c6_i32_3 : BitVec 32 := 6#32
  let c6_i32 : BitVec 32 := 6#32
  let v13 : BitVec 1 := Scalar.cmpi .eq v2 c6_i32
  let c9_i32 : BitVec 32 := 9#32
  let c5_i32 : BitVec 32 := 5#32
  let v11 : BitVec 1 := Scalar.cmpi .eq v2 c5_i32
  let c14_i32 : BitVec 32 := 14#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c7_i32 : BitVec 32 := 7#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c15_i32 : BitVec 32 := 15#32
  let c0_i32 : BitVec 32 := 0#32
  let v4 : BitVec 32 := Scalar.select v3 c15_i32 c0_i32
  let v6 : BitVec 32 := Scalar.select v5 c8_i32 v4
  let v8 : BitVec 32 := Scalar.select v7 c7_i32 v6
  let v10 : BitVec 32 := Scalar.select v9 c1_i32_1 v8
  let v12 : BitVec 32 := Scalar.select v11 c14_i32 v10
  let v14 : BitVec 32 := Scalar.select v13 c9_i32 v12
  let v16 : BitVec 32 := Scalar.select v15 c6_i32_3 v14
  let v18 : BitVec 32 := Scalar.select v17 c2_i32_5 v16
  let v20 : BitVec 32 := Scalar.select v19 c13_i32 v18
  let v22 : BitVec 32 := Scalar.select v21 c10_i32_7 v20
  let v24 : BitVec 32 := Scalar.select v23 c5_i32_8 v22
  let v26 : BitVec 32 := Scalar.select v25 c3_i32_9 v24
  let v28 : BitVec 32 := Scalar.select v27 c12_i32_11 v26
  let v30 : BitVec 32 := Scalar.select v29 c11_i32_13 v28
  let v32 : BitVec 32 := Scalar.select v31 c4_i32_15 v30
  let c1_i32_16 : BitVec 32 := 1#32
  let v33 : BitVec 32 := Scalar.addi v32 c1_i32_16
  let c16_i32_17 : BitVec 32 := 16#32
  let v34 : BitVec 32 := Scalar.remsi v33 c16_i32_17
  let c15_i32_47 : BitVec 32 := 15#32
  let v63 : BitVec 1 := Scalar.cmpi .eq v34 c15_i32_47
  let c1_i32_48 : BitVec 32 := 1#32
  let c14_i32_45 : BitVec 32 := 14#32
  let v61 : BitVec 1 := Scalar.cmpi .eq v34 c14_i32_45
  let c5_i32_46 : BitVec 32 := 5#32
  let c13_i32_43 : BitVec 32 := 13#32
  let v59 : BitVec 1 := Scalar.cmpi .eq v34 c13_i32_43
  let c9_i32_44 : BitVec 32 := 9#32
  let c12_i32_41 : BitVec 32 := 12#32
  let v57 : BitVec 1 := Scalar.cmpi .eq v34 c12_i32_41
  let c13_i32_42 : BitVec 32 := 13#32
  let c11_i32_39 : BitVec 32 := 11#32
  let v55 : BitVec 1 := Scalar.cmpi .eq v34 c11_i32_39
  let c14_i32_40 : BitVec 32 := 14#32
  let c10_i32_37 : BitVec 32 := 10#32
  let v53 : BitVec 1 := Scalar.cmpi .eq v34 c10_i32_37
  let c10_i32_38 : BitVec 32 := 10#32
  let c9_i32_35 : BitVec 32 := 9#32
  let v51 : BitVec 1 := Scalar.cmpi .eq v34 c9_i32_35
  let c6_i32_36 : BitVec 32 := 6#32
  let c8_i32_33 : BitVec 32 := 8#32
  let v49 : BitVec 1 := Scalar.cmpi .eq v34 c8_i32_33
  let c2_i32_34 : BitVec 32 := 2#32
  let c7_i32_31 : BitVec 32 := 7#32
  let v47 : BitVec 1 := Scalar.cmpi .eq v34 c7_i32_31
  let c3_i32_32 : BitVec 32 := 3#32
  let c6_i32_29 : BitVec 32 := 6#32
  let v45 : BitVec 1 := Scalar.cmpi .eq v34 c6_i32_29
  let c7_i32_30 : BitVec 32 := 7#32
  let c5_i32_27 : BitVec 32 := 5#32
  let v43 : BitVec 1 := Scalar.cmpi .eq v34 c5_i32_27
  let c11_i32_28 : BitVec 32 := 11#32
  let c4_i32_25 : BitVec 32 := 4#32
  let v41 : BitVec 1 := Scalar.cmpi .eq v34 c4_i32_25
  let c15_i32_26 : BitVec 32 := 15#32
  let c3_i32_23 : BitVec 32 := 3#32
  let v39 : BitVec 1 := Scalar.cmpi .eq v34 c3_i32_23
  let c12_i32_24 : BitVec 32 := 12#32
  let c2_i32_21 : BitVec 32 := 2#32
  let v37 : BitVec 1 := Scalar.cmpi .eq v34 c2_i32_21
  let c8_i32_22 : BitVec 32 := 8#32
  let c1_i32_18 : BitVec 32 := 1#32
  let v35 : BitVec 1 := Scalar.cmpi .eq v34 c1_i32_18
  let c4_i32_19 : BitVec 32 := 4#32
  let c0_i32_20 : BitVec 32 := 0#32
  let v36 : BitVec 32 := Scalar.select v35 c4_i32_19 c0_i32_20
  let v38 : BitVec 32 := Scalar.select v37 c8_i32_22 v36
  let v40 : BitVec 32 := Scalar.select v39 c12_i32_24 v38
  let v42 : BitVec 32 := Scalar.select v41 c15_i32_26 v40
  let v44 : BitVec 32 := Scalar.select v43 c11_i32_28 v42
  let v46 : BitVec 32 := Scalar.select v45 c7_i32_30 v44
  let v48 : BitVec 32 := Scalar.select v47 c3_i32_32 v46
  let v50 : BitVec 32 := Scalar.select v49 c2_i32_34 v48
  let v52 : BitVec 32 := Scalar.select v51 c6_i32_36 v50
  let v54 : BitVec 32 := Scalar.select v53 c10_i32_38 v52
  let v56 : BitVec 32 := Scalar.select v55 c14_i32_40 v54
  let v58 : BitVec 32 := Scalar.select v57 c13_i32_42 v56
  let v60 : BitVec 32 := Scalar.select v59 c9_i32_44 v58
  let v62 : BitVec 32 := Scalar.select v61 c5_i32_46 v60
  let v64 : BitVec 32 := Scalar.select v63 c1_i32_48 v62
  let c1_i32_2942 : BitVec 32 := 1#32
  let v2611 : BitVec 32 := Scalar.muli v64 c1_i32_2942
  let v2612 : BitVec 32 := Scalar.addi c0_i32_2943 v2611
  v2612.toNat
def k0_dev52 (d0 : Dev nD) : Nat :=
  let c0_i32_2984 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c4_i32_15 : BitVec 32 := 4#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c12_i32_11 : BitVec 32 := 12#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c5_i32_8 : BitVec 32 := 5#32
  let c10_i32 : BitVec 32 := 10#32
  let v21 : BitVec 1 := Scalar.cmpi .eq v2 c10_i32
  let c10_i32_7 : BitVec 32 := 10#32
  let c9_i32_6 : BitVec 32 := 9#32
  let v19 : BitVec 1 := Scalar.cmpi .eq v2 c9_i32_6
  let c13_i32 : BitVec 32 := 13#32
  let c8_i32_4 : BitVec 32 := 8#32
  let v17 : BitVec 1 := Scalar.cmpi .eq v2 c8_i32_4
  let c2_i32_5 : BitVec 32 := 2#32
  let c7_i32_2 : BitVec 32 := 7#32
  let v15 : BitVec 1 := Scalar.cmpi .eq v2 c7_i32_2
  let c6_i32_3 : BitVec 32 := 6#32
  let c6_i32 : BitVec 32 := 6#32
  let v13 : BitVec 1 := Scalar.cmpi .eq v2 c6_i32
  let c9_i32 : BitVec 32 := 9#32
  let c5_i32 : BitVec 32 := 5#32
  let v11 : BitVec 1 := Scalar.cmpi .eq v2 c5_i32
  let c14_i32 : BitVec 32 := 14#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c7_i32 : BitVec 32 := 7#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c15_i32 : BitVec 32 := 15#32
  let c0_i32 : BitVec 32 := 0#32
  let v4 : BitVec 32 := Scalar.select v3 c15_i32 c0_i32
  let v6 : BitVec 32 := Scalar.select v5 c8_i32 v4
  let v8 : BitVec 32 := Scalar.select v7 c7_i32 v6
  let v10 : BitVec 32 := Scalar.select v9 c1_i32_1 v8
  let v12 : BitVec 32 := Scalar.select v11 c14_i32 v10
  let v14 : BitVec 32 := Scalar.select v13 c9_i32 v12
  let v16 : BitVec 32 := Scalar.select v15 c6_i32_3 v14
  let v18 : BitVec 32 := Scalar.select v17 c2_i32_5 v16
  let v20 : BitVec 32 := Scalar.select v19 c13_i32 v18
  let v22 : BitVec 32 := Scalar.select v21 c10_i32_7 v20
  let v24 : BitVec 32 := Scalar.select v23 c5_i32_8 v22
  let v26 : BitVec 32 := Scalar.select v25 c3_i32_9 v24
  let v28 : BitVec 32 := Scalar.select v27 c12_i32_11 v26
  let v30 : BitVec 32 := Scalar.select v29 c11_i32_13 v28
  let v32 : BitVec 32 := Scalar.select v31 c4_i32_15 v30
  let c1_i32_16 : BitVec 32 := 1#32
  let v33 : BitVec 32 := Scalar.addi v32 c1_i32_16
  let c16_i32_17 : BitVec 32 := 16#32
  let v34 : BitVec 32 := Scalar.remsi v33 c16_i32_17
  let c15_i32_47 : BitVec 32 := 15#32
  let v63 : BitVec 1 := Scalar.cmpi .eq v34 c15_i32_47
  let c1_i32_48 : BitVec 32 := 1#32
  let c14_i32_45 : BitVec 32 := 14#32
  let v61 : BitVec 1 := Scalar.cmpi .eq v34 c14_i32_45
  let c5_i32_46 : BitVec 32 := 5#32
  let c13_i32_43 : BitVec 32 := 13#32
  let v59 : BitVec 1 := Scalar.cmpi .eq v34 c13_i32_43
  let c9_i32_44 : BitVec 32 := 9#32
  let c12_i32_41 : BitVec 32 := 12#32
  let v57 : BitVec 1 := Scalar.cmpi .eq v34 c12_i32_41
  let c13_i32_42 : BitVec 32 := 13#32
  let c11_i32_39 : BitVec 32 := 11#32
  let v55 : BitVec 1 := Scalar.cmpi .eq v34 c11_i32_39
  let c14_i32_40 : BitVec 32 := 14#32
  let c10_i32_37 : BitVec 32 := 10#32
  let v53 : BitVec 1 := Scalar.cmpi .eq v34 c10_i32_37
  let c10_i32_38 : BitVec 32 := 10#32
  let c9_i32_35 : BitVec 32 := 9#32
  let v51 : BitVec 1 := Scalar.cmpi .eq v34 c9_i32_35
  let c6_i32_36 : BitVec 32 := 6#32
  let c8_i32_33 : BitVec 32 := 8#32
  let v49 : BitVec 1 := Scalar.cmpi .eq v34 c8_i32_33
  let c2_i32_34 : BitVec 32 := 2#32
  let c7_i32_31 : BitVec 32 := 7#32
  let v47 : BitVec 1 := Scalar.cmpi .eq v34 c7_i32_31
  let c3_i32_32 : BitVec 32 := 3#32
  let c6_i32_29 : BitVec 32 := 6#32
  let v45 : BitVec 1 := Scalar.cmpi .eq v34 c6_i32_29
  let c7_i32_30 : BitVec 32 := 7#32
  let c5_i32_27 : BitVec 32 := 5#32
  let v43 : BitVec 1 := Scalar.cmpi .eq v34 c5_i32_27
  let c11_i32_28 : BitVec 32 := 11#32
  let c4_i32_25 : BitVec 32 := 4#32
  let v41 : BitVec 1 := Scalar.cmpi .eq v34 c4_i32_25
  let c15_i32_26 : BitVec 32 := 15#32
  let c3_i32_23 : BitVec 32 := 3#32
  let v39 : BitVec 1 := Scalar.cmpi .eq v34 c3_i32_23
  let c12_i32_24 : BitVec 32 := 12#32
  let c2_i32_21 : BitVec 32 := 2#32
  let v37 : BitVec 1 := Scalar.cmpi .eq v34 c2_i32_21
  let c8_i32_22 : BitVec 32 := 8#32
  let c1_i32_18 : BitVec 32 := 1#32
  let v35 : BitVec 1 := Scalar.cmpi .eq v34 c1_i32_18
  let c4_i32_19 : BitVec 32 := 4#32
  let c0_i32_20 : BitVec 32 := 0#32
  let v36 : BitVec 32 := Scalar.select v35 c4_i32_19 c0_i32_20
  let v38 : BitVec 32 := Scalar.select v37 c8_i32_22 v36
  let v40 : BitVec 32 := Scalar.select v39 c12_i32_24 v38
  let v42 : BitVec 32 := Scalar.select v41 c15_i32_26 v40
  let v44 : BitVec 32 := Scalar.select v43 c11_i32_28 v42
  let v46 : BitVec 32 := Scalar.select v45 c7_i32_30 v44
  let v48 : BitVec 32 := Scalar.select v47 c3_i32_32 v46
  let v50 : BitVec 32 := Scalar.select v49 c2_i32_34 v48
  let v52 : BitVec 32 := Scalar.select v51 c6_i32_36 v50
  let v54 : BitVec 32 := Scalar.select v53 c10_i32_38 v52
  let v56 : BitVec 32 := Scalar.select v55 c14_i32_40 v54
  let v58 : BitVec 32 := Scalar.select v57 c13_i32_42 v56
  let v60 : BitVec 32 := Scalar.select v59 c9_i32_44 v58
  let v62 : BitVec 32 := Scalar.select v61 c5_i32_46 v60
  let v64 : BitVec 32 := Scalar.select v63 c1_i32_48 v62
  let c1_i32_2983 : BitVec 32 := 1#32
  let v2644 : BitVec 32 := Scalar.muli v64 c1_i32_2983
  let v2645 : BitVec 32 := Scalar.addi c0_i32_2984 v2644
  v2645.toNat
def k0_dev53 (d0 : Dev nD) : Nat :=
  let c0_i32_3025 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c4_i32_15 : BitVec 32 := 4#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c12_i32_11 : BitVec 32 := 12#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c5_i32_8 : BitVec 32 := 5#32
  let c10_i32 : BitVec 32 := 10#32
  let v21 : BitVec 1 := Scalar.cmpi .eq v2 c10_i32
  let c10_i32_7 : BitVec 32 := 10#32
  let c9_i32_6 : BitVec 32 := 9#32
  let v19 : BitVec 1 := Scalar.cmpi .eq v2 c9_i32_6
  let c13_i32 : BitVec 32 := 13#32
  let c8_i32_4 : BitVec 32 := 8#32
  let v17 : BitVec 1 := Scalar.cmpi .eq v2 c8_i32_4
  let c2_i32_5 : BitVec 32 := 2#32
  let c7_i32_2 : BitVec 32 := 7#32
  let v15 : BitVec 1 := Scalar.cmpi .eq v2 c7_i32_2
  let c6_i32_3 : BitVec 32 := 6#32
  let c6_i32 : BitVec 32 := 6#32
  let v13 : BitVec 1 := Scalar.cmpi .eq v2 c6_i32
  let c9_i32 : BitVec 32 := 9#32
  let c5_i32 : BitVec 32 := 5#32
  let v11 : BitVec 1 := Scalar.cmpi .eq v2 c5_i32
  let c14_i32 : BitVec 32 := 14#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c7_i32 : BitVec 32 := 7#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c15_i32 : BitVec 32 := 15#32
  let c0_i32 : BitVec 32 := 0#32
  let v4 : BitVec 32 := Scalar.select v3 c15_i32 c0_i32
  let v6 : BitVec 32 := Scalar.select v5 c8_i32 v4
  let v8 : BitVec 32 := Scalar.select v7 c7_i32 v6
  let v10 : BitVec 32 := Scalar.select v9 c1_i32_1 v8
  let v12 : BitVec 32 := Scalar.select v11 c14_i32 v10
  let v14 : BitVec 32 := Scalar.select v13 c9_i32 v12
  let v16 : BitVec 32 := Scalar.select v15 c6_i32_3 v14
  let v18 : BitVec 32 := Scalar.select v17 c2_i32_5 v16
  let v20 : BitVec 32 := Scalar.select v19 c13_i32 v18
  let v22 : BitVec 32 := Scalar.select v21 c10_i32_7 v20
  let v24 : BitVec 32 := Scalar.select v23 c5_i32_8 v22
  let v26 : BitVec 32 := Scalar.select v25 c3_i32_9 v24
  let v28 : BitVec 32 := Scalar.select v27 c12_i32_11 v26
  let v30 : BitVec 32 := Scalar.select v29 c11_i32_13 v28
  let v32 : BitVec 32 := Scalar.select v31 c4_i32_15 v30
  let c16_i32_49 : BitVec 32 := 16#32
  let v65 : BitVec 32 := Scalar.addi v32 c16_i32_49
  let c1_i32_50 : BitVec 32 := 1#32
  let v66 : BitVec 32 := Scalar.subi v65 c1_i32_50
  let c16_i32_51 : BitVec 32 := 16#32
  let v67 : BitVec 32 := Scalar.remsi v66 c16_i32_51
  let c15_i32_81 : BitVec 32 := 15#32
  let v96 : BitVec 1 := Scalar.cmpi .eq v67 c15_i32_81
  let c1_i32_82 : BitVec 32 := 1#32
  let c14_i32_79 : BitVec 32 := 14#32
  let v94 : BitVec 1 := Scalar.cmpi .eq v67 c14_i32_79
  let c5_i32_80 : BitVec 32 := 5#32
  let c13_i32_77 : BitVec 32 := 13#32
  let v92 : BitVec 1 := Scalar.cmpi .eq v67 c13_i32_77
  let c9_i32_78 : BitVec 32 := 9#32
  let c12_i32_75 : BitVec 32 := 12#32
  let v90 : BitVec 1 := Scalar.cmpi .eq v67 c12_i32_75
  let c13_i32_76 : BitVec 32 := 13#32
  let c11_i32_73 : BitVec 32 := 11#32
  let v88 : BitVec 1 := Scalar.cmpi .eq v67 c11_i32_73
  let c14_i32_74 : BitVec 32 := 14#32
  let c10_i32_71 : BitVec 32 := 10#32
  let v86 : BitVec 1 := Scalar.cmpi .eq v67 c10_i32_71
  let c10_i32_72 : BitVec 32 := 10#32
  let c9_i32_69 : BitVec 32 := 9#32
  let v84 : BitVec 1 := Scalar.cmpi .eq v67 c9_i32_69
  let c6_i32_70 : BitVec 32 := 6#32
  let c8_i32_67 : BitVec 32 := 8#32
  let v82 : BitVec 1 := Scalar.cmpi .eq v67 c8_i32_67
  let c2_i32_68 : BitVec 32 := 2#32
  let c7_i32_65 : BitVec 32 := 7#32
  let v80 : BitVec 1 := Scalar.cmpi .eq v67 c7_i32_65
  let c3_i32_66 : BitVec 32 := 3#32
  let c6_i32_63 : BitVec 32 := 6#32
  let v78 : BitVec 1 := Scalar.cmpi .eq v67 c6_i32_63
  let c7_i32_64 : BitVec 32 := 7#32
  let c5_i32_61 : BitVec 32 := 5#32
  let v76 : BitVec 1 := Scalar.cmpi .eq v67 c5_i32_61
  let c11_i32_62 : BitVec 32 := 11#32
  let c4_i32_59 : BitVec 32 := 4#32
  let v74 : BitVec 1 := Scalar.cmpi .eq v67 c4_i32_59
  let c15_i32_60 : BitVec 32 := 15#32
  let c3_i32_57 : BitVec 32 := 3#32
  let v72 : BitVec 1 := Scalar.cmpi .eq v67 c3_i32_57
  let c12_i32_58 : BitVec 32 := 12#32
  let c2_i32_55 : BitVec 32 := 2#32
  let v70 : BitVec 1 := Scalar.cmpi .eq v67 c2_i32_55
  let c8_i32_56 : BitVec 32 := 8#32
  let c1_i32_52 : BitVec 32 := 1#32
  let v68 : BitVec 1 := Scalar.cmpi .eq v67 c1_i32_52
  let c4_i32_53 : BitVec 32 := 4#32
  let c0_i32_54 : BitVec 32 := 0#32
  let v69 : BitVec 32 := Scalar.select v68 c4_i32_53 c0_i32_54
  let v71 : BitVec 32 := Scalar.select v70 c8_i32_56 v69
  let v73 : BitVec 32 := Scalar.select v72 c12_i32_58 v71
  let v75 : BitVec 32 := Scalar.select v74 c15_i32_60 v73
  let v77 : BitVec 32 := Scalar.select v76 c11_i32_62 v75
  let v79 : BitVec 32 := Scalar.select v78 c7_i32_64 v77
  let v81 : BitVec 32 := Scalar.select v80 c3_i32_66 v79
  let v83 : BitVec 32 := Scalar.select v82 c2_i32_68 v81
  let v85 : BitVec 32 := Scalar.select v84 c6_i32_70 v83
  let v87 : BitVec 32 := Scalar.select v86 c10_i32_72 v85
  let v89 : BitVec 32 := Scalar.select v88 c14_i32_74 v87
  let v91 : BitVec 32 := Scalar.select v90 c13_i32_76 v89
  let v93 : BitVec 32 := Scalar.select v92 c9_i32_78 v91
  let v95 : BitVec 32 := Scalar.select v94 c5_i32_80 v93
  let v97 : BitVec 32 := Scalar.select v96 c1_i32_82 v95
  let c1_i32_3024 : BitVec 32 := 1#32
  let v2677 : BitVec 32 := Scalar.muli v97 c1_i32_3024
  let v2678 : BitVec 32 := Scalar.addi c0_i32_3025 v2677
  v2678.toNat
def k0_dev54 (d0 : Dev nD) : Nat :=
  let c0_i32_3066 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c4_i32_15 : BitVec 32 := 4#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c12_i32_11 : BitVec 32 := 12#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c5_i32_8 : BitVec 32 := 5#32
  let c10_i32 : BitVec 32 := 10#32
  let v21 : BitVec 1 := Scalar.cmpi .eq v2 c10_i32
  let c10_i32_7 : BitVec 32 := 10#32
  let c9_i32_6 : BitVec 32 := 9#32
  let v19 : BitVec 1 := Scalar.cmpi .eq v2 c9_i32_6
  let c13_i32 : BitVec 32 := 13#32
  let c8_i32_4 : BitVec 32 := 8#32
  let v17 : BitVec 1 := Scalar.cmpi .eq v2 c8_i32_4
  let c2_i32_5 : BitVec 32 := 2#32
  let c7_i32_2 : BitVec 32 := 7#32
  let v15 : BitVec 1 := Scalar.cmpi .eq v2 c7_i32_2
  let c6_i32_3 : BitVec 32 := 6#32
  let c6_i32 : BitVec 32 := 6#32
  let v13 : BitVec 1 := Scalar.cmpi .eq v2 c6_i32
  let c9_i32 : BitVec 32 := 9#32
  let c5_i32 : BitVec 32 := 5#32
  let v11 : BitVec 1 := Scalar.cmpi .eq v2 c5_i32
  let c14_i32 : BitVec 32 := 14#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c7_i32 : BitVec 32 := 7#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c15_i32 : BitVec 32 := 15#32
  let c0_i32 : BitVec 32 := 0#32
  let v4 : BitVec 32 := Scalar.select v3 c15_i32 c0_i32
  let v6 : BitVec 32 := Scalar.select v5 c8_i32 v4
  let v8 : BitVec 32 := Scalar.select v7 c7_i32 v6
  let v10 : BitVec 32 := Scalar.select v9 c1_i32_1 v8
  let v12 : BitVec 32 := Scalar.select v11 c14_i32 v10
  let v14 : BitVec 32 := Scalar.select v13 c9_i32 v12
  let v16 : BitVec 32 := Scalar.select v15 c6_i32_3 v14
  let v18 : BitVec 32 := Scalar.select v17 c2_i32_5 v16
  let v20 : BitVec 32 := Scalar.select v19 c13_i32 v18
  let v22 : BitVec 32 := Scalar.select v21 c10_i32_7 v20
  let v24 : BitVec 32 := Scalar.select v23 c5_i32_8 v22
  let v26 : BitVec 32 := Scalar.select v25 c3_i32_9 v24
  let v28 : BitVec 32 := Scalar.select v27 c12_i32_11 v26
  let v30 : BitVec 32 := Scalar.select v29 c11_i32_13 v28
  let v32 : BitVec 32 := Scalar.select v31 c4_i32_15 v30
  let c16_i32_49 : BitVec 32 := 16#32
  let v65 : BitVec 32 := Scalar.addi v32 c16_i32_49
  let c1_i32_50 : BitVec 32 := 1#32
  let v66 : BitVec 32 := Scalar.subi v65 c1_i32_50
  let c16_i32_51 : BitVec 32 := 16#32
  let v67 : BitVec 32 := Scalar.remsi v66 c16_i32_51
  let c15_i32_81 : BitVec 32 := 15#32
  let v96 : BitVec 1 := Scalar.cmpi .eq v67 c15_i32_81
  let c1_i32_82 : BitVec 32 := 1#32
  let c14_i32_79 : BitVec 32 := 14#32
  let v94 : BitVec 1 := Scalar.cmpi .eq v67 c14_i32_79
  let c5_i32_80 : BitVec 32 := 5#32
  let c13_i32_77 : BitVec 32 := 13#32
  let v92 : BitVec 1 := Scalar.cmpi .eq v67 c13_i32_77
  let c9_i32_78 : BitVec 32 := 9#32
  let c12_i32_75 : BitVec 32 := 12#32
  let v90 : BitVec 1 := Scalar.cmpi .eq v67 c12_i32_75
  let c13_i32_76 : BitVec 32 := 13#32
  let c11_i32_73 : BitVec 32 := 11#32
  let v88 : BitVec 1 := Scalar.cmpi .eq v67 c11_i32_73
  let c14_i32_74 : BitVec 32 := 14#32
  let c10_i32_71 : BitVec 32 := 10#32
  let v86 : BitVec 1 := Scalar.cmpi .eq v67 c10_i32_71
  let c10_i32_72 : BitVec 32 := 10#32
  let c9_i32_69 : BitVec 32 := 9#32
  let v84 : BitVec 1 := Scalar.cmpi .eq v67 c9_i32_69
  let c6_i32_70 : BitVec 32 := 6#32
  let c8_i32_67 : BitVec 32 := 8#32
  let v82 : BitVec 1 := Scalar.cmpi .eq v67 c8_i32_67
  let c2_i32_68 : BitVec 32 := 2#32
  let c7_i32_65 : BitVec 32 := 7#32
  let v80 : BitVec 1 := Scalar.cmpi .eq v67 c7_i32_65
  let c3_i32_66 : BitVec 32 := 3#32
  let c6_i32_63 : BitVec 32 := 6#32
  let v78 : BitVec 1 := Scalar.cmpi .eq v67 c6_i32_63
  let c7_i32_64 : BitVec 32 := 7#32
  let c5_i32_61 : BitVec 32 := 5#32
  let v76 : BitVec 1 := Scalar.cmpi .eq v67 c5_i32_61
  let c11_i32_62 : BitVec 32 := 11#32
  let c4_i32_59 : BitVec 32 := 4#32
  let v74 : BitVec 1 := Scalar.cmpi .eq v67 c4_i32_59
  let c15_i32_60 : BitVec 32 := 15#32
  let c3_i32_57 : BitVec 32 := 3#32
  let v72 : BitVec 1 := Scalar.cmpi .eq v67 c3_i32_57
  let c12_i32_58 : BitVec 32 := 12#32
  let c2_i32_55 : BitVec 32 := 2#32
  let v70 : BitVec 1 := Scalar.cmpi .eq v67 c2_i32_55
  let c8_i32_56 : BitVec 32 := 8#32
  let c1_i32_52 : BitVec 32 := 1#32
  let v68 : BitVec 1 := Scalar.cmpi .eq v67 c1_i32_52
  let c4_i32_53 : BitVec 32 := 4#32
  let c0_i32_54 : BitVec 32 := 0#32
  let v69 : BitVec 32 := Scalar.select v68 c4_i32_53 c0_i32_54
  let v71 : BitVec 32 := Scalar.select v70 c8_i32_56 v69
  let v73 : BitVec 32 := Scalar.select v72 c12_i32_58 v71
  let v75 : BitVec 32 := Scalar.select v74 c15_i32_60 v73
  let v77 : BitVec 32 := Scalar.select v76 c11_i32_62 v75
  let v79 : BitVec 32 := Scalar.select v78 c7_i32_64 v77
  let v81 : BitVec 32 := Scalar.select v80 c3_i32_66 v79
  let v83 : BitVec 32 := Scalar.select v82 c2_i32_68 v81
  let v85 : BitVec 32 := Scalar.select v84 c6_i32_70 v83
  let v87 : BitVec 32 := Scalar.select v86 c10_i32_72 v85
  let v89 : BitVec 32 := Scalar.select v88 c14_i32_74 v87
  let v91 : BitVec 32 := Scalar.select v90 c13_i32_76 v89
  let v93 : BitVec 32 := Scalar.select v92 c9_i32_78 v91
  let v95 : BitVec 32 := Scalar.select v94 c5_i32_80 v93
  let v97 : BitVec 32 := Scalar.select v96 c1_i32_82 v95
  let c1_i32_3065 : BitVec 32 := 1#32
  let v2710 : BitVec 32 := Scalar.muli v97 c1_i32_3065
  let v2711 : BitVec 32 := Scalar.addi c0_i32_3066 v2710
  v2711.toNat
def k0_dev55 (d0 : Dev nD) : Nat :=
  let c0_i32_3185 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c4_i32_15 : BitVec 32 := 4#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c12_i32_11 : BitVec 32 := 12#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c5_i32_8 : BitVec 32 := 5#32
  let c10_i32 : BitVec 32 := 10#32
  let v21 : BitVec 1 := Scalar.cmpi .eq v2 c10_i32
  let c10_i32_7 : BitVec 32 := 10#32
  let c9_i32_6 : BitVec 32 := 9#32
  let v19 : BitVec 1 := Scalar.cmpi .eq v2 c9_i32_6
  let c13_i32 : BitVec 32 := 13#32
  let c8_i32_4 : BitVec 32 := 8#32
  let v17 : BitVec 1 := Scalar.cmpi .eq v2 c8_i32_4
  let c2_i32_5 : BitVec 32 := 2#32
  let c7_i32_2 : BitVec 32 := 7#32
  let v15 : BitVec 1 := Scalar.cmpi .eq v2 c7_i32_2
  let c6_i32_3 : BitVec 32 := 6#32
  let c6_i32 : BitVec 32 := 6#32
  let v13 : BitVec 1 := Scalar.cmpi .eq v2 c6_i32
  let c9_i32 : BitVec 32 := 9#32
  let c5_i32 : BitVec 32 := 5#32
  let v11 : BitVec 1 := Scalar.cmpi .eq v2 c5_i32
  let c14_i32 : BitVec 32 := 14#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c7_i32 : BitVec 32 := 7#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c15_i32 : BitVec 32 := 15#32
  let c0_i32 : BitVec 32 := 0#32
  let v4 : BitVec 32 := Scalar.select v3 c15_i32 c0_i32
  let v6 : BitVec 32 := Scalar.select v5 c8_i32 v4
  let v8 : BitVec 32 := Scalar.select v7 c7_i32 v6
  let v10 : BitVec 32 := Scalar.select v9 c1_i32_1 v8
  let v12 : BitVec 32 := Scalar.select v11 c14_i32 v10
  let v14 : BitVec 32 := Scalar.select v13 c9_i32 v12
  let v16 : BitVec 32 := Scalar.select v15 c6_i32_3 v14
  let v18 : BitVec 32 := Scalar.select v17 c2_i32_5 v16
  let v20 : BitVec 32 := Scalar.select v19 c13_i32 v18
  let v22 : BitVec 32 := Scalar.select v21 c10_i32_7 v20
  let v24 : BitVec 32 := Scalar.select v23 c5_i32_8 v22
  let v26 : BitVec 32 := Scalar.select v25 c3_i32_9 v24
  let v28 : BitVec 32 := Scalar.select v27 c12_i32_11 v26
  let v30 : BitVec 32 := Scalar.select v29 c11_i32_13 v28
  let v32 : BitVec 32 := Scalar.select v31 c4_i32_15 v30
  let c1_i32_16 : BitVec 32 := 1#32
  let v33 : BitVec 32 := Scalar.addi v32 c1_i32_16
  let c16_i32_17 : BitVec 32 := 16#32
  let v34 : BitVec 32 := Scalar.remsi v33 c16_i32_17
  let c15_i32_47 : BitVec 32 := 15#32
  let v63 : BitVec 1 := Scalar.cmpi .eq v34 c15_i32_47
  let c1_i32_48 : BitVec 32 := 1#32
  let c14_i32_45 : BitVec 32 := 14#32
  let v61 : BitVec 1 := Scalar.cmpi .eq v34 c14_i32_45
  let c5_i32_46 : BitVec 32 := 5#32
  let c13_i32_43 : BitVec 32 := 13#32
  let v59 : BitVec 1 := Scalar.cmpi .eq v34 c13_i32_43
  let c9_i32_44 : BitVec 32 := 9#32
  let c12_i32_41 : BitVec 32 := 12#32
  let v57 : BitVec 1 := Scalar.cmpi .eq v34 c12_i32_41
  let c13_i32_42 : BitVec 32 := 13#32
  let c11_i32_39 : BitVec 32 := 11#32
  let v55 : BitVec 1 := Scalar.cmpi .eq v34 c11_i32_39
  let c14_i32_40 : BitVec 32 := 14#32
  let c10_i32_37 : BitVec 32 := 10#32
  let v53 : BitVec 1 := Scalar.cmpi .eq v34 c10_i32_37
  let c10_i32_38 : BitVec 32 := 10#32
  let c9_i32_35 : BitVec 32 := 9#32
  let v51 : BitVec 1 := Scalar.cmpi .eq v34 c9_i32_35
  let c6_i32_36 : BitVec 32 := 6#32
  let c8_i32_33 : BitVec 32 := 8#32
  let v49 : BitVec 1 := Scalar.cmpi .eq v34 c8_i32_33
  let c2_i32_34 : BitVec 32 := 2#32
  let c7_i32_31 : BitVec 32 := 7#32
  let v47 : BitVec 1 := Scalar.cmpi .eq v34 c7_i32_31
  let c3_i32_32 : BitVec 32 := 3#32
  let c6_i32_29 : BitVec 32 := 6#32
  let v45 : BitVec 1 := Scalar.cmpi .eq v34 c6_i32_29
  let c7_i32_30 : BitVec 32 := 7#32
  let c5_i32_27 : BitVec 32 := 5#32
  let v43 : BitVec 1 := Scalar.cmpi .eq v34 c5_i32_27
  let c11_i32_28 : BitVec 32 := 11#32
  let c4_i32_25 : BitVec 32 := 4#32
  let v41 : BitVec 1 := Scalar.cmpi .eq v34 c4_i32_25
  let c15_i32_26 : BitVec 32 := 15#32
  let c3_i32_23 : BitVec 32 := 3#32
  let v39 : BitVec 1 := Scalar.cmpi .eq v34 c3_i32_23
  let c12_i32_24 : BitVec 32 := 12#32
  let c2_i32_21 : BitVec 32 := 2#32
  let v37 : BitVec 1 := Scalar.cmpi .eq v34 c2_i32_21
  let c8_i32_22 : BitVec 32 := 8#32
  let c1_i32_18 : BitVec 32 := 1#32
  let v35 : BitVec 1 := Scalar.cmpi .eq v34 c1_i32_18
  let c4_i32_19 : BitVec 32 := 4#32
  let c0_i32_20 : BitVec 32 := 0#32
  let v36 : BitVec 32 := Scalar.select v35 c4_i32_19 c0_i32_20
  let v38 : BitVec 32 := Scalar.select v37 c8_i32_22 v36
  let v40 : BitVec 32 := Scalar.select v39 c12_i32_24 v38
  let v42 : BitVec 32 := Scalar.select v41 c15_i32_26 v40
  let v44 : BitVec 32 := Scalar.select v43 c11_i32_28 v42
  let v46 : BitVec 32 := Scalar.select v45 c7_i32_30 v44
  let v48 : BitVec 32 := Scalar.select v47 c3_i32_32 v46
  let v50 : BitVec 32 := Scalar.select v49 c2_i32_34 v48
  let v52 : BitVec 32 := Scalar.select v51 c6_i32_36 v50
  let v54 : BitVec 32 := Scalar.select v53 c10_i32_38 v52
  let v56 : BitVec 32 := Scalar.select v55 c14_i32_40 v54
  let v58 : BitVec 32 := Scalar.select v57 c13_i32_42 v56
  let v60 : BitVec 32 := Scalar.select v59 c9_i32_44 v58
  let v62 : BitVec 32 := Scalar.select v61 c5_i32_46 v60
  let v64 : BitVec 32 := Scalar.select v63 c1_i32_48 v62
  let c1_i32_3184 : BitVec 32 := 1#32
  let v2822 : BitVec 32 := Scalar.muli v64 c1_i32_3184
  let v2823 : BitVec 32 := Scalar.addi c0_i32_3185 v2822
  v2823.toNat
def k0_dev56 (d0 : Dev nD) : Nat :=
  let c0_i32_3226 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c4_i32_15 : BitVec 32 := 4#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c12_i32_11 : BitVec 32 := 12#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c5_i32_8 : BitVec 32 := 5#32
  let c10_i32 : BitVec 32 := 10#32
  let v21 : BitVec 1 := Scalar.cmpi .eq v2 c10_i32
  let c10_i32_7 : BitVec 32 := 10#32
  let c9_i32_6 : BitVec 32 := 9#32
  let v19 : BitVec 1 := Scalar.cmpi .eq v2 c9_i32_6
  let c13_i32 : BitVec 32 := 13#32
  let c8_i32_4 : BitVec 32 := 8#32
  let v17 : BitVec 1 := Scalar.cmpi .eq v2 c8_i32_4
  let c2_i32_5 : BitVec 32 := 2#32
  let c7_i32_2 : BitVec 32 := 7#32
  let v15 : BitVec 1 := Scalar.cmpi .eq v2 c7_i32_2
  let c6_i32_3 : BitVec 32 := 6#32
  let c6_i32 : BitVec 32 := 6#32
  let v13 : BitVec 1 := Scalar.cmpi .eq v2 c6_i32
  let c9_i32 : BitVec 32 := 9#32
  let c5_i32 : BitVec 32 := 5#32
  let v11 : BitVec 1 := Scalar.cmpi .eq v2 c5_i32
  let c14_i32 : BitVec 32 := 14#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c7_i32 : BitVec 32 := 7#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c15_i32 : BitVec 32 := 15#32
  let c0_i32 : BitVec 32 := 0#32
  let v4 : BitVec 32 := Scalar.select v3 c15_i32 c0_i32
  let v6 : BitVec 32 := Scalar.select v5 c8_i32 v4
  let v8 : BitVec 32 := Scalar.select v7 c7_i32 v6
  let v10 : BitVec 32 := Scalar.select v9 c1_i32_1 v8
  let v12 : BitVec 32 := Scalar.select v11 c14_i32 v10
  let v14 : BitVec 32 := Scalar.select v13 c9_i32 v12
  let v16 : BitVec 32 := Scalar.select v15 c6_i32_3 v14
  let v18 : BitVec 32 := Scalar.select v17 c2_i32_5 v16
  let v20 : BitVec 32 := Scalar.select v19 c13_i32 v18
  let v22 : BitVec 32 := Scalar.select v21 c10_i32_7 v20
  let v24 : BitVec 32 := Scalar.select v23 c5_i32_8 v22
  let v26 : BitVec 32 := Scalar.select v25 c3_i32_9 v24
  let v28 : BitVec 32 := Scalar.select v27 c12_i32_11 v26
  let v30 : BitVec 32 := Scalar.select v29 c11_i32_13 v28
  let v32 : BitVec 32 := Scalar.select v31 c4_i32_15 v30
  let c1_i32_16 : BitVec 32 := 1#32
  let v33 : BitVec 32 := Scalar.addi v32 c1_i32_16
  let c16_i32_17 : BitVec 32 := 16#32
  let v34 : BitVec 32 := Scalar.remsi v33 c16_i32_17
  let c15_i32_47 : BitVec 32 := 15#32
  let v63 : BitVec 1 := Scalar.cmpi .eq v34 c15_i32_47
  let c1_i32_48 : BitVec 32 := 1#32
  let c14_i32_45 : BitVec 32 := 14#32
  let v61 : BitVec 1 := Scalar.cmpi .eq v34 c14_i32_45
  let c5_i32_46 : BitVec 32 := 5#32
  let c13_i32_43 : BitVec 32 := 13#32
  let v59 : BitVec 1 := Scalar.cmpi .eq v34 c13_i32_43
  let c9_i32_44 : BitVec 32 := 9#32
  let c12_i32_41 : BitVec 32 := 12#32
  let v57 : BitVec 1 := Scalar.cmpi .eq v34 c12_i32_41
  let c13_i32_42 : BitVec 32 := 13#32
  let c11_i32_39 : BitVec 32 := 11#32
  let v55 : BitVec 1 := Scalar.cmpi .eq v34 c11_i32_39
  let c14_i32_40 : BitVec 32 := 14#32
  let c10_i32_37 : BitVec 32 := 10#32
  let v53 : BitVec 1 := Scalar.cmpi .eq v34 c10_i32_37
  let c10_i32_38 : BitVec 32 := 10#32
  let c9_i32_35 : BitVec 32 := 9#32
  let v51 : BitVec 1 := Scalar.cmpi .eq v34 c9_i32_35
  let c6_i32_36 : BitVec 32 := 6#32
  let c8_i32_33 : BitVec 32 := 8#32
  let v49 : BitVec 1 := Scalar.cmpi .eq v34 c8_i32_33
  let c2_i32_34 : BitVec 32 := 2#32
  let c7_i32_31 : BitVec 32 := 7#32
  let v47 : BitVec 1 := Scalar.cmpi .eq v34 c7_i32_31
  let c3_i32_32 : BitVec 32 := 3#32
  let c6_i32_29 : BitVec 32 := 6#32
  let v45 : BitVec 1 := Scalar.cmpi .eq v34 c6_i32_29
  let c7_i32_30 : BitVec 32 := 7#32
  let c5_i32_27 : BitVec 32 := 5#32
  let v43 : BitVec 1 := Scalar.cmpi .eq v34 c5_i32_27
  let c11_i32_28 : BitVec 32 := 11#32
  let c4_i32_25 : BitVec 32 := 4#32
  let v41 : BitVec 1 := Scalar.cmpi .eq v34 c4_i32_25
  let c15_i32_26 : BitVec 32 := 15#32
  let c3_i32_23 : BitVec 32 := 3#32
  let v39 : BitVec 1 := Scalar.cmpi .eq v34 c3_i32_23
  let c12_i32_24 : BitVec 32 := 12#32
  let c2_i32_21 : BitVec 32 := 2#32
  let v37 : BitVec 1 := Scalar.cmpi .eq v34 c2_i32_21
  let c8_i32_22 : BitVec 32 := 8#32
  let c1_i32_18 : BitVec 32 := 1#32
  let v35 : BitVec 1 := Scalar.cmpi .eq v34 c1_i32_18
  let c4_i32_19 : BitVec 32 := 4#32
  let c0_i32_20 : BitVec 32 := 0#32
  let v36 : BitVec 32 := Scalar.select v35 c4_i32_19 c0_i32_20
  let v38 : BitVec 32 := Scalar.select v37 c8_i32_22 v36
  let v40 : BitVec 32 := Scalar.select v39 c12_i32_24 v38
  let v42 : BitVec 32 := Scalar.select v41 c15_i32_26 v40
  let v44 : BitVec 32 := Scalar.select v43 c11_i32_28 v42
  let v46 : BitVec 32 := Scalar.select v45 c7_i32_30 v44
  let v48 : BitVec 32 := Scalar.select v47 c3_i32_32 v46
  let v50 : BitVec 32 := Scalar.select v49 c2_i32_34 v48
  let v52 : BitVec 32 := Scalar.select v51 c6_i32_36 v50
  let v54 : BitVec 32 := Scalar.select v53 c10_i32_38 v52
  let v56 : BitVec 32 := Scalar.select v55 c14_i32_40 v54
  let v58 : BitVec 32 := Scalar.select v57 c13_i32_42 v56
  let v60 : BitVec 32 := Scalar.select v59 c9_i32_44 v58
  let v62 : BitVec 32 := Scalar.select v61 c5_i32_46 v60
  let v64 : BitVec 32 := Scalar.select v63 c1_i32_48 v62
  let c1_i32_3225 : BitVec 32 := 1#32
  let v2855 : BitVec 32 := Scalar.muli v64 c1_i32_3225
  let v2856 : BitVec 32 := Scalar.addi c0_i32_3226 v2855
  v2856.toNat
def k0_dev57 (d0 : Dev nD) : Nat :=
  let c0_i32_3267 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c4_i32_15 : BitVec 32 := 4#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c12_i32_11 : BitVec 32 := 12#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c5_i32_8 : BitVec 32 := 5#32
  let c10_i32 : BitVec 32 := 10#32
  let v21 : BitVec 1 := Scalar.cmpi .eq v2 c10_i32
  let c10_i32_7 : BitVec 32 := 10#32
  let c9_i32_6 : BitVec 32 := 9#32
  let v19 : BitVec 1 := Scalar.cmpi .eq v2 c9_i32_6
  let c13_i32 : BitVec 32 := 13#32
  let c8_i32_4 : BitVec 32 := 8#32
  let v17 : BitVec 1 := Scalar.cmpi .eq v2 c8_i32_4
  let c2_i32_5 : BitVec 32 := 2#32
  let c7_i32_2 : BitVec 32 := 7#32
  let v15 : BitVec 1 := Scalar.cmpi .eq v2 c7_i32_2
  let c6_i32_3 : BitVec 32 := 6#32
  let c6_i32 : BitVec 32 := 6#32
  let v13 : BitVec 1 := Scalar.cmpi .eq v2 c6_i32
  let c9_i32 : BitVec 32 := 9#32
  let c5_i32 : BitVec 32 := 5#32
  let v11 : BitVec 1 := Scalar.cmpi .eq v2 c5_i32
  let c14_i32 : BitVec 32 := 14#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c7_i32 : BitVec 32 := 7#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c15_i32 : BitVec 32 := 15#32
  let c0_i32 : BitVec 32 := 0#32
  let v4 : BitVec 32 := Scalar.select v3 c15_i32 c0_i32
  let v6 : BitVec 32 := Scalar.select v5 c8_i32 v4
  let v8 : BitVec 32 := Scalar.select v7 c7_i32 v6
  let v10 : BitVec 32 := Scalar.select v9 c1_i32_1 v8
  let v12 : BitVec 32 := Scalar.select v11 c14_i32 v10
  let v14 : BitVec 32 := Scalar.select v13 c9_i32 v12
  let v16 : BitVec 32 := Scalar.select v15 c6_i32_3 v14
  let v18 : BitVec 32 := Scalar.select v17 c2_i32_5 v16
  let v20 : BitVec 32 := Scalar.select v19 c13_i32 v18
  let v22 : BitVec 32 := Scalar.select v21 c10_i32_7 v20
  let v24 : BitVec 32 := Scalar.select v23 c5_i32_8 v22
  let v26 : BitVec 32 := Scalar.select v25 c3_i32_9 v24
  let v28 : BitVec 32 := Scalar.select v27 c12_i32_11 v26
  let v30 : BitVec 32 := Scalar.select v29 c11_i32_13 v28
  let v32 : BitVec 32 := Scalar.select v31 c4_i32_15 v30
  let c16_i32_49 : BitVec 32 := 16#32
  let v65 : BitVec 32 := Scalar.addi v32 c16_i32_49
  let c1_i32_50 : BitVec 32 := 1#32
  let v66 : BitVec 32 := Scalar.subi v65 c1_i32_50
  let c16_i32_51 : BitVec 32 := 16#32
  let v67 : BitVec 32 := Scalar.remsi v66 c16_i32_51
  let c15_i32_81 : BitVec 32 := 15#32
  let v96 : BitVec 1 := Scalar.cmpi .eq v67 c15_i32_81
  let c1_i32_82 : BitVec 32 := 1#32
  let c14_i32_79 : BitVec 32 := 14#32
  let v94 : BitVec 1 := Scalar.cmpi .eq v67 c14_i32_79
  let c5_i32_80 : BitVec 32 := 5#32
  let c13_i32_77 : BitVec 32 := 13#32
  let v92 : BitVec 1 := Scalar.cmpi .eq v67 c13_i32_77
  let c9_i32_78 : BitVec 32 := 9#32
  let c12_i32_75 : BitVec 32 := 12#32
  let v90 : BitVec 1 := Scalar.cmpi .eq v67 c12_i32_75
  let c13_i32_76 : BitVec 32 := 13#32
  let c11_i32_73 : BitVec 32 := 11#32
  let v88 : BitVec 1 := Scalar.cmpi .eq v67 c11_i32_73
  let c14_i32_74 : BitVec 32 := 14#32
  let c10_i32_71 : BitVec 32 := 10#32
  let v86 : BitVec 1 := Scalar.cmpi .eq v67 c10_i32_71
  let c10_i32_72 : BitVec 32 := 10#32
  let c9_i32_69 : BitVec 32 := 9#32
  let v84 : BitVec 1 := Scalar.cmpi .eq v67 c9_i32_69
  let c6_i32_70 : BitVec 32 := 6#32
  let c8_i32_67 : BitVec 32 := 8#32
  let v82 : BitVec 1 := Scalar.cmpi .eq v67 c8_i32_67
  let c2_i32_68 : BitVec 32 := 2#32
  let c7_i32_65 : BitVec 32 := 7#32
  let v80 : BitVec 1 := Scalar.cmpi .eq v67 c7_i32_65
  let c3_i32_66 : BitVec 32 := 3#32
  let c6_i32_63 : BitVec 32 := 6#32
  let v78 : BitVec 1 := Scalar.cmpi .eq v67 c6_i32_63
  let c7_i32_64 : BitVec 32 := 7#32
  let c5_i32_61 : BitVec 32 := 5#32
  let v76 : BitVec 1 := Scalar.cmpi .eq v67 c5_i32_61
  let c11_i32_62 : BitVec 32 := 11#32
  let c4_i32_59 : BitVec 32 := 4#32
  let v74 : BitVec 1 := Scalar.cmpi .eq v67 c4_i32_59
  let c15_i32_60 : BitVec 32 := 15#32
  let c3_i32_57 : BitVec 32 := 3#32
  let v72 : BitVec 1 := Scalar.cmpi .eq v67 c3_i32_57
  let c12_i32_58 : BitVec 32 := 12#32
  let c2_i32_55 : BitVec 32 := 2#32
  let v70 : BitVec 1 := Scalar.cmpi .eq v67 c2_i32_55
  let c8_i32_56 : BitVec 32 := 8#32
  let c1_i32_52 : BitVec 32 := 1#32
  let v68 : BitVec 1 := Scalar.cmpi .eq v67 c1_i32_52
  let c4_i32_53 : BitVec 32 := 4#32
  let c0_i32_54 : BitVec 32 := 0#32
  let v69 : BitVec 32 := Scalar.select v68 c4_i32_53 c0_i32_54
  let v71 : BitVec 32 := Scalar.select v70 c8_i32_56 v69
  let v73 : BitVec 32 := Scalar.select v72 c12_i32_58 v71
  let v75 : BitVec 32 := Scalar.select v74 c15_i32_60 v73
  let v77 : BitVec 32 := Scalar.select v76 c11_i32_62 v75
  let v79 : BitVec 32 := Scalar.select v78 c7_i32_64 v77
  let v81 : BitVec 32 := Scalar.select v80 c3_i32_66 v79
  let v83 : BitVec 32 := Scalar.select v82 c2_i32_68 v81
  let v85 : BitVec 32 := Scalar.select v84 c6_i32_70 v83
  let v87 : BitVec 32 := Scalar.select v86 c10_i32_72 v85
  let v89 : BitVec 32 := Scalar.select v88 c14_i32_74 v87
  let v91 : BitVec 32 := Scalar.select v90 c13_i32_76 v89
  let v93 : BitVec 32 := Scalar.select v92 c9_i32_78 v91
  let v95 : BitVec 32 := Scalar.select v94 c5_i32_80 v93
  let v97 : BitVec 32 := Scalar.select v96 c1_i32_82 v95
  let c1_i32_3266 : BitVec 32 := 1#32
  let v2888 : BitVec 32 := Scalar.muli v97 c1_i32_3266
  let v2889 : BitVec 32 := Scalar.addi c0_i32_3267 v2888
  v2889.toNat
def k0_dev58 (d0 : Dev nD) : Nat :=
  let c0_i32_3308 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c4_i32_15 : BitVec 32 := 4#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c12_i32_11 : BitVec 32 := 12#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c5_i32_8 : BitVec 32 := 5#32
  let c10_i32 : BitVec 32 := 10#32
  let v21 : BitVec 1 := Scalar.cmpi .eq v2 c10_i32
  let c10_i32_7 : BitVec 32 := 10#32
  let c9_i32_6 : BitVec 32 := 9#32
  let v19 : BitVec 1 := Scalar.cmpi .eq v2 c9_i32_6
  let c13_i32 : BitVec 32 := 13#32
  let c8_i32_4 : BitVec 32 := 8#32
  let v17 : BitVec 1 := Scalar.cmpi .eq v2 c8_i32_4
  let c2_i32_5 : BitVec 32 := 2#32
  let c7_i32_2 : BitVec 32 := 7#32
  let v15 : BitVec 1 := Scalar.cmpi .eq v2 c7_i32_2
  let c6_i32_3 : BitVec 32 := 6#32
  let c6_i32 : BitVec 32 := 6#32
  let v13 : BitVec 1 := Scalar.cmpi .eq v2 c6_i32
  let c9_i32 : BitVec 32 := 9#32
  let c5_i32 : BitVec 32 := 5#32
  let v11 : BitVec 1 := Scalar.cmpi .eq v2 c5_i32
  let c14_i32 : BitVec 32 := 14#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c7_i32 : BitVec 32 := 7#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c15_i32 : BitVec 32 := 15#32
  let c0_i32 : BitVec 32 := 0#32
  let v4 : BitVec 32 := Scalar.select v3 c15_i32 c0_i32
  let v6 : BitVec 32 := Scalar.select v5 c8_i32 v4
  let v8 : BitVec 32 := Scalar.select v7 c7_i32 v6
  let v10 : BitVec 32 := Scalar.select v9 c1_i32_1 v8
  let v12 : BitVec 32 := Scalar.select v11 c14_i32 v10
  let v14 : BitVec 32 := Scalar.select v13 c9_i32 v12
  let v16 : BitVec 32 := Scalar.select v15 c6_i32_3 v14
  let v18 : BitVec 32 := Scalar.select v17 c2_i32_5 v16
  let v20 : BitVec 32 := Scalar.select v19 c13_i32 v18
  let v22 : BitVec 32 := Scalar.select v21 c10_i32_7 v20
  let v24 : BitVec 32 := Scalar.select v23 c5_i32_8 v22
  let v26 : BitVec 32 := Scalar.select v25 c3_i32_9 v24
  let v28 : BitVec 32 := Scalar.select v27 c12_i32_11 v26
  let v30 : BitVec 32 := Scalar.select v29 c11_i32_13 v28
  let v32 : BitVec 32 := Scalar.select v31 c4_i32_15 v30
  let c16_i32_49 : BitVec 32 := 16#32
  let v65 : BitVec 32 := Scalar.addi v32 c16_i32_49
  let c1_i32_50 : BitVec 32 := 1#32
  let v66 : BitVec 32 := Scalar.subi v65 c1_i32_50
  let c16_i32_51 : BitVec 32 := 16#32
  let v67 : BitVec 32 := Scalar.remsi v66 c16_i32_51
  let c15_i32_81 : BitVec 32 := 15#32
  let v96 : BitVec 1 := Scalar.cmpi .eq v67 c15_i32_81
  let c1_i32_82 : BitVec 32 := 1#32
  let c14_i32_79 : BitVec 32 := 14#32
  let v94 : BitVec 1 := Scalar.cmpi .eq v67 c14_i32_79
  let c5_i32_80 : BitVec 32 := 5#32
  let c13_i32_77 : BitVec 32 := 13#32
  let v92 : BitVec 1 := Scalar.cmpi .eq v67 c13_i32_77
  let c9_i32_78 : BitVec 32 := 9#32
  let c12_i32_75 : BitVec 32 := 12#32
  let v90 : BitVec 1 := Scalar.cmpi .eq v67 c12_i32_75
  let c13_i32_76 : BitVec 32 := 13#32
  let c11_i32_73 : BitVec 32 := 11#32
  let v88 : BitVec 1 := Scalar.cmpi .eq v67 c11_i32_73
  let c14_i32_74 : BitVec 32 := 14#32
  let c10_i32_71 : BitVec 32 := 10#32
  let v86 : BitVec 1 := Scalar.cmpi .eq v67 c10_i32_71
  let c10_i32_72 : BitVec 32 := 10#32
  let c9_i32_69 : BitVec 32 := 9#32
  let v84 : BitVec 1 := Scalar.cmpi .eq v67 c9_i32_69
  let c6_i32_70 : BitVec 32 := 6#32
  let c8_i32_67 : BitVec 32 := 8#32
  let v82 : BitVec 1 := Scalar.cmpi .eq v67 c8_i32_67
  let c2_i32_68 : BitVec 32 := 2#32
  let c7_i32_65 : BitVec 32 := 7#32
  let v80 : BitVec 1 := Scalar.cmpi .eq v67 c7_i32_65
  let c3_i32_66 : BitVec 32 := 3#32
  let c6_i32_63 : BitVec 32 := 6#32
  let v78 : BitVec 1 := Scalar.cmpi .eq v67 c6_i32_63
  let c7_i32_64 : BitVec 32 := 7#32
  let c5_i32_61 : BitVec 32 := 5#32
  let v76 : BitVec 1 := Scalar.cmpi .eq v67 c5_i32_61
  let c11_i32_62 : BitVec 32 := 11#32
  let c4_i32_59 : BitVec 32 := 4#32
  let v74 : BitVec 1 := Scalar.cmpi .eq v67 c4_i32_59
  let c15_i32_60 : BitVec 32 := 15#32
  let c3_i32_57 : BitVec 32 := 3#32
  let v72 : BitVec 1 := Scalar.cmpi .eq v67 c3_i32_57
  let c12_i32_58 : BitVec 32 := 12#32
  let c2_i32_55 : BitVec 32 := 2#32
  let v70 : BitVec 1 := Scalar.cmpi .eq v67 c2_i32_55
  let c8_i32_56 : BitVec 32 := 8#32
  let c1_i32_52 : BitVec 32 := 1#32
  let v68 : BitVec 1 := Scalar.cmpi .eq v67 c1_i32_52
  let c4_i32_53 : BitVec 32 := 4#32
  let c0_i32_54 : BitVec 32 := 0#32
  let v69 : BitVec 32 := Scalar.select v68 c4_i32_53 c0_i32_54
  let v71 : BitVec 32 := Scalar.select v70 c8_i32_56 v69
  let v73 : BitVec 32 := Scalar.select v72 c12_i32_58 v71
  let v75 : BitVec 32 := Scalar.select v74 c15_i32_60 v73
  let v77 : BitVec 32 := Scalar.select v76 c11_i32_62 v75
  let v79 : BitVec 32 := Scalar.select v78 c7_i32_64 v77
  let v81 : BitVec 32 := Scalar.select v80 c3_i32_66 v79
  let v83 : BitVec 32 := Scalar.select v82 c2_i32_68 v81
  let v85 : BitVec 32 := Scalar.select v84 c6_i32_70 v83
  let v87 : BitVec 32 := Scalar.select v86 c10_i32_72 v85
  let v89 : BitVec 32 := Scalar.select v88 c14_i32_74 v87
  let v91 : BitVec 32 := Scalar.select v90 c13_i32_76 v89
  let v93 : BitVec 32 := Scalar.select v92 c9_i32_78 v91
  let v95 : BitVec 32 := Scalar.select v94 c5_i32_80 v93
  let v97 : BitVec 32 := Scalar.select v96 c1_i32_82 v95
  let c1_i32_3307 : BitVec 32 := 1#32
  let v2921 : BitVec 32 := Scalar.muli v97 c1_i32_3307
  let v2922 : BitVec 32 := Scalar.addi c0_i32_3308 v2921
  v2922.toNat
def k0_dev59 (d0 : Dev nD) : Nat :=
  let c0_i32_3427 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c4_i32_15 : BitVec 32 := 4#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c12_i32_11 : BitVec 32 := 12#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c5_i32_8 : BitVec 32 := 5#32
  let c10_i32 : BitVec 32 := 10#32
  let v21 : BitVec 1 := Scalar.cmpi .eq v2 c10_i32
  let c10_i32_7 : BitVec 32 := 10#32
  let c9_i32_6 : BitVec 32 := 9#32
  let v19 : BitVec 1 := Scalar.cmpi .eq v2 c9_i32_6
  let c13_i32 : BitVec 32 := 13#32
  let c8_i32_4 : BitVec 32 := 8#32
  let v17 : BitVec 1 := Scalar.cmpi .eq v2 c8_i32_4
  let c2_i32_5 : BitVec 32 := 2#32
  let c7_i32_2 : BitVec 32 := 7#32
  let v15 : BitVec 1 := Scalar.cmpi .eq v2 c7_i32_2
  let c6_i32_3 : BitVec 32 := 6#32
  let c6_i32 : BitVec 32 := 6#32
  let v13 : BitVec 1 := Scalar.cmpi .eq v2 c6_i32
  let c9_i32 : BitVec 32 := 9#32
  let c5_i32 : BitVec 32 := 5#32
  let v11 : BitVec 1 := Scalar.cmpi .eq v2 c5_i32
  let c14_i32 : BitVec 32 := 14#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c7_i32 : BitVec 32 := 7#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c15_i32 : BitVec 32 := 15#32
  let c0_i32 : BitVec 32 := 0#32
  let v4 : BitVec 32 := Scalar.select v3 c15_i32 c0_i32
  let v6 : BitVec 32 := Scalar.select v5 c8_i32 v4
  let v8 : BitVec 32 := Scalar.select v7 c7_i32 v6
  let v10 : BitVec 32 := Scalar.select v9 c1_i32_1 v8
  let v12 : BitVec 32 := Scalar.select v11 c14_i32 v10
  let v14 : BitVec 32 := Scalar.select v13 c9_i32 v12
  let v16 : BitVec 32 := Scalar.select v15 c6_i32_3 v14
  let v18 : BitVec 32 := Scalar.select v17 c2_i32_5 v16
  let v20 : BitVec 32 := Scalar.select v19 c13_i32 v18
  let v22 : BitVec 32 := Scalar.select v21 c10_i32_7 v20
  let v24 : BitVec 32 := Scalar.select v23 c5_i32_8 v22
  let v26 : BitVec 32 := Scalar.select v25 c3_i32_9 v24
  let v28 : BitVec 32 := Scalar.select v27 c12_i32_11 v26
  let v30 : BitVec 32 := Scalar.select v29 c11_i32_13 v28
  let v32 : BitVec 32 := Scalar.select v31 c4_i32_15 v30
  let c1_i32_16 : BitVec 32 := 1#32
  let v33 : BitVec 32 := Scalar.addi v32 c1_i32_16
  let c16_i32_17 : BitVec 32 := 16#32
  let v34 : BitVec 32 := Scalar.remsi v33 c16_i32_17
  let c15_i32_47 : BitVec 32 := 15#32
  let v63 : BitVec 1 := Scalar.cmpi .eq v34 c15_i32_47
  let c1_i32_48 : BitVec 32 := 1#32
  let c14_i32_45 : BitVec 32 := 14#32
  let v61 : BitVec 1 := Scalar.cmpi .eq v34 c14_i32_45
  let c5_i32_46 : BitVec 32 := 5#32
  let c13_i32_43 : BitVec 32 := 13#32
  let v59 : BitVec 1 := Scalar.cmpi .eq v34 c13_i32_43
  let c9_i32_44 : BitVec 32 := 9#32
  let c12_i32_41 : BitVec 32 := 12#32
  let v57 : BitVec 1 := Scalar.cmpi .eq v34 c12_i32_41
  let c13_i32_42 : BitVec 32 := 13#32
  let c11_i32_39 : BitVec 32 := 11#32
  let v55 : BitVec 1 := Scalar.cmpi .eq v34 c11_i32_39
  let c14_i32_40 : BitVec 32 := 14#32
  let c10_i32_37 : BitVec 32 := 10#32
  let v53 : BitVec 1 := Scalar.cmpi .eq v34 c10_i32_37
  let c10_i32_38 : BitVec 32 := 10#32
  let c9_i32_35 : BitVec 32 := 9#32
  let v51 : BitVec 1 := Scalar.cmpi .eq v34 c9_i32_35
  let c6_i32_36 : BitVec 32 := 6#32
  let c8_i32_33 : BitVec 32 := 8#32
  let v49 : BitVec 1 := Scalar.cmpi .eq v34 c8_i32_33
  let c2_i32_34 : BitVec 32 := 2#32
  let c7_i32_31 : BitVec 32 := 7#32
  let v47 : BitVec 1 := Scalar.cmpi .eq v34 c7_i32_31
  let c3_i32_32 : BitVec 32 := 3#32
  let c6_i32_29 : BitVec 32 := 6#32
  let v45 : BitVec 1 := Scalar.cmpi .eq v34 c6_i32_29
  let c7_i32_30 : BitVec 32 := 7#32
  let c5_i32_27 : BitVec 32 := 5#32
  let v43 : BitVec 1 := Scalar.cmpi .eq v34 c5_i32_27
  let c11_i32_28 : BitVec 32 := 11#32
  let c4_i32_25 : BitVec 32 := 4#32
  let v41 : BitVec 1 := Scalar.cmpi .eq v34 c4_i32_25
  let c15_i32_26 : BitVec 32 := 15#32
  let c3_i32_23 : BitVec 32 := 3#32
  let v39 : BitVec 1 := Scalar.cmpi .eq v34 c3_i32_23
  let c12_i32_24 : BitVec 32 := 12#32
  let c2_i32_21 : BitVec 32 := 2#32
  let v37 : BitVec 1 := Scalar.cmpi .eq v34 c2_i32_21
  let c8_i32_22 : BitVec 32 := 8#32
  let c1_i32_18 : BitVec 32 := 1#32
  let v35 : BitVec 1 := Scalar.cmpi .eq v34 c1_i32_18
  let c4_i32_19 : BitVec 32 := 4#32
  let c0_i32_20 : BitVec 32 := 0#32
  let v36 : BitVec 32 := Scalar.select v35 c4_i32_19 c0_i32_20
  let v38 : BitVec 32 := Scalar.select v37 c8_i32_22 v36
  let v40 : BitVec 32 := Scalar.select v39 c12_i32_24 v38
  let v42 : BitVec 32 := Scalar.select v41 c15_i32_26 v40
  let v44 : BitVec 32 := Scalar.select v43 c11_i32_28 v42
  let v46 : BitVec 32 := Scalar.select v45 c7_i32_30 v44
  let v48 : BitVec 32 := Scalar.select v47 c3_i32_32 v46
  let v50 : BitVec 32 := Scalar.select v49 c2_i32_34 v48
  let v52 : BitVec 32 := Scalar.select v51 c6_i32_36 v50
  let v54 : BitVec 32 := Scalar.select v53 c10_i32_38 v52
  let v56 : BitVec 32 := Scalar.select v55 c14_i32_40 v54
  let v58 : BitVec 32 := Scalar.select v57 c13_i32_42 v56
  let v60 : BitVec 32 := Scalar.select v59 c9_i32_44 v58
  let v62 : BitVec 32 := Scalar.select v61 c5_i32_46 v60
  let v64 : BitVec 32 := Scalar.select v63 c1_i32_48 v62
  let c1_i32_3426 : BitVec 32 := 1#32
  let v3033 : BitVec 32 := Scalar.muli v64 c1_i32_3426
  let v3034 : BitVec 32 := Scalar.addi c0_i32_3427 v3033
  v3034.toNat
def k0_dev60 (d0 : Dev nD) : Nat :=
  let c0_i32_3468 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c4_i32_15 : BitVec 32 := 4#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c12_i32_11 : BitVec 32 := 12#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c5_i32_8 : BitVec 32 := 5#32
  let c10_i32 : BitVec 32 := 10#32
  let v21 : BitVec 1 := Scalar.cmpi .eq v2 c10_i32
  let c10_i32_7 : BitVec 32 := 10#32
  let c9_i32_6 : BitVec 32 := 9#32
  let v19 : BitVec 1 := Scalar.cmpi .eq v2 c9_i32_6
  let c13_i32 : BitVec 32 := 13#32
  let c8_i32_4 : BitVec 32 := 8#32
  let v17 : BitVec 1 := Scalar.cmpi .eq v2 c8_i32_4
  let c2_i32_5 : BitVec 32 := 2#32
  let c7_i32_2 : BitVec 32 := 7#32
  let v15 : BitVec 1 := Scalar.cmpi .eq v2 c7_i32_2
  let c6_i32_3 : BitVec 32 := 6#32
  let c6_i32 : BitVec 32 := 6#32
  let v13 : BitVec 1 := Scalar.cmpi .eq v2 c6_i32
  let c9_i32 : BitVec 32 := 9#32
  let c5_i32 : BitVec 32 := 5#32
  let v11 : BitVec 1 := Scalar.cmpi .eq v2 c5_i32
  let c14_i32 : BitVec 32 := 14#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c7_i32 : BitVec 32 := 7#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c15_i32 : BitVec 32 := 15#32
  let c0_i32 : BitVec 32 := 0#32
  let v4 : BitVec 32 := Scalar.select v3 c15_i32 c0_i32
  let v6 : BitVec 32 := Scalar.select v5 c8_i32 v4
  let v8 : BitVec 32 := Scalar.select v7 c7_i32 v6
  let v10 : BitVec 32 := Scalar.select v9 c1_i32_1 v8
  let v12 : BitVec 32 := Scalar.select v11 c14_i32 v10
  let v14 : BitVec 32 := Scalar.select v13 c9_i32 v12
  let v16 : BitVec 32 := Scalar.select v15 c6_i32_3 v14
  let v18 : BitVec 32 := Scalar.select v17 c2_i32_5 v16
  let v20 : BitVec 32 := Scalar.select v19 c13_i32 v18
  let v22 : BitVec 32 := Scalar.select v21 c10_i32_7 v20
  let v24 : BitVec 32 := Scalar.select v23 c5_i32_8 v22
  let v26 : BitVec 32 := Scalar.select v25 c3_i32_9 v24
  let v28 : BitVec 32 := Scalar.select v27 c12_i32_11 v26
  let v30 : BitVec 32 := Scalar.select v29 c11_i32_13 v28
  let v32 : BitVec 32 := Scalar.select v31 c4_i32_15 v30
  let c1_i32_16 : BitVec 32 := 1#32
  let v33 : BitVec 32 := Scalar.addi v32 c1_i32_16
  let c16_i32_17 : BitVec 32 := 16#32
  let v34 : BitVec 32 := Scalar.remsi v33 c16_i32_17
  let c15_i32_47 : BitVec 32 := 15#32
  let v63 : BitVec 1 := Scalar.cmpi .eq v34 c15_i32_47
  let c1_i32_48 : BitVec 32 := 1#32
  let c14_i32_45 : BitVec 32 := 14#32
  let v61 : BitVec 1 := Scalar.cmpi .eq v34 c14_i32_45
  let c5_i32_46 : BitVec 32 := 5#32
  let c13_i32_43 : BitVec 32 := 13#32
  let v59 : BitVec 1 := Scalar.cmpi .eq v34 c13_i32_43
  let c9_i32_44 : BitVec 32 := 9#32
  let c12_i32_41 : BitVec 32 := 12#32
  let v57 : BitVec 1 := Scalar.cmpi .eq v34 c12_i32_41
  let c13_i32_42 : BitVec 32 := 13#32
  let c11_i32_39 : BitVec 32 := 11#32
  let v55 : BitVec 1 := Scalar.cmpi .eq v34 c11_i32_39
  let c14_i32_40 : BitVec 32 := 14#32
  let c10_i32_37 : BitVec 32 := 10#32
  let v53 : BitVec 1 := Scalar.cmpi .eq v34 c10_i32_37
  let c10_i32_38 : BitVec 32 := 10#32
  let c9_i32_35 : BitVec 32 := 9#32
  let v51 : BitVec 1 := Scalar.cmpi .eq v34 c9_i32_35
  let c6_i32_36 : BitVec 32 := 6#32
  let c8_i32_33 : BitVec 32 := 8#32
  let v49 : BitVec 1 := Scalar.cmpi .eq v34 c8_i32_33
  let c2_i32_34 : BitVec 32 := 2#32
  let c7_i32_31 : BitVec 32 := 7#32
  let v47 : BitVec 1 := Scalar.cmpi .eq v34 c7_i32_31
  let c3_i32_32 : BitVec 32 := 3#32
  let c6_i32_29 : BitVec 32 := 6#32
  let v45 : BitVec 1 := Scalar.cmpi .eq v34 c6_i32_29
  let c7_i32_30 : BitVec 32 := 7#32
  let c5_i32_27 : BitVec 32 := 5#32
  let v43 : BitVec 1 := Scalar.cmpi .eq v34 c5_i32_27
  let c11_i32_28 : BitVec 32 := 11#32
  let c4_i32_25 : BitVec 32 := 4#32
  let v41 : BitVec 1 := Scalar.cmpi .eq v34 c4_i32_25
  let c15_i32_26 : BitVec 32 := 15#32
  let c3_i32_23 : BitVec 32 := 3#32
  let v39 : BitVec 1 := Scalar.cmpi .eq v34 c3_i32_23
  let c12_i32_24 : BitVec 32 := 12#32
  let c2_i32_21 : BitVec 32 := 2#32
  let v37 : BitVec 1 := Scalar.cmpi .eq v34 c2_i32_21
  let c8_i32_22 : BitVec 32 := 8#32
  let c1_i32_18 : BitVec 32 := 1#32
  let v35 : BitVec 1 := Scalar.cmpi .eq v34 c1_i32_18
  let c4_i32_19 : BitVec 32 := 4#32
  let c0_i32_20 : BitVec 32 := 0#32
  let v36 : BitVec 32 := Scalar.select v35 c4_i32_19 c0_i32_20
  let v38 : BitVec 32 := Scalar.select v37 c8_i32_22 v36
  let v40 : BitVec 32 := Scalar.select v39 c12_i32_24 v38
  let v42 : BitVec 32 := Scalar.select v41 c15_i32_26 v40
  let v44 : BitVec 32 := Scalar.select v43 c11_i32_28 v42
  let v46 : BitVec 32 := Scalar.select v45 c7_i32_30 v44
  let v48 : BitVec 32 := Scalar.select v47 c3_i32_32 v46
  let v50 : BitVec 32 := Scalar.select v49 c2_i32_34 v48
  let v52 : BitVec 32 := Scalar.select v51 c6_i32_36 v50
  let v54 : BitVec 32 := Scalar.select v53 c10_i32_38 v52
  let v56 : BitVec 32 := Scalar.select v55 c14_i32_40 v54
  let v58 : BitVec 32 := Scalar.select v57 c13_i32_42 v56
  let v60 : BitVec 32 := Scalar.select v59 c9_i32_44 v58
  let v62 : BitVec 32 := Scalar.select v61 c5_i32_46 v60
  let v64 : BitVec 32 := Scalar.select v63 c1_i32_48 v62
  let c1_i32_3467 : BitVec 32 := 1#32
  let v3066 : BitVec 32 := Scalar.muli v64 c1_i32_3467
  let v3067 : BitVec 32 := Scalar.addi c0_i32_3468 v3066
  v3067.toNat
def k0_dev61 (d0 : Dev nD) : Nat :=
  let c0_i32_3509 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c4_i32_15 : BitVec 32 := 4#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c12_i32_11 : BitVec 32 := 12#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c5_i32_8 : BitVec 32 := 5#32
  let c10_i32 : BitVec 32 := 10#32
  let v21 : BitVec 1 := Scalar.cmpi .eq v2 c10_i32
  let c10_i32_7 : BitVec 32 := 10#32
  let c9_i32_6 : BitVec 32 := 9#32
  let v19 : BitVec 1 := Scalar.cmpi .eq v2 c9_i32_6
  let c13_i32 : BitVec 32 := 13#32
  let c8_i32_4 : BitVec 32 := 8#32
  let v17 : BitVec 1 := Scalar.cmpi .eq v2 c8_i32_4
  let c2_i32_5 : BitVec 32 := 2#32
  let c7_i32_2 : BitVec 32 := 7#32
  let v15 : BitVec 1 := Scalar.cmpi .eq v2 c7_i32_2
  let c6_i32_3 : BitVec 32 := 6#32
  let c6_i32 : BitVec 32 := 6#32
  let v13 : BitVec 1 := Scalar.cmpi .eq v2 c6_i32
  let c9_i32 : BitVec 32 := 9#32
  let c5_i32 : BitVec 32 := 5#32
  let v11 : BitVec 1 := Scalar.cmpi .eq v2 c5_i32
  let c14_i32 : BitVec 32 := 14#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c7_i32 : BitVec 32 := 7#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c15_i32 : BitVec 32 := 15#32
  let c0_i32 : BitVec 32 := 0#32
  let v4 : BitVec 32 := Scalar.select v3 c15_i32 c0_i32
  let v6 : BitVec 32 := Scalar.select v5 c8_i32 v4
  let v8 : BitVec 32 := Scalar.select v7 c7_i32 v6
  let v10 : BitVec 32 := Scalar.select v9 c1_i32_1 v8
  let v12 : BitVec 32 := Scalar.select v11 c14_i32 v10
  let v14 : BitVec 32 := Scalar.select v13 c9_i32 v12
  let v16 : BitVec 32 := Scalar.select v15 c6_i32_3 v14
  let v18 : BitVec 32 := Scalar.select v17 c2_i32_5 v16
  let v20 : BitVec 32 := Scalar.select v19 c13_i32 v18
  let v22 : BitVec 32 := Scalar.select v21 c10_i32_7 v20
  let v24 : BitVec 32 := Scalar.select v23 c5_i32_8 v22
  let v26 : BitVec 32 := Scalar.select v25 c3_i32_9 v24
  let v28 : BitVec 32 := Scalar.select v27 c12_i32_11 v26
  let v30 : BitVec 32 := Scalar.select v29 c11_i32_13 v28
  let v32 : BitVec 32 := Scalar.select v31 c4_i32_15 v30
  let c16_i32_49 : BitVec 32 := 16#32
  let v65 : BitVec 32 := Scalar.addi v32 c16_i32_49
  let c1_i32_50 : BitVec 32 := 1#32
  let v66 : BitVec 32 := Scalar.subi v65 c1_i32_50
  let c16_i32_51 : BitVec 32 := 16#32
  let v67 : BitVec 32 := Scalar.remsi v66 c16_i32_51
  let c15_i32_81 : BitVec 32 := 15#32
  let v96 : BitVec 1 := Scalar.cmpi .eq v67 c15_i32_81
  let c1_i32_82 : BitVec 32 := 1#32
  let c14_i32_79 : BitVec 32 := 14#32
  let v94 : BitVec 1 := Scalar.cmpi .eq v67 c14_i32_79
  let c5_i32_80 : BitVec 32 := 5#32
  let c13_i32_77 : BitVec 32 := 13#32
  let v92 : BitVec 1 := Scalar.cmpi .eq v67 c13_i32_77
  let c9_i32_78 : BitVec 32 := 9#32
  let c12_i32_75 : BitVec 32 := 12#32
  let v90 : BitVec 1 := Scalar.cmpi .eq v67 c12_i32_75
  let c13_i32_76 : BitVec 32 := 13#32
  let c11_i32_73 : BitVec 32 := 11#32
  let v88 : BitVec 1 := Scalar.cmpi .eq v67 c11_i32_73
  let c14_i32_74 : BitVec 32 := 14#32
  let c10_i32_71 : BitVec 32 := 10#32
  let v86 : BitVec 1 := Scalar.cmpi .eq v67 c10_i32_71
  let c10_i32_72 : BitVec 32 := 10#32
  let c9_i32_69 : BitVec 32 := 9#32
  let v84 : BitVec 1 := Scalar.cmpi .eq v67 c9_i32_69
  let c6_i32_70 : BitVec 32 := 6#32
  let c8_i32_67 : BitVec 32 := 8#32
  let v82 : BitVec 1 := Scalar.cmpi .eq v67 c8_i32_67
  let c2_i32_68 : BitVec 32 := 2#32
  let c7_i32_65 : BitVec 32 := 7#32
  let v80 : BitVec 1 := Scalar.cmpi .eq v67 c7_i32_65
  let c3_i32_66 : BitVec 32 := 3#32
  let c6_i32_63 : BitVec 32 := 6#32
  let v78 : BitVec 1 := Scalar.cmpi .eq v67 c6_i32_63
  let c7_i32_64 : BitVec 32 := 7#32
  let c5_i32_61 : BitVec 32 := 5#32
  let v76 : BitVec 1 := Scalar.cmpi .eq v67 c5_i32_61
  let c11_i32_62 : BitVec 32 := 11#32
  let c4_i32_59 : BitVec 32 := 4#32
  let v74 : BitVec 1 := Scalar.cmpi .eq v67 c4_i32_59
  let c15_i32_60 : BitVec 32 := 15#32
  let c3_i32_57 : BitVec 32 := 3#32
  let v72 : BitVec 1 := Scalar.cmpi .eq v67 c3_i32_57
  let c12_i32_58 : BitVec 32 := 12#32
  let c2_i32_55 : BitVec 32 := 2#32
  let v70 : BitVec 1 := Scalar.cmpi .eq v67 c2_i32_55
  let c8_i32_56 : BitVec 32 := 8#32
  let c1_i32_52 : BitVec 32 := 1#32
  let v68 : BitVec 1 := Scalar.cmpi .eq v67 c1_i32_52
  let c4_i32_53 : BitVec 32 := 4#32
  let c0_i32_54 : BitVec 32 := 0#32
  let v69 : BitVec 32 := Scalar.select v68 c4_i32_53 c0_i32_54
  let v71 : BitVec 32 := Scalar.select v70 c8_i32_56 v69
  let v73 : BitVec 32 := Scalar.select v72 c12_i32_58 v71
  let v75 : BitVec 32 := Scalar.select v74 c15_i32_60 v73
  let v77 : BitVec 32 := Scalar.select v76 c11_i32_62 v75
  let v79 : BitVec 32 := Scalar.select v78 c7_i32_64 v77
  let v81 : BitVec 32 := Scalar.select v80 c3_i32_66 v79
  let v83 : BitVec 32 := Scalar.select v82 c2_i32_68 v81
  let v85 : BitVec 32 := Scalar.select v84 c6_i32_70 v83
  let v87 : BitVec 32 := Scalar.select v86 c10_i32_72 v85
  let v89 : BitVec 32 := Scalar.select v88 c14_i32_74 v87
  let v91 : BitVec 32 := Scalar.select v90 c13_i32_76 v89
  let v93 : BitVec 32 := Scalar.select v92 c9_i32_78 v91
  let v95 : BitVec 32 := Scalar.select v94 c5_i32_80 v93
  let v97 : BitVec 32 := Scalar.select v96 c1_i32_82 v95
  let c1_i32_3508 : BitVec 32 := 1#32
  let v3099 : BitVec 32 := Scalar.muli v97 c1_i32_3508
  let v3100 : BitVec 32 := Scalar.addi c0_i32_3509 v3099
  v3100.toNat
def k0_dev62 (d0 : Dev nD) : Nat :=
  let c0_i32_3550 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c4_i32_15 : BitVec 32 := 4#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c12_i32_11 : BitVec 32 := 12#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c5_i32_8 : BitVec 32 := 5#32
  let c10_i32 : BitVec 32 := 10#32
  let v21 : BitVec 1 := Scalar.cmpi .eq v2 c10_i32
  let c10_i32_7 : BitVec 32 := 10#32
  let c9_i32_6 : BitVec 32 := 9#32
  let v19 : BitVec 1 := Scalar.cmpi .eq v2 c9_i32_6
  let c13_i32 : BitVec 32 := 13#32
  let c8_i32_4 : BitVec 32 := 8#32
  let v17 : BitVec 1 := Scalar.cmpi .eq v2 c8_i32_4
  let c2_i32_5 : BitVec 32 := 2#32
  let c7_i32_2 : BitVec 32 := 7#32
  let v15 : BitVec 1 := Scalar.cmpi .eq v2 c7_i32_2
  let c6_i32_3 : BitVec 32 := 6#32
  let c6_i32 : BitVec 32 := 6#32
  let v13 : BitVec 1 := Scalar.cmpi .eq v2 c6_i32
  let c9_i32 : BitVec 32 := 9#32
  let c5_i32 : BitVec 32 := 5#32
  let v11 : BitVec 1 := Scalar.cmpi .eq v2 c5_i32
  let c14_i32 : BitVec 32 := 14#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c7_i32 : BitVec 32 := 7#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c15_i32 : BitVec 32 := 15#32
  let c0_i32 : BitVec 32 := 0#32
  let v4 : BitVec 32 := Scalar.select v3 c15_i32 c0_i32
  let v6 : BitVec 32 := Scalar.select v5 c8_i32 v4
  let v8 : BitVec 32 := Scalar.select v7 c7_i32 v6
  let v10 : BitVec 32 := Scalar.select v9 c1_i32_1 v8
  let v12 : BitVec 32 := Scalar.select v11 c14_i32 v10
  let v14 : BitVec 32 := Scalar.select v13 c9_i32 v12
  let v16 : BitVec 32 := Scalar.select v15 c6_i32_3 v14
  let v18 : BitVec 32 := Scalar.select v17 c2_i32_5 v16
  let v20 : BitVec 32 := Scalar.select v19 c13_i32 v18
  let v22 : BitVec 32 := Scalar.select v21 c10_i32_7 v20
  let v24 : BitVec 32 := Scalar.select v23 c5_i32_8 v22
  let v26 : BitVec 32 := Scalar.select v25 c3_i32_9 v24
  let v28 : BitVec 32 := Scalar.select v27 c12_i32_11 v26
  let v30 : BitVec 32 := Scalar.select v29 c11_i32_13 v28
  let v32 : BitVec 32 := Scalar.select v31 c4_i32_15 v30
  let c16_i32_49 : BitVec 32 := 16#32
  let v65 : BitVec 32 := Scalar.addi v32 c16_i32_49
  let c1_i32_50 : BitVec 32 := 1#32
  let v66 : BitVec 32 := Scalar.subi v65 c1_i32_50
  let c16_i32_51 : BitVec 32 := 16#32
  let v67 : BitVec 32 := Scalar.remsi v66 c16_i32_51
  let c15_i32_81 : BitVec 32 := 15#32
  let v96 : BitVec 1 := Scalar.cmpi .eq v67 c15_i32_81
  let c1_i32_82 : BitVec 32 := 1#32
  let c14_i32_79 : BitVec 32 := 14#32
  let v94 : BitVec 1 := Scalar.cmpi .eq v67 c14_i32_79
  let c5_i32_80 : BitVec 32 := 5#32
  let c13_i32_77 : BitVec 32 := 13#32
  let v92 : BitVec 1 := Scalar.cmpi .eq v67 c13_i32_77
  let c9_i32_78 : BitVec 32 := 9#32
  let c12_i32_75 : BitVec 32 := 12#32
  let v90 : BitVec 1 := Scalar.cmpi .eq v67 c12_i32_75
  let c13_i32_76 : BitVec 32 := 13#32
  let c11_i32_73 : BitVec 32 := 11#32
  let v88 : BitVec 1 := Scalar.cmpi .eq v67 c11_i32_73
  let c14_i32_74 : BitVec 32 := 14#32
  let c10_i32_71 : BitVec 32 := 10#32
  let v86 : BitVec 1 := Scalar.cmpi .eq v67 c10_i32_71
  let c10_i32_72 : BitVec 32 := 10#32
  let c9_i32_69 : BitVec 32 := 9#32
  let v84 : BitVec 1 := Scalar.cmpi .eq v67 c9_i32_69
  let c6_i32_70 : BitVec 32 := 6#32
  let c8_i32_67 : BitVec 32 := 8#32
  let v82 : BitVec 1 := Scalar.cmpi .eq v67 c8_i32_67
  let c2_i32_68 : BitVec 32 := 2#32
  let c7_i32_65 : BitVec 32 := 7#32
  let v80 : BitVec 1 := Scalar.cmpi .eq v67 c7_i32_65
  let c3_i32_66 : BitVec 32 := 3#32
  let c6_i32_63 : BitVec 32 := 6#32
  let v78 : BitVec 1 := Scalar.cmpi .eq v67 c6_i32_63
  let c7_i32_64 : BitVec 32 := 7#32
  let c5_i32_61 : BitVec 32 := 5#32
  let v76 : BitVec 1 := Scalar.cmpi .eq v67 c5_i32_61
  let c11_i32_62 : BitVec 32 := 11#32
  let c4_i32_59 : BitVec 32 := 4#32
  let v74 : BitVec 1 := Scalar.cmpi .eq v67 c4_i32_59
  let c15_i32_60 : BitVec 32 := 15#32
  let c3_i32_57 : BitVec 32 := 3#32
  let v72 : BitVec 1 := Scalar.cmpi .eq v67 c3_i32_57
  let c12_i32_58 : BitVec 32 := 12#32
  let c2_i32_55 : BitVec 32 := 2#32
  let v70 : BitVec 1 := Scalar.cmpi .eq v67 c2_i32_55
  let c8_i32_56 : BitVec 32 := 8#32
  let c1_i32_52 : BitVec 32 := 1#32
  let v68 : BitVec 1 := Scalar.cmpi .eq v67 c1_i32_52
  let c4_i32_53 : BitVec 32 := 4#32
  let c0_i32_54 : BitVec 32 := 0#32
  let v69 : BitVec 32 := Scalar.select v68 c4_i32_53 c0_i32_54
  let v71 : BitVec 32 := Scalar.select v70 c8_i32_56 v69
  let v73 : BitVec 32 := Scalar.select v72 c12_i32_58 v71
  let v75 : BitVec 32 := Scalar.select v74 c15_i32_60 v73
  let v77 : BitVec 32 := Scalar.select v76 c11_i32_62 v75
  let v79 : BitVec 32 := Scalar.select v78 c7_i32_64 v77
  let v81 : BitVec 32 := Scalar.select v80 c3_i32_66 v79
  let v83 : BitVec 32 := Scalar.select v82 c2_i32_68 v81
  let v85 : BitVec 32 := Scalar.select v84 c6_i32_70 v83
  let v87 : BitVec 32 := Scalar.select v86 c10_i32_72 v85
  let v89 : BitVec 32 := Scalar.select v88 c14_i32_74 v87
  let v91 : BitVec 32 := Scalar.select v90 c13_i32_76 v89
  let v93 : BitVec 32 := Scalar.select v92 c9_i32_78 v91
  let v95 : BitVec 32 := Scalar.select v94 c5_i32_80 v93
  let v97 : BitVec 32 := Scalar.select v96 c1_i32_82 v95
  let c1_i32_3549 : BitVec 32 := 1#32
  let v3132 : BitVec 32 := Scalar.muli v97 c1_i32_3549
  let v3133 : BitVec 32 := Scalar.addi c0_i32_3550 v3132
  v3133.toNat
def k0_dev63 (d0 : Dev nD) : Nat :=
  let c0_i32_3747_r0 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c4_i32_15 : BitVec 32 := 4#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c12_i32_11 : BitVec 32 := 12#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c5_i32_8 : BitVec 32 := 5#32
  let c10_i32 : BitVec 32 := 10#32
  let v21 : BitVec 1 := Scalar.cmpi .eq v2 c10_i32
  let c10_i32_7 : BitVec 32 := 10#32
  let c9_i32_6 : BitVec 32 := 9#32
  let v19 : BitVec 1 := Scalar.cmpi .eq v2 c9_i32_6
  let c13_i32 : BitVec 32 := 13#32
  let c8_i32_4 : BitVec 32 := 8#32
  let v17 : BitVec 1 := Scalar.cmpi .eq v2 c8_i32_4
  let c2_i32_5 : BitVec 32 := 2#32
  let c7_i32_2 : BitVec 32 := 7#32
  let v15 : BitVec 1 := Scalar.cmpi .eq v2 c7_i32_2
  let c6_i32_3 : BitVec 32 := 6#32
  let c6_i32 : BitVec 32 := 6#32
  let v13 : BitVec 1 := Scalar.cmpi .eq v2 c6_i32
  let c9_i32 : BitVec 32 := 9#32
  let c5_i32 : BitVec 32 := 5#32
  let v11 : BitVec 1 := Scalar.cmpi .eq v2 c5_i32
  let c14_i32 : BitVec 32 := 14#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c7_i32 : BitVec 32 := 7#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c15_i32 : BitVec 32 := 15#32
  let c0_i32 : BitVec 32 := 0#32
  let v4 : BitVec 32 := Scalar.select v3 c15_i32 c0_i32
  let v6 : BitVec 32 := Scalar.select v5 c8_i32 v4
  let v8 : BitVec 32 := Scalar.select v7 c7_i32 v6
  let v10 : BitVec 32 := Scalar.select v9 c1_i32_1 v8
  let v12 : BitVec 32 := Scalar.select v11 c14_i32 v10
  let v14 : BitVec 32 := Scalar.select v13 c9_i32 v12
  let v16 : BitVec 32 := Scalar.select v15 c6_i32_3 v14
  let v18 : BitVec 32 := Scalar.select v17 c2_i32_5 v16
  let v20 : BitVec 32 := Scalar.select v19 c13_i32 v18
  let v22 : BitVec 32 := Scalar.select v21 c10_i32_7 v20
  let v24 : BitVec 32 := Scalar.select v23 c5_i32_8 v22
  let v26 : BitVec 32 := Scalar.select v25 c3_i32_9 v24
  let v28 : BitVec 32 := Scalar.select v27 c12_i32_11 v26
  let v30 : BitVec 32 := Scalar.select v29 c11_i32_13 v28
  let v32 : BitVec 32 := Scalar.select v31 c4_i32_15 v30
  let c16_i32_49 : BitVec 32 := 16#32
  let v65 : BitVec 32 := Scalar.addi v32 c16_i32_49
  let c1_i32_50 : BitVec 32 := 1#32
  let v66 : BitVec 32 := Scalar.subi v65 c1_i32_50
  let c16_i32_51 : BitVec 32 := 16#32
  let v67 : BitVec 32 := Scalar.remsi v66 c16_i32_51
  let c15_i32_81 : BitVec 32 := 15#32
  let v96 : BitVec 1 := Scalar.cmpi .eq v67 c15_i32_81
  let c1_i32_82 : BitVec 32 := 1#32
  let c14_i32_79 : BitVec 32 := 14#32
  let v94 : BitVec 1 := Scalar.cmpi .eq v67 c14_i32_79
  let c5_i32_80 : BitVec 32 := 5#32
  let c13_i32_77 : BitVec 32 := 13#32
  let v92 : BitVec 1 := Scalar.cmpi .eq v67 c13_i32_77
  let c9_i32_78 : BitVec 32 := 9#32
  let c12_i32_75 : BitVec 32 := 12#32
  let v90 : BitVec 1 := Scalar.cmpi .eq v67 c12_i32_75
  let c13_i32_76 : BitVec 32 := 13#32
  let c11_i32_73 : BitVec 32 := 11#32
  let v88 : BitVec 1 := Scalar.cmpi .eq v67 c11_i32_73
  let c14_i32_74 : BitVec 32 := 14#32
  let c10_i32_71 : BitVec 32 := 10#32
  let v86 : BitVec 1 := Scalar.cmpi .eq v67 c10_i32_71
  let c10_i32_72 : BitVec 32 := 10#32
  let c9_i32_69 : BitVec 32 := 9#32
  let v84 : BitVec 1 := Scalar.cmpi .eq v67 c9_i32_69
  let c6_i32_70 : BitVec 32 := 6#32
  let c8_i32_67 : BitVec 32 := 8#32
  let v82 : BitVec 1 := Scalar.cmpi .eq v67 c8_i32_67
  let c2_i32_68 : BitVec 32 := 2#32
  let c7_i32_65 : BitVec 32 := 7#32
  let v80 : BitVec 1 := Scalar.cmpi .eq v67 c7_i32_65
  let c3_i32_66 : BitVec 32 := 3#32
  let c6_i32_63 : BitVec 32 := 6#32
  let v78 : BitVec 1 := Scalar.cmpi .eq v67 c6_i32_63
  let c7_i32_64 : BitVec 32 := 7#32
  let c5_i32_61 : BitVec 32 := 5#32
  let v76 : BitVec 1 := Scalar.cmpi .eq v67 c5_i32_61
  let c11_i32_62 : BitVec 32 := 11#32
  let c4_i32_59 : BitVec 32 := 4#32
  let v74 : BitVec 1 := Scalar.cmpi .eq v67 c4_i32_59
  let c15_i32_60 : BitVec 32 := 15#32
  let c3_i32_57 : BitVec 32 := 3#32
  let v72 : BitVec 1 := Scalar.cmpi .eq v67 c3_i32_57
  let c12_i32_58 : BitVec 32 := 12#32
  let c2_i32_55 : BitVec 32 := 2#32
  let v70 : BitVec 1 := Scalar.cmpi .eq v67 c2_i32_55
  let c8_i32_56 : BitVec 32 := 8#32
  let c1_i32_52 : BitVec 32 := 1#32
  let v68 : BitVec 1 := Scalar.cmpi .eq v67 c1_i32_52
  let c4_i32_53 : BitVec 32 := 4#32
  let c0_i32_54 : BitVec 32 := 0#32
  let v69 : BitVec 32 := Scalar.select v68 c4_i32_53 c0_i32_54
  let v71 : BitVec 32 := Scalar.select v70 c8_i32_56 v69
  let v73 : BitVec 32 := Scalar.select v72 c12_i32_58 v71
  let v75 : BitVec 32 := Scalar.select v74 c15_i32_60 v73
  let v77 : BitVec 32 := Scalar.select v76 c11_i32_62 v75
  let v79 : BitVec 32 := Scalar.select v78 c7_i32_64 v77
  let v81 : BitVec 32 := Scalar.select v80 c3_i32_66 v79
  let v83 : BitVec 32 := Scalar.select v82 c2_i32_68 v81
  let v85 : BitVec 32 := Scalar.select v84 c6_i32_70 v83
  let v87 : BitVec 32 := Scalar.select v86 c10_i32_72 v85
  let v89 : BitVec 32 := Scalar.select v88 c14_i32_74 v87
  let v91 : BitVec 32 := Scalar.select v90 c13_i32_76 v89
  let v93 : BitVec 32 := Scalar.select v92 c9_i32_78 v91
  let v95 : BitVec 32 := Scalar.select v94 c5_i32_80 v93
  let v97 : BitVec 32 := Scalar.select v96 c1_i32_82 v95
  let c1_i32_3746_r0 : BitVec 32 := 1#32
  let v3310_r0 : BitVec 32 := Scalar.muli v97 c1_i32_3746_r0
  let v3311_r0 : BitVec 32 := Scalar.addi c0_i32_3747_r0 v3310_r0
  v3311_r0.toNat
def k0_dev64 (d0 : Dev nD) : Nat :=
  let c0_i32_3750_r0 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c4_i32_15 : BitVec 32 := 4#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c12_i32_11 : BitVec 32 := 12#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c5_i32_8 : BitVec 32 := 5#32
  let c10_i32 : BitVec 32 := 10#32
  let v21 : BitVec 1 := Scalar.cmpi .eq v2 c10_i32
  let c10_i32_7 : BitVec 32 := 10#32
  let c9_i32_6 : BitVec 32 := 9#32
  let v19 : BitVec 1 := Scalar.cmpi .eq v2 c9_i32_6
  let c13_i32 : BitVec 32 := 13#32
  let c8_i32_4 : BitVec 32 := 8#32
  let v17 : BitVec 1 := Scalar.cmpi .eq v2 c8_i32_4
  let c2_i32_5 : BitVec 32 := 2#32
  let c7_i32_2 : BitVec 32 := 7#32
  let v15 : BitVec 1 := Scalar.cmpi .eq v2 c7_i32_2
  let c6_i32_3 : BitVec 32 := 6#32
  let c6_i32 : BitVec 32 := 6#32
  let v13 : BitVec 1 := Scalar.cmpi .eq v2 c6_i32
  let c9_i32 : BitVec 32 := 9#32
  let c5_i32 : BitVec 32 := 5#32
  let v11 : BitVec 1 := Scalar.cmpi .eq v2 c5_i32
  let c14_i32 : BitVec 32 := 14#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c7_i32 : BitVec 32 := 7#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c15_i32 : BitVec 32 := 15#32
  let c0_i32 : BitVec 32 := 0#32
  let v4 : BitVec 32 := Scalar.select v3 c15_i32 c0_i32
  let v6 : BitVec 32 := Scalar.select v5 c8_i32 v4
  let v8 : BitVec 32 := Scalar.select v7 c7_i32 v6
  let v10 : BitVec 32 := Scalar.select v9 c1_i32_1 v8
  let v12 : BitVec 32 := Scalar.select v11 c14_i32 v10
  let v14 : BitVec 32 := Scalar.select v13 c9_i32 v12
  let v16 : BitVec 32 := Scalar.select v15 c6_i32_3 v14
  let v18 : BitVec 32 := Scalar.select v17 c2_i32_5 v16
  let v20 : BitVec 32 := Scalar.select v19 c13_i32 v18
  let v22 : BitVec 32 := Scalar.select v21 c10_i32_7 v20
  let v24 : BitVec 32 := Scalar.select v23 c5_i32_8 v22
  let v26 : BitVec 32 := Scalar.select v25 c3_i32_9 v24
  let v28 : BitVec 32 := Scalar.select v27 c12_i32_11 v26
  let v30 : BitVec 32 := Scalar.select v29 c11_i32_13 v28
  let v32 : BitVec 32 := Scalar.select v31 c4_i32_15 v30
  let c1_i32_16 : BitVec 32 := 1#32
  let v33 : BitVec 32 := Scalar.addi v32 c1_i32_16
  let c16_i32_17 : BitVec 32 := 16#32
  let v34 : BitVec 32 := Scalar.remsi v33 c16_i32_17
  let c15_i32_47 : BitVec 32 := 15#32
  let v63 : BitVec 1 := Scalar.cmpi .eq v34 c15_i32_47
  let c1_i32_48 : BitVec 32 := 1#32
  let c14_i32_45 : BitVec 32 := 14#32
  let v61 : BitVec 1 := Scalar.cmpi .eq v34 c14_i32_45
  let c5_i32_46 : BitVec 32 := 5#32
  let c13_i32_43 : BitVec 32 := 13#32
  let v59 : BitVec 1 := Scalar.cmpi .eq v34 c13_i32_43
  let c9_i32_44 : BitVec 32 := 9#32
  let c12_i32_41 : BitVec 32 := 12#32
  let v57 : BitVec 1 := Scalar.cmpi .eq v34 c12_i32_41
  let c13_i32_42 : BitVec 32 := 13#32
  let c11_i32_39 : BitVec 32 := 11#32
  let v55 : BitVec 1 := Scalar.cmpi .eq v34 c11_i32_39
  let c14_i32_40 : BitVec 32 := 14#32
  let c10_i32_37 : BitVec 32 := 10#32
  let v53 : BitVec 1 := Scalar.cmpi .eq v34 c10_i32_37
  let c10_i32_38 : BitVec 32 := 10#32
  let c9_i32_35 : BitVec 32 := 9#32
  let v51 : BitVec 1 := Scalar.cmpi .eq v34 c9_i32_35
  let c6_i32_36 : BitVec 32 := 6#32
  let c8_i32_33 : BitVec 32 := 8#32
  let v49 : BitVec 1 := Scalar.cmpi .eq v34 c8_i32_33
  let c2_i32_34 : BitVec 32 := 2#32
  let c7_i32_31 : BitVec 32 := 7#32
  let v47 : BitVec 1 := Scalar.cmpi .eq v34 c7_i32_31
  let c3_i32_32 : BitVec 32 := 3#32
  let c6_i32_29 : BitVec 32 := 6#32
  let v45 : BitVec 1 := Scalar.cmpi .eq v34 c6_i32_29
  let c7_i32_30 : BitVec 32 := 7#32
  let c5_i32_27 : BitVec 32 := 5#32
  let v43 : BitVec 1 := Scalar.cmpi .eq v34 c5_i32_27
  let c11_i32_28 : BitVec 32 := 11#32
  let c4_i32_25 : BitVec 32 := 4#32
  let v41 : BitVec 1 := Scalar.cmpi .eq v34 c4_i32_25
  let c15_i32_26 : BitVec 32 := 15#32
  let c3_i32_23 : BitVec 32 := 3#32
  let v39 : BitVec 1 := Scalar.cmpi .eq v34 c3_i32_23
  let c12_i32_24 : BitVec 32 := 12#32
  let c2_i32_21 : BitVec 32 := 2#32
  let v37 : BitVec 1 := Scalar.cmpi .eq v34 c2_i32_21
  let c8_i32_22 : BitVec 32 := 8#32
  let c1_i32_18 : BitVec 32 := 1#32
  let v35 : BitVec 1 := Scalar.cmpi .eq v34 c1_i32_18
  let c4_i32_19 : BitVec 32 := 4#32
  let c0_i32_20 : BitVec 32 := 0#32
  let v36 : BitVec 32 := Scalar.select v35 c4_i32_19 c0_i32_20
  let v38 : BitVec 32 := Scalar.select v37 c8_i32_22 v36
  let v40 : BitVec 32 := Scalar.select v39 c12_i32_24 v38
  let v42 : BitVec 32 := Scalar.select v41 c15_i32_26 v40
  let v44 : BitVec 32 := Scalar.select v43 c11_i32_28 v42
  let v46 : BitVec 32 := Scalar.select v45 c7_i32_30 v44
  let v48 : BitVec 32 := Scalar.select v47 c3_i32_32 v46
  let v50 : BitVec 32 := Scalar.select v49 c2_i32_34 v48
  let v52 : BitVec 32 := Scalar.select v51 c6_i32_36 v50
  let v54 : BitVec 32 := Scalar.select v53 c10_i32_38 v52
  let v56 : BitVec 32 := Scalar.select v55 c14_i32_40 v54
  let v58 : BitVec 32 := Scalar.select v57 c13_i32_42 v56
  let v60 : BitVec 32 := Scalar.select v59 c9_i32_44 v58
  let v62 : BitVec 32 := Scalar.select v61 c5_i32_46 v60
  let v64 : BitVec 32 := Scalar.select v63 c1_i32_48 v62
  let c1_i32_3749_r0 : BitVec 32 := 1#32
  let v3312_r0 : BitVec 32 := Scalar.muli v64 c1_i32_3749_r0
  let v3313_r0 : BitVec 32 := Scalar.addi c0_i32_3750_r0 v3312_r0
  v3313_r0.toNat
abbrev stage0_0 : Fin 1 → Memref sig .tc .vmem S4096x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x2048, .bf16⟩
  | .hbm, ⟨2, _⟩ => ⟨S4096x4096, .f32⟩
  | .hbm, ⟨3, _⟩ => ⟨S4096x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S_, .f32⟩
  | .hbm, ⟨8, _⟩ => ⟨S4096x2048, .f32⟩
  | .hbm, ⟨9, _⟩ => ⟨S4096x2048, .f32⟩
  | .hbm, ⟨10, _⟩ => ⟨S4096x2048, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== ClippedIdeal.lean ====
abbrev S4096x4096 : Shape := ⟨2, ![4096, 4096]⟩
abbrev S4096x2048 : Shape := ⟨2, ![4096, 2048]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x2048, .bf16⟩
  | .hbm, ⟨2, _⟩ => ⟨S4096x4096, .f32⟩
  | .hbm, ⟨3, _⟩ => ⟨S4096x2048, .f32⟩
  | .hbm, ⟨4, _⟩ => ⟨S4096x2048, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S4096x2048, .f32⟩
  | .hbm, ⟨9, _⟩ => ⟨S4096x2048, .f32⟩
  | .hbm, ⟨10, _⟩ => ⟨S_, .f32⟩
  | .hbm, ⟨11, _⟩ => ⟨S4096x2048, .f32⟩
  | .hbm, ⟨12, _⟩ => ⟨S4096x2048, .f32⟩
  | .hbm, ⟨13, _⟩ => ⟨S4096x2048, .f32⟩
  | .hbm, ⟨14, _⟩ => ⟨S4096x2048, .f32⟩
  | .hbm, ⟨15, _⟩ => ⟨S_, .f32⟩
  | .hbm, ⟨16, _⟩ => ⟨S4096x2048, .f32⟩
  | .hbm, ⟨17, _⟩ => ⟨S4096x2048, .f32⟩
  | .hbm, ⟨18, _⟩ => ⟨S4096x2048, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_cst_0 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩

abbrev nD : Nat := 1
abbrev τ : Topo := Topo.v7x

variable {F : FTy → Type} [FloatOps F]
-- ==== Proof.Body.lean ====
/-
# The kernel's body as one ring step repeated

The printed body is the unrolled ring: four streams, a first partial product each, then fifteen steps over the
four streams. Here the same sequence of operations is written once, parametric in the stream `k` and the step `s`,
and shown equal to the printed body (`body_eq`).
-/
module

public import proofs.«01_k».proof.Proof.Gen.KernelIdeal
public import Idealize.ShloMosaic.Lib.Pipeline.Regions

@[expose] public section

noncomputable section

namespace Cert.KernelIdeal.RS

open Cert.KernelIdeal Cert.KernelIdeal.Gen
open Idealize.ShloMosaic Idealize.ShloMosaic.TcCoe
open Idealize.SL.Sem

variable {F : FTy → Type} [FloatOps F]

/-! ## Neighbours -/

/-- The device after and before `c` on the ring. -/
def rgt (c : Dev nD) : Dev nD := ⟨k0_dev2 c, k0_dev2_lt c⟩
def lft (c : Dev nD) : Dev nD := ⟨k0_dev1 c, k0_dev1_lt c⟩

/-- Where stream `k` sends: streams 0 and 1 to the right, 2 and 3 to the left. -/
def peer (k : Fin 4) (c : Dev nD) : Dev nD := match k with
  | 0 => rgt c | 1 => rgt c | 2 => lft c | 3 => lft c

/-! ## Buffers and semaphores -/

abbrev xM : Memref sig .tc .vmem S4096x256 .bf16 := Memref.whole cc0_stg0_0
abbrev wM : Memref sig .tc .vmem S256x2048 .bf16 := Memref.whole cc0_stg1_0
abbrev oM : Memref sig .tc .vmem S256x2048 .f32 := Memref.whole cc0_stg2_0
abbrev wbM : Memref sig .tc .vmem S256x2048 .bf16 := Memref.whole cc0_scratch0

/-- Stream `k`'s buffer of sixteen slots, and its semaphores. -/
def commR (k : Fin 4) : Ref sig .tc := match k with
  | 0 => cc0_scratch1 | 1 => cc0_scratch2 | 2 => cc0_scratch3 | 3 => cc0_scratch4
def commM (k : Fin 4) : Memref sig .tc .vmem S16x256x512 .bf16 := match k with
  | 0 => Memref.whole cc0_scratch1 | 1 => Memref.whole cc0_scratch2
  | 2 => Memref.whole cc0_scratch3 | 3 => Memref.whole cc0_scratch4
def semA (k : Fin 4) : DmaSems sig S15x2 := match k with
  | 0 => cc0_scratch5 | 1 => cc0_scratch6 | 2 => cc0_scratch7 | 3 => cc0_scratch8

theorem commM_whole (k : Fin 4) : (commM k).IsWhole := match k with
  | 0 => Memref.isWhole_whole _ | 1 => Memref.isWhole_whole _ | 2 => Memref.isWhole_whole _ | 3 => Memref.isWhole_whole _

theorem slot_inb (i : Fin 16) : ∀ a, (![i.val, 0, 0] : Fin 3 → Nat) a + S1x256x512.size a ≤ S16x256x512.size a := by
  revert i; decide
abbrev slotR (i : Fin 16) : Rect S16x256x512 := Rect.unit (s := S16x256x512) ![i.val, 0, 0] S1x256x512.size (slot_inb i)
theorem slot_words (i : Fin 16) : (slotR i).WholeWords (EltTy.packing .bf16) := by
  revert i; decide
theorem slot_packed (i : Fin 16) : (slotR i).PackedRows (EltTy.packing .bf16) := by
  revert i; decide
/-- Slot `i` of stream `k`'s buffer. -/
abbrev slotM (k : Fin 4) (i : Fin 16) : Memref sig .tc .vmem S256x512 .bf16 :=
  ((commM k).slice (slotR i) (fun _ => rfl)).squeeze S256x512 squeezes_S1x256x512_S256x512

theorem sem_inb (s : Fin 15) (j : Fin 2) : ∀ a, (![s.val, j.val] : Fin 2 → Nat) a + S1x1.size a ≤ S15x2.size a := by
  revert s j; decide
/-- Copy `s` of stream `k`: its send (`j = 0`) and receive (`j = 1`) semaphore. -/
abbrev semK (k : Fin 4) (s : Fin 15) (j : Fin 2) : DmaSem sig :=
  (((semA k).slice (Rect.unit (s := S15x2) ![s.val, j.val] S1x1.size (sem_inb s j))).squeeze S_ squeezes_S1x1_S_).sem

abbrev barS : Sem sig := (SemArray.scalar (sig.barrier 0 rfl) : Sems sig S_).sem
abbrev exitS : Sem sig := (cc0_scoped0 : Sems sig S_).sem

/-- The rectangles of the loads. -/
abbrev wAll : Rect S256x2048 := Rect.unit (s := S256x2048) ![0, 0] S256x2048.size inb_S256x2048_S256x2048_0_0
theorem col_inb (k : Fin 4) : ∀ a, (![0, 512 * k.val] : Fin 2 → Nat) a + S256x512.size a ≤ S256x2048.size a := by
  revert k; decide
abbrev wCol (k : Fin 4) : Rect S256x2048 := Rect.unit (s := S256x2048) ![0, 512 * k.val] S256x512.size (col_inb k)
theorem half_inb (h : Fin 2) : ∀ a, (![0, 1024 * h.val] : Fin 2 → Nat) a + S256x1024.size a ≤ S256x2048.size a := by
  revert h; decide
abbrev wHalf (h : Fin 2) : Rect S256x2048 := Rect.unit (s := S256x2048) ![0, 1024 * h.val] S256x1024.size (half_inb h)

/-- The first chunk stream `k` multiplies, and the chunks of step `s` (`h = 0` travelling right, `h = 1` left). -/
def off0 (k : Fin 4) (c : Dev nD) : Fin 2 → Nat := match k with
  | 0 => k0_off1 c | 1 => k0_off1 c | 2 => k0_off2 c | 3 => k0_off2 c
theorem off0_inb (k : Fin 4) (c : Dev nD) : ∀ a, off0 k c a + S256x256.size a ≤ S4096x256.size a := match k with
  | 0 => k0_off1_inb c | 1 => k0_off1_inb c | 2 => k0_off2_inb c | 3 => k0_off2_inb c
def offS (h : Fin 2) (s : Fin 15) (c : Dev nD) : Fin 2 → Nat := match h with
  | 0 => k0_off3 c (BitVec.ofNat 32 s.val) | 1 => k0_off4 c (BitVec.ofNat 32 s.val)
theorem offS_inb (h : Fin 2) (s : Fin 15) (c : Dev nD) : ∀ a, offS h s c a + S256x256.size a ≤ S4096x256.size a := match h with
  | 0 => k0_off3_inb c s | 1 => k0_off4_inb c s
abbrev xR0 (k : Fin 4) (c : Dev nD) : Rect S4096x256 := Rect.unit (s := S4096x256) (off0 k c) S256x256.size (off0_inb k c)
abbrev xRS (h : Fin 2) (s : Fin 15) (c : Dev nD) : Rect S4096x256 := Rect.unit (s := S4096x256) (offS h s c) S256x256.size (offS_inb h s c)

/-! ## The values -/

/-- The staged copy of the weights. -/
def wbPay (w : Vec F S256x2048 .bf16) : FVec F S256x2048 .bf16 :=
  shapeCast S256x2048 (shapeCast S256x2048 w shapeCasts_S256x2048_S256x2048) shapeCasts_S256x2048_S256x2048

/-- The first partial product, rounded, as a slot holds it. -/
def firstPay (x : Vec F S256x256 .bf16) (w : Vec F S256x512 .bf16) : FVec F S1x256x512 .bf16 :=
  shapeCast S1x256x512 (truncf .bf16 (matmul dot_S256x256_S256x512_S256x512_1_0_0_1_n_n none
    (shapeCast S256x256 x shapeCasts_S256x256_S256x256) w (constant S256x512 .f32 0x00000000#32)) bitsLt_bf16_f32)
    shapeCasts_S256x512_S1x256x512

/-- A step's partial product over half the columns. -/
def part (x : Vec F S256x256 .bf16) (w : Vec F S256x1024 .bf16) : FVec F S256x1024 .f32 :=
  matmul dot_S256x256_S256x1024_S256x1024_1_0_0_1_n_n none
    (shapeCast S256x256 x shapeCasts_S256x256_S256x256) w (constant S256x1024 .f32 0x00000000#32)

theorem sub_slices (k : Fin 4) : S256x1024.Slices ![0, 512 * (k.val % 2)] S256x512 := by revert k; decide

/-- What arrived plus the stream's columns of the partial product. -/
def accV (k : Fin 4) (p : FVec F S256x1024 .f32) (a : Vec F S1x256x512 .bf16) : FVec F S256x512 .f32 :=
  addf (extf .f32 (shapeCast S256x512 a shapeCasts_S1x256x512_S256x512) bitsLt_bf16_f32)
    (extractStridedSlice S256x512 ![0, 512 * (k.val % 2)] p (sub_slices k))
def midPay (k : Fin 4) (p : FVec F S256x1024 .f32) (a : Vec F S1x256x512 .bf16) : FVec F S1x256x512 .bf16 :=
  shapeCast S1x256x512 (truncf .bf16 (accV k p a) bitsLt_bf16_f32) shapeCasts_S256x512_S1x256x512
def lastPay (k : Fin 4) (p : FVec F S256x1024 .f32) (a : Vec F S1x256x512 .bf16) : FVec F S256x512 .f32 :=
  mulf (accV k p a) (logistic (accV k p a))

/-! ## The program -/

/-- A program of one core. -/
abbrev PP (F : FTy → Type) [FloatOps F] : Type _ := Prog (TpuEff nD τ sig (Elt F) Λ₀ .tc) PUnit

/-- Start copy `s` of stream `k`: this device's slot `s` to the peer's slot `s + 1`. -/
def send (k : Fin 4) (s : Fin 15) (c : Dev nD) (q : PP F) : PP F :=
  .op (.enqueueDma (slotM k s.castSucc) (.remote (Dev.tc (peer k c)) (slotM k s.succ) (.dma (semK k s 0))) (.dma (semK k s 1))
    (((commM_whole k).wordExact_slice rfl _ (slot_words s.castSucc)).reshape _ _)
    (((commM_whole k).wordExact_slice rfl _ (slot_words s.succ)).reshape _ _) ⟨⟨rfl, Or.inl rfl⟩, trivial⟩) fun _ => q

/-- Stream `k`'s first partial product into slot 0, then its copy. -/
def first (k : Fin 4) (c : Dev nD) (q : PP F) : PP F :=
  .op (.load xM (xR0 k c).toLoadRect (View.loadsAt_vmem h_S256x256)) fun x =>
  .op (.load wbM (wCol k).toLoadRect (View.loadsAt_vmem h_S256x512)) fun w =>
  .op (.load (commM k) (slotR 0).toLoadRect (View.loadsAt_vmem h_S1x256x512)) fun _ =>
  .op (.store (commM k) (slotR 0) (firstPay x w) Finset.univ
    (View.stores_vmem h_S1x256x512 ((commM_whole k).storeExact_slice rfl _ (slot_packed 0)) (fun _ => rfl)) (.inl rfl)) fun _ =>
  send k 0 c q

/-- Wait for copy `s` of stream `k` to have left and its counterpart to have arrived. -/
def join (k : Fin 4) (s : Fin 15) (q : PP F) : PP F :=
  .op (.waitDma2 (semK k s 0) (slotM k s.succ) (slotM k s.castSucc)
    (((commM_whole k).wordExact_slice rfl _ (slot_words s.succ)).reshape _ _)
    (((commM_whole k).wordExact_slice rfl _ (slot_words s.castSucc)).reshape _ _)) fun _ =>
  .op (.waitDma2 (semK k s 1) (slotM k s.castSucc) (slotM k s.succ)
    (((commM_whole k).wordExact_slice rfl _ (slot_words s.castSucc)).reshape _ _)
    (((commM_whole k).wordExact_slice rfl _ (slot_words s.succ)).reshape _ _)) fun _ => q

/-- Stream `k` at a step `s` before the last: join, add, store into slot `s + 1`, send it on. -/
def mid (k : Fin 4) (s : Fin 14) (c : Dev nD) (p : FVec F S256x1024 .f32) (q : PP F) : PP F :=
  join k s.castSucc <|
  .op (.load (commM k) (slotR s.castSucc.succ).toLoadRect (View.loadsAt_vmem h_S1x256x512)) fun a =>
  .op (.load (commM k) (slotR s.castSucc.succ).toLoadRect (View.loadsAt_vmem h_S1x256x512)) fun _ =>
  .op (.store (commM k) (slotR s.castSucc.succ) (midPay k p a) Finset.univ
    (View.stores_vmem h_S1x256x512 ((commM_whole k).storeExact_slice rfl _ (slot_packed s.castSucc.succ)) (fun _ => rfl)) (.inl rfl)) fun _ =>
  send k s.succ c q

/-- Stream `k` at the last step: join, add, apply the epilogue, store its columns of the result. -/
def fin (k : Fin 4) (p : FVec F S256x1024 .f32) (q : PP F) : PP F :=
  join k 14 <|
  .op (.load (commM k) (slotR 15).toLoadRect (View.loadsAt_vmem h_S1x256x512)) fun a =>
  .op (.load oM (wCol k).toLoadRect (View.loadsAt_vmem h_S256x512)) fun _ =>
  .op (.store oM (wCol k) (lastPay k p a) Finset.univ (View.stores_vmem_bits_univ h_S256x512 rfl) (.inl rfl)) fun _ => q

/-- The two partial products of step `s`. -/
def parts (s : Fin 15) (c : Dev nD) (q : FVec F S256x1024 .f32 → FVec F S256x1024 .f32 → PP F) : PP F :=
  .op (.load xM (xRS 0 s c).toLoadRect (View.loadsAt_vmem h_S256x256)) fun xr =>
  .op (.load wbM (wHalf 0).toLoadRect (View.loadsAt_vmem h_S256x1024)) fun wr =>
  .op (.load xM (xRS 1 s c).toLoadRect (View.loadsAt_vmem h_S256x256)) fun xl =>
  .op (.load wbM (wHalf 1).toLoadRect (View.loadsAt_vmem h_S256x1024)) fun wl =>
  q (part xr wr) (part xl wl)

/-- A step before the last. -/
def step (s : Fin 14) (c : Dev nD) (q : PP F) : PP F :=
  parts s.castSucc c fun pr pl => mid 0 s c pr <| mid 1 s c pr <| mid 2 s c pl <| mid 3 s c pl q

/-- The first `n` steps, then `q`. -/
def steps (c : Dev nD) : (n : ℕ) → n ≤ 14 → PP F → PP F
  | 0, _, q => q
  | n + 1, h, q => steps c n (Nat.le_of_succ_le h) (step ⟨n, h⟩ c q)

/-- The last step. -/
def lastStep (c : Dev nD) (q : PP F) : PP F :=
  parts 14 c fun pr pl => fin 0 pr <| fin 1 pr <| fin 2 pl <| fin 3 pl q

/-- Signal both neighbours' semaphore `sm`. -/
def tell (sm : Sem sig) (c : Dev nD) (q : PP F) : PP F :=
  .op (.semSignal ((lft c : Thread nD τ)) sm (1#32).toInt) fun _ =>
  .op (.semSignal ((rgt c : Thread nD τ)) sm (1#32).toInt) fun _ => q

/-- Stage the weights. -/
def stageW (q : PP F) : PP F :=
  .op (.load wM wAll.toLoadRect (View.loadsAt_vmem h_S256x2048)) fun w =>
  .op (.load wbM wAll.toLoadRect (View.loadsAt_vmem h_S256x2048)) fun _ =>
  .op (.store wbM wAll (wbPay w) Finset.univ
    (View.stores_vmem h_S256x2048 ((Memref.isWhole_whole _).storeExact_slice rfl _ packedbf16_S256x2048_S256x2048_0_0) (fun _ => rfl)) (.inl rfl)) fun _ => q

/-- The whole body on device `c`. -/
def prog (c : Dev nD) : PP F :=
  tell barS c <| stageW <|
  .op (.semWait barS (2#32).toInt) fun _ =>
  first 0 c <| first 1 c <| first 2 c <| first 3 c <|
  steps c 14 le_rfl <| lastStep c <|
  tell exitS c <|
  .op (.semWait exitS (2#32).toInt) fun _ => .ret ⟨⟩

set_option maxRecDepth 100000 in
theorem body_eq :
    cc0_body (F := F) (Memref.whole cc0_stg0_0) (Memref.isWhole_whole _) (Memref.whole cc0_stg1_0) (Memref.isWhole_whole _)
      (Memref.whole cc0_stg2_0) (Memref.isWhole_whole _) (Memref.whole cc0_scratch0) (Memref.isWhole_whole _)
      (Memref.whole cc0_scratch1) (Memref.isWhole_whole _) (Memref.whole cc0_scratch2) (Memref.isWhole_whole _)
      (Memref.whole cc0_scratch3) (Memref.isWhole_whole _) (Memref.whole cc0_scratch4) (Memref.isWhole_whole _)
      cc0_scratch5 cc0_scratch6 cc0_scratch7 cc0_scratch8 cc0_scoped0
    = .op .deviceId fun c => prog c := by
  chain_rfl

end Cert.KernelIdeal.RS

end
-- ==== Proof.Vals.lean ====
/-
# What each slot and each column of the result holds

The values that travel: `V k s c` is what device `c` holds in slot `s` of stream `k` when it sends it on. And the facts
about slots and columns as parts of their buffers that the run uses.
-/
module

public import proofs.«01_k».proof.Proof.Body

@[expose] public section

noncomputable section

namespace Cert.KernelIdeal.RS

open Cert.KernelIdeal Cert.KernelIdeal.Gen
open Idealize.ShloMosaic Idealize.ShloMosaic.TcCoe
open Idealize.SL.Sem

variable {F : FTy → Type} [FloatOps F]

/-- The device stream `k` arrives from. -/
def src (k : Fin 4) (c : Dev nD) : Dev nD := match k with
  | 0 => lft c | 1 => lft c | 2 => rgt c | 3 => rgt c

theorem rgt_lft (c : Dev nD) : rgt (lft c) = c := by revert c; decide
theorem lft_rgt (c : Dev nD) : lft (rgt c) = c := by revert c; decide
theorem src_peer (k : Fin 4) (c : Dev nD) : src k (peer k c) = c := match k with
  | 0 => lft_rgt c | 1 => lft_rgt c | 2 => rgt_lft c | 3 => rgt_lft c
theorem peer_src (k : Fin 4) (c : Dev nD) : peer k (src k c) = c := match k with
  | 0 => rgt_lft c | 1 => rgt_lft c | 2 => lft_rgt c | 3 => lft_rgt c

/-! ## The values -/

section Values

variable (X : Dev nD → Vec F S4096x256 .bf16) (W : Dev nD → Vec F S256x2048 .bf16)

/-- Which half of the columns stream `k` is in. -/
def hf (k : Fin 4) : Fin 2 := match k with
  | 0 => 0 | 1 => 0 | 2 => 1 | 3 => 1

/-- Device `c`'s partial product of step `s`, over the columns of half `h`. -/
def partV (h : Fin 2) (s : Fin 15) (c : Dev nD) : FVec F S256x1024 .f32 :=
  part ((xM : Memref sig .tc .vmem S4096x256 .bf16).view.readAt (Elt F) (xRS h s c).toLoadRect (X c))
    ((wbM : Memref sig .tc .vmem S256x2048 .bf16).view.readAt (Elt F) (wHalf h).toLoadRect (wbPay (W c)))

/-- What device `c` sends as copy `s` of stream `k`. -/
def V (k : Fin 4) : ℕ → Dev nD → FVec F S1x256x512 .bf16
  | 0, c => firstPay ((xM : Memref sig .tc .vmem S4096x256 .bf16).view.readAt (Elt F) (xR0 k c).toLoadRect (X c))
      ((wbM : Memref sig .tc .vmem S256x2048 .bf16).view.readAt (Elt F) (wCol k).toLoadRect (wbPay (W c)))
  | s + 1, c => midPay k (partV X W (hf k) (Fin.ofNat 15 s) c) (V k s (src k c))

/-- What device `c` stores in column `k` of its result. -/
def outV (k : Fin 4) (c : Dev nD) : FVec F S256x512 .f32 :=
  lastPay k (partV X W (hf k) 14 c) (V X W k 14 (src k c))

theorem V_succ (k : Fin 4) (s : Fin 15) (c : Dev nD) :
    V X W k (s.val + 1) c = midPay k (partV X W (hf k) s c) (V X W k s.val (src k c)) := by
  rw [V, Fin.ofNat_val_eq_self]

/-- Device `c`'s result. -/
def outAt (c : Dev nD) : Vec F S256x2048 .f32 := fun i =>
  outV X W (Fin.ofNat 4 ((i 1).val / 512)) c (fun a => match a with
    | ⟨0, _⟩ => i 0
    | ⟨1, _⟩ => Fin.ofNat 512 ((i 1).val % 512))

end Values

/-! ## Slots -/

/-- The credit of one copy. -/
abbrev N : ℕ := (slotM 0 0).view.dmaCredit
theorem N_pos : 0 < N := View.dmaCredit_pos _ (by decide)
theorem slot_credit (k : Fin 4) (i : Fin 16) : (slotM k i).view.dmaCredit = N := by
  fin_cases k <;> rfl

/-- The elements of a slot in its buffer. -/
abbrev slotSet (k : Fin 4) (i : Fin 16) : Finset (commM k).view.ty.Idx := (slotM k i).view.set

theorem slot_set (k : Fin 4) (i : Fin 16) : slotSet k i = ((commM k).access (slotR i)).set := View.set_reshape _ _

theorem slot_setOn (k : Fin 4) (i : Fin 16) : (commM k).view.setOn (slotR i).toLoadRect.set = slotSet k i := by
  rw [slot_set, View.set_slice]; rfl

/-- What a slot holds. -/
abbrev rdSlot (k : Fin 4) (i : Fin 16) (f : (commM k).view.ty.Contents (Elt F)) : Vec F S1x256x512 .bf16 :=
  (commM k).view.readAt (Elt F) (slotR i).toLoadRect f

/-- A store into a slot is read back. -/
theorem rdSlot_store (k : Fin 4) (i : Fin 16) (f : (commM k).view.ty.Contents (Elt F)) (v : Vec F S1x256x512 .bf16) :
    rdSlot k i (((commM k).access (slotR i)).write (Elt F) f v Finset.univ) = v :=
  View.read_write_univ (v := (commM k).access (slotR i)) f v

/-- A copy from one slot to another carries what the first holds. -/
theorem rdSlot_copy (k : Fin 4) (i j : Fin 16) (f g : (commM k).view.ty.Contents (Elt F)) :
    rdSlot k j ((slotM k j).view.write (Elt F) g ((slotM k i).view.read (Elt F) f) Finset.univ) = rdSlot k i f := by
  have h := View.read_write_univ (v := (slotM k j).view) g ((slotM k i).view.read (Elt F) f)
  funext x
  have hx := congrFun h ((Shape.reshapeEquiv squeezes_S1x256x512_S256x512.numel_eq).symm x)
  have e : ∀ (l : Fin 16) (f' : (commM k).view.ty.Contents (Elt F)),
      (slotM k l).view.read (Elt F) f' ((Shape.reshapeEquiv squeezes_S1x256x512_S256x512.numel_eq).symm x)
        = rdSlot k l f' ((Shape.reshapeEquiv squeezes_S1x256x512_S256x512.numel_eq)
          ((Shape.reshapeEquiv squeezes_S1x256x512_S256x512.numel_eq).symm x)) := fun _ _ => rfl
  rw [e, e, Equiv.apply_symm_apply] at hx
  exact hx

theorem slotR_mem (i : Fin 16) (x : S16x256x512.Idx) : x ∈ (slotR i).set ↔ (x 0).val = i.val := by
  rw [Rect.mem_set_unit]
  constructor
  · intro h
    have := h 0
    simp at this
    omega
  · intro h a
    fin_cases a
    · simp; omega
    · have := (x 1).isLt; simpa using this
    · have := (x 2).isLt; simpa using this

theorem slot_disjoint (k : Fin 4) (i j : Fin 16) (h : i ≠ j) : Disjoint (slotSet k i) (slotSet k j) := by
  rw [slot_set, slot_set, View.set_slice, View.set_slice, Finset.disjoint_map, Finset.disjoint_left]
  intro x hi hj
  rw [slotR_mem] at hi hj
  exact h (Fin.ext (hi.symm.trans hj))

theorem slot_cover (k : Fin 4) : (Finset.univ : Finset (Fin 16)).biUnion (fun i => slotSet k i) = Finset.univ := by
  have hu : (commM k).view.set = Finset.univ := by
    fin_cases k <;> exact View.set_whole _
  rw [Finset.eq_univ_iff_forall]
  intro y
  have hy : y ∈ (commM k).view.set := hu ▸ Finset.mem_univ y
  obtain ⟨x, -, rfl⟩ := Finset.mem_map.mp hy
  refine Finset.mem_biUnion.mpr ⟨⟨(x 0).val, (x 0).isLt⟩, Finset.mem_univ _, ?_⟩
  rw [slot_set, View.set_slice]
  exact Finset.mem_map_of_mem _ ((slotR_mem _ x).mpr rfl)

/-! ## Columns -/

theorem wCol_mem (k : Fin 4) (x : S256x2048.Idx) : x ∈ (wCol k).set ↔ (x 1).val / 512 = k.val := by
  rw [Rect.mem_set_unit]
  constructor
  · intro h
    have := h 1
    simp at this
    omega
  · intro h a
    fin_cases a
    · have := (x 0).isLt; simpa using this
    · simp; omega

/-- A column of the result as read back. -/
abbrev rdCol (k : Fin 4) (f : (cc0_stg2_0 : Ref sig .tc).ty.Contents (Elt F)) : Vec F S256x512 .f32 :=
  (oM.access (wCol k)).read (Elt F) f

theorem rdCol_store (k : Fin 4) (f : (cc0_stg2_0 : Ref sig .tc).ty.Contents (Elt F)) (v : Vec F S256x512 .f32) :
    rdCol k ((oM.access (wCol k)).write (Elt F) f v Finset.univ) = v := View.read_write_univ (v := oM.access (wCol k)) f v

theorem rdCol_other (k j : Fin 4) (h : k ≠ j) (f : (cc0_stg2_0 : Ref sig .tc).ty.Contents (Elt F)) (v : Vec F S256x512 .f32) :
    rdCol k ((oM.access (wCol j)).write (Elt F) f v Finset.univ) = rdCol k f := by
  refine View.read_slice_write_slice_of_disjoint _ _ _ _ _ ?_
  rw [View.setOn_univ, View.set_slice, View.set_slice, Finset.disjoint_map, Finset.disjoint_left]
  intro x hi hj
  rw [wCol_mem] at hi hj
  exact h (Fin.ext (hi.symm.trans hj))

/-- The result is known from its columns. -/
theorem eq_outAt (X : Dev nD → Vec F S4096x256 .bf16) (W : Dev nD → Vec F S256x2048 .bf16) (c : Dev nD)
    (f : (cc0_stg2_0 : Ref sig .tc).ty.Contents (Elt F)) (h : ∀ k, rdCol k f = outV X W k c) : f = outAt X W c := by
  funext i
  have hk : (i 1).val / 512 < 4 := by have : (i 1).val < 2048 := (i 1).isLt; omega
  have e := congrFun (h (Fin.ofNat 4 ((i 1).val / 512))) (fun a => match a with
    | ⟨0, _⟩ => i 0
    | ⟨1, _⟩ => Fin.ofNat 512 ((i 1).val % 512))
  refine Eq.trans ?_ e
  show f i = f ((wCol (Fin.ofNat 4 ((i 1).val / 512))).emb _)
  congr 1
  funext a
  apply Fin.ext
  fin_cases a
  · simp [Rect.emb_apply]
  · simp [Rect.emb_apply]; omega

end Cert.KernelIdeal.RS

end
-- ==== Proof.Sched.lean ====
/-
# The protocol

The semaphore cells of a device: the runtime's barrier semaphore, the exit semaphore, and for each of the four streams'
fifteen copies a send and a receive semaphore. Each has one round. What its signals hand over:

* barrier: the right neighbour (duty `true`) hands over its slots 1 to 15 of the streams that travel right, the left
  neighbour (duty `false`) those of the streams that travel left;
* send: the slot sent, back;
* receive: the slot the copy filled, holding what the sender held;
* exit: nothing.
-/
module

public import proofs.«01_k».proof.Proof.Vals
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.SparseCore.ProtocolKit

@[expose] public section

noncomputable section

namespace Cert.KernelIdeal.RS

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.ProtocolKit (finFrom finUpTo)

variable {F : FTy → Type} [FloatOps F]

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## Cells -/

/-- A copy: its stream and step. -/
abbrev CP : Type := Fin 4 × Fin 15
/-- The kernel's own semaphores: exit; a copy's send (`false`) and receive (`true`). -/
abbrev Own : Type := Unit ⊕ (CP × Bool)
/-- All of them: the barrier first. -/
abbrev Cell : Type := Unit ⊕ Own

def osem (o : Own) : SemLoc sig := match o with
  | .inl _ => .reg exitS
  | .inr (x, false) => .dma (semK x.1 x.2 0)
  | .inr (x, true) => .dma (semK x.1 x.2 1)
def csem (i : Cell) : SemLoc sig := match i with
  | .inl _ => .reg barS
  | .inr o => osem o

abbrev cBar : Cell := .inl ()
abbrev cExit : Cell := .inr (.inl ())
abbrev cSend (k : Fin 4) (s : Fin 15) : Cell := .inr (.inr ((k, s), false))
abbrev cRecv (k : Fin 4) (s : Fin 15) : Cell := .inr (.inr ((k, s), true))

abbrev cell (c : Dev nD) (i : Cell) : GSem nD τ sig := ((c : Thread nD τ), csem i)

theorem semK_val (k : Fin 4) (s : Fin 15) (j : Fin 2) : (semK k s j).val = 3 + 30 * k.val + 2 * s.val + j.val := by
  revert k s j; decide

theorem semK_inj {k k' : Fin 4} {s s' : Fin 15} {j j' : Fin 2} (h : semK k s j = semK k' s' j') : k = k' ∧ s = s' ∧ j = j' := by
  have e := congrArg Fin.val h
  rw [semK_val, semK_val] at e
  have := k.isLt; have := k'.isLt; have := s.isLt; have := s'.isLt; have := j.isLt; have := j'.isLt
  refine ⟨Fin.ext ?_, Fin.ext ?_, Fin.ext ?_⟩ <;> omega

theorem osem_inj : Function.Injective osem := by
  rintro (_ | ⟨⟨k, s⟩, b⟩) (_ | ⟨⟨k', s'⟩, b'⟩) h
  · rfl
  · cases b' <;> cases h
  · cases b <;> cases h
  · cases b <;> cases b' <;> obtain ⟨rfl, rfl, hj⟩ := semK_inj (SemLoc.dma.inj h) <;> first | rfl | exact absurd hj (by decide)

theorem bar_ne_exit : (SemLoc.reg barS : SemLoc sig) ≠ .reg exitS := by decide

theorem osem_ne_bar (o : Own) : osem o ≠ .reg barS := by
  rcases o with _ | ⟨x, b⟩
  · exact bar_ne_exit.symm
  · cases b <;> intro h <;> cases h

theorem csem_inj : Function.Injective csem := by
  rintro (_ | o) (_ | o') h
  · rfl
  · exact absurd h.symm (osem_ne_bar o')
  · exact absurd h (osem_ne_bar o)
  · exact congrArg Sum.inr (osem_inj h)

theorem cell_inj {c c' : Dev nD} {i i' : Cell} (h : cell c i = cell c' i') : c = c' ∧ i = i' :=
  ⟨congrArg (fun g : GSem nD τ sig => g.1.1) h, csem_inj (congrArg Prod.snd h)⟩

open Classical in
/-- Which cell a semaphore is. -/
def dec (g : GSem nD τ sig) : Option Cell := if h : ∃ i, cell g.1.1 i = g then some h.choose else none

theorem dec_cell (c : Dev nD) (i : Cell) : dec (cell c i) = some i := by
  have h : ∃ j, cell (cell c i).1.1 j = cell c i := ⟨i, rfl⟩
  unfold dec
  rw [dif_pos h]
  exact congrArg some (cell_inj h.choose_spec).2

/-! ## Contents -/

/-- The staged blocks. -/
def xstg (c : Dev nD) : Vec F S4096x256 .bf16 := (win0_0.blk (0 : Fin 1)).view.read (Elt F) (m ((c : Thread nD τ).loc main_arg0))
def wstg (c : Dev nD) : Vec F S256x2048 .bf16 := (win0_1.blk (0 : Fin 1)).view.read (Elt F) (m ((c : Thread nD τ).loc main_arg1))

abbrev val (k : Fin 4) (s : ℕ) (c : Dev nD) : FVec F S1x256x512 .bf16 := V (xstg m) (wstg m) k s c

/-- Slot `i` of stream `k` on device `c`, holding `v`. -/
def slotHas (c : Dev nD) (k : Fin 4) (i : Fin 16) (v : Vec F S1x256x512 .bf16) : sProp 𝕄 :=
  iprop(∃ f : Buf (Elt F) ((slotM k i).view.loc (c : Thread nD τ)), ⌜rdSlot k i f = v⌝
    ∗ (slotM k i).view.loc (c : Thread nD τ) ↦[(slotM k i).view.set]{fullShare} f)
/-- The same, holding anything. -/
def slotAny (c : Dev nD) (k : Fin 4) (i : Fin 16) : sProp 𝕄 :=
  iprop(∃ f : Buf (Elt F) ((slotM k i).view.loc (c : Thread nD τ)), (slotM k i).view.loc (c : Thread nD τ) ↦[(slotM k i).view.set]{fullShare} f)

omit [FloatOps F] in
theorem slotAny_of_has (c : Dev nD) (k : Fin 4) (i : Fin 16) (v : Vec F S1x256x512 .bf16) : slotHas c k i v ⊢ slotAny c k i := by
  unfold slotHas slotAny
  iintro ⟨%f, %_, H⟩
  iexists f; iexact H

omit [FloatOps F] in
instance slotHas_storable (c : Dev nD) (k : Fin 4) (i : Fin 16) (v : Vec F S1x256x512 .bf16) :
    BI.Storable (upEmb : UEmb _ 𝕄) (slotHas c k i v) := by unfold slotHas; infer_instance
omit [FloatOps F] in
instance slotAny_storable (c : Dev nD) (k : Fin 4) (i : Fin 16) :
    BI.Storable (upEmb : UEmb _ 𝕄) (slotAny (F := F) c k i) := by unfold slotAny; infer_instance

/-- The slots device `d` is handed to write stream `k` into: its peer's slots 1 to 15. -/
def grant (d : Dev nD) (k : Fin 4) : sProp 𝕄 := bigSep Finset.univ fun s : Fin 15 => slotAny (peer k d) k s.succ

omit [FloatOps F] in
instance grant_storable (d : Dev nD) (k : Fin 4) : BI.Storable (upEmb : UEmb _ 𝕄) (grant (F := F) d k) := by
  unfold grant; infer_instance

/-! ## The schedule -/

/-- What a duty hands device `d`. -/
def pays (d : Dev nD) (i : Cell) (b : Bool) : sProp 𝕄 := match i with
  | .inl _ => if b then iprop(grant d 0 ∗ grant d 1) else iprop(grant d 2 ∗ grant d 3)
  | .inr (.inl _) => iprop(emp)
  | .inr (.inr (x, false)) => slotAny d x.1 x.2.castSucc
  | .inr (.inr (x, true)) => slotHas d x.1 x.2.succ (val m x.1 x.2.val (src x.1 d))

instance pays_storable (d : Dev nD) (i : Cell) (b : Bool) : BI.Storable (upEmb : UEmb _ 𝕄) (pays m d i b) := by
  rcases i with _ | _ | ⟨x, j⟩
  · cases b
    · show BI.Storable upEmb iprop(grant d 2 ∗ grant d 3); infer_instance
    · show BI.Storable upEmb iprop(grant d 0 ∗ grant d 1); infer_instance
  · show BI.Storable upEmb iprop(emp); infer_instance
  · cases j
    · exact slotAny_storable _ _ _
    · exact slotHas_storable _ _ _ _

def duty (i : Cell) : Finset Bool := match i with
  | .inl _ => Finset.univ
  | .inr (.inl _) => Finset.univ
  | .inr (.inr _) => {false}
def amt (i : Cell) : ℕ := match i with
  | .inl _ => 1
  | .inr (.inl _) => 1
  | .inr (.inr _) => N
theorem amt_pos (i : Cell) : 0 < amt i := by
  rcases i with _ | _ | _
  · exact Nat.one_pos
  · exact Nat.one_pos
  · exact N_pos

def rd : Rounds.Schedule (GSem nD τ sig) Bool 𝕄 where
  duties g r := if r = 0 then (match dec g with | some i => duty i | none => ∅) else ∅
  unitless _ := False
  amount g _ _ := match dec g with | some i => amt i | none => 1
  payload g _ b := match dec g with | some i => pays m g.1.1 i b | none => iprop(emp)
  amount_pos g _ _ _ := by
    cases h : dec g with
    | none => exact Nat.one_pos
    | some i => exact amt_pos i

instance rd_storable (g : GSem nD τ sig) (r : ℕ) (b : Bool) : BI.Storable (upEmb : UEmb _ 𝕄) ((rd m).payload g r b) := by
  show BI.Storable upEmb (match dec g with | some i => pays m g.1.1 i b | none => iprop(emp))
  cases dec g with
  | none => show BI.Storable upEmb iprop(emp); infer_instance
  | some i => exact pays_storable m _ _ _

section Sched
variable (c : Dev nD) (i : Cell)

theorem duties_cell : (rd m).duties (cell c i) 0 = duty i := by
  dsimp only [rd]; rw [if_pos rfl, dec_cell]
theorem duties_later (g : GSem nD τ sig) : ∀ r, 1 ≤ r → (rd m).duties g r = ∅ :=
  fun r hr => by dsimp only [rd]; rw [if_neg (by omega)]
theorem amount_cell (b : Bool) : (rd m).amount (cell c i) 0 b = amt i := by
  dsimp only [rd]; rw [dec_cell]
theorem payload_cell (b : Bool) : (rd m).payload (cell c i) 0 b = pays m c i b := by
  dsimp only [rd]; rw [dec_cell]

/-- What a wait on a cell takes in all. -/
def tot : Cell → ℕ
  | .inl _ => 2
  | .inr (.inl _) => 2
  | .inr (.inr _) => N

theorem expect_cell : (rd m).expect (cell c i) 0 = tot i := by
  unfold Schedule.expect Schedule.amountOf
  rw [duties_cell, Finset.sum_congr rfl fun d _ => amount_cell m c i d, Finset.sum_const, smul_eq_mul]
  rcases i with _ | _ | _
  · rfl
  · rfl
  · show 1 * N = N; exact Nat.one_mul _

theorem rest_two (h : duty i = Finset.univ) :
    bigSep ((rd m).duties (cell c i) 0 \ ∅) (fun d => (rd m).payload (cell c i) 0 d) = iprop(pays m c i false ∗ pays m c i true) := by
  rw [Finset.sdiff_empty, duties_cell, h, bigSep_univ_eq_bigSepL [false, true] (by decide) (by decide), bigSepL_cons_cons, bigSepL_singleton,
    payload_cell, payload_cell]
  rfl
theorem rest_one (h : duty i = {false}) :
    bigSep ((rd m).duties (cell c i) 0 \ ∅) (fun d => (rd m).payload (cell c i) 0 d) = pays m c i false := by
  rw [Finset.sdiff_empty, duties_cell, h, bigSep_singleton, payload_cell]

end Sched

/-! ## Debts and levels -/

/-- The units a device owes, in the order its body pays them: two barrier signals, sixty copies, two exit signals. -/
def ev (e : Fin 64) : Cell × Bool :=
  if e.val = 0 then (cBar, true) else if e.val = 1 then (cBar, false)
  else if e.val < 62 then (cRecv (Fin.ofNat 4 ((e.val - 2) % 4)) (Fin.ofNat 15 ((e.val - 2) / 4)), false)
  else if e.val = 62 then (cExit, true) else (cExit, false)

/-- Whose cell `i` device `c` pays duty `b` of. -/
def payee (i : Cell) (b : Bool) (c : Dev nD) : Dev nD := match i with
  | .inl _ => if b then lft c else rgt c
  | .inr (.inl _) => if b then lft c else rgt c
  | .inr (.inr (_, false)) => c
  | .inr (.inr (x, true)) => peer x.1 c

/-- What device `c` owes when it has paid the first `n`. -/
def owe (n : ℕ) (c : Dev nD) : CellTallies nD τ sig Unit :=
  ∑ e ∈ finFrom 64 n, tallyAt (cell (payee (ev e).1 (ev e).2 c) (ev e).1) () (amt (ev e).1)

theorem owe_step (n : ℕ) (h : n < 64) (c : Dev nD) :
    owe n c = owe (n + 1) c + tallyAt (cell (payee (ev ⟨n, h⟩).1 (ev ⟨n, h⟩).2 c) (ev ⟨n, h⟩).1) () (amt (ev ⟨n, h⟩).1) :=
  SparseCore.ProtocolKit.sum_finFrom_succ h _

theorem owe_end (c : Dev nD) : owe 64 c = 0 := SparseCore.ProtocolKit.sum_finFrom_self _

theorem ev_copy (k : Fin 4) (s : Fin 15) (h : 2 + 4 * s.val + k.val < 64) : ev ⟨2 + 4 * s.val + k.val, h⟩ = (cRecv k s, false) := by
  revert k s; decide

theorem owe_copy (k : Fin 4) (s : Fin 15) (c : Dev nD) :
    owe (2 + 4 * s.val + k.val) c = owe (2 + 4 * s.val + k.val + 1) c + tallyAt (cell (peer k c) (cRecv k s)) () N := by
  have h : 2 + 4 * s.val + k.val < 64 := by have := k.isLt; have := s.isLt; omega
  rw [owe_step _ h, ev_copy k s h]; rfl

def L (g : GSem nD τ sig) : Finset Unit := if g.1.2 = .tc then {()} else ∅

def lvI (i : Cell) : ℕ := match i with
  | .inl _ => 1
  | .inr (.inl _) => 100
  | .inr (.inr (_, false)) => 0
  | .inr (.inr (x, true)) => 2 + x.2.val
def lv (g : GSem nD τ sig) (_ : Unit) : ℕ := match dec g with
  | some i => lvI i
  | none => 0

theorem lv_cell (c : Dev nD) (i : Cell) (u : Unit) : lv (cell c i) u = lvI i := by unfold lv; rw [dec_cell]
theorem L_of_ne (g : GSem nD τ sig) (h : g.1.2 ≠ .tc) : L g = ∅ := if_neg h
theorem L_tc (c : Dev nD) (sm : SemLoc sig) : L ((c : Thread nD τ), sm) = {()} := if_pos rfl

theorem owe_pos {n : ℕ} {c : Dev nD} {g : GSem nD τ sig} {u : Unit} (h : 0 < owe n c g u) :
    ∃ e : Fin 64, n ≤ e.val ∧ g = cell (payee (ev e).1 (ev e).2 c) (ev e).1 := by
  unfold owe at h
  rw [Finset.sum_apply, Finsupp.finset_sum_apply] at h
  obtain ⟨e, he, hp⟩ := Finset.exists_ne_zero_of_sum_ne_zero (Nat.pos_iff_ne_zero.mp h)
  rw [tallyAt_apply] at hp
  refine ⟨e, (SparseCore.ProtocolKit.mem_finFrom).mp he, ?_⟩
  by_contra hn
  rw [if_neg (fun h' => hn h'.1)] at hp
  exact hp rfl

omit [FloatOps F] in
/-- A wait at level `l` is allowed while everything owed is above. -/
theorem mayWait_owe (c : Dev nD) (sm : SemLoc sig) (n l : ℕ) (hsm : lv ((c : Thread nD τ), sm) () ≤ l)
    (hn : ∀ e : Fin 64, n ≤ e.val → l < lvI (ev e).1) :
    (levAts L lv : sProp 𝕄) ⊢ MayWait (c : Thread nD τ) sm () (owe n c) :=
  MayOwe.of_cut (L := L) (lev := lv) l (fun p hp => by rw [Finset.mem_singleton.mp hp, L_tc]; exact Finset.mem_singleton_self _)
    (fun g u hg => by obtain ⟨e, _, rfl⟩ := owe_pos hg; rw [L_tc]; exact Finset.mem_singleton_self _)
    (fun p hp => by rw [Finset.mem_singleton.mp hp]; exact hsm)
    (fun g u hg => by obtain ⟨e, he, rfl⟩ := owe_pos hg; rw [lv_cell]; exact hn e he)

theorem above_zero (e : Fin 64) : 0 < lvI (ev e).1 := by revert e; decide
theorem above_bar : ∀ e : Fin 64, 2 ≤ e.val → 1 < lvI (ev e).1 := by decide
theorem above_recv : ∀ s : Fin 15, ∀ e : Fin 64, 2 + 4 * (s.val + 1) ≤ e.val → 2 + s.val < lvI (ev e).1 := by decide

end Cert.KernelIdeal.RS

end
-- ==== Proof.Steps.lean ====
/-
# The body's parts

One rule for each part of the body, in continuation form: what the part needs, and what the rest of the body gets.
-/
module

public import proofs.«01_k».proof.Proof.Sched

@[expose] public section

noncomputable section

namespace Cert.KernelIdeal.RS

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.ProtocolKit (finFrom finUpTo bigSep_finFrom_succ bigSep_finUpTo_succ)

variable {F : FTy → Type} [FloatOps F]

local notation "𝕄" => MT nD τ sig Unit (Elt F) ℕ UU ℕ

variable (m : (ℓ : Loc nD τ sig) → Buf (Elt F) ℓ)
variable (K : Dev nD × Cell → ℕ)

abbrev 𝒱₀ : Variants := Variants.none

abbrev WP (c : Dev nD) (p : PP F) (Q : PUnit → sProp 𝕄) : sProp 𝕄 :=
  wp frame (wpE (defs₀ (F := F)) 𝒱₀ (c : Thread nD τ) none) Set.univ p Q

/-! ## What every part may use -/

abbrev inv (c : Dev nD) (i : Cell) : sProp 𝕄 := cellInv ER (rd m) (K (c, i)) (cell c i)
abbrev at0 (c : Dev nD) (i : Cell) : sProp 𝕄 := reached ER (cell c i) 0

/-- The levels. -/
def levs : sProp 𝕄 := levAts L lv
instance levs_pers : Persistent (levs : sProp 𝕄) := by unfold levs; infer_instance

/-- Every cell's invariant, that each is at round 0, and the levels. -/
def recs : sProp 𝕄 :=
  iprop((bigSep Finset.univ fun p : Dev nD × Cell => inv m K p.1 p.2) ∗ (bigSep Finset.univ fun p : Dev nD × Cell => at0 p.1 p.2) ∗ levs)

instance recs_pers : Persistent (recs m K) := by unfold recs; infer_instance

theorem recs_inv (c : Dev nD) (i : Cell) : recs m K ⊢ inv m K c i := by
  unfold recs
  exact sep_elim_left.trans (bigSep_elim (Φ := fun p : Dev nD × Cell => inv m K p.1 p.2) (Finset.mem_univ (c, i)))
theorem recs_at0 (c : Dev nD) (i : Cell) : recs m K ⊢ at0 c i := by
  unfold recs
  exact (sep_elim_right.trans sep_elim_left).trans (bigSep_elim (Φ := fun p : Dev nD × Cell => (at0 p.1 p.2 : sProp 𝕄)) (Finset.mem_univ (c, i)))
theorem recs_lev : recs m K ⊢ levs := by
  unfold recs
  iintro ⟨-, -, H⟩
  iexact H

theorem recs_wait (c : Dev nD) (sm : SemLoc sig) (n l : ℕ) (hsm : lv ((c : Thread nD τ), sm) () ≤ l)
    (hn : ∀ e : Fin 64, n ≤ e.val → l < lvI (ev e).1) : recs m K ⊢ MayWait (c : Thread nD τ) sm () (owe n c) := by
  have h1 := @recs_lev F _ m K
  have h2 := mayWait_owe (F := F) c sm n l hsm hn
  exact h1.trans h2

/-- What device `c` owes after `n` payments. -/
def debt (n : ℕ) (c : Dev nD) : sProp 𝕄 := iprop(∃ W : Waits sig Unit, owes (c : Thread nD τ) (owe n c) W)

abbrev pos (c : Dev nD) (i : Cell) (r : ℕ) : sProp 𝕄 := atPos ER (cell c i) r ∅ 0
abbrev tok (c : Dev nD) (i : Cell) (b : Bool) : sProp 𝕄 := dutyTok ER (cell c i) 0 b
abbrev due (c : Dev nD) (i : Cell) (n : ℕ) : sProp 𝕄 := cred (tallyAt (cell c i) () n)

/-! ## Copies -/

/-- A copy not yet started, in flight, and finished. -/
def Todo (c : Dev nD) (k : Fin 4) (s : Fin 15) : sProp 𝕄 :=
  iprop(pos c (cSend k s) 0 ∗ pos c (cRecv k s) 0 ∗ tok c (cSend k s) false ∗ tok (peer k c) (cRecv k s) false ∗ due c (cRecv k s) N
    ∗ slotAny (peer k c) k s.succ)
def Fly (c : Dev nD) (k : Fin 4) (s : Fin 15) : sProp 𝕄 :=
  iprop(pos c (cSend k s) 0 ∗ pos c (cRecv k s) 0 ∗ due c (cSend k s) N ∗ due c (cRecv k s) N)
def Done (c : Dev nD) (k : Fin 4) (s : Fin 15) : sProp 𝕄 :=
  iprop(pos c (cSend k s) 1 ∗ pos c (cRecv k s) 1 ∗ slotAny c k s.castSucc)

variable {m K} in
theorem wp_send (k : Fin 4) (s : Fin 15) (c : Dev nD) (q : PP F) (Q : PUnit → sProp 𝕄) :
    iprop(recs m K ∗ Todo c k s ∗ slotHas c k s.castSucc (val m k s.val c) ∗ debt (2 + 4 * s.val + k.val) c)
      ⊢ iprop(((Fly c k s ∗ debt (2 + 4 * s.val + k.val + 1) c) -∗ WP c q Q) -∗ WP c (send k s c q) Q) := by
  unfold Todo Fly slotHas slotAny debt send
  iintro ⟨#Hf, ⟨Hps, Hpr, Hts, Htr, Hcr, ⟨%fd, Hd⟩⟩, ⟨%fs, %hfs, Hs⟩, ⟨%W, HO⟩⟩ Hk
  ihave #HIs := (recs_inv m K c (cSend k s)) $$ Hf
  ihave #HIr := (recs_inv m K (peer k c) (cRecv k s)) $$ Hf
  ihave #Hrs := (recs_at0 m K c (cSend k s)) $$ Hf
  ihave #Hrr := (recs_at0 m K (peer k c) (cRecv k s)) $$ Hf
  iapply (Rounds.wp_send_pointsTo 𝒱₀ ER (rd m) (c : Thread nD τ) none (κ₁ := K (c, cSend k s)) (κ₂ := K (peer k c, cRecv k s))
    (r₁ := 0) (r₂ := 0) (d₁ := false) (d₂ := false) (fd := fd) (fs := fs)
    (by rw [duties_cell m c (cSend k s)]; exact Finset.mem_singleton_self _)
    (show false ∈ (rd m).duties (cell (peer k c) (cRecv k s)) 0 by rw [duties_cell]; exact Finset.mem_singleton_self _)
    () () N
    (show (slotM k s.succ).view.amount (.dma (semK k s 1)) = N from slot_credit k s.succ) (amount_cell m c (cSend k s) false) (amount_cell m (peer k c) (cRecv k s) false)
    (owe (2 + 4 * s.val + k.val + 1) c) (owe_copy k s c) (W := W)
    (by rw [payload_cell m c (cSend k s)]; show _ ⊢ slotAny c k s.castSucc; unfold slotAny; iintro H; iexists fs; iexact H)
    (by
      refine BIBase.Entails.trans ?_ (Entails.of_eq (payload_cell m (peer k c) (cRecv k s) false).symm)
      show _ ⊢ slotHas (peer k c) k s.succ (val m k s.val (src k (peer k c)))
      rw [src_peer]; unfold slotHas
      iintro H; iexists _; isplitr
      · ipureintro; exact (rdSlot_copy k s.castSucc s.succ fs fd).trans hfs
      · iexact H)) $$ [Hs Hd HO Hts Htr]
  · isplitr; · iexact HIs
    isplitr; · iexact HIr
    isplitl [Hs]; · iexact Hs
    isplitl [Hd]; · iexact Hd
    isplitl [HO]; · iexact HO
    isplitl [Hts]; · iexact Hts
    isplitr; · iexact Hrs
    isplitl [Htr]; · iexact Htr
    iexact Hrr
  iintro ⟨Hcs, HO⟩
  iapply Hk
  isplitr [HO]
  · isplitl [Hps]; · iexact Hps
    isplitl [Hpr]; · iexact Hpr
    isplitl [Hcs]; · iexact Hcs
    iexact Hcr
  iexists W; iexact HO

theorem rest_send (c : Dev nD) (k : Fin 4) (s : Fin 15) :
    bigSep ((rd m).duties ((c : Thread nD τ), SemLoc.dma (semK k s 0)) 0 \ ∅)
      (fun d => (rd m).payload ((c : Thread nD τ), SemLoc.dma (semK k s 0)) 0 d) = slotAny c k s.castSucc :=
  rest_one m c (cSend k s) rfl
theorem rest_recv (c : Dev nD) (k : Fin 4) (s : Fin 15) :
    bigSep ((rd m).duties ((c : Thread nD τ), SemLoc.dma (semK k s 1)) 0 \ ∅)
      (fun d => (rd m).payload ((c : Thread nD τ), SemLoc.dma (semK k s 1)) 0 d) = slotHas c k s.succ (val m k s.val (src k c)) :=
  rest_one m c (cRecv k s) rfl

variable {m K} in
theorem wp_join (k : Fin 4) (s : Fin 15) (c : Dev nD) (n : ℕ) (hn : 2 + 4 * (s.val + 1) ≤ n) (q : PP F) (Q : PUnit → sProp 𝕄) :
    iprop(recs m K ∗ Fly c k s ∗ debt n c)
      ⊢ iprop(((Done c k s ∗ slotHas c k s.succ (val m k s.val (src k c)) ∗ debt n c) -∗ WP c q Q) -∗ WP c (join k s q) Q) := by
  unfold Fly Done debt join
  iintro ⟨#Hf, ⟨Hps, Hpr, Hcs, Hcr⟩, ⟨%W, HO⟩⟩ Hk
  ihave #HIs := (recs_inv m K c (cSend k s)) $$ Hf
  ihave #HIr := (recs_inv m K c (cRecv k s)) $$ Hf
  ihave Hcs := (Entails.of_eq (show due (F := F) c (cSend k s) N = due c (cSend k s) (slotM k s.succ).view.dmaCredit by rw [slot_credit])) $$ Hcs
  ihave Hcr := (Entails.of_eq (show due (F := F) c (cRecv k s) N = due c (cRecv k s) (slotM k s.succ).view.dmaCredit by rw [slot_credit])) $$ Hcr
  iapply (Rounds.wp_wait_rest_token 𝒱₀ ER (rd m) (c : Thread nD τ) none (κ := K (c, cSend k s))
      (wpE_waitDma2_eq 𝒱₀ (c : Thread nD τ) none Set.univ) (Set.mem_univ _) () (O := owe n c) (W := W) (R := 0) (m := 0) (T := ∅)
      (by rw [Nat.zero_add]; exact (slot_credit k _).trans (expect_cell m c (cSend k s)).symm)) $$ [Hcs HO Hps]
  · isplitr; · iexact HIs
    isplitl [Hcs]; · iexact Hcs
    isplitl [HO]; · iexact HO
    isplitr
    · iapply (recs_wait m K c (csem (cSend k s)) n 0 (by rw [lv_cell]; exact le_rfl) (fun e _ => above_zero e)); iexact Hf
    iexact Hps
  iintro ⟨HO, Hps, -, Hpay⟩
  ihave Hs := (Entails.of_eq (rest_send m c k s)) $$ Hpay
  iapply (Rounds.wp_wait_rest_token 𝒱₀ ER (rd m) (c : Thread nD τ) none (κ := K (c, cRecv k s))
      (wpE_waitDma2_eq 𝒱₀ (c : Thread nD τ) none Set.univ) (Set.mem_univ _) () (O := owe n c) (W := insert (csem (cSend k s), ()) W) (R := 0) (m := 0) (T := ∅)
      (by rw [Nat.zero_add]; exact (slot_credit k _).trans (expect_cell m c (cRecv k s)).symm)) $$ [Hcr HO Hpr]
  · isplitr; · iexact HIr
    isplitl [Hcr]; · iexact Hcr
    isplitl [HO]; · iexact HO
    isplitr
    · iapply (recs_wait m K c (csem (cRecv k s)) n (2 + s.val) (by rw [lv_cell]; exact le_rfl)
        (fun e he => above_recv s e (hn.trans he))); iexact Hf
    iexact Hpr
  iintro ⟨HO, Hpr, -, Hpay⟩
  ihave Hr := (Entails.of_eq (rest_recv m c k s)) $$ Hpay
  iapply Hk
  isplitl [Hps Hpr Hs]
  · isplitl [Hps]; · iexact Hps
    isplitl [Hpr]; · iexact Hpr
    iexact Hs
  isplitl [Hr]; · iexact Hr
  iexists _; iexact HO

/-! ## Steps -/

/-- The staged rows of `x`, and the staged weights. -/
def xP (c : Dev nD) : sProp 𝕄 := (c : Thread nD τ).loc cc0_stg0_0 ↦{fullShare} xstg m c
def wbP (c : Dev nD) : sProp 𝕄 := (c : Thread nD τ).loc cc0_scratch0 ↦{fullShare} wbPay (wstg m c)

/-- Stream `k` with copy `n` in flight. -/
def St (c : Dev nD) (k : Fin 4) (n : Fin 15) : sProp 𝕄 :=
  iprop(Fly c k n ∗ bigSep (finFrom 15 (n.val + 1)) (fun s => Todo c k s) ∗ bigSep (finUpTo 15 n.val) (fun s => Done c k s))

theorem slot_load (k : Fin 4) (i : Fin 16) : (commM k).view.setOn (slotR i).toLoadRect.set ⊆ (slotM k i).view.set :=
  (slot_setOn k i).subset
theorem slot_store (k : Fin 4) (i : Fin 16) : ((commM k).access (slotR i)).setOn Finset.univ ⊆ (slotM k i).view.set := by
  rw [View.setOn_univ]; exact (slot_set k i).symm.subset

variable {m K} in
/-- A stream's start. -/
theorem wp_first (k : Fin 4) (c : Dev nD) (q : PP F) (Q : PUnit → sProp 𝕄) :
    iprop(recs m K ∗ xP m c ∗ wbP m c ∗ slotAny c k 0 ∗ bigSep Finset.univ (fun s => Todo c k s) ∗ debt (2 + k.val) c)
      ⊢ iprop(((xP m c ∗ wbP m c ∗ St c k 0 ∗ debt (2 + k.val + 1) c) -∗ WP c q Q) -∗ WP c (first k c q) Q) := by
  rw [← SparseCore.ProtocolKit.finFrom_zero, bigSep_finFrom_succ (show 0 < 15 by decide)]
  unfold xP wbP first
  iintro ⟨#Hf, Hx, Hw, Hs, ⟨Ht, Hts⟩, HO⟩ Hk
  unfold slotAny
  icases Hs with ⟨%f, Hs⟩
  iapply (wp_load 𝒱₀ (c : Thread nD τ) none Set.univ (m := xM) (Finset.subset_univ _)) $$ Hx; iintro Hx
  iapply (wp_load 𝒱₀ (c : Thread nD τ) none Set.univ (m := wbM) (Finset.subset_univ _)) $$ Hw; iintro Hw
  iapply (wp_load 𝒱₀ (c : Thread nD τ) none Set.univ (m := commM k) (slot_load k 0)) $$ Hs; iintro Hs
  iapply (wp_store 𝒱₀ (c : Thread nD τ) none Set.univ (m := commM k) (r := slotR 0) (Mk := Finset.univ) (slot_store k 0)) $$ Hs; iintro Hs
  iapply (wp_send (m := m) (K := K) k 0 c q Q) $$ [Ht Hs HO]
  · isplitr; · iexact Hf
    isplitl [Ht]; · iexact Ht
    isplitl [Hs]
    · unfold slotHas; iexists _; isplitr
      · ipureintro; exact rdSlot_store k 0 f _
      · iexact Hs
    iexact HO
  iintro ⟨Hfly, HO⟩
  iapply Hk
  isplitl [Hx]; · iexact Hx
  isplitl [Hw]; · iexact Hw
  isplitr [HO]
  · unfold St
    isplitl [Hfly]; · iexact Hfly
    isplitl [Hts]; · iexact Hts
    rw [show finUpTo 15 (0 : Fin 15).val = ∅ from rfl, bigSep_empty]; iempintro
  iexact HO

variable {m K} in
/-- A stream at a step before the last. -/
theorem wp_mid (k : Fin 4) (s : Fin 14) (c : Dev nD) (q : PP F) (Q : PUnit → sProp 𝕄) :
    iprop(recs m K ∗ St c k s.castSucc ∗ debt (2 + 4 * (s.val + 1) + k.val) c)
      ⊢ iprop(((St c k s.succ ∗ debt (2 + 4 * (s.val + 1) + k.val + 1) c) -∗ WP c q Q)
        -∗ WP c (mid k s c (partV (xstg m) (wstg m) (hf k) s.castSucc c) q) Q) := by
  have hs : s.castSucc.val + 1 < 15 := by have := s.isLt; simp; omega
  unfold St
  rw [bigSep_finFrom_succ hs, show finUpTo 15 s.succ.val = finUpTo 15 (s.castSucc.val + 1) from rfl,
    bigSep_finUpTo_succ (show s.castSucc.val < 15 by have := s.isLt; simp; omega)]
  iintro ⟨#Hf, ⟨Hfly, ⟨Ht, Hts⟩, Hd⟩, HO⟩ Hk
  unfold mid
  iapply (wp_join (m := m) (K := K) k s.castSucc c (2 + 4 * (s.val + 1) + k.val) (Nat.le_add_right _ _) _ Q) $$ [Hfly HO]
  · isplitr; · iexact Hf
    isplitl [Hfly]; · iexact Hfly
    iexact HO
  iintro ⟨Hdn, Hs, HO⟩
  unfold slotHas
  icases Hs with ⟨%f, %hf, Hs⟩
  iapply (wp_load 𝒱₀ (c : Thread nD τ) none Set.univ (m := commM k) (slot_load k s.castSucc.succ)) $$ Hs; iintro Hs
  iapply (wp_load 𝒱₀ (c : Thread nD τ) none Set.univ (m := commM k) (slot_load k s.castSucc.succ)) $$ Hs; iintro Hs
  iapply (wp_store 𝒱₀ (c : Thread nD τ) none Set.univ (m := commM k) (r := slotR s.castSucc.succ) (Mk := Finset.univ) (slot_store k _)) $$ Hs; iintro Hs
  iapply (wp_send (m := m) (K := K) k s.succ c q Q) $$ [Ht Hs HO]
  · isplitr; · iexact Hf
    isplitl [Ht]; · iexact Ht
    isplitl [Hs]
    · unfold slotHas; iexists _; isplitr
      swap; · iexact Hs
      ipureintro
      refine (rdSlot_store k _ f _).trans ?_
      show midPay k _ (rdSlot k s.castSucc.succ f) = V (xstg m) (wstg m) k (s.castSucc.val + 1) c
      rw [hf, V_succ]
    iexact HO
  iintro ⟨Hfly, HO⟩
  iapply Hk
  isplitr [HO]
  · isplitl [Hfly]; · iexact Hfly
    isplitl [Hts]; · iexact Hts
    isplitl [Hdn]; · iexact Hdn
    iexact Hd
  iexact HO

end Cert.KernelIdeal.RS

end
-- ==== Proof.Parts.lean ====
/-
# The body

The parts put together: from what a device holds at launch to its result.
-/
module

public import proofs.«01_k».proof.Proof.Steps

@[expose] public section

noncomputable section

namespace Cert.KernelIdeal.RS

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.ProtocolKit (finFrom finUpTo bigSep_finFrom_self bigSep_finUpTo_succ finUpTo_self)

variable {F : FTy → Type} [FloatOps F]

local notation "𝕄" => MT nD τ sig Unit (Elt F) ℕ UU ℕ

variable {m : (ℓ : Loc nD τ sig) → Buf (Elt F) ℓ} {K : Dev nD × Cell → ℕ}

omit [FloatOps F] in
theorem four (Φ : Fin 4 → sProp 𝕄) : bigSep Finset.univ Φ = iprop(Φ 0 ∗ Φ 1 ∗ Φ 2 ∗ Φ 3) := by
  rw [bigSep_univ_eq_bigSepL [0, 1, 2, 3] (by decide) (by decide), bigSepL_cons_cons, bigSepL_cons_cons, bigSepL_cons_cons, bigSepL_singleton]
  rfl

/-! ## The last step -/

/-- The result's buffer with the first `n` columns written. -/
def outP (m : (ℓ : Loc nD τ sig) → Buf (Elt F) ℓ) (c : Dev nD) (n : ℕ) : sProp 𝕄 :=
  iprop(∃ f : Buf (Elt F) ((c : Thread nD τ).loc cc0_stg2_0), ⌜∀ j : Fin 4, j.val < n → rdCol j f = outV (xstg m) (wstg m) j c⌝
    ∗ (c : Thread nD τ).loc cc0_stg2_0 ↦{fullShare} f)

/-- A stream whose copies are all done. -/
def End (c : Dev nD) (k : Fin 4) : sProp 𝕄 := iprop((bigSep Finset.univ fun s => Done c k s) ∗ slotAny c k 15)

theorem wp_fin (k : Fin 4) (c : Dev nD) (q : PP F) (Q : PUnit → sProp 𝕄) :
    iprop(recs m K ∗ St c k 14 ∗ outP m c k.val ∗ debt 62 c)
      ⊢ iprop(((End c k ∗ outP m c (k.val + 1) ∗ debt 62 c) -∗ WP c q Q)
        -∗ WP c (fin k (partV (xstg m) (wstg m) (hf k) 14 c) q) Q) := by
  unfold St End outP fin
  rw [← finUpTo_self (n := 15), bigSep_finUpTo_succ (show 14 < 15 by decide)]
  iintro ⟨#Hf, ⟨Hfly, -, Hd⟩, ⟨%g, %hg, Ho⟩, HO⟩ Hk
  iapply (wp_join (m := m) (K := K) k 14 c 62 (by decide) _ Q) $$ [Hfly HO]
  · isplitr; · iexact Hf
    isplitl [Hfly]; · iexact Hfly
    iexact HO
  iintro ⟨Hdn, Hs, HO⟩
  rw [show Fin.succ (14 : Fin 15) = (15 : Fin 16) from rfl]
  unfold slotHas
  icases Hs with ⟨%f, %hf, Hs⟩
  iapply (wp_load 𝒱₀ (c : Thread nD τ) none Set.univ (m := commM k) (slot_load k 15)) $$ Hs; iintro Hs
  iapply (wp_load 𝒱₀ (c : Thread nD τ) none Set.univ (m := oM) (Finset.subset_univ _)) $$ Ho; iintro Ho
  iapply (wp_store 𝒱₀ (c : Thread nD τ) none Set.univ (m := oM) (r := wCol k) (Mk := Finset.univ) (Finset.subset_univ _)) $$ Ho; iintro Ho
  iapply Hk
  isplitl [Hdn Hd Hs]
  · isplitr [Hs]
    · isplitl [Hdn]; · iexact Hdn
      iexact Hd
    unfold slotAny; iexists f; iexact Hs
  isplitr [HO]
  · iexists _; isplitr
    swap; · iexact Ho
    ipureintro
    intro j hj
    by_cases h : j = k
    · subst h
      refine (rdCol_store j g _).trans ?_
      show lastPay j _ (rdSlot j 15 f) = lastPay j _ (V (xstg m) (wstg m) j 14 (src j c))
      exact congrArg _ hf
    · exact (rdCol_other j k h g _).trans (hg j (by
        have : j.val ≠ k.val := fun e => h (Fin.ext e)
        omega))
  iexact HO

/-! ## Steps -/

theorem wp_parts (s : Fin 15) (c : Dev nD) (q : FVec F S256x1024 .f32 → FVec F S256x1024 .f32 → PP F) (Q : PUnit → sProp 𝕄) :
    iprop(xP m c ∗ wbP m c)
      ⊢ iprop(((xP m c ∗ wbP m c) -∗ WP c (q (partV (xstg m) (wstg m) 0 s c) (partV (xstg m) (wstg m) 1 s c)) Q)
        -∗ WP c (parts s c q) Q) := by
  unfold xP wbP parts
  iintro ⟨Hx, Hw⟩ Hk
  iapply (wp_load 𝒱₀ (c : Thread nD τ) none Set.univ (m := xM) (Finset.subset_univ _)) $$ Hx; iintro Hx
  iapply (wp_load 𝒱₀ (c : Thread nD τ) none Set.univ (m := wbM) (Finset.subset_univ _)) $$ Hw; iintro Hw
  iapply (wp_load 𝒱₀ (c : Thread nD τ) none Set.univ (m := xM) (Finset.subset_univ _)) $$ Hx; iintro Hx
  iapply (wp_load 𝒱₀ (c : Thread nD τ) none Set.univ (m := wbM) (Finset.subset_univ _)) $$ Hw; iintro Hw
  iapply Hk
  isplitl [Hx]; · iexact Hx
  iexact Hw

/-- All four streams with copy `n` in flight, and what was read to get there. -/
def Sts (m : (ℓ : Loc nD τ sig) → Buf (Elt F) ℓ) (c : Dev nD) (n : Fin 15) : sProp 𝕄 :=
  iprop((xP m c ∗ wbP m c) ∗ (St c 0 n ∗ St c 1 n ∗ St c 2 n ∗ St c 3 n) ∗ debt (2 + 4 * (n.val + 1)) c)

theorem wp_step (s : Fin 14) (c : Dev nD) (q : PP F) (Q : PUnit → sProp 𝕄) :
    iprop(recs m K ∗ Sts m c s.castSucc) ⊢ iprop((Sts m c s.succ -∗ WP c q Q) -∗ WP c (step s c q) Q) := by
  unfold Sts step
  iintro ⟨#Hf, HP, ⟨H0, H1, H2, H3⟩, HO⟩ Hk
  iapply (wp_parts (m := m) s.castSucc c _ Q) $$ HP; iintro HP
  iapply (wp_mid (m := m) (K := K) 0 s c _ Q) $$ [H0 HO]
  · isplitr; · iexact Hf
    isplitl [H0]; · iexact H0
    iexact HO
  iintro ⟨H0, HO⟩
  iapply (wp_mid (m := m) (K := K) 1 s c _ Q) $$ [H1 HO]
  · isplitr; · iexact Hf
    isplitl [H1]; · iexact H1
    iexact HO
  iintro ⟨H1, HO⟩
  iapply (wp_mid (m := m) (K := K) 2 s c _ Q) $$ [H2 HO]
  · isplitr; · iexact Hf
    isplitl [H2]; · iexact H2
    iexact HO
  iintro ⟨H2, HO⟩
  iapply (wp_mid (m := m) (K := K) 3 s c _ Q) $$ [H3 HO]
  · isplitr; · iexact Hf
    isplitl [H3]; · iexact H3
    iexact HO
  iintro ⟨H3, HO⟩
  iapply Hk
  isplitl [HP]; · iexact HP
  isplitr [HO]
  · isplitl [H0]; · iexact H0
    isplitl [H1]; · iexact H1
    isplitl [H2]; · iexact H2
    iexact H3
  iexact HO

theorem wp_steps (c : Dev nD) (Q : PUnit → sProp 𝕄) : ∀ (n : ℕ) (h : n ≤ 14) (q : PP F),
    iprop(recs m K ∗ Sts m c 0) ⊢ iprop((Sts m c ⟨n, Nat.lt_succ_of_le h⟩ -∗ WP c q Q) -∗ WP c (steps c n h q) Q)
  | 0, h, q => by
    iintro ⟨-, HS⟩ Hk
    iapply Hk; iexact HS
  | n + 1, h, q => by
    iintro ⟨#Hf, HS⟩ Hk
    iapply (wp_steps c Q n (Nat.le_of_succ_le h) (step ⟨n, h⟩ c q)) $$ [HS]
    · isplitr; · iexact Hf
      iexact HS
    iintro HS
    iapply (wp_step (m := m) (K := K) ⟨n, h⟩ c q Q) $$ [HS]
    · isplitr; · iexact Hf
      iexact HS
    iexact Hk

theorem wp_lastStep (c : Dev nD) (q : PP F) (Q : PUnit → sProp 𝕄) :
    iprop(recs m K ∗ Sts m c 14 ∗ outP m c 0)
      ⊢ iprop(((xP m c ∗ wbP m c ∗ (End c 0 ∗ End c 1 ∗ End c 2 ∗ End c 3) ∗ outP m c 4 ∗ debt 62 c) -∗ WP c q Q)
        -∗ WP c (lastStep c q) Q) := by
  unfold Sts lastStep
  iintro ⟨#Hf, ⟨HP, ⟨H0, H1, H2, H3⟩, HO⟩, Hout⟩ Hk
  iapply (wp_parts (m := m) 14 c _ Q) $$ HP; iintro HP
  iapply (wp_fin (m := m) (K := K) 0 c _ Q) $$ [H0 Hout HO]
  · isplitr; · iexact Hf
    isplitl [H0]; · iexact H0
    isplitl [Hout]; · iexact Hout
    iexact HO
  iintro ⟨H0, Hout, HO⟩
  iapply (wp_fin (m := m) (K := K) 1 c _ Q) $$ [H1 Hout HO]
  · isplitr; · iexact Hf
    isplitl [H1]; · iexact H1
    isplitl [Hout]; · iexact Hout
    iexact HO
  iintro ⟨H1, Hout, HO⟩
  iapply (wp_fin (m := m) (K := K) 2 c _ Q) $$ [H2 Hout HO]
  · isplitr; · iexact Hf
    isplitl [H2]; · iexact H2
    isplitl [Hout]; · iexact Hout
    iexact HO
  iintro ⟨H2, Hout, HO⟩
  iapply (wp_fin (m := m) (K := K) 3 c _ Q) $$ [H3 Hout HO]
  · isplitr; · iexact Hf
    isplitl [H3]; · iexact H3
    isplitl [Hout]; · iexact Hout
    iexact HO
  iintro ⟨H3, Hout, HO⟩
  iapply Hk
  icases HP with ⟨Hx, Hw⟩
  isplitl [Hx]; · iexact Hx
  isplitl [Hw]; · iexact Hw
  isplitl [H0 H1 H2 H3]
  · isplitl [H0]; · iexact H0
    isplitl [H1]; · iexact H1
    isplitl [H2]; · iexact H2
    iexact H3
  isplitl [Hout]; · iexact Hout
  iexact HO

/-! ## Handshakes -/

/-- Signal both neighbours. -/
theorem wp_tell (i : Cell) (sm : Sem sig) (hi : csem i = .reg sm) (hd : duty i = Finset.univ) (ha : amt i = 1)
    (hp : ∀ b c, payee i b c = if b then lft c else rgt c) (n : ℕ) (hn : n + 1 < 64)
    (h0 : ev ⟨n, Nat.lt_of_succ_lt hn⟩ = (i, true)) (h1 : ev ⟨n + 1, hn⟩ = (i, false)) (c : Dev nD) (q : PP F) (Q : PUnit → sProp 𝕄) :
    iprop(recs m K ∗ tok (lft c) i true ∗ tok (rgt c) i false ∗ pays m (lft c) i true ∗ pays m (rgt c) i false ∗ debt n c)
      ⊢ iprop((debt (n + 2) c -∗ WP c q Q) -∗ WP c (tell sm c q) Q) := by
  have e (d : Dev nD) : cell d i = ((d : Thread nD τ), SemLoc.reg sm) := congrArg (Prod.mk (d : Thread nD τ)) hi
  have hI (d : Dev nD) : recs m K ⊢ cellInv ER (rd m) (K (d, i)) ((d : Thread nD τ), SemLoc.reg sm) := e d ▸ recs_inv m K d i
  have hR (d : Dev nD) : recs m K ⊢ reached ER ((d : Thread nD τ), SemLoc.reg sm) 0 := e d ▸ recs_at0 m K d i
  have hT (d : Dev nD) (b : Bool) : (tok d i b : sProp 𝕄) = dutyTok ER ((d : Thread nD τ), SemLoc.reg sm) 0 b := by rw [← e]
  have hD (d : Dev nD) (b : Bool) : b ∈ (rd m).duties ((d : Thread nD τ), SemLoc.reg sm) 0 := by
    rw [← e, duties_cell, hd]; exact Finset.mem_univ _
  have hA (d : Dev nD) (b : Bool) : (rd m).amount ((d : Thread nD τ), SemLoc.reg sm) 0 b = 1 := by rw [← e, amount_cell, ha]
  have hP (d : Dev nD) (b : Bool) : pays m d i b = (rd m).payload ((d : Thread nD τ), SemLoc.reg sm) 0 b := by rw [← e, payload_cell]
  have hO0 : owe n c = owe (n + 1) c + tallyAt ((lft c : Thread nD τ), SemLoc.reg sm) () 1 := by
    rw [owe_step n (Nat.lt_of_succ_lt hn), h0, ← e, hp, if_pos rfl, ha]
  have hO1 : owe (n + 1) c = owe (n + 2) c + tallyAt ((rgt c : Thread nD τ), SemLoc.reg sm) () 1 := by
    rw [owe_step (n + 1) hn, h1, ← e, hp, if_neg Bool.false_ne_true, ha]
  unfold debt tell
  rw [hT, hT, hP, hP]
  iintro ⟨#Hf, Ht, Hf', Hp, Hp', ⟨%W, HO⟩⟩ Hk
  iapply (Rounds.wp_signal 𝒱₀ ER (rd m) (c : Thread nD τ) none (dst := (lft c : Thread nD τ)) (κ := K (lft c, i))
      (d := true) (hD _ _) ((hA _ _).trans (by decide)) () (owe (n + 1) c) hO0) $$ [HO Ht Hp]
  · isplitr; · iapply (hI (lft c)); iexact Hf
    isplitl [HO]; · iexact HO
    isplitl [Ht]; · iexact Ht
    isplitl [Hp]; · iexact Hp
    iapply (hR (lft c)); iexact Hf
  iintro HO
  iapply (Rounds.wp_signal 𝒱₀ ER (rd m) (c : Thread nD τ) none (dst := (rgt c : Thread nD τ)) (κ := K (rgt c, i))
      (d := false) (hD _ _) ((hA _ _).trans (by decide)) () (owe (n + 2) c) hO1) $$ [HO Hf' Hp']
  · isplitr; · iapply (hI (rgt c)); iexact Hf
    isplitl [HO]; · iexact HO
    isplitl [Hf']; · iexact Hf'
    isplitl [Hp']; · iexact Hp'
    iapply (hR (rgt c)); iexact Hf
  iintro HO
  iapply Hk
  iexists W; iexact HO

/-- Wait for both neighbours. -/
theorem wp_heard (i : Cell) (sm : Sem sig) (hi : csem i = .reg sm) (hd : duty i = Finset.univ) (ht : tot i = 2)
    (n : ℕ) (hn : ∀ e : Fin 64, n ≤ e.val → lvI i < lvI (ev e).1) (c : Dev nD) (q : PP F) (Q : PUnit → sProp 𝕄) :
    iprop(recs m K ∗ pos c i 0 ∗ due c i 2 ∗ debt n c)
      ⊢ iprop(((pos c i 1 ∗ pays m c i false ∗ pays m c i true ∗ debt n c) -∗ WP c q Q)
        -∗ WP c (.op (.semWait sm (2#32).toInt) fun _ => q) Q) := by
  have e (d : Dev nD) : cell d i = ((d : Thread nD τ), SemLoc.reg sm) := congrArg (Prod.mk (d : Thread nD τ)) hi
  have hI : recs m K ⊢ cellInv ER (rd m) (K (c, i)) ((c : Thread nD τ), SemLoc.reg sm) := e c ▸ recs_inv m K c i
  have hA (r : ℕ) : (pos c i r : sProp 𝕄) = atPos ER ((c : Thread nD τ), SemLoc.reg sm) r ∅ 0 := by rw [← e]
  have hC : (due c i 2 : sProp 𝕄) = cred (tallyAt ((c : Thread nD τ), SemLoc.reg sm) () (2#32).toInt.toNat) := by rw [← e]; rfl
  have hX : 0 + (2#32).toInt.toNat = (rd m).expect ((c : Thread nD τ), SemLoc.reg sm) 0 := by rw [← e, expect_cell, ht]; decide
  have hW : recs m K ⊢ MayWait (c : Thread nD τ) (SemLoc.reg sm) () (owe n c) :=
    recs_wait m K c (SemLoc.reg sm) n (lvI i) (by rw [← hi]; exact (lv_cell c i ()).le) hn
  have hR := rest_two m c i hd
  rw [e] at hR
  unfold debt
  rw [hA, hA, hC]
  iintro ⟨#Hf, Ha, Hc, ⟨%W, HO⟩⟩ Hk
  iapply (Rounds.wp_wait_rest_token 𝒱₀ ER (rd m) (c : Thread nD τ) none (κ := K (c, i))
      (wpE_semWait_eq 𝒱₀ (c : Thread nD τ) none Set.univ) (Set.mem_univ _) () (O := owe n c) (W := W) (R := 0) (m := 0) (T := ∅) hX)
    $$ [Hc HO Ha]
  · isplitr; · iapply hI; iexact Hf
    isplitl [Hc]; · iexact Hc
    isplitl [HO]; · iexact HO
    isplitr; · iapply hW; iexact Hf
    iexact Ha
  iintro ⟨HO, Ha, -, Hpay⟩
  ihave Hp := (Entails.of_eq hR) $$ Hpay
  icases Hp with ⟨H0, H1⟩
  iapply Hk
  isplitl [Ha]; · iexact Ha
  isplitl [H0]; · iexact H0
  isplitl [H1]; · iexact H1
  iexists _; iexact HO

/-! ## The weights -/

theorem off_zero : (![0, 0] : Fin 2 → Nat) = fun _ => 0 := by funext a; revert a; decide

theorem wp_stageW (c : Dev nD) (q : PP F) (Q : PUnit → sProp 𝕄) :
    iprop(((c : Thread nD τ).loc cc0_stg1_0 ↦{fullShare} wstg m c)
        ∗ ∃ f : Buf (Elt F) ((c : Thread nD τ).loc cc0_scratch0), (c : Thread nD τ).loc cc0_scratch0 ↦{fullShare} f)
      ⊢ iprop(((((c : Thread nD τ).loc cc0_stg1_0 ↦{fullShare} wstg m c) ∗ wbP m c) -∗ WP c q Q) -∗ WP c (stageW q) Q) := by
  unfold stageW wbP
  iintro ⟨Hw, ⟨%f, Hb⟩⟩ Hk
  iapply (wp_load 𝒱₀ (c : Thread nD τ) none Set.univ (m := wM) (Finset.subset_univ _)) $$ Hw; iintro Hw
  iapply (wp_load 𝒱₀ (c : Thread nD τ) none Set.univ (m := wbM) (Finset.subset_univ _)) $$ Hb; iintro Hb
  iapply (wp_store 𝒱₀ (c : Thread nD τ) none Set.univ (m := wbM) (r := wAll) (Mk := Finset.univ) (Finset.subset_univ _)) $$ Hb; iintro Hb
  iapply Hk
  isplitl [Hw]; · iexact Hw
  rw [show (wbM.access wAll).write (Elt F) f (wbPay (wM.view.readAt (Elt F) wAll.toLoadRect (wstg m c))) Finset.univ = wbPay (wstg m c) by
    exact (Memref.write_access_unit_zero_univ (Elt F) cc0_scratch0 off_zero _ f _).trans
      (congrArg wbPay (Memref.readAt_unit_zero (Elt F) cc0_stg1_0 off_zero _ _))]
  iexact Hb

/-! ## The whole body -/

/-- A copy not yet started, before its slot at the peer is handed over. -/
def Ready (c : Dev nD) (k : Fin 4) (s : Fin 15) : sProp 𝕄 :=
  iprop(pos c (cSend k s) 0 ∗ pos c (cRecv k s) 0 ∗ tok c (cSend k s) false ∗ tok (peer k c) (cRecv k s) false ∗ due c (cRecv k s) N)

omit [FloatOps F] in
theorem grant_src (k : Fin 4) (c : Dev nD) : (grant (src k c) k : sProp 𝕄) = bigSep Finset.univ fun s : Fin 15 => slotAny c k s.succ := by
  unfold grant; rw [peer_src]

theorem todo_of_ready (c : Dev nD) (k : Fin 4) :
    iprop((bigSep Finset.univ fun s => Ready (F := F) c k s) ∗ grant c k) ⊢ bigSep Finset.univ fun s => Todo c k s := by
  unfold grant
  rw [← bigSep_sep']
  refine bigSep_mono fun s _ => show iprop(Ready c k s ∗ slotAny (peer k c) k s.succ) ⊢ Todo c k s from ?_
  unfold Ready Todo
  iintro ⟨⟨H1, H2, H3, H4, H5⟩, H6⟩
  isplitl [H1]; · iexact H1
  isplitl [H2]; · iexact H2
  isplitl [H3]; · iexact H3
  isplitl [H4]; · iexact H4
  isplitl [H5]; · iexact H5
  iexact H6

/-- The buffers a stream starts with: slot 0, and the slots it hands over. -/
def Slots (c : Dev nD) (k : Fin 4) : sProp 𝕄 := iprop(slotAny c k 0 ∗ bigSep Finset.univ fun s : Fin 15 => slotAny c k s.succ)

/-- What a handshake takes. -/
def Shake (c : Dev nD) (i : Cell) : sProp 𝕄 := iprop(tok (lft c) i true ∗ tok (rgt c) i false ∗ pos c i 0 ∗ due c i 2)

def Bufs (m : (ℓ : Loc nD τ sig) → Buf (Elt F) ℓ) (c : Dev nD) : sProp 𝕄 :=
  iprop(xP m c ∗ ((c : Thread nD τ).loc cc0_stg1_0 ↦{fullShare} wstg m c)
    ∗ (∃ f : Buf (Elt F) ((c : Thread nD τ).loc cc0_scratch0), (c : Thread nD τ).loc cc0_scratch0 ↦{fullShare} f)
    ∗ (∃ f : Buf (Elt F) ((c : Thread nD τ).loc cc0_stg2_0), (c : Thread nD τ).loc cc0_stg2_0 ↦{fullShare} f))

def Before (m : (ℓ : Loc nD τ sig) → Buf (Elt F) ℓ) (c : Dev nD) : sProp 𝕄 :=
  iprop(Bufs m c ∗ (Slots c 0 ∗ Slots c 1 ∗ Slots c 2 ∗ Slots c 3)
    ∗ ((bigSep Finset.univ fun s => Ready c 0 s) ∗ (bigSep Finset.univ fun s => Ready c 1 s)
      ∗ (bigSep Finset.univ fun s => Ready c 2 s) ∗ (bigSep Finset.univ fun s => Ready c 3 s))
    ∗ Shake c cBar ∗ Shake c cExit ∗ debt 0 c)

def After (m : (ℓ : Loc nD τ sig) → Buf (Elt F) ℓ) (c : Dev nD) : sProp 𝕄 :=
  iprop(xP m c ∗ ((c : Thread nD τ).loc cc0_stg1_0 ↦{fullShare} wstg m c) ∗ wbP m c
    ∗ ((c : Thread nD τ).loc cc0_stg2_0 ↦{fullShare} outAt (xstg m) (wstg m) c)
    ∗ (End c 0 ∗ End c 1 ∗ End c 2 ∗ End c 3) ∗ pos c cBar 1 ∗ pos c cExit 1 ∗ debt 64 c)

theorem wp_prog (c : Dev nD) (Q : PUnit → sProp 𝕄) :
    iprop(recs m K ∗ Before m c) ⊢ iprop((After m c -∗ Q ⟨⟩) -∗ WP c (prog c) Q) := by
  unfold Before After Bufs Shake Slots prog
  rw [← grant_src 0, ← grant_src 1, ← grant_src 2, ← grant_src 3]
  iintro ⟨#Hf, ⟨Hx, Hw, Hb, ⟨%g, Ho⟩⟩, ⟨⟨H0, G0⟩, ⟨H1, G1⟩, ⟨H2, G2⟩, ⟨H3, G3⟩⟩, ⟨R0, R1, R2, R3⟩, ⟨Tl, Tr, Pb, Cb⟩, ⟨El, Er, Pe, Ce⟩, HO⟩ Hk
  iapply (wp_tell (m := m) (K := K) cBar barS rfl rfl rfl (fun _ _ => rfl) 0 (by decide) (by decide) (by decide) c _ Q) $$ [Tl Tr G0 G1 G2 G3 HO]
  · isplitr; · iexact Hf
    isplitl [Tl]; · iexact Tl
    isplitl [Tr]; · iexact Tr
    isplitl [G0 G1]
    · iapply (Entails.of_eq (show iprop(grant (src 0 c) 0 ∗ grant (src 1 c) 1) = pays m (lft c) cBar true from rfl))
      isplitl [G0]; · iexact G0
      iexact G1
    isplitl [G2 G3]
    · iapply (Entails.of_eq (show iprop(grant (src 2 c) 2 ∗ grant (src 3 c) 3) = pays m (rgt c) cBar false from rfl))
      isplitl [G2]; · iexact G2
      iexact G3
    iexact HO
  iintro HO
  iapply (wp_stageW (m := m) c _ Q) $$ [Hw Hb]
  · isplitl [Hw]; · iexact Hw
    iexact Hb
  iintro ⟨Hw, Hb⟩
  iapply (wp_heard (m := m) (K := K) cBar barS rfl rfl rfl 2 above_bar c _ Q) $$ [Pb Cb HO]
  · isplitr; · iexact Hf
    isplitl [Pb]; · iexact Pb
    isplitl [Cb]; · iexact Cb
    iexact HO
  iintro ⟨Pb, Hl, Hr, HO⟩
  ihave Hl := (Entails.of_eq (show pays m c cBar false = iprop(grant c 2 ∗ grant c 3) from rfl)) $$ Hl
  ihave Hr := (Entails.of_eq (show pays m c cBar true = iprop(grant c 0 ∗ grant c 1) from rfl)) $$ Hr
  icases Hl with ⟨G2, G3⟩
  icases Hr with ⟨G0, G1⟩
  ihave T0 := (todo_of_ready c 0) $$ [R0 G0]
  · isplitl [R0]; · iexact R0
    iexact G0
  ihave T1 := (todo_of_ready c 1) $$ [R1 G1]
  · isplitl [R1]; · iexact R1
    iexact G1
  ihave T2 := (todo_of_ready c 2) $$ [R2 G2]
  · isplitl [R2]; · iexact R2
    iexact G2
  ihave T3 := (todo_of_ready c 3) $$ [R3 G3]
  · isplitl [R3]; · iexact R3
    iexact G3
  iapply (wp_first (m := m) (K := K) 0 c _ Q) $$ [Hx Hb H0 T0 HO]
  · isplitr; · iexact Hf
    isplitl [Hx]; · iexact Hx
    isplitl [Hb]; · iexact Hb
    isplitl [H0]; · iexact H0
    isplitl [T0]; · iexact T0
    iexact HO
  iintro ⟨Hx, Hb, S0, HO⟩
  iapply (wp_first (m := m) (K := K) 1 c _ Q) $$ [Hx Hb H1 T1 HO]
  · isplitr; · iexact Hf
    isplitl [Hx]; · iexact Hx
    isplitl [Hb]; · iexact Hb
    isplitl [H1]; · iexact H1
    isplitl [T1]; · iexact T1
    iexact HO
  iintro ⟨Hx, Hb, S1, HO⟩
  iapply (wp_first (m := m) (K := K) 2 c _ Q) $$ [Hx Hb H2 T2 HO]
  · isplitr; · iexact Hf
    isplitl [Hx]; · iexact Hx
    isplitl [Hb]; · iexact Hb
    isplitl [H2]; · iexact H2
    isplitl [T2]; · iexact T2
    iexact HO
  iintro ⟨Hx, Hb, S2, HO⟩
  iapply (wp_first (m := m) (K := K) 3 c _ Q) $$ [Hx Hb H3 T3 HO]
  · isplitr; · iexact Hf
    isplitl [Hx]; · iexact Hx
    isplitl [Hb]; · iexact Hb
    isplitl [H3]; · iexact H3
    isplitl [T3]; · iexact T3
    iexact HO
  iintro ⟨Hx, Hb, S3, HO⟩
  iapply (wp_steps (m := m) (K := K) c Q 14 le_rfl _) $$ [Hx Hb S0 S1 S2 S3 HO]
  · isplitr; · iexact Hf
    unfold Sts
    isplitl [Hx Hb]
    · isplitl [Hx]; · iexact Hx
      iexact Hb
    isplitr [HO]
    · isplitl [S0]; · iexact S0
      isplitl [S1]; · iexact S1
      isplitl [S2]; · iexact S2
      iexact S3
    iexact HO
  iintro HS
  iapply (wp_lastStep (m := m) (K := K) c _ Q) $$ [HS Ho]
  · isplitr; · iexact Hf
    isplitl [HS]; · iexact HS
    unfold outP
    iexists g; isplitr
    · ipureintro; exact fun j hj => absurd hj (Nat.not_lt_zero _)
    iexact Ho
  iintro ⟨Hx, Hb, HE, Ho, HO⟩
  iapply (wp_tell (m := m) (K := K) cExit exitS rfl rfl rfl (fun _ _ => rfl) 62 (by decide) (by decide) (by decide) c _ Q) $$ [El Er HO]
  · isplitr; · iexact Hf
    isplitl [El]; · iexact El
    isplitl [Er]; · iexact Er
    isplitr
    · iapply (Entails.of_eq (show iprop(emp) = pays m (lft c) cExit true from rfl)); iempintro
    isplitr
    · iapply (Entails.of_eq (show iprop(emp) = pays m (rgt c) cExit false from rfl)); iempintro
    iexact HO
  iintro HO
  iapply (wp_heard (m := m) (K := K) cExit exitS rfl rfl rfl 64 (fun e he => absurd e.isLt (by omega)) c _ Q) $$ [Pe Ce HO]
  · isplitr; · iexact Hf
    isplitl [Pe]; · iexact Pe
    isplitl [Ce]; · iexact Ce
    iexact HO
  iintro ⟨Pe, -, -, HO⟩
  rw [WP, wp_ret]; imodintro
  iapply Hk
  isplitl [Hx]; · iexact Hx
  isplitl [Hw]; · iexact Hw
  isplitl [Hb]; · iexact Hb
  isplitl [Ho]
  · unfold outP
    icases Ho with ⟨%f, %hf, Ho⟩
    rw [← eq_outAt (xstg m) (wstg m) c f fun k => hf k k.isLt]
    iexact Ho
  isplitl [HE]; · iexact HE
  isplitl [Pb]; · iexact Pb
  isplitl [Pe]; · iexact Pe
  iexact HO

end Cert.KernelIdeal.RS

end
-- ==== Proof.Deal.lean ====
/-
# Dealing at launch

What the launch gives each device: its cells' positions, the duty tokens it pays with, and the credit of what is owed to its
cells.
-/
module

public import proofs.«01_k».proof.Proof.Parts

@[expose] public section

noncomputable section

namespace Cert.KernelIdeal.RS

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Cells one by one -/

omit [FloatOps F] in
theorem cells_eq (Φ : Cell → sProp 𝕄) :
    bigSep Finset.univ Φ = iprop(Φ cBar ∗ Φ cExit
      ∗ bigSep Finset.univ fun k : Fin 4 => bigSep Finset.univ fun s : Fin 15 => iprop(Φ (cSend k s) ∗ Φ (cRecv k s))) := by
  rw [BI.bigSep_univ_sum, BI.bigSep_univ_sum, BI.bigSep_univ_prod, BI.bigSep_univ_prod]
  have h1 : ∀ Ψ : Unit → sProp 𝕄, bigSep Finset.univ Ψ = Ψ () := fun Ψ => bigSep_singleton
  have h2 : ∀ Ψ : Bool → sProp 𝕄, bigSep Finset.univ Ψ = iprop(Ψ false ∗ Ψ true) := fun Ψ => by
    rw [bigSep_univ_eq_bigSepL [false, true] (by decide) (by decide), bigSepL_cons_cons, bigSepL_singleton]; rfl
  rw [h1, h1]
  simp only [h2]
  rfl

/-! ## Tokens -/

theorem payee_bij (i : Cell) (b : Bool) : Function.Bijective (payee i b) := by
  have hl : Function.Bijective lft := ⟨fun a b h => by rw [← rgt_lft a, h, rgt_lft], fun d => ⟨rgt d, lft_rgt d⟩⟩
  have hr : Function.Bijective rgt := ⟨fun a b h => by rw [← lft_rgt a, h, lft_rgt], fun d => ⟨lft d, rgt_lft d⟩⟩
  rcases i with _ | _ | ⟨⟨k, s⟩, j⟩
  · cases b; exacts [hr, hl]
  · cases b; exacts [hr, hl]
  · cases j
    · exact Function.bijective_id
    · exact ⟨fun a b h => by rw [← src_peer k a]; exact (congrArg (src k) h).trans (src_peer k b), fun d => ⟨src k d, peer_src k d⟩⟩

def payeeE (i : Cell) (b : Bool) : Dev nD ≃ Dev nD := Equiv.ofBijective _ (payee_bij i b)

theorem cellOf_pair_inj : Function.Injective (fun p : Dev nD × Cell => cell p.1 p.2) := by
  rintro ⟨c, i⟩ ⟨c', i'⟩ h
  obtain ⟨rfl, rfl⟩ := cell_inj h
  rfl
def allCells : Finset (GSem nD τ sig) := Finset.univ.map ⟨_, cellOf_pair_inj⟩

theorem tokOf_inj : Function.Injective (fun p : Dev nD × (Cell × Bool) => ((cell p.1 p.2.1, 0, p.2.2) : GSem nD τ sig × ℕ × Bool)) := by
  rintro ⟨c, i, b⟩ ⟨c', i', b'⟩ h
  obtain ⟨rfl, rfl⟩ := cell_inj (congrArg Prod.fst h)
  obtain rfl : b = b' := congrArg (fun x : GSem nD τ sig × ℕ × Bool => x.2.2) h
  rfl
def allToks : Finset (GSem nD τ sig × ℕ × Bool) := Finset.univ.map ⟨_, tokOf_inj⟩

/-- The tokens of a device's own cells, and those it pays with. -/
def ownToks (c : Dev nD) : sProp 𝕄 := bigSep Finset.univ fun x : Cell × Bool => tok c x.1 x.2
def payToks (c : Dev nD) : sProp 𝕄 := bigSep Finset.univ fun x : Cell × Bool => tok (payee x.1 x.2 c) x.1 x.2

omit [FloatOps F] in
theorem toks_dealt : (bigSep Finset.univ fun c : Dev nD => (ownToks c : sProp 𝕄)) = bigSep Finset.univ fun c : Dev nD => payToks c := by
  unfold ownToks payToks
  rw [bigSep_univ_comm, bigSep_univ_comm (fun (c : Dev nD) (x : Cell × Bool) => (tok (payee x.1 x.2 c) x.1 x.2 : sProp 𝕄))]
  exact bigSep_congr fun x _ => bigSep_univ_equiv (payeeE x.1 x.2) (fun c : Dev nD => (tok c x.1 x.2 : sProp 𝕄))

/-! ## Credit -/

/-- How often a device is owed on cell `i`, and how much in all. -/
def cnt (i : Cell) : ℕ := (Finset.univ.filter fun e : Fin 64 => (ev e).1 = i).card
def crd (i : Cell) : ℕ := cnt i * amt i

theorem cnt_bar : cnt cBar = 2 := by decide
theorem cnt_exit : cnt cExit = 2 := by decide
theorem cnt_recv (k : Fin 4) (s : Fin 15) : cnt (cRecv k s) = 1 := by revert k s; decide

theorem owe_at (d c : Dev nD) (i : Cell) :
    owe 0 d (cell c i) () = ∑ e : Fin 64, if (ev e).1 = i then (if payee i (ev e).2 d = c then amt i else 0) else 0 := by
  unfold owe
  rw [Finset.sum_apply, Finsupp.finset_sum_apply, SparseCore.ProtocolKit.finFrom_zero]
  refine Finset.sum_congr rfl fun e _ => ?_
  rw [tallyAt_apply]
  by_cases h : (ev e).1 = i
  · subst h
    rw [if_pos rfl]
    by_cases h' : payee (ev e).1 (ev e).2 d = c
    · rw [if_pos h', if_pos ⟨by rw [h'], rfl⟩]
    · rw [if_neg h', if_neg fun hh => h' (cell_inj hh.1).1.symm]
  · rw [if_neg h, if_neg fun hh => h (cell_inj hh.1).2.symm]

theorem owed_to (c : Dev nD) (i : Cell) : ∑ d : Dev nD, owe 0 d (cell c i) () = crd i := by
  rw [Finset.sum_congr rfl fun d _ => owe_at d c i, Finset.sum_comm, crd, cnt, ← smul_eq_mul, ← Finset.sum_const, Finset.sum_filter]
  refine Finset.sum_congr rfl fun e _ => ?_
  by_cases h : (ev e).1 = i
  · simp only [if_pos h]
    obtain ⟨d, hd⟩ := (payee_bij i (ev e).2).2 c
    rw [Finset.sum_eq_single d (fun d' _ hne => if_neg fun h' => hne ((payee_bij i (ev e).2).1 (h'.trans hd.symm)))
      (fun h' => absurd (Finset.mem_univ _) h'), if_pos hd]
  · simp only [if_neg h, Finset.sum_const_zero]

theorem launch_cell (c : Dev nD) (i : Cell) :
    tallyOn (cell c i) (launchCredit (Pipeline.owing (owe 0)) 0 (cell c i)) = (tallyAt (cell c i) () (crd i) : CellTallies nD τ sig Unit) := by
  unfold tallyAt
  refine congrArg _ (Finsupp.ext fun u => ?_)
  cases u
  rw [Pipeline.launchCredit_owing, Finsupp.single_eq_same, owed_to]

omit [FloatOps F] in
theorem creds (c : Dev nD) : (Pipeline.launchCred (owe 0) c : sProp 𝕄) ⊢ bigSep Finset.univ fun i : Cell => due c i (crd i) := by
  unfold Pipeline.launchCred
  refine (BI.bigSep_subset (Finset.subset_univ (Finset.univ.map ⟨csem, csem_inj⟩))).trans ?_
  rw [bigSep_map]
  exact bigSep_mono fun i _ => Entails.of_eq (congrArg cred (launch_cell c i))

/-! ## What a device starts with -/

/-- Of cell `i`: the position, the tokens paid with, the credit. -/
def Kit (c : Dev nD) (i : Cell) : sProp 𝕄 :=
  iprop(pos c i 0 ∗ (bigSep Finset.univ fun b : Bool => tok (payee i b c) i b) ∗ due c i (crd i))

omit [FloatOps F] in
theorem two (Ψ : Bool → sProp 𝕄) : bigSep Finset.univ Ψ = iprop(Ψ false ∗ Ψ true) := by
  rw [bigSep_univ_eq_bigSepL [false, true] (by decide) (by decide), bigSepL_cons_cons, bigSepL_singleton]; rfl

theorem crd_bar : crd cBar = 2 := by rw [crd, cnt_bar]; rfl
theorem crd_exit : crd cExit = 2 := by rw [crd, cnt_exit]; rfl
theorem crd_recv (k : Fin 4) (s : Fin 15) : crd (cRecv k s) = N := by rw [crd, cnt_recv]; exact Nat.one_mul _

omit [FloatOps F] in
theorem shake_bar (c : Dev nD) : Kit c cBar ⊢ (Shake c cBar : sProp 𝕄) := by
  unfold Kit Shake
  rw [two, crd_bar]
  iintro ⟨Hp, ⟨Hf, Ht⟩, Hc⟩
  isplitl [Ht]; · iexact Ht
  isplitl [Hf]; · iexact Hf
  isplitl [Hp]; · iexact Hp
  iexact Hc
omit [FloatOps F] in
theorem shake_exit (c : Dev nD) : Kit c cExit ⊢ (Shake c cExit : sProp 𝕄) := by
  unfold Kit Shake
  rw [two, crd_exit]
  iintro ⟨Hp, ⟨Hf, Ht⟩, Hc⟩
  isplitl [Ht]; · iexact Ht
  isplitl [Hf]; · iexact Hf
  isplitl [Hp]; · iexact Hp
  iexact Hc
omit [FloatOps F] in
theorem ready (c : Dev nD) (k : Fin 4) (s : Fin 15) : iprop(Kit c (cSend k s) ∗ Kit c (cRecv k s)) ⊢ (Ready c k s : sProp 𝕄) := by
  unfold Kit Ready
  rw [two, two, crd_recv]
  iintro ⟨⟨Hp, ⟨Hf, -⟩, -⟩, ⟨Hp', ⟨Hf', -⟩, Hc⟩⟩
  isplitl [Hp]; · iexact Hp
  isplitl [Hp']; · iexact Hp'
  isplitl [Hf]; · iexact Hf
  isplitl [Hf']; · iexact Hf'
  iexact Hc

omit [FloatOps F] in
theorem kits (c : Dev nD) :
    (bigSep Finset.univ fun i : Cell => Kit c i)
      ⊢ (iprop(((bigSep Finset.univ fun s => Ready c 0 s) ∗ (bigSep Finset.univ fun s => Ready c 1 s)
        ∗ (bigSep Finset.univ fun s => Ready c 2 s) ∗ (bigSep Finset.univ fun s => Ready c 3 s))
        ∗ Shake c cBar ∗ Shake c cExit) : sProp 𝕄) := by
  have h : (bigSep Finset.univ fun k : Fin 4 => bigSep Finset.univ fun s : Fin 15 => iprop(Kit c (cSend k s) ∗ Kit c (cRecv k s)))
      ⊢ (bigSep Finset.univ fun k : Fin 4 => bigSep Finset.univ fun s => Ready c k s : sProp 𝕄) :=
    bigSep_mono fun k _ => bigSep_mono fun s _ => ready (F := F) c k s
  rw [cells_eq, ← four fun k : Fin 4 => bigSep Finset.univ fun s => Ready c k s]
  iintro ⟨Hb, He, Hr⟩
  isplitl [Hr]
  · iapply h; iexact Hr
  isplitl [Hb]
  · iapply (shake_bar c); iexact Hb
  iapply (shake_exit c); iexact He

end Cert.KernelIdeal.RS

end
-- ==== Proof.Run.lean ====
/-
# The run

The launch, each device's body, and the state it leaves: every device's result at the computed contents, every semaphore at
zero.
-/
module

public import Idealize.ShloMosaic.Lib.Pipeline.CollectiveSegs
public import proofs.«01_k».proof.Proof.Deal

@[expose] public section

noncomputable section

namespace Cert.KernelIdeal.RS

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## A stream's buffer and its slots -/

omit [FloatOps F] in
/-- A stream's buffer is its sixteen slots. -/
theorem comm_split (k : Fin 4) (c : Dev nD) (f : Buf (Elt F) ((commM k).view.loc (c : Thread nD τ))) :
    ((commM k).view.loc (c : Thread nD τ) ↦{fullShare} f : sProp 𝕄) ⊢ bigSep Finset.univ fun i : Fin 16 => slotAny c k i := by
  have h : ((commM k).view.loc (c : Thread nD τ) ↦[Finset.univ.biUnion fun i => slotSet k i]{fullShare} f : sProp 𝕄)
      = bigSep Finset.univ fun i => (commM k).view.loc (c : Thread nD τ) ↦[slotSet k i]{fullShare} f :=
    pointsTo_biUnion (ℓ := (commM k).view.loc (c : Thread nD τ)) (q := fullShare) (f := f) (Finset.univ : Finset (Fin 16)) (fun i => slotSet k i)
      (fun i _ j _ h => slot_disjoint k i j h)
  rw [slot_cover] at h
  rw [h]
  refine bigSep_mono fun i _ => show ((commM k).view.loc (c : Thread nD τ) ↦[slotSet k i]{fullShare} f : sProp 𝕄) ⊢ slotAny c k i from ?_
  unfold slotAny
  iintro H; iexists f; iexact H

theorem comm_join (k : Fin 4) (c : Dev nD) :
    (bigSep Finset.univ fun i : Fin 16 => slotAny c k i)
      ⊢ (iprop(∃ f : Buf (Elt F) ((commM k).view.loc (c : Thread nD τ)), (commM k).view.loc (c : Thread nD τ) ↦{fullShare} f) : sProp 𝕄) := by
  unfold slotAny
  haveI : Nonempty (Buf (Elt F) ((commM k).view.loc (c : Thread nD τ))) := ⟨fun _ => Classical.arbitrary _⟩
  iintro H
  ihave H := (BI.bigSep_exists_pi Finset.univ (fun (i : Fin 16) (f : Buf (Elt F) ((commM k).view.loc (c : Thread nD τ))) =>
    ((commM k).view.loc (c : Thread nD τ) ↦[slotSet k i]{fullShare} f : sProp 𝕄))) $$ H
  icases H with ⟨%fs, H⟩
  ihave H := (pointsTo_biUnion_join Finset.univ (fun i => slotSet k i) fs (fs 0) fun i _ j _ h => slot_disjoint k i j h) $$ H
  icases H with ⟨%g, %_, H⟩
  rw [slot_cover]
  iexists g; iexact H

omit [FloatOps F] in
theorem slots_intro (k : Fin 4) (c : Dev nD) : (bigSep Finset.univ fun i : Fin 16 => (slotAny c k i : sProp 𝕄)) ⊢ Slots c k := by
  unfold Slots
  rw [Fin.univ_succ, Finset.cons_eq_insert, BI.bigSep_insert (by simp), BI.bigSep_map]
  exact Entails.of_eq rfl

omit [FloatOps F] in
/-- A finished stream gives its slots and its positions back. -/
theorem end_slots (k : Fin 4) (c : Dev nD) :
    (End c k : sProp 𝕄) ⊢ iprop((bigSep Finset.univ fun i : Fin 16 => slotAny c k i)
      ∗ bigSep Finset.univ fun s : Fin 15 => iprop(pos c (cSend k s) 1 ∗ pos c (cRecv k s) 1)) := by
  have h : (bigSep Finset.univ fun i : Fin 16 => (slotAny c k i : sProp 𝕄))
      = iprop(slotAny c k 15 ∗ bigSep Finset.univ fun s : Fin 15 => slotAny c k s.castSucc) := by
    rw [Fin.univ_castSuccEmb, Finset.cons_eq_insert, BI.bigSep_insert (by simp [Fin.ext_iff, Fin.castSucc]; omega), BI.bigSep_map]
    rfl
  rw [h]
  unfold End Done
  simp only [bigSep_sep']
  iintro ⟨⟨Hp, Hp', Hs⟩, Hl⟩
  isplitl [Hl Hs]
  · isplitl [Hl]; · iexact Hl
    iexact Hs
  isplitl [Hp]; · iexact Hp
  iexact Hp'

/-! ## The pipeline's data -/

abbrev scratch (c : Dev nD) : sProp 𝕄 :=
  Pipeline.scopedRest (Ix := Unit) (Name := ℕ) (U := UU) (Lvl := ℕ) (Val := Elt F) spec0 c

/-- What a device's body starts from, and what it leaves. -/
def start (c : Dev nD) : sProp 𝕄 := iprop(∃ K, recs m K ∗ bigSep Finset.univ fun i : Cell => Kit c i)
def Φ₀ (c : Dev nD) : sProp 𝕄 := iprop(start m c ∗ scratch c)
def zeros (c : Dev nD) : sProp 𝕄 := bigSep Finset.univ fun i : Cell => semVal (cell c i) 0
def Φ₁ (c : Dev nD) : sProp 𝕄 := iprop(scratch c ∗ zeros c)

def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => wstg m c
    | ⟨2, _⟩ => outAt (xstg m) (wstg m) c
  Φ t := match t with
    | ⟨0, _⟩ => Φ₀ m c
    | ⟨_ + 1, _⟩ => Φ₁ c
  q _ := fullShare
  owed t := match t with
    | ⟨0, _⟩ => owe 0 c
    | ⟨_ + 1, _⟩ => 0

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem fetch_0 (t : Fin cfg0.N) : (cfg0.win (0 : Fin 3)).fetch t = true := by rw [fin_N0 t]; rfl
theorem fetch_1 (t : Fin cfg0.N) : (cfg0.win (1 : Fin 3)).fetch t = true := by rw [fin_N0 t]; rfl

/-! ## The body -/

/-- Every cell, its one round over, closes at zero. -/
theorem close_all (K : Dev nD × Cell → ℕ) (c : Dev nD) :
    iprop(recs m K ∗ bigSep Finset.univ fun i : Cell => pos c i 1) ⊢ iprop(|={Set.univ}=> zeros c) := by
  unfold zeros
  refine (sep_mono_left (BI.bigSep_of_persistent (Finset.univ : Finset Cell) (recs m K))).trans ?_
  rw [← bigSep_sep']
  refine (bigSep_mono fun i _ => ?_).trans (bigSep_fupd _ _)
  exact (sep_mono_left (recs_inv m K c i)).trans
    (Rounds.cell_close ER (rd m) (Set.mem_univ (K (c, i))) (fun h => h) (R := 1) (duties_later m (cell c i)))

def bodyPre (c : Dev nD) : sProp 𝕄 :=
  iprop(Φ₀ m c ∗ (dats m 0 c).owesAt () t0_0.castSucc
    ∗ (∃ d, stg c cc0_stg0_0 ((dats m 0 c).before (0 : Fin 3) t0_0 d))
    ∗ (∃ d, stg c cc0_stg1_0 ((dats m 0 c).before (1 : Fin 3) t0_0 d))
    ∗ (∃ d, stg c cc0_stg2_0 ((dats m 0 c).before (2 : Fin 3) t0_0 d)))

def bodyPost (c : Dev nD) : sProp 𝕄 :=
  iprop(Φ₁ c ∗ (dats m 0 c).owesAt () t0_0.succ ∗ stg c cc0_stg0_0 (xstg m c) ∗ stg c cc0_stg1_0 (wstg m c)
    ∗ stg c cc0_stg2_0 (outAt (xstg m) (wstg m) c))

theorem before_0 (c : Dev nD) (d) : (dats m 0 c).before (0 : Fin 3) t0_0 d = xstg m c := by
  unfold Dat.before; rw [if_pos (fetch_0 t0_0)]; rfl
theorem before_1 (c : Dev nD) (d) : (dats m 0 c).before (1 : Fin 3) t0_0 d = wstg m c := by
  unfold Dat.before; rw [if_pos (fetch_1 t0_0)]; rfl

theorem scratch_split (c : Dev nD) :
    (scratch c : sProp 𝕄) ⊢ iprop((∃ f : Buf (Elt F) ((c : Thread nD τ).loc cc0_scratch0), (c : Thread nD τ).loc cc0_scratch0 ↦{fullShare} f)
      ∗ Slots c 0 ∗ Slots c 1 ∗ Slots c 2 ∗ Slots c 3) := by
  unfold scratch
  rw [scopedRest0_eq]
  iintro ⟨H, ⟨%f0, H0⟩, ⟨%f1, H1⟩, ⟨%f2, H2⟩, ⟨%f3, H3⟩⟩
  isplitl [H]; · iexact H
  isplitl [H0]; · iapply ((comm_split 0 c f0).trans (slots_intro 0 c)); iexact H0
  isplitl [H1]; · iapply ((comm_split 1 c f1).trans (slots_intro 1 c)); iexact H1
  isplitl [H2]; · iapply ((comm_split 2 c f2).trans (slots_intro 2 c)); iexact H2
  iapply ((comm_split 3 c f3).trans (slots_intro 3 c)); iexact H3

theorem before_intro (K : Dev nD × Cell → ℕ) (c : Dev nD) :
    bodyPre m c ⊢ iprop(∃ K, recs m K ∗ Before m c) := by
  unfold bodyPre Φ₀ start Dat.owesAt Pipeline.owesWithin
  iintro ⟨⟨⟨%K, Hf, Hk⟩, Hs⟩, ⟨%W, %_, HO⟩, ⟨%d0, %g0, %h0, Hx⟩, ⟨%d1, %g1, %h1, Hw⟩, ⟨%d2, %g2, %_, Ho⟩⟩
  rw [before_0] at h0
  rw [before_1] at h1
  subst h0 h1
  iexists K
  isplitl [Hf]; · iexact Hf
  unfold Before Bufs xP
  ihave Hs := (scratch_split (F := F) c) $$ Hs
  icases Hs with ⟨Hb, Hs⟩
  ihave Hk := (kits (F := F) c) $$ Hk
  icases Hk with ⟨Hr, Hb', He⟩
  isplitl [Hx Hw Hb Ho]
  · isplitl [Hx]; · iexact Hx
    isplitl [Hw]; · iexact Hw
    isplitl [Hb]; · iexact Hb
    iexists g2; iexact Ho
  isplitl [Hs]; · iexact Hs
  isplitl [Hr]; · iexact Hr
  isplitl [Hb']; · iexact Hb'
  isplitl [He]; · iexact He
  unfold debt
  iexists W; iexact HO

theorem after_elim (K : Dev nD × Cell → ℕ) (c : Dev nD) :
    iprop(recs m K ∗ After m c) ⊢ iprop(|={Set.univ}=> bodyPost m c) := by
  unfold After bodyPost Φ₁ Dat.owesAt Pipeline.owesWithin xP debt scratch
  rw [scopedRest0_eq, owe_end]
  iintro ⟨#Hf, Hx, Hw, Hb, Ho, ⟨E0, E1, E2, E3⟩, Pb, Pe, ⟨%W, HO⟩⟩
  ihave E0 := (end_slots (F := F) 0 c) $$ E0
  ihave E1 := (end_slots (F := F) 1 c) $$ E1
  ihave E2 := (end_slots (F := F) 2 c) $$ E2
  ihave E3 := (end_slots (F := F) 3 c) $$ E3
  icases E0 with ⟨S0, P0⟩
  icases E1 with ⟨S1, P1⟩
  icases E2 with ⟨S2, P2⟩
  icases E3 with ⟨S3, P3⟩
  imod (close_all m K c) $$ [Pb Pe P0 P1 P2 P3] with Hz
  · isplitr; · iexact Hf
    rw [cells_eq, four]
    isplitl [Pb]; · iexact Pb
    isplitl [Pe]; · iexact Pe
    isplitl [P0]; · iexact P0
    isplitl [P1]; · iexact P1
    isplitl [P2]; · iexact P2
    iexact P3
  imodintro
  isplitl [Hb S0 S1 S2 S3 Hz]
  · isplitr [Hz]
    · unfold wbP
      isplitl [Hb]; · iexists _; iexact Hb
      isplitl [S0]; · iapply (comm_join 0 c); iexact S0
      isplitl [S1]; · iapply (comm_join 1 c); iexact S1
      isplitl [S2]; · iapply (comm_join 2 c); iexact S2
      iapply (comm_join 3 c); iexact S3
    iexact Hz
  isplitl [HO]
  · iexists W
    isplitr; · ipureintro; exact fun _ _ => Or.inl trivial
    iexact HO
  isplitl [Hx]
  · iexists _; isplitr; · (ipureintro; rfl)
    iexact Hx
  isplitl [Hw]
  · iexists _; isplitr; · (ipureintro; rfl)
    iexact Hw
  iexists _; isplitr; · (ipureintro; rfl)
  iexact Ho

theorem sound_body (c : Dev nD) :
    bodyPre m c ⊢ WP c (.op .deviceId fun c => prog c) (fun _ => bodyPost m c) := by
  refine (before_intro m (fun _ => 0) c).trans ?_
  rw [WP, wp_deviceId]
  iintro ⟨%K, #Hf, HB⟩
  iapply (wp_fupd _ _)
  iapply (wp_prog (m := m) (K := K) c _) $$ [HB]
  · isplitr; · iexact Hf
    iexact HB
  iintro HA
  iapply (after_elim m K c)
  isplitr; · iexact Hf
  iexact HA

set_option maxRecDepth 100000 in
theorem body_obligation (c : Dev nD) : BodyObligation (dats (F := F) m 0 c) (defs₀ (F := F)) 𝒱₀ () Set.univ := fun t => by
  rw [fin_N0 t]
  rw [bigSep_W0, bigSep_W0]
  simp only [owns_whole_eq]
  show bodyPre m c ⊢ wp frame (wpE (defs₀ (F := F)) 𝒱₀ (c : Thread nD τ) none) Set.univ
    (cc0_body (F := F) (Memref.whole cc0_stg0_0) (Memref.isWhole_whole _) (Memref.whole cc0_stg1_0) (Memref.isWhole_whole _)
      (Memref.whole cc0_stg2_0) (Memref.isWhole_whole _) (Memref.whole cc0_scratch0) (Memref.isWhole_whole _)
      (Memref.whole cc0_scratch1) (Memref.isWhole_whole _) (Memref.whole cc0_scratch2) (Memref.isWhole_whole _)
      (Memref.whole cc0_scratch3) (Memref.isWhole_whole _) (Memref.whole cc0_scratch4) (Memref.isWhole_whole _)
      cc0_scratch5 cc0_scratch6 cc0_scratch7 cc0_scratch8 cc0_scoped0) (fun _ => bodyPost m c)
  rw [body_eq]
  exact sound_body m c

/-! ## The launch -/

theorem stage_val (w : Fin 3) (s : Fin (spec0 w).nbuf) : ((spec0 w).sem s).val < 3 := by revert w s; decide

theorem osem_ne_stage (o : Own) (q : DmaSem sig) (hq : q.val < 3) : osem o ≠ .dma q := by
  rcases o with _ | ⟨⟨k, s⟩, b⟩
  · intro h; cases h
  · cases b
    · intro h
      have := congrArg Fin.val (SemLoc.dma.inj h)
      rw [semK_val] at this; omega
    · intro h
      have := congrArg Fin.val (SemLoc.dma.inj h)
      rw [semK_val] at this; omega

theorem dma_scoped (q : DmaSem sig) : (SemLoc.dma q : SemLoc sig).isScoped .tc = true := by revert q; decide

theorem ownSemFacts : Pipeline.OwnSemFacts cfg0.spec osem where
  isScoped o := by
    rcases o with _ | ⟨⟨k, s⟩, b⟩
    · rfl
    · cases b <;> exact dma_scoped _
  inj := osem_inj
  disj o w s := osem_ne_stage o _ (stage_val w s)

theorem share_eq (c : Dev nD) (w : Fin cfg0.W) : (dats m 0 c).share w = fullShare := by unfold Dat.share; split <;> rfl

def u₀ : UU := (initOf (Pipeline.cells cfgs cellOf_inj) (Pipeline.launchToks cfgs cellOf_inj), initOf allCells allToks)

/-- What the launch deals device `c`, and what is made of it. -/
def G (c : Dev nD) : sProp 𝕄 :=
  iprop((bigSep Finset.univ fun i : Cell => roundState ER (rd m) (cell c i) 0) ∗ (bigSep Finset.univ fun i : Cell => pos c i 0)
    ∗ (bigSep Finset.univ fun i : Cell => at0 c i) ∗ ownToks c)
def base (K : Dev nD × Cell → ℕ) : sProp 𝕄 :=
  iprop((bigSep Finset.univ fun p : Dev nD × Cell => inv m K p.1 p.2) ∗ bigSep Finset.univ fun p : Dev nD × Cell => at0 p.1 p.2)
instance base_pers (K : Dev nD × Cell → ℕ) : Persistent (base m K) := by unfold base; infer_instance
def G' (c : Dev nD) : sProp 𝕄 := iprop(∃ K, base m K ∗ (bigSep Finset.univ fun i : Cell => pos c i 0) ∗ payToks c)

omit [FloatOps F] in
theorem over_cells (Φ : GSem nD τ sig → sProp 𝕄) :
    bigSep allCells Φ = bigSep Finset.univ fun c : Dev nD => bigSep Finset.univ fun i : Cell => Φ (cell c i) := by
  unfold allCells; rw [bigSep_map, bigSep_univ_prod]; rfl

theorem fund_all : BI.own (ER (initOf allCells allToks)) ⊢ (|==> bigSep Finset.univ (G m) : sProp 𝕄) := by
  have hT : bigSep allToks (fun x => (dutyTok ER x.1 x.2.1 x.2.2 : sProp 𝕄)) = bigSep Finset.univ fun c : Dev nD => ownToks c := by
    unfold allToks; rw [bigSep_map, bigSep_univ_prod]; rfl
  iintro HX
  imod (Rounds.fund ER (rd m) allCells allToks) $$ HX with ⟨Hst, Hr, Hat, Htok⟩
  imodintro
  ihave Hst := (Entails.of_eq (over_cells fun g => roundState ER (rd m) g 0)) $$ Hst
  ihave Hat := (Entails.of_eq (over_cells (F := F) fun g => atPos ER g 0 ∅ 0)) $$ Hat
  ihave Hr := (Entails.of_eq (over_cells (F := F) fun g => reached ER g 0)) $$ Hr
  ihave Htok := (Entails.of_eq hT) $$ Htok
  unfold G; simp only [bigSep_sep']
  isplitl [Hst]; · iexact Hst
  isplitl [Hat]; · iexact Hat
  isplitl [Hr]; · iexact Hr
  iexact Htok

omit [FloatOps F] in
theorem unscoped_eq (c : Dev nD) : (unscopedSems0 c : sProp 𝕄) = semVal (cell c cBar) 0 := by
  unfold unscopedSems0; rw [bigSep_eq_bigSepL_of_eq [SemLoc.reg barS] (by decide) (by decide)]; rfl

abbrev ownZero (c : Dev nD) : sProp 𝕄 :=
  Pipeline.ownSems0 (Ix := Unit) (Name := ℕ) (U := UU) (Lvl := ℕ) (Val := Elt F) (τ := τ) osem c

omit [FloatOps F] in
theorem zeros_eq (c : Dev nD) : (zeros c : sProp 𝕄) = iprop(unscopedSems0 c ∗ ownZero c) := by
  unfold zeros ownZero Pipeline.ownSems0
  rw [unscoped_eq, BI.bigSep_univ_sum, show (bigSep Finset.univ fun a : Unit => (semVal (cell c (.inl a)) 0 : sProp 𝕄)) = semVal (cell c cBar) 0 from bigSep_singleton]
  rfl

theorem core_alloc (c : Dev nD) :
    iprop(ownZero c ∗ unscopedSems0 c ∗ G m c)
      ⊢ |={Set.univ}=> iprop((bigSep Finset.univ fun i => iprop(∃ κ : ℕ, cellInv ER (rd m) κ (cell c i)))
          ∗ (bigSep Finset.univ fun i : Cell => pos c i 0) ∗ (bigSep Finset.univ fun i : Cell => at0 c i) ∗ ownToks c) := by
  have h : iprop(zeros c ∗ bigSep Finset.univ fun i : Cell => roundState ER (rd m) (cell c i) 0)
      ⊢ (|={Set.univ}=> bigSep Finset.univ fun i => iprop(∃ κ : ℕ, cellInv ER (rd m) κ (cell c i)) : sProp 𝕄) := by
    unfold zeros
    rw [← bigSep_sep']
    exact (bigSep_mono fun i _ => (Rounds.body_intro ER (rd m) (cell c i)).trans inv_alloc).trans (bigSep_fupd _ _)
  unfold G
  iintro ⟨Hos, Hus, Hst, Hat, Hr, Htok⟩
  imod h $$ [Hos Hus Hst] with Hinv
  · isplitr [Hst]
    · rw [zeros_eq]
      isplitl [Hus]; · iexact Hus
      iexact Hos
    iexact Hst
  imodintro
  isplitl [Hinv]; · iexact Hinv
  isplitl [Hat]; · iexact Hat
  isplitl [Hr]; · iexact Hr
  iexact Htok

theorem regroup :
    (bigSep Finset.univ fun c : Dev nD => iprop((bigSep Finset.univ fun i => iprop(∃ κ : ℕ, cellInv ER (rd m) κ (cell c i)))
          ∗ (bigSep Finset.univ fun i : Cell => pos c i 0) ∗ (bigSep Finset.univ fun i : Cell => at0 c i) ∗ ownToks c) : sProp 𝕄)
      ⊢ bigSep Finset.univ (G' m) := by
  rw [bigSep_sep', bigSep_sep', bigSep_sep', toks_dealt, ← bigSep_univ_prod (fun p : Dev nD × Cell => iprop(∃ κ : ℕ, cellInv ER (rd m) κ (cell p.1 p.2))),
    ← bigSep_univ_prod (fun p : Dev nD × Cell => (at0 p.1 p.2 : sProp 𝕄))]
  iintro ⟨HI, Hat, #HR, Htok⟩
  ihave HK := (BI.bigSep_exists_pi Finset.univ (fun (p : Dev nD × Cell) (κ : ℕ) => (cellInv ER (rd m) κ (cell p.1 p.2) : sProp 𝕄))) $$ HI
  icases HK with ⟨%K, #HI⟩
  have h : iprop(base m K ∗ (bigSep Finset.univ fun c : Dev nD => bigSep Finset.univ fun i : Cell => pos c i 0) ∗ bigSep Finset.univ fun c : Dev nD => payToks c)
      ⊢ bigSep Finset.univ (G' m) := by
    rw [← bigSep_sep']
    refine (sep_mono_left (BI.bigSep_of_persistent (Finset.univ : Finset (Dev nD)) (base m K))).trans ?_
    rw [← bigSep_sep']
    refine bigSep_mono fun c _ => show iprop(base m K ∗ (bigSep Finset.univ fun i : Cell => pos c i 0) ∗ payToks c) ⊢ G' m c from ?_
    unfold G'
    iintro H
    iexists K; iexact H
  iapply h
  isplitr
  · unfold base
    isplitr; · iexact HI
    iexact HR
  isplitl [Hat]; · iexact Hat
  iexact Htok

theorem glob : (bigSep Finset.univ fun c => iprop(ownZero c ∗ unscopedSems0 c ∗ G m c) : sProp 𝕄) ⊢ |={Set.univ}=> bigSep Finset.univ (G' m) :=
  ((bigSep_mono fun c _ => core_alloc m c).trans (bigSep_fupd _ _)).trans (BI.fupd_mono (regroup m))

theorem start_intro (c : Dev nD) :
    iprop(Pipeline.unscopedRestP Pipeline.Prefetch.none cfg0.spec c (fun b => m ((c : Thread nD τ).loc b)) ∗ levAts L lv
        ∗ Pipeline.launchCred (owe 0) c ∗ prngReg c (ρ c) ∗ G' m c)
      ⊢ |={Set.univ}=> iprop(start m c ∗ emp) := by
  have hk : iprop((bigSep Finset.univ fun i : Cell => pos c i 0) ∗ payToks c ∗ bigSep Finset.univ fun i : Cell => due c i (crd i))
      ⊢ (bigSep Finset.univ fun i : Cell => Kit c i : sProp 𝕄) := by
    unfold payToks Kit
    rw [bigSep_univ_prod, bigSep_sep', bigSep_sep']
  iintro ⟨-, Hlev, Hcr, -, HG⟩
  ihave Hc := (creds (F := F) c) $$ Hcr
  unfold G' base start recs levs
  icases HG with ⟨%K, ⟨HI, HR⟩, Hat, Htok⟩
  imodintro
  isplitl
  · iexists K
    isplitl [HI HR Hlev]
    · isplitl [HI]; · iexact HI
      isplitl [HR]; · iexact HR
      iexact Hlev
    iapply hk
    isplitl [Hat]; · iexact Hat
    isplitl [Htok]; · iexact Htok
    iexact Hc
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl]
  unfold Φ₀
  iintro ⟨Hs, -, Hr⟩
  isplitl [Hs]; · iexact Hs
  iexact Hr

theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ c from rfl]
  unfold Φ₁
  rw [zeros_eq]
  iintro ⟨Hr, Hu, Ho⟩
  isplitl [Hu]; · iexact Hu
  isplitl [Ho]; · iexact Ho
  iexact Hr

theorem lv_stage (c : Dev nD) (q : DmaSem sig) (hq : q.val < 3) : lv ((c : Thread nD τ), .dma q) () = 0 := by
  have h : dec ((c : Thread nD τ), .dma q) = none := by
    unfold dec
    rw [dif_neg]
    rintro ⟨i, hi⟩
    have hi : csem i = .dma q := congrArg Prod.snd hi
    rcases i with _ | o
    · cases hi
    · exact osem_ne_stage o q hq hi
  unfold lv; rw [h]

theorem waits (c : Dev nD) : (levAts L lv : sProp 𝕄) ⊢ Pipeline.cellsWaits cfgs (dats m) () 0 c :=
  Pipeline.cellsWaits_intro cfgs (dats m) () 0 c fun w s t => by
    rcases t with ⟨_ | _, ht⟩
    · exact mayWait_owe c _ 0 0 (lv_stage c _ (stage_val w s)).le (fun e _ => above_zero e)
    · show _ ⊢ MayWait (c : Thread nD τ) _ () 0
      rw [MayWait_zero]; iintro -; iempintro

/-! ## The run -/

def s₀ : MemSt nD τ sig (Elt F) := ⟨m, fun _ => 0, ρ⟩

def finalA (c : Dev nD) (w : Fin cfg0.W) : Buf (Elt F) ((cfg0.win w).arr.view.loc (c : Thread nD τ)) := (dats m 0 c).arrAt w cfg0.N

def QC : PUnit × MemSt nD τ sig (Elt F) → Prop := fun r =>
  ∀ c : Dev nD, ∀ w : Fin cfg0.W, r.2.mem ((cfg0.win w).arr.view.loc (c : Thread nD τ)) = finalA m c w

set_option maxRecDepth 100000 in
/-- For any float values, from any memory with zero counters: every fair run of the sixteen devices ends, with every device's
    result at the computed contents, its arguments unchanged and every counter at zero. -/
theorem run_main : θ_run defs (onTc (τ := τ) (main (F := F))) (s₀ m ρ) (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := owe 0) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.KernelIdeal.RS

end
-- ==== Proof.Frames.lean ====
/-
# The frames

Each program runs, leaves its arguments as they were and ends with every semaphore at zero. The compiled kernel's frame is
the idealized one's at the bit-exact values: the two are one text.
-/
module

public import proofs.«01_k».proof.Defs
public import proofs.«01_k».proof.Proof.Run
public import proofs.«01_k».proof.Proof.Gen.Kernel
public import proofs.«01_k».proof.Proof.Gen.ReferenceIdeal
public import proofs.«01_k».proof.Proof.Gen.ReferenceIdeal.Run
public import proofs.«01_k».proof.Proof.Gen.ClippedIdeal
public import proofs.«01_k».proof.Proof.Gen.ClippedIdeal.Run
public import proofs.«01_k».proof.Proof.Gen.Pre_within_clip_KernelIdeal
public import proofs.«01_k».proof.Proof.Gen.Pre_within_clip_ClippedIdeal

@[expose] public section

noncomputable section

namespace Cert.KernelIdeal.RS

open Cert.KernelIdeal Cert.KernelIdeal.Gen
open Idealize.ShloMosaic Idealize.ShloMosaic.TcCoe
open Idealize.SL.Sem

variable {F : FTy → Type} [FloatOps F]
variable (m : (ℓ : Loc nD τ sig) → Buf (Elt F) ℓ)

/-- The argument arrays end as they were. -/
theorem finalA_x (c : Dev nD) : finalA m c (0 : Fin 3) = m ((c : Thread nD τ).loc main_arg0) := (dats m 0 c).arrAt_in (0 : Fin 3) rfl _
theorem finalA_w (c : Dev nD) : finalA m c (1 : Fin 3) = m ((c : Thread nD τ).loc main_arg1) := (dats m 0 c).arrAt_in (1 : Fin 3) rfl _

/-- The frame over any float values. -/
theorem frame_any (ρ : Dev nD → PrngReg) :
    θ_run defs (onTc (τ := τ) (main (F := F))) (s₀ m ρ) (fun r => (∀ c : Dev nD,
      r.2.mem ((c : Thread nD τ).loc main_arg0) = m ((c : Thread nD τ).loc main_arg0)
      ∧ r.2.mem ((c : Thread nD τ).loc main_arg1) = m ((c : Thread nD τ).loc main_arg1)) ∧ r.2.sem = fun _ => 0) :=
  (θ_run defs _ _).mono (fun _ h => ⟨fun c => ⟨(h.1 c (0 : Fin 3)).trans (finalA_x m c), (h.1 c (1 : Fin 3)).trans (finalA_w m c)⟩, h.2⟩)
    (run_main m ρ)

theorem frame_ideal : Cert.quiescent_KernelIdeal (hKernelIdeal := Cert.KernelIdeal.Gen.facts) := fun m ρ _ => frame_any m ρ

theorem frame_ideal_pre : Cert.quiescent_KernelIdeal_pre_within_clip_KernelIdeal (hKernelIdeal := Cert.KernelIdeal.Gen.facts)
    (hPre_within_clip_KernelIdeal := Cert.Pre_within_clip_KernelIdeal.Gen.facts) := fun m ρ _ => frame_any m ρ

/-! The compiled kernel's text is the idealized one's. -/

set_option maxRecDepth 100000 in
theorem same_defs₀ : Cert.Kernel.defs₀ (F := Bits) = Cert.KernelIdeal.defs₀ (F := Bits) := by
  unfold Cert.Kernel.defs₀ Cert.KernelIdeal.defs₀
  refine congrArg Defs.onTc (funext fun l => ?_)
  fin_cases l
  funext x
  rfl

set_option maxRecDepth 100000 in
theorem same_defs : Cert.Kernel.defs (F := Bits) = Cert.KernelIdeal.defs (F := Bits) :=
  congrArg (Pipeline.defs (Cert.KernelIdeal.pcfgs (F := Bits))) same_defs₀

theorem frame_kernel : Cert.quiescent_Kernel (hKernel := Cert.Kernel.Gen.facts) := fun m ρ _ =>
  Eq.mpr (congrArg (fun D => θ_run D (onTc (τ := τ) (main (F := Bits))) (s₀ m ρ) _) same_defs) (frame_any (F := Bits) m ρ)

theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_clipped : Cert.quiescent_ClippedIdeal (hClippedIdeal := Cert.ClippedIdeal.Gen.facts) := fun m ρ _ =>
  (θ_run Cert.ClippedIdeal.defs _ _).mono (fun r h => ⟨fun c => (h c).2, sem_eq_zero_of_no_sems (by decide) r.2⟩)
    (Cert.ClippedIdeal.Value.run (F := Ideal) m ρ)

theorem frame_clipped_pre : Cert.quiescent_ClippedIdeal_pre_within_clip_ClippedIdeal (hClippedIdeal := Cert.ClippedIdeal.Gen.facts)
    (hPre_within_clip_ClippedIdeal := Cert.Pre_within_clip_ClippedIdeal.Gen.facts) := fun m ρ _ => frame_clipped m ρ trivial

end Cert.KernelIdeal.RS

end
-- ==== Proof.Value.lean ====
/-
# What the ring computes, over the extended reals

A block that travels collects, device by device, the products of one block of rows. After sixteen devices it is the whole
product's block.
-/
module

public import Idealize.ShloMosaic.Lib.Pointwise
public import Idealize.ShloMosaic.PureOps.Ideal
public import proofs.«01_k».proof.Proof.Vals

@[expose] public section

noncomputable section

namespace Cert.KernelIdeal.RS

open Cert.KernelIdeal Cert.KernelIdeal.Gen
open Idealize.ShloMosaic Idealize.ShloMosaic.TcCoe
open Idealize.SL.Sem

/-! ## The ring -/

/-- The ring, each device at the place of the one it hears from. -/
def before : Fin 16 → Fin 16 := ![1, 5, 3, 7, 0, 9, 2, 11, 4, 13, 6, 15, 8, 14, 10, 12]
def behind : Fin 16 → Fin 16 := ![4, 0, 6, 2, 8, 1, 10, 3, 12, 5, 14, 7, 15, 9, 13, 11]

theorem lft_tab (c : Dev nD) : lft c = before c := by revert c; decide
theorem rgt_tab (c : Dev nD) : rgt c = behind c := by revert c; decide

theorem src_tab (k : Fin 4) : src k = if hf k = 0 then before else behind := match k with
  | 0 => funext lft_tab | 1 => funext lft_tab | 2 => funext rgt_tab | 3 => funext rgt_tab

theorem src_iter (k : Fin 4) (n : ℕ) (c : Dev nD) : (src k)^[n] c = (if hf k = 0 then before else behind)^[n] c := by rw [src_tab]

/-- The rows of the first chunk and of every later one. -/
theorem off0_eq (k : Fin 4) (c : Dev nD) : off0 k c = ![(src k c).val * 256, 0] := by
  have h1 : ∀ c : Dev nD, k0_off1 c = ![(before c).val * 256, 0] := by decide +kernel
  have h2 : ∀ c : Dev nD, k0_off2 c = ![(behind c).val * 256, 0] := by decide +kernel
  fin_cases k
  · exact (h1 c).trans (by rw [← lft_tab]; rfl)
  · exact (h1 c).trans (by rw [← lft_tab]; rfl)
  · exact (h2 c).trans (by rw [← rgt_tab]; rfl)
  · exact (h2 c).trans (by rw [← rgt_tab]; rfl)

theorem offS_eq (k : Fin 4) (s : Fin 15) (c : Dev nD) : offS (hf k) s c = ![((src k)^[s.val + 2] c).val * 256, 0] := by
  have h3 : ∀ (s : Fin 15) (c : Dev nD), k0_off3 c (BitVec.ofNat 32 s.val) = ![(before^[s.val + 2] c).val * 256, 0] := by decide +kernel
  have h4 : ∀ (s : Fin 15) (c : Dev nD), k0_off4 c (BitVec.ofNat 32 s.val) = ![(behind^[s.val + 2] c).val * 256, 0] := by decide +kernel
  rw [src_iter]
  fin_cases k
  · exact h3 s c
  · exact h3 s c
  · exact h4 s c
  · exact h4 s c

/-- Sixteen steps back are every device once. -/
theorem sum_ring {M : Type} [AddCommMonoid M] (k : Fin 4) (c : Dev nD) (f : Dev nD → M) :
    ∑ i ∈ Finset.range 16, f ((src k)^[i] c) = ∑ j : Dev nD, f j := by
  have h1 : ∀ c : Fin 16, Finset.univ.image (fun i : Fin 16 => before^[i.val] c) = Finset.univ := by decide +kernel
  have h2 : ∀ c : Fin 16, Finset.univ.image (fun i : Fin 16 => behind^[i.val] c) = Finset.univ := by decide +kernel
  have hs : Function.Surjective fun i : Fin 16 => (src k)^[i.val] c := by
    intro j
    have hj : j ∈ Finset.univ.image (fun i : Fin 16 => (src k)^[i.val] c) := by
      simp only [src_iter]
      by_cases h : hf k = 0
      · simp only [if_pos h]; rw [h1 c]; exact Finset.mem_univ j
      · simp only [if_neg h]; rw [h2 c]; exact Finset.mem_univ j
    obtain ⟨i, -, hi⟩ := Finset.mem_image.mp hj
    exact ⟨i, hi⟩
  have hb : Function.Bijective fun i : Fin 16 => (src k)^[i.val] c := Finite.surjective_iff_bijective.mp hs
  rw [Finset.sum_range fun i => f ((src k)^[i] c)]
  exact (Equiv.ofBijective _ hb).sum_comp f

theorem ring_back (k : Fin 4) (c : Dev nD) : (src k)^[16] c = c := by
  have h1 : ∀ c : Fin 16, before^[16] c = c := by decide +kernel
  have h2 : ∀ c : Fin 16, behind^[16] c = c := by decide +kernel
  rw [src_iter]
  by_cases h : hf k = 0
  · simp only [if_pos h]; exact h1 c
  · simp only [if_neg h]; exact h2 c

/-! ## The operations at an index -/

theorem firstPay_apply (x : Vec Ideal S256x256 .bf16) (w : Vec Ideal S256x512 .bf16) (r : Fin 256) (u : Fin 512) :
    firstPay (F := Ideal) x w (ix3 (0 : Fin 1) r u) = ∑ q : Fin 256, x (ix2 r q) * w (ix2 q u) := by
  pointwise [firstPay]

theorem part_apply (x : Vec Ideal S256x256 .bf16) (w : Vec Ideal S256x1024 .bf16) (r : Fin 256) (u : Fin 1024) :
    part (F := Ideal) x w (ix2 r u) = ∑ q : Fin 256, x (ix2 r q) * w (ix2 q u) := by
  pointwise [part]

theorem sub_lt (k : Fin 4) (u : Fin 512) : 512 * (k.val % 2) + u.val < 1024 := by omega

theorem accV_apply (k : Fin 4) (p : FVec Ideal S256x1024 .f32) (a : Vec Ideal S1x256x512 .bf16) (r : Fin 256) (u : Fin 512) :
    accV (F := Ideal) k p a (ix2 r u) = a (ix3 (0 : Fin 1) r u) + p (ix2 r ⟨512 * (k.val % 2) + u.val, sub_lt k u⟩) := by
  pointwise [accV]

theorem midPay_apply (k : Fin 4) (p : FVec Ideal S256x1024 .f32) (a : Vec Ideal S1x256x512 .bf16) (r : Fin 256) (u : Fin 512) :
    midPay (F := Ideal) k p a (ix3 (0 : Fin 1) r u) = accV (F := Ideal) k p a (ix2 r u) := by
  pointwise [midPay]

theorem wbPay_eq (w : Vec Ideal S256x2048 .bf16) : wbPay (F := Ideal) w = w := by
  funext i
  idx_vars i
  pointwise [wbPay]

/-! ## The sums -/

section Sums

variable (X : Dev nD → Vec Ideal S4096x256 .bf16) (W : Dev nD → Vec Ideal S256x2048 .bf16)

theorem row_lt (b : Dev nD) (r : Fin 256) : b.val * 256 + r.val < 4096 := by have : b.val < 16 := b.isLt; omega
theorem col_lt (k : Fin 4) (u : Fin 512) : 512 * k.val + u.val < 2048 := by omega

/-- Device `j`'s part of the product at row `r` of block `b` and column `n`. -/
def pp (j b : Dev nD) (r : Fin 256) (n : Fin 2048) : EReal :=
  ∑ q : Fin 256, X j (ix2 ⟨b.val * 256 + r.val, row_lt b r⟩ q) * W j (ix2 q n)

theorem readX (o : Fin 2 → ℕ) (ho : ∀ a, o a + S256x256.size a ≤ S4096x256.size a) (b : Dev nD) (h : o = ![b.val * 256, 0])
    (x : Vec Ideal S4096x256 .bf16) (r q : Fin 256) :
    (xM : Memref sig .tc .vmem S4096x256 .bf16).view.readAt (Elt Ideal) (Rect.unit (s := S4096x256) o S256x256.size ho).toLoadRect x
      (ix2 r q) = x (ix2 ⟨b.val * 256 + r.val, row_lt b r⟩ q) := by
  subst h
  show x ((Rect.unit (s := S4096x256) _ S256x256.size ho).emb (ix2 r q)) = _
  congr 1
  funext a
  apply Fin.ext
  fin_cases a <;> simp [Rect.emb_apply]

theorem readW {n : ℕ} (o : ℕ) (ho : ∀ a, (![0, o] : Fin 2 → ℕ) a + (⟨2, ![256, n]⟩ : Shape).size a ≤ S256x2048.size a)
    (w : Vec Ideal S256x2048 .bf16) (q : Fin 256) (u : Fin n) (h : o + u.val < 2048) :
    (wbM : Memref sig .tc .vmem S256x2048 .bf16).view.readAt (Elt Ideal)
      (Rect.unit (s := S256x2048) ![0, o] (⟨2, ![256, n]⟩ : Shape).size ho).toLoadRect w
      (ix2 q u) = w (ix2 q ⟨o + u.val, h⟩) := by
  show w ((Rect.unit (s := S256x2048) _ (⟨2, ![256, n]⟩ : Shape).size ho).emb (ix2 q u)) = _
  congr 1
  funext a
  apply Fin.ext
  fin_cases a <;> simp [Rect.emb_apply]

theorem partV_apply (k : Fin 4) (s : Fin 15) (c : Dev nD) (r : Fin 256) (u : Fin 512) :
    partV (F := Ideal) X W (hf k) s c (ix2 r ⟨512 * (k.val % 2) + u.val, sub_lt k u⟩)
      = pp X W c ((src k)^[s.val + 2] c) r ⟨512 * k.val + u.val, col_lt k u⟩ := by
  unfold partV pp
  rw [part_apply, wbPay_eq]
  have hc : 1024 * (hf k).val + (512 * (k.val % 2) + u.val) = 512 * k.val + u.val := by
    have : 1024 * (hf k).val + 512 * (k.val % 2) = 512 * k.val := by revert k; decide
    omega
  refine Finset.sum_congr rfl fun q _ => ?_
  rw [readX _ _ _ (offS_eq k s c), readW (1024 * (hf k).val) _ _ q ⟨512 * (k.val % 2) + u.val, sub_lt k u⟩ (by have := col_lt k u; simp only; omega)]
  simp only [hc]

theorem first_apply (k : Fin 4) (c : Dev nD) (r : Fin 256) (u : Fin 512) :
    V (F := Ideal) X W k 0 c (ix3 (0 : Fin 1) r u) = pp X W c (src k c) r ⟨512 * k.val + u.val, col_lt k u⟩ := by
  unfold V pp
  rw [firstPay_apply, wbPay_eq]
  refine Finset.sum_congr rfl fun q _ => ?_
  rw [readX _ _ _ (off0_eq k c), readW (512 * k.val) _ _ q u (col_lt k u)]

/-- What stream `k` has collected when it leaves device `c` as copy `s`. -/
theorem V_apply (k : Fin 4) (s : ℕ) (hs : s < 16) (c : Dev nD) (r : Fin 256) (u : Fin 512) :
    V (F := Ideal) X W k s c (ix3 (0 : Fin 1) r u)
      = ∑ i ∈ Finset.range (s + 1), pp X W ((src k)^[i] c) ((src k)^[s + 1] c) r ⟨512 * k.val + u.val, col_lt k u⟩ := by
  induction s generalizing c with
  | zero => rw [first_apply, Finset.sum_range_one]; rfl
  | succ s ih =>
    rw [V_succ X W k ⟨s, by omega⟩ c, midPay_apply, accV_apply, partV_apply, ih (by omega), Finset.sum_range_succ' _ (s + 1)]
    rfl

/-- What device `c` has collected at the end, at row `r` and column `u` of stream `k`: the whole sum. -/
theorem acc_apply (k : Fin 4) (c : Dev nD) (r : Fin 256) (u : Fin 512) :
    accV (F := Ideal) k (partV (F := Ideal) X W (hf k) 14 c) (V (F := Ideal) X W k 14 (src k c)) (ix2 r u)
      = ∑ j : Dev nD, pp X W j c r ⟨512 * k.val + u.val, col_lt k u⟩ := by
  have h : V X W k 15 c = midPay k (partV X W (hf k) 14 c) (V X W k 14 (src k c)) := V_succ X W k 14 c
  rw [← midPay_apply, ← h, V_apply X W k 15 (by omega), ring_back]
  exact sum_ring k c fun j => pp X W j c r ⟨512 * k.val + u.val, col_lt k u⟩

theorem outV_apply (k : Fin 4) (c : Dev nD) (r : Fin 256) (u : Fin 512) :
    outV (F := Ideal) X W k c (ix2 r u)
      = (∑ j : Dev nD, pp X W j c r ⟨512 * k.val + u.val, col_lt k u⟩)
        * Ideal.logistic (∑ j : Dev nD, pp X W j c r ⟨512 * k.val + u.val, col_lt k u⟩) := by
  rw [← acc_apply]
  rfl

/-- Device `c`'s result. -/
theorem outAt_apply (c : Dev nD) (r : Fin 256) (n : Fin 2048) :
    outAt (F := Ideal) X W c (ix2 r n) = (∑ j : Dev nD, pp X W j c r n) * Ideal.logistic (∑ j : Dev nD, pp X W j c r n) := by
  have hk : n.val / 512 < 4 := by omega
  have h := outV_apply X W ⟨n.val / 512, hk⟩ c r ⟨n.val % 512, Nat.mod_lt _ (by omega)⟩
  have e : (⟨512 * (n.val / 512) + n.val % 512, by omega⟩ : Fin 2048) = n := Fin.ext (Nat.div_add_mod n.val 512)
  simp only [e] at h
  refine Eq.trans ?_ h
  unfold outAt
  congr 1
  · exact Fin.ext (Nat.mod_eq_of_lt hk)
  · funext a
    fin_cases a
    · rfl
    · exact Fin.ext (Nat.mod_mod _ _)

end Sums

end Cert.KernelIdeal.RS

end
-- ==== Proof.Algebra.lean ====
/-
# The result is the reference's block
-/
module

public import proofs.«01_k».proof.Proof.Frames
public import proofs.«01_k».proof.Proof.Value

@[expose] public section

noncomputable section

namespace Cert.KernelIdeal.RS

open Cert.KernelIdeal Cert.KernelIdeal.Gen
open Idealize.ShloMosaic Idealize.ShloMosaic.TcCoe
open Idealize.SL.Sem

/-! ## What the run leaves, read at the arrays -/

section Arrays

variable {F : FTy → Type} [FloatOps F]
variable (m : (ℓ : Loc nD τ sig) → Buf (Elt F) ℓ)

theorem xstg_eq (c : Dev nD) : xstg m c = m ((c : Thread nD τ).loc main_arg0) :=
  Memref.read_access_unit_zero (Elt F) main_arg0 (funext fun a => by fin_cases a <;> decide) (fun a => by fin_cases a <;> decide) _
theorem wstg_eq (c : Dev nD) : wstg m c = m ((c : Thread nD τ).loc main_arg1) :=
  Memref.read_access_unit_zero (Elt F) main_arg1 (funext fun a => by fin_cases a <;> decide) (fun a => by fin_cases a <;> decide) _

/-- The result array ends at the computed contents. -/
theorem finalA_o (c : Dev nD) : finalA m c (2 : Fin 3) = outAt (xstg m) (wstg m) c := by
  have h : (win0_2.blk (0 : Fin 1)).view.read (Elt F) (finalA m c (2 : Fin 3)) = outAt (xstg m) (wstg m) c := by
    unfold finalA
    rw [show cfg0.N = ((0 : Fin 1) : Fin cfg0.N).val + 1 from rfl, (dats m 0 c).arrAt_succ (2 : Fin 3) (0 : Fin 1)]
    rw [show (cfg0.win (2 : Fin 3)).flush (0 : Fin 1) = true from by decide, if_pos rfl]
    exact View.read_write_univ _ _
  rw [← h]
  exact (Memref.read_access_unit_zero (Elt F) main_v1 (funext fun a => by fin_cases a <;> decide)
    (fun a => by fin_cases a <;> decide) _).symm

end Arrays

/-! ## The product -/

/-- The whole product at row `R` and column `n`. -/
def prod (A : Vec Ideal ⟨2, ![4096, 4096]⟩ .bf16) (B : Vec Ideal ⟨2, ![4096, 2048]⟩ .bf16) (R : Fin 4096) (n : Fin 2048) : EReal :=
  ∑ t : Fin 4096, A (ix2 R t) * B (ix2 t n)

/-- The devices' parts add up to the product. -/
theorem sum_pp (A : Vec Ideal ⟨2, ![4096, 4096]⟩ .bf16) (B : Vec Ideal ⟨2, ![4096, 2048]⟩ .bf16)
    (X : Dev nD → Vec Ideal S4096x256 .bf16) (W : Dev nD → Vec Ideal S256x2048 .bf16)
    (hX : ∀ c, X c = Layout.block ⟨2, ![4096, 256]⟩ ⟨2, ![4096, 4096]⟩ 1 16 c A)
    (hW : ∀ c, W c = Layout.block ⟨2, ![256, 2048]⟩ ⟨2, ![4096, 2048]⟩ 0 16 c B)
    (c : Dev nD) (r : Fin 256) (n : Fin 2048) :
    ∑ j : Dev nD, pp X W j c r n = prod A B ⟨c.val * 256 + r.val, row_lt c r⟩ n := by
  unfold prod
  rw [Fin.sum_univ_tiles 16 256 rfl]
  refine Finset.sum_congr rfl fun j _ => Finset.sum_congr rfl fun q _ => ?_
  rw [hX, hW, Layout.block_apply, Layout.block_apply]
  congr 2 <;> (funext a; apply Fin.ext; fin_cases a <;> rfl)

/-- The epilogue is the quotient. -/
theorem silu_eq (y : EReal) : y * Ideal.logistic y = Ideal.div y (1 + Ideal.exp (-y)) := by
  have h : (1 + Ideal.exp (-y) : EReal) ≠ 0 := by
    have h0 : (0 : EReal) ≤ Ideal.exp (-y) := by
      induction (-y) with
      | bot => simp
      | top => simp
      | coe x => simp [Real.exp_nonneg]
    have h1 : (0 : EReal) < 1 + Ideal.exp (-y) := lt_of_lt_of_le zero_lt_one (le_add_of_nonneg_right h0)
    exact h1.ne'
  rw [Ideal.logistic, Ideal.div, Ideal.div, if_neg h, if_neg h, one_mul]

/-- Device `c`'s result is block `c` of any array that is the epilogue of the product. -/
theorem result_block (m : (ℓ : Loc nD τ sig) → Buf (Elt Ideal) ℓ)
    (A : Vec Ideal ⟨2, ![4096, 4096]⟩ .bf16) (B : Vec Ideal ⟨2, ![4096, 2048]⟩ .bf16) (v : Vec Ideal ⟨2, ![4096, 2048]⟩ .f32)
    (hm : ∀ c : Dev nD, m ((c : Thread nD τ).loc main_arg0) = Layout.block ⟨2, ![4096, 256]⟩ ⟨2, ![4096, 4096]⟩ 1 16 c A
      ∧ m ((c : Thread nD τ).loc main_arg1) = Layout.block ⟨2, ![256, 2048]⟩ ⟨2, ![4096, 2048]⟩ 0 16 c B)
    (hv : ∀ R n, v (ix2 R n) = Ideal.div (prod A B R n) (1 + Ideal.exp (-prod A B R n))) (c : Dev nD) :
    finalA m c (2 : Fin 3) = Layout.block ⟨2, ![256, 2048]⟩ ⟨2, ![4096, 2048]⟩ 0 16 c v := by
  rw [finalA_o]
  funext i
  obtain ⟨r, n, rfl⟩ : ∃ (r : Fin 256) (n : Fin 2048), i = ix2 r n := ⟨_, _, eq_ix2 i⟩
  rw [outAt_apply, sum_pp A B _ _ (fun c => (xstg_eq m c).trans (hm c).1) (fun c => (wstg_eq m c).trans (hm c).2), silu_eq, ← hv, Layout.block_apply]
  congr 1
  funext a; apply Fin.ext; fin_cases a <;> rfl

/-! ## Against the reference -/

theorem reference_value (A : Vec Ideal ⟨2, ![4096, 4096]⟩ .bf16) (B : Vec Ideal ⟨2, ![4096, 2048]⟩ .bf16) (R : Fin 4096) (n : Fin 2048) :
    (Host.divf (Host.dotGeneral Cert.ReferenceIdeal.dot_S4096x4096_S4096x2048_S4096x2048_1_0_0_1_n_n none
        (extf .f32 A Cert.ReferenceIdeal.Gen.bitsLt_bf16_f32) (extf .f32 B Cert.ReferenceIdeal.Gen.bitsLt_bf16_f32))
      (addf (broadcastInDim Cert.ReferenceIdeal.S4096x2048 ![] Cert.ReferenceIdeal.Gen.bcast_S_S4096x2048 (constant (F := Ideal) Cert.ReferenceIdeal.S_ .f32 0x3F800000#32))
        (Host.exp (Host.negf (Host.dotGeneral Cert.ReferenceIdeal.dot_S4096x4096_S4096x2048_S4096x2048_1_0_0_1_n_n none
        (extf .f32 A Cert.ReferenceIdeal.Gen.bitsLt_bf16_f32) (extf .f32 B Cert.ReferenceIdeal.Gen.bitsLt_bf16_f32))))) : FVec Ideal Cert.ReferenceIdeal.S4096x2048 .f32) (ix2 R n)
      = Ideal.div (prod A B R n) (1 + Ideal.exp (-prod A B R n)) := by
  pointwise [prod]

theorem algebraic_reference : Cert.algebraic_KernelIdeal_ReferenceIdeal (hKernelIdeal := Cert.KernelIdeal.Gen.facts)
    (hReferenceIdeal := Cert.ReferenceIdeal.Gen.facts) := by
  intro m ρ m' ρ' _ hm
  refine ⟨_, (θ_run defs _ _).mono (fun _ h c => ⟨(h.1 c (2 : Fin 3)).trans (result_block m _ _ _ hm
      (fun R n => reference_value _ _ R n) c), (h.1 c (0 : Fin 3)).trans (finalA_x m c), (h.1 c (1 : Fin 3)).trans (finalA_w m c)⟩) (run_main m ρ),
    (θ_run Cert.ReferenceIdeal.defs _ _).mono (fun _ h => h 0) (Cert.ReferenceIdeal.Value.run (F := Ideal) m' ρ')⟩

end Cert.KernelIdeal.RS

end
-- ==== Proof.Clipped.lean ====
/-
# Against the reference with its clip

Where every device's share of the product stays within 60 / 16, the product stays within 60 and the clip changes nothing.
-/
module

public import Idealize.ShloMosaic.Lib.ReduceAll
public import proofs.«01_k».proof.Proof.Algebra

@[expose] public section

noncomputable section

namespace Cert.KernelIdeal.RS

open Cert.KernelIdeal Cert.KernelIdeal.Gen
open Idealize.ShloMosaic Idealize.ShloMosaic.TcCoe
open Idealize.SL.Sem

theorem bits_375 : Ideal.ofBits .f32 0x40700000#32 = ((15 / 4 : ℝ) : EReal) := by
  simp [Ideal.ofBits, Ideal.ieee, -EReal.coe_mul]; norm_num
theorem bits_60 : Ideal.ofBits .f32 0x42700000#32 = ((60 : ℝ) : EReal) := by
  simp [Ideal.ofBits, Ideal.ieee, -EReal.coe_mul]; norm_num
theorem bits_neg_60 : Ideal.ofBits .f32 0xC2700000#32 = ((-60 : ℝ) : EReal) := by
  simp [Ideal.ofBits, Ideal.ieee, -EReal.coe_mul, -EReal.coe_neg]; norm_num

theorem share_bound (x : Vec Ideal S4096x256 .bf16) (w : Vec Ideal S256x2048 .bf16)
    (h : Cert.Pre_within_clip_KernelIdeal.fn (F := Ideal) x w = fun _ => 1#1)
    (R : Fin 4096) (n : Fin 2048) :
    max (∑ q : Fin 256, x (ix2 R q) * w (ix2 q n)) (-∑ q : Fin 256, x (ix2 R q) * w (ix2 q n)) ≤ ((15 / 4 : ℝ) : EReal) := by
  have h := congrFun h ix0
  unfold Cert.Pre_within_clip_KernelIdeal.fn at h
  haveI : Subsingleton Cert.Pre_within_clip_KernelIdeal.S_.Idx := ⟨fun a b => funext fun i => i.elim0⟩
  have h := Host.reduce_andi_all _ _ _ _ _ h (ix2 R n)
  pointwise at h
  rw [bits_375] at h
  by_contra hc
  have hd : decide (FloatOps.absf (F := Ideal) (φ := .f32) (∑ q : Fin 256, x (ix2 R q) * w (ix2 q n)) ≤ ((15 / 4 : ℝ) : EReal)) = false := decide_eq_false hc
  rw [hd] at h
  exact absurd h (by decide)

theorem clipped_value (A : Vec Ideal ⟨2, ![4096, 4096]⟩ .bf16) (B : Vec Ideal ⟨2, ![4096, 2048]⟩ .bf16) (R : Fin 4096) (n : Fin 2048)
    (hl : ((-60 : ℝ) : EReal) ≤ prod A B R n) (hu : prod A B R n ≤ ((60 : ℝ) : EReal)) :
    (Host.divf (Host.dotGeneral Cert.ClippedIdeal.dot_S4096x4096_S4096x2048_S4096x2048_1_0_0_1_n_n none
        (extf .f32 A Cert.ClippedIdeal.Gen.bitsLt_bf16_f32) (extf .f32 B Cert.ClippedIdeal.Gen.bitsLt_bf16_f32))
      (addf (broadcastInDim Cert.ClippedIdeal.S4096x2048 ![] Cert.ClippedIdeal.Gen.bcast_S_S4096x2048 (constant (F := Ideal) Cert.ClippedIdeal.S_ .f32 0x3F800000#32))
        (Host.exp (Host.negf (minimumf (broadcastInDim Cert.ClippedIdeal.S4096x2048 ![] Cert.ClippedIdeal.Gen.bcast_S_S4096x2048 (id (constant (F := Ideal) Cert.ClippedIdeal.S_ .f32 0x42700000#32)))
          (maximumf (broadcastInDim Cert.ClippedIdeal.S4096x2048 ![] Cert.ClippedIdeal.Gen.bcast_S_S4096x2048 (id (constant (F := Ideal) Cert.ClippedIdeal.S_ .f32 0xC2700000#32)))
        (Host.dotGeneral Cert.ClippedIdeal.dot_S4096x4096_S4096x2048_S4096x2048_1_0_0_1_n_n none
        (extf .f32 A Cert.ClippedIdeal.Gen.bitsLt_bf16_f32) (extf .f32 B Cert.ClippedIdeal.Gen.bitsLt_bf16_f32))))))) : FVec Ideal Cert.ClippedIdeal.S4096x2048 .f32) (ix2 R n)
      = Ideal.div (prod A B R n) (1 + Ideal.exp (-prod A B R n)) := by
  unfold prod at hl hu ⊢
  pointwise
  have e1 : id (constant (F := Ideal) Cert.ClippedIdeal.S_ .f32 0x42700000#32) ix0 = ((60 : ℝ) : EReal) := bits_60
  have e2 : id (constant (F := Ideal) Cert.ClippedIdeal.S_ .f32 0xC2700000#32) ix0 = ((-60 : ℝ) : EReal) := bits_neg_60
  rw [e1, e2, max_eq_right hl, min_eq_right hu]

/-- Sixteen shares within 60 / 16 add up to at most 60, and to at least -60. -/
theorem sum_bound (f : Dev nD → EReal) (h : ∀ j, max (f j) (-f j) ≤ ((15 / 4 : ℝ) : EReal)) :
    ((-60 : ℝ) : EReal) ≤ ∑ j, f j ∧ ∑ j, f j ≤ ((60 : ℝ) : EReal) := by
  have hu : ∀ j ∈ (Finset.univ : Finset (Dev nD)), f j ≤ ((15 / 4 : ℝ) : EReal) := fun j _ => (le_max_left _ _).trans (h j)
  have hl : ∀ j ∈ (Finset.univ : Finset (Dev nD)), ((-(15 / 4) : ℝ) : EReal) ≤ f j := fun j _ => by
    rw [EReal.coe_neg]; exact EReal.neg_le.mp ((le_max_right _ _).trans (h j))
  have e : ∀ x : ℝ, ((16 * x : ℝ) : EReal) = (Finset.univ : Finset (Dev nD)).card • (x : EReal) := fun x => by
    rw [show (Finset.univ : Finset (Dev nD)).card = 16 from rfl, ← EReal.coe_nsmul]; simp
  constructor
  · have := Finset.card_nsmul_le_sum _ f _ hl
    rw [← e] at this
    refine le_trans (le_of_eq ?_) this
    norm_num
  · have := Finset.sum_le_card_nsmul _ f _ hu
    rw [← e] at this
    refine this.trans (le_of_eq ?_)
    norm_num

/-- Where every device's share is within the precondition's bound, the product is within the clip. -/
theorem prod_bound (A : Vec Ideal ⟨2, ![4096, 4096]⟩ .bf16) (B : Vec Ideal ⟨2, ![4096, 2048]⟩ .bf16)
    (X : Dev nD → Vec Ideal S4096x256 .bf16) (W : Dev nD → Vec Ideal S256x2048 .bf16)
    (hX : ∀ c, X c = Layout.block ⟨2, ![4096, 256]⟩ ⟨2, ![4096, 4096]⟩ 1 16 c A)
    (hW : ∀ c, W c = Layout.block ⟨2, ![256, 2048]⟩ ⟨2, ![4096, 2048]⟩ 0 16 c B)
    (h : ∀ c, Cert.Pre_within_clip_KernelIdeal.fn (F := Ideal) (X c) (W c) = fun _ => 1#1) (R : Fin 4096) (n : Fin 2048) :
    ((-60 : ℝ) : EReal) ≤ prod A B R n ∧ prod A B R n ≤ ((60 : ℝ) : EReal) := by
  have hR : R.val / 256 < 16 := by omega
  have e : (⟨R.val / 256 * 256 + R.val % 256, by omega⟩ : Fin 4096) = R := Fin.ext (by simp only; omega)
  have hs := sum_pp A B X W hX hW (⟨R.val / 256, hR⟩ : Fin 16) ⟨R.val % 256, Nat.mod_lt _ (by omega)⟩ n
  unfold pp at hs
  simp only [e] at hs
  rw [← hs]
  exact sum_bound _ fun j => share_bound _ _ (h j) R n

/-- Within the precondition, the kernel's result is the block of the reference that has the clip. -/
theorem algebraic_clipped : Cert.algebraic_KernelIdeal_ClippedIdeal_pre_within_clip_KernelIdeal (hKernelIdeal := Cert.KernelIdeal.Gen.facts)
    (hClippedIdeal := Cert.ClippedIdeal.Gen.facts) (hPre_within_clip_KernelIdeal := Cert.Pre_within_clip_KernelIdeal.Gen.facts) := by
  intro m ρ m' ρ' hpre hm
  have hb := prod_bound _ _ (fun c => m ((c : Thread nD τ).loc main_arg0)) (fun c => m ((c : Thread nD τ).loc main_arg1))
    (fun c => (hm c).1) (fun c => (hm c).2) hpre
  exact ⟨_, (θ_run defs _ _).mono (fun _ h c => ⟨(h.1 c (2 : Fin 3)).trans (result_block m _ _ _ hm
      (fun R n => clipped_value _ _ R n (hb R n).1 (hb R n).2) c), (h.1 c (0 : Fin 3)).trans (finalA_x m c),
        (h.1 c (1 : Fin 3)).trans (finalA_w m c)⟩) (run_main m ρ),
    (θ_run Cert.ClippedIdeal.defs _ _).mono (fun _ h => h 0) (Cert.ClippedIdeal.Value.run (F := Ideal) m' ρ')⟩

end Cert.KernelIdeal.RS

end
-- ==== Proof.lean ====
/- The proof of the certificate's claims. -/
module

public import proofs.«01_k».proof.Defs
public import proofs.«01_k».proof.Proof.Clipped
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.ClippedIdeal.Gen.facts, Cert.Pre_within_clip_KernelIdeal.Gen.facts, Cert.Pre_within_clip_ClippedIdeal.Gen.facts,
  Cert.KernelIdeal.RS.frame_kernel, Cert.KernelIdeal.RS.frame_ideal, Cert.KernelIdeal.RS.frame_ideal_pre,
  Cert.KernelIdeal.RS.frame_reference, Cert.KernelIdeal.RS.frame_clipped, Cert.KernelIdeal.RS.frame_clipped_pre, trivial,
  Cert.KernelIdeal.RS.algebraic_reference, Cert.KernelIdeal.RS.algebraic_clipped⟩

end Cert.Proof

end
